-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pair.BufferStatement Cert.KernelIdeal.S128x2x128 Cert.KernelIdeal.S128x1x128
  ∧ IdealRules.named_const.Statement Cert.KernelIdeal.κ "log2e" .f32 0x3FB8AA3B#32 (((Real.log 2)⁻¹ : ℝ) : EReal)
  ∧ IdealRules.bf16_pair.Statement Cert.KernelIdeal.S1x64x2x128 Cert.KernelIdeal.S1x64x1x128
  ∧ IdealRules.bf16_pair.Statement Cert.KernelIdeal.S64x2x128 Cert.KernelIdeal.S64x1x128
  ∧ IdealRules.bf16_pair.Statement Cert.KernelIdeal.S128x2x128 Cert.KernelIdeal.S128x1x128
  ∧ IdealRules.bf16_pair.Statement Cert.KernelIdeal.S256x128 Cert.KernelIdeal.S128x128
  ∧ IdealRules.named_const.Statement Cert.KernelIdeal.κ "sm_scale_log2e" .f32 0x3E0293EE#32 (((Real.sqrt 128)⁻¹ * (Real.log 2)⁻¹ : ℝ) : EReal)
  ∧ IdealRules.named_const.Statement Cert.KernelIdeal.κ "sm_scale" .f32 0x3DB504F3#32 (((Real.sqrt 128)⁻¹ : ℝ) : EReal)
  ∧ IdealRules.bf16_pair.PackStatement Cert.KernelIdeal.S384x128
  ∧ IdealRules.bf16_pair.Statement Cert.KernelIdeal.S1x384x2x128 Cert.KernelIdeal.S1x384x1x128

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S6x384x16x128 : Shape := ⟨4, ![6, 384, 16, 128]⟩
abbrev S6x3x16 : Shape := ⟨3, ![6, 3, 16]⟩
abbrev S6x384x4x128 : Shape := ⟨4, ![6, 384, 4, 128]⟩
abbrev S6x3x4 : Shape := ⟨3, ![6, 3, 4]⟩
abbrev S6x16x384 : Shape := ⟨3, ![6, 16, 384]⟩
abbrev S_ : Shape := ⟨0, ![]⟩

class Facts : Prop where
  bcast_S_S6x3x4 : S_.BroadcastsInDim S6x3x4 (![] : Fin 0 → Fin S6x3x4.rank)
  reducesTo_S6x3x4_S_d0_1_2 : S6x3x4.ReducesTo [0, 1, 2] S_
  h_S_ : 0 < S_.numel
  bcast_S_S6x3x16 : S_.BroadcastsInDim S6x3x16 (![] : Fin 0 → Fin S6x3x16.rank)
  reducesTo_S6x3x16_S_d0_1_2 : S6x3x16.ReducesTo [0, 1, 2] S_

variable [Facts]

def fn {F : FTy → Type} [FloatOps F] (main_arg0 : FVec F S6x384x16x128 .fp8e4m3) (main_arg1 : FVec F S6x3x16 .f32) (main_arg2 : FVec F S6x384x4x128 .fp8e4m3) (main_arg3 : FVec F S6x3x4 .f32) (main_arg4 : FVec F S6x384x4x128 .fp8e4m3) (main_arg5 : FVec F S6x3x4 .f32) (main_arg6 : FVec F S6x384x16x128 .fp8e5m2) (main_arg7 : FVec F S6x3x16 .f32) (main_arg8 : FVec F S6x384x16x128 .bf16) (main_arg9 : FVec F S6x16x384 .f32) : IVec S_ 1 :=
  let main_cst : FVec F S_ .f32 := constant S_ .f32 0x00000000#32
  let main_v0 : FVec F S6x3x4 .f32 := broadcastInDim S6x3x4 ![] bcast_S_S6x3x4 main_cst
  let main_v1 : IVec S6x3x4 1 := cmpf .ogt main_arg5 main_v0
  let main_c : IVec S_ 1 := constantI S_ 1 1#1
  let main_v2 : IVec S_ 1 := (fun x v => Host.reduce IntOp.andi x v reducesTo_S6x3x4_S_d0_1_2 h_S_) main_v1 main_c
  let main_cst_0 : FVec F S_ .f32 := constant S_ .f32 0x7F800000#32
  let main_v3 : FVec F S6x3x4 .f32 := broadcastInDim S6x3x4 ![] bcast_S_S6x3x4 main_cst_0
  let main_v4 : IVec S6x3x4 1 := cmpf .olt main_arg5 main_v3
  let main_c_1 : IVec S_ 1 := constantI S_ 1 1#1
  let main_v5 : IVec S_ 1 := (fun x v => Host.reduce IntOp.andi x v reducesTo_S6x3x4_S_d0_1_2 h_S_) main_v4 main_c_1
  let main_v6 : IVec S_ 1 := andi main_v2 main_v5
  let main_cst_2 : FVec F S_ .f32 := constant S_ .f32 0x00000000#32
  let main_v7 : FVec F S6x3x16 .f32 := broadcastInDim S6x3x16 ![] bcast_S_S6x3x16 main_cst_2
  let main_v8 : IVec S6x3x16 1 := cmpf .oge main_arg7 main_v7
  let main_c_3 : IVec S_ 1 := constantI S_ 1 1#1
  let main_v9 : IVec S_ 1 := (fun x v => Host.reduce IntOp.andi x v reducesTo_S6x3x16_S_d0_1_2 h_S_) main_v8 main_c_3
  let main_v10 : IVec S_ 1 := andi main_v6 main_v9
  let main_cst_4 : FVec F S_ .f32 := constant S_ .f32 0x7F800000#32
  let main_v11 : FVec F S6x3x16 .f32 := broadcastInDim S6x3x16 ![] bcast_S_S6x3x16 main_cst_4
  let main_v12 : IVec S6x3x16 1 := cmpf .olt main_arg7 main_v11
  let main_c_5 : IVec S_ 1 := constantI S_ 1 1#1
  let main_v13 : IVec S_ 1 := (fun x v => Host.reduce IntOp.andi x v reducesTo_S6x3x16_S_d0_1_2 h_S_) main_v12 main_c_5
  let main_v14 : IVec S_ 1 := andi main_v10 main_v13
  main_v14
-- ==== Kernel.lean ====
abbrev S6x384x16x128 : Shape := ⟨4, ![6, 384, 16, 128]⟩
abbrev S6x3x16 : Shape := ⟨3, ![6, 3, 16]⟩
abbrev S6x384x4x128 : Shape := ⟨4, ![6, 384, 4, 128]⟩
abbrev S6x3x4 : Shape := ⟨3, ![6, 3, 4]⟩
abbrev S6x16x384 : Shape := ⟨3, ![6, 16, 384]⟩
abbrev S6x6144x128 : Shape := ⟨3, ![6, 6144, 128]⟩
abbrev S6x1536x128 : Shape := ⟨3, ![6, 1536, 128]⟩
abbrev S1x6144x128 : Shape := ⟨3, ![1, 6144, 128]⟩
abbrev S1x1536x128 : Shape := ⟨3, ![1, 1536, 128]⟩
abbrev S1x16x384 : Shape := ⟨3, ![1, 16, 384]⟩
abbrev S4x384x128 : Shape := ⟨3, ![4, 384, 128]⟩
abbrev S4x1x1536 : Shape := ⟨3, ![4, 1, 1536]⟩
abbrev S128x128 : Shape := ⟨2, ![128, 128]⟩
abbrev S2x384x128 : Shape := ⟨3, ![2, 384, 128]⟩
abbrev S1x128x128 : Shape := ⟨3, ![1, 128, 128]⟩
abbrev S32x4x128 : Shape := ⟨3, ![32, 4, 128]⟩
abbrev S32x1x128 : Shape := ⟨3, ![32, 1, 128]⟩
abbrev S32x128 : Shape := ⟨2, ![32, 128]⟩
abbrev S1x32x128 : Shape := ⟨3, ![1, 32, 128]⟩
abbrev S8x128 : Shape := ⟨2, ![8, 128]⟩
abbrev S1x8x128 : Shape := ⟨3, ![1, 8, 128]⟩
abbrev S8x128x1 : Shape := ⟨3, ![8, 128, 1]⟩
abbrev S128 : Shape := ⟨1, ![128]⟩
abbrev S1x128 : Shape := ⟨2, ![1, 128]⟩
abbrev S1x1x128 : Shape := ⟨3, ![1, 1, 128]⟩
abbrev S1x384x128 : Shape := ⟨3, ![1, 384, 128]⟩
abbrev S384x128 : Shape := ⟨2, ![384, 128]⟩
abbrev S1x1x1 : Shape := ⟨3, ![1, 1, 1]⟩
abbrev S128x384 : Shape := ⟨2, ![128, 384]⟩
abbrev S1x1024x128 : Shape := ⟨3, ![1, 1024, 128]⟩
abbrev S1024x128 : Shape := ⟨2, ![1024, 128]⟩
abbrev S64x16x128 : Shape := ⟨3, ![64, 16, 128]⟩
abbrev S64x4x128 : Shape := ⟨3, ![64, 4, 128]⟩
abbrev S256x128 : Shape := ⟨2, ![256, 128]⟩
abbrev S1x3072x128 : Shape := ⟨3, ![1, 3072, 128]⟩
abbrev S3072x128 : Shape := ⟨2, ![3072, 128]⟩
abbrev S64x128 : Shape := ⟨2, ![64, 128]⟩
abbrev S1x3072x2x128 : Shape := ⟨4, ![1, 3072, 2, 128]⟩
abbrev S1x64x2x128 : Shape := ⟨4, ![1, 64, 2, 128]⟩
abbrev S1x64x1x128 : Shape := ⟨4, ![1, 64, 1, 128]⟩
abbrev S128x256 : Shape := ⟨2, ![128, 256]⟩
abbrev S16x256 : Shape := ⟨2, ![16, 256]⟩
abbrev S256 : Shape := ⟨1, ![256]⟩
abbrev S1x256 : Shape := ⟨2, ![1, 256]⟩
abbrev S1x1x256 : Shape := ⟨3, ![1, 1, 256]⟩
abbrev S16x128 : Shape := ⟨2, ![16, 128]⟩
abbrev S16x16x128 : Shape := ⟨3, ![16, 16, 128]⟩
abbrev S1x16x128 : Shape := ⟨3, ![1, 16, 128]⟩
abbrev S64x256 : Shape := ⟨2, ![64, 256]⟩
abbrev S128x64 : Shape := ⟨2, ![128, 64]⟩
abbrev S192x128 : Shape := ⟨2, ![192, 128]⟩
abbrev S192x256 : Shape := ⟨2, ![192, 256]⟩
abbrev S128x192 : Shape := ⟨2, ![128, 192]⟩
abbrev S256x256 : Shape := ⟨2, ![256, 256]⟩
abbrev S320x128 : Shape := ⟨2, ![320, 128]⟩
abbrev S320x256 : Shape := ⟨2, ![320, 256]⟩
abbrev S128x320 : Shape := ⟨2, ![128, 320]⟩
abbrev S1x768x128 : Shape := ⟨3, ![1, 768, 128]⟩
abbrev S768x128 : Shape := ⟨2, ![768, 128]⟩
abbrev S1x768x2x128 : Shape := ⟨4, ![1, 768, 2, 128]⟩
abbrev S1x384x2x128 : Shape := ⟨4, ![1, 384, 2, 128]⟩
abbrev S1x384x1x128 : Shape := ⟨4, ![1, 384, 1, 128]⟩

abbrev nBuf : Space → Nat
  | .hbm => 18
  | .vmem => 24
  | .smem => 4
  | _ => 0

abbrev bufTy : (tb : Table) → Fin (tcTables nBuf tb) → BufTy
  | .hbm, ⟨0, _⟩ => ⟨S6x384x16x128, .fp8e4m3⟩
  | .hbm, ⟨1, _⟩ => ⟨S6x3x16, .f32⟩
  | .hbm, ⟨2, _⟩ => ⟨S6x384x4x128, .fp8e4m3⟩
  | .hbm, ⟨3, _⟩ => ⟨S6x3x4, .f32⟩
  | .hbm, ⟨4, _⟩ => ⟨S6x384x4x128, .fp8e4m3⟩
  | .hbm, ⟨5, _⟩ => ⟨S6x3x4, .f32⟩
  | .hbm, ⟨6, _⟩ => ⟨S6x384x16x128, .fp8e5m2⟩
  | .hbm, ⟨7, _⟩ => ⟨S6x3x16, .f32⟩
  | .hbm, ⟨8, _⟩ => ⟨S6x384x16x128, .bf16⟩
  | .hbm, ⟨9, _⟩ => ⟨S6x16x384, .f32⟩
  | .hbm, ⟨10, _⟩ => ⟨S6x6144x128, .fp8e4m3⟩
  | .hbm, ⟨11, _⟩ => ⟨S6x6144x128, .fp8e5m2⟩
  | .hbm, ⟨12, _⟩ => ⟨S6x6144x128, .bf16⟩
  | .hbm, ⟨13, _⟩ => ⟨S6x1536x128, .fp8e4m3⟩
  | .hbm, ⟨14, _⟩ => ⟨S6x1536x128, .fp8e4m3⟩
  | .hbm, ⟨15, _⟩ => ⟨S6x6144x128, .bf16⟩
  | .hbm, ⟨16, _⟩ => ⟨S6x1536x128, .bf16⟩
  | .hbm, ⟨17, _⟩ => ⟨S6x1536x128, .bf16⟩
  | .local _ .vmem, ⟨0, _⟩ => ⟨S1x6144x128, .fp8e4m3⟩
  | .local _ .vmem, ⟨1, _⟩ => ⟨S1x6144x128, .fp8e4m3⟩
  | .local _ .vmem, ⟨2, _⟩ => ⟨S1x1536x128, .fp8e4m3⟩
  | .local _ .vmem, ⟨3, _⟩ => ⟨S1x1536x128, .fp8e4m3⟩
  | .local _ .vmem, ⟨4, _⟩ => ⟨S1x1536x128, .fp8e4m3⟩
  | .local _ .vmem, ⟨5, _⟩ => ⟨S1x1536x128, .fp8e4m3⟩
  | .local _ .vmem, ⟨6, _⟩ => ⟨S1x6144x128, .fp8e5m2⟩
  | .local _ .vmem, ⟨7, _⟩ => ⟨S1x6144x128, .fp8e5m2⟩
  | .local _ .vmem, ⟨8, _⟩ => ⟨S1x6144x128, .bf16⟩
  | .local _ .vmem, ⟨9, _⟩ => ⟨S1x6144x128, .bf16⟩
  | .local _ .vmem, ⟨10, _⟩ => ⟨S1x16x384, .f32⟩
  | .local _ .vmem, ⟨11, _⟩ => ⟨S1x16x384, .f32⟩
  | .local _ .vmem, ⟨12, _⟩ => ⟨S1x6144x128, .bf16⟩
  | .local _ .vmem, ⟨13, _⟩ => ⟨S1x6144x128, .bf16⟩
  | .local _ .vmem, ⟨14, _⟩ => ⟨S1x1536x128, .bf16⟩
  | .local _ .vmem, ⟨15, _⟩ => ⟨S1x1536x128, .bf16⟩
  | .local _ .vmem, ⟨16, _⟩ => ⟨S1x1536x128, .bf16⟩
  | .local _ .vmem, ⟨17, _⟩ => ⟨S1x1536x128, .bf16⟩
  | .local _ .vmem, ⟨18, _⟩ => ⟨S4x384x128, .fp8e4m3⟩
  | .local _ .vmem, ⟨19, _⟩ => ⟨S4x384x128, .fp8e4m3⟩
  | .local _ .vmem, ⟨20, _⟩ => ⟨S4x1x1536, .f32⟩
  | .local _ .vmem, ⟨21, _⟩ => ⟨S128x128, .i32⟩
  | .local _ .vmem, ⟨22, _⟩ => ⟨S128x128, .i32⟩
  | .local _ .vmem, ⟨23, _⟩ => ⟨S2x384x128, .f32⟩
  | .local _ .smem, ⟨0, _⟩ => ⟨S6x3x16, .f32⟩
  | .local _ .smem, ⟨1, _⟩ => ⟨S6x3x4, .f32⟩
  | .local _ .smem, ⟨2, _⟩ => ⟨S6x3x4, .f32⟩
  | .local _ .smem, ⟨3, _⟩ => ⟨S6x3x16, .f32⟩
  | _, _ => ⟨S6x384x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [BitOps F]

abbrev grid0 : Pipeline.Grid := ⟨1, ![6], ![false]⟩

def k0_off1 (i : grid0.Coords) : Fin 3 → Nat :=
  let arg0 : BitVec 32 := BitVec.ofNat 32 (i 0).val
  let v2718 : Index := Scalar.indexCast arg0
  let c0_1245 : Index := 0#32
  let c0_1246 : Index := 0#32
  ![v2718.toNat, 0, 0]
def k0_off2 (i : grid0.Coords) : Fin 3 → Nat :=
  let arg0 : BitVec 32 := BitVec.ofNat 32 (i 0).val
  let v2720 : Index := Scalar.indexCast arg0
  let c1_1247 : Index := 1#32
  let c0_1248 : Index := 0#32
  ![v2720.toNat, 1, 0]
def k0_off3 (i : grid0.Coords) : Fin 3 → Nat :=
  let arg0 : BitVec 32 := BitVec.ofNat 32 (i 0).val
  let v2722 : Index := Scalar.indexCast arg0
  let c2_1249 : Index := 2#32
  let c0_1250 : Index := 0#32
  ![v2722.toNat, 2, 0]
def k0_off4 (i : grid0.Coords) : Fin 3 → Nat :=
  let arg0 : BitVec 32 := BitVec.ofNat 32 (i 0).val
  let v2748 : Index := Scalar.indexCast arg0
  let c0_1257 : Index := 0#32
  let c0_1258 : Index := 0#32
  ![v2748.toNat, 0, 0]
def k0_off5 (i : grid0.Coords) : Fin 3 → Nat :=
  let arg0 : BitVec 32 := BitVec.ofNat 32 (i 0).val
  let v2750 : Index := Scalar.indexCast arg0
  let c0_1259 : Index := 0#32
  let c1_1260 : Index := 1#32
  ![v2750.toNat, 0, 1]
def k0_off6 (i : grid0.Coords) : Fin 3 → Nat :=
  let arg0 : BitVec 32 := BitVec.ofNat 32 (i 0).val
  let v2752 : Index := Scalar.indexCast arg0
  let c0_1261 : Index := 0#32
  let c2_1262 : Index := 2#32
  ![v2752.toNat, 0, 2]
def k0_off7 (i : grid0.Coords) : Fin 3 → Nat :=
  let arg0 : BitVec 32 := BitVec.ofNat 32 (i 0).val
  let v2754 : Index := Scalar.indexCast arg0
  let c0_1263 : Index := 0#32
  let c3_1264 : Index := 3#32
  ![v2754.toNat, 0, 3]
def k0_off8 (i : grid0.Coords) : Fin 3 → Nat :=
  let arg0 : BitVec 32 := BitVec.ofNat 32 (i 0).val
  let v3401 : Index := Scalar.indexCast arg0
  let c1_1488 : Index := 1#32
  let c0_1489 : Index := 0#32
  ![v3401.toNat, 1, 0]
def k0_off9 (i : grid0.Coords) : Fin 3 → Nat :=
  let arg0 : BitVec 32 := BitVec.ofNat 32 (i 0).val
  let v3403 : Index := Scalar.indexCast arg0
  let c1_1490 : Index := 1#32
  let c1_1491 : Index := 1#32
  ![v3403.toNat, 1, 1]
def k0_off10 (i : grid0.Coords) : Fin 3 → Nat :=
  let arg0 : BitVec 32 := BitVec.ofNat 32 (i 0).val
  let v3405 : Index := Scalar.indexCast arg0
  let c1_1492 : Index := 1#32
  let c2_1493 : Index := 2#32
  ![v3405.toNat, 1, 2]
def k0_off11 (i : grid0.Coords) : Fin 3 → Nat :=
  let arg0 : BitVec 32 := BitVec.ofNat 32 (i 0).val
  let v3407 : Index := Scalar.indexCast arg0
  let c1_1494 : Index := 1#32
  let c3_1495 : Index := 3#32
  ![v3407.toNat, 1, 3]
def k0_off12 (i : grid0.Coords) : Fin 3 → Nat :=
  let arg0 : BitVec 32 := BitVec.ofNat 32 (i 0).val
  let v4144 : Index := Scalar.indexCast arg0
  let c2_1720 : Index := 2#32
  let c0_1721 : Index := 0#32
  ![v4144.toNat, 2, 0]
def k0_off13 (i : grid0.Coords) : Fin 3 → Nat :=
  let arg0 : BitVec 32 := BitVec.ofNat 32 (i 0).val
  let v4146 : Index := Scalar.indexCast arg0
  let c2_1722 : Index := 2#32
  let c1_1723 : Index := 1#32
  ![v4146.toNat, 2, 1]
def k0_off14 (i : grid0.Coords) : Fin 3 → Nat :=
  let arg0 : BitVec 32 := BitVec.ofNat 32 (i 0).val
  let v4148 : Index := Scalar.indexCast arg0
  let c2_1724 : Index := 2#32
  let c2_1725 : Index := 2#32
  ![v4148.toNat, 2, 2]
def k0_off15 (i : grid0.Coords) : Fin 3 → Nat :=
  let arg0 : BitVec 32 := BitVec.ofNat 32 (i 0).val
  let v4150 : Index := Scalar.indexCast arg0
  let c2_1726 : Index := 2#32
  let c3_1727 : Index := 3#32
  ![v4150.toNat, 2, 3]
def k0_off16 (i : grid0.Coords) : Fin 3 → Nat :=
  let arg0 : BitVec 32 := BitVec.ofNat 32 (i 0).val
  let v5038 : Index := Scalar.indexCast arg0
  let c0_1989 : Index := 0#32
  let c1_1990 : Index := 1#32
  ![v5038.toNat, 0, 1]
def k0_off17 (i : grid0.Coords) : Fin 3 → Nat :=
  let arg0 : BitVec 32 := BitVec.ofNat 32 (i 0).val
  let v5040 : Index := Scalar.indexCast arg0
  let c1_1991 : Index := 1#32
  let c1_1992 : Index := 1#32
  ![v5040.toNat, 1, 1]
def k0_off18 (i : grid0.Coords) : Fin 3 → Nat :=
  let arg0 : BitVec 32 := BitVec.ofNat 32 (i 0).val
  let v5042 : Index := Scalar.indexCast arg0
  let c2_1993 : Index := 2#32
  let c1_1994 : Index := 1#32
  ![v5042.toNat, 2, 1]
def k0_off19 (i : grid0.Coords) : Fin 3 → Nat :=
  let arg0 : BitVec 32 := BitVec.ofNat 32 (i 0).val
  let v5068 : Index := Scalar.indexCast arg0
  let c0_2001 : Index := 0#32
  let c4 : Index := 4#32
  ![v5068.toNat, 0, 4]
def k0_off20 (i : grid0.Coords) : Fin 3 → Nat :=
  let arg0 : BitVec 32 := BitVec.ofNat 32 (i 0).val
  let v5070 : Index := Scalar.indexCast arg0
  let c0_2002 : Index := 0#32
  let c5 : Index := 5#32
  ![v5070.toNat, 0, 5]
def k0_off21 (i : grid0.Coords) : Fin 3 → Nat :=
  let arg0 : BitVec 32 := BitVec.ofNat 32 (i 0).val
  let v5072 : Index := Scalar.indexCast arg0
  let c0_2003 : Index := 0#32
  let c6 : Index := 6#32
  ![v5072.toNat, 0, 6]
def k0_off22 (i : grid0.Coords) : Fin 3 → Nat :=
  let arg0 : BitVec 32 := BitVec.ofNat 32 (i 0).val
  let v5074 : Index := Scalar.indexCast arg0
  let c0_2004 : Index := 0#32
  let c7 : Index := 7#32
  ![v5074.toNat, 0, 7]
def k0_off23 (i : grid0.Coords) : Fin 3 → Nat :=
  let arg0 : BitVec 32 := BitVec.ofNat 32 (i 0).val
  let v5721 : Index := Scalar.indexCast arg0
  let c1_2228 : Index := 1#32
  let c4_2229 : Index := 4#32
  ![v5721.toNat, 1, 4]
def k0_off24 (i : grid0.Coords) : Fin 3 → Nat :=
  let arg0 : BitVec 32 := BitVec.ofNat 32 (i 0).val
  let v5723 : Index := Scalar.indexCast arg0
  let c1_2230 : Index := 1#32
  let c5_2231 : Index := 5#32
  ![v5723.toNat, 1, 5]
def k0_off25 (i : grid0.Coords) : Fin 3 → Nat :=
  let arg0 : BitVec 32 := BitVec.ofNat 32 (i 0).val
  let v5725 : Index := Scalar.indexCast arg0
  let c1_2232 : Index := 1#32
  let c6_2233 : Index := 6#32
  ![v5725.toNat, 1, 6]
def k0_off26 (i : grid0.Coords) : Fin 3 → Nat :=
  let arg0 : BitVec 32 := BitVec.ofNat 32 (i 0).val
  let v5727 : Index := Scalar.indexCast arg0
  let c1_2234 : Index := 1#32
  let c7_2235 : Index := 7#32
  ![v5727.toNat, 1, 7]
def k0_off27 (i : grid0.Coords) : Fin 3 → Nat :=
  let arg0 : BitVec 32 := BitVec.ofNat 32 (i 0).val
  let v6464 : Index := Scalar.indexCast arg0
  let c2_2461 : Index := 2#32
  let c4_2462 : Index := 4#32
  ![v6464.toNat, 2, 4]
def k0_off28 (i : grid0.Coords) : Fin 3 → Nat :=
  let arg0 : BitVec 32 := BitVec.ofNat 32 (i 0).val
  let v6466 : Index := Scalar.indexCast arg0
  let c2_2463 : Index := 2#32
  let c5_2464 : Index := 5#32
  ![v6466.toNat, 2, 5]
def k0_off29 (i : grid0.Coords) : Fin 3 → Nat :=
  let arg0 : BitVec 32 := BitVec.ofNat 32 (i 0).val
  let v6468 : Index := Scalar.indexCast arg0
  let c2_2465 : Index := 2#32
  let c6_2466 : Index := 6#32
  ![v6468.toNat, 2, 6]
def k0_off30 (i : grid0.Coords) : Fin 3 → Nat :=
  let arg0 : BitVec 32 := BitVec.ofNat 32 (i 0).val
  let v6470 : Index := Scalar.indexCast arg0
  let c2_2467 : Index := 2#32
  let c7_2468 : Index := 7#32
  ![v6470.toNat, 2, 7]
def k0_off31 (i : grid0.Coords) : Fin 3 → Nat :=
  let arg0 : BitVec 32 := BitVec.ofNat 32 (i 0).val
  let v7366 : Index := Scalar.indexCast arg0
  let c0_2741 : Index := 0#32
  let c2_2742 : Index := 2#32
  ![v7366.toNat, 0, 2]
def k0_off32 (i : grid0.Coords) : Fin 3 → Nat :=
  let arg0 : BitVec 32 := BitVec.ofNat 32 (i 0).val
  let v7368 : Index := Scalar.indexCast arg0
  let c1_2743 : Index := 1#32
  let c2_2744 : Index := 2#32
  ![v7368.toNat, 1, 2]
def k0_off33 (i : grid0.Coords) : Fin 3 → Nat :=
  let arg0 : BitVec 32 := BitVec.ofNat 32 (i 0).val
  let v7370 : Index := Scalar.indexCast arg0
  let c2_2745 : Index := 2#32
  let c2_2746 : Index := 2#32
  ![v7370.toNat, 2, 2]
def k0_off34 (i : grid0.Coords) : Fin 3 → Nat :=
  let arg0 : BitVec 32 := BitVec.ofNat 32 (i 0).val
  let v7396 : Index := Scalar.indexCast arg0
  let c0_2753 : Index := 0#32
  let c8_2754 : Index := 8#32
  ![v7396.toNat, 0, 8]
def k0_off35 (i : grid0.Coords) : Fin 3 → Nat :=
  let arg0 : BitVec 32 := BitVec.ofNat 32 (i 0).val
  let v7398 : Index := Scalar.indexCast arg0
  let c0_2755 : Index := 0#32
  let c9 : Index := 9#32
  ![v7398.toNat, 0, 9]
def k0_off36 (i : grid0.Coords) : Fin 3 → Nat :=
  let arg0 : BitVec 32 := BitVec.ofNat 32 (i 0).val
  let v7400 : Index := Scalar.indexCast arg0
  let c0_2756 : Index := 0#32
  let c10 : Index := 10#32
  ![v7400.toNat, 0, 10]
def k0_off37 (i : grid0.Coords) : Fin 3 → Nat :=
  let arg0 : BitVec 32 := BitVec.ofNat 32 (i 0).val
  let v7402 : Index := Scalar.indexCast arg0
  let c0_2757 : Index := 0#32
  let c11 : Index := 11#32
  ![v7402.toNat, 0, 11]
def k0_off38 (i : grid0.Coords) : Fin 3 → Nat :=
  let arg0 : BitVec 32 := BitVec.ofNat 32 (i 0).val
  let v8049 : Index := Scalar.indexCast arg0
  let c1_2981 : Index := 1#32
  let c8_2982 : Index := 8#32
  ![v8049.toNat, 1, 8]
def k0_off39 (i : grid0.Coords) : Fin 3 → Nat :=
  let arg0 : BitVec 32 := BitVec.ofNat 32 (i 0).val
  let v8051 : Index := Scalar.indexCast arg0
  let c1_2983 : Index := 1#32
  let c9_2984 : Index := 9#32
  ![v8051.toNat, 1, 9]
def k0_off40 (i : grid0.Coords) : Fin 3 → Nat :=
  let arg0 : BitVec 32 := BitVec.ofNat 32 (i 0).val
  let v8053 : Index := Scalar.indexCast arg0
  let c1_2985 : Index := 1#32
  let c10_2986 : Index := 10#32
  ![v8053.toNat, 1, 10]
def k0_off41 (i : grid0.Coords) : Fin 3 → Nat :=
  let arg0 : BitVec 32 := BitVec.ofNat 32 (i 0).val
  let v8055 : Index := Scalar.indexCast arg0
  let c1_2987 : Index := 1#32
  let c11_2988 : Index := 11#32
  ![v8055.toNat, 1, 11]
def k0_off42 (i : grid0.Coords) : Fin 3 → Nat :=
  let arg0 : BitVec 32 := BitVec.ofNat 32 (i 0).val
  let v8792 : Index := Scalar.indexCast arg0
  let c2_3214 : Index := 2#32
  let c8_3215 : Index := 8#32
  ![v8792.toNat, 2, 8]
def k0_off43 (i : grid0.Coords) : Fin 3 → Nat :=
  let arg0 : BitVec 32 := BitVec.ofNat 32 (i 0).val
  let v8794 : Index := Scalar.indexCast arg0
  let c2_3216 : Index := 2#32
  let c9_3217 : Index := 9#32
  ![v8794.toNat, 2, 9]
def k0_off44 (i : grid0.Coords) : Fin 3 → Nat :=
  let arg0 : BitVec 32 := BitVec.ofNat 32 (i 0).val
  let v8796 : Index := Scalar.indexCast arg0
  let c2_3218 : Index := 2#32
  let c10_3219 : Index := 10#32
  ![v8796.toNat, 2, 10]
def k0_off45 (i : grid0.Coords) : Fin 3 → Nat :=
  let arg0 : BitVec 32 := BitVec.ofNat 32 (i 0).val
  let v8798 : Index := Scalar.indexCast arg0
  let c2_3220 : Index := 2#32
  let c11_3221 : Index := 11#32
  ![v8798.toNat, 2, 11]
def k0_off46 (i : grid0.Coords) : Fin 3 → Nat :=
  let arg0 : BitVec 32 := BitVec.ofNat 32 (i 0).val
  let v9686 : Index := Scalar.indexCast arg0
  let c0_3484 : Index := 0#32
  let c3_3485 : Index := 3#32
  ![v9686.toNat, 0, 3]
def k0_off47 (i : grid0.Coords) : Fin 3 → Nat :=
  let arg0 : BitVec 32 := BitVec.ofNat 32 (i 0).val
  let v9688 : Index := Scalar.indexCast arg0
  let c1_3486 : Index := 1#32
  let c3_3487 : Index := 3#32
  ![v9688.toNat, 1, 3]
def k0_off48 (i : grid0.Coords) : Fin 3 → Nat :=
  let arg0 : BitVec 32 := BitVec.ofNat 32 (i 0).val
  let v9690 : Index := Scalar.indexCast arg0
  let c2_3488 : Index := 2#32
  let c3_3489 : Index := 3#32
  ![v9690.toNat, 2, 3]
def k0_off49 (i : grid0.Coords) : Fin 3 → Nat :=
  let arg0 : BitVec 32 := BitVec.ofNat 32 (i 0).val
  let v9716 : Index := Scalar.indexCast arg0
  let c0_3496 : Index := 0#32
  let c12 : Index := 12#32
  ![v9716.toNat, 0, 12]
def k0_off50 (i : grid0.Coords) : Fin 3 → Nat :=
  let arg0 : BitVec 32 := BitVec.ofNat 32 (i 0).val
  let v9718 : Index := Scalar.indexCast arg0
  let c0_3497 : Index := 0#32
  let c13 : Index := 13#32
  ![v9718.toNat, 0, 13]
def k0_off51 (i : grid0.Coords) : Fin 3 → Nat :=
  let arg0 : BitVec 32 := BitVec.ofNat 32 (i 0).val
  let v9720 : Index := Scalar.indexCast arg0
  let c0_3498 : Index := 0#32
  let c14 : Index := 14#32
  ![v9720.toNat, 0, 14]
def k0_off52 (i : grid0.Coords) : Fin 3 → Nat :=
  let arg0 : BitVec 32 := BitVec.ofNat 32 (i 0).val
  let v9722 : Index := Scalar.indexCast arg0
  let c0_3499 : Index := 0#32
  let c15 : Index := 15#32
  ![v9722.toNat, 0, 15]
def k0_off53 (i : grid0.Coords) : Fin 3 → Nat :=
  let arg0 : BitVec 32 := BitVec.ofNat 32 (i 0).val
  let v10369 : Index := Scalar.indexCast arg0
  let c1_3723 : Index := 1#32
  let c12_3724 : Index := 12#32
  ![v10369.toNat, 1, 12]
def k0_off54 (i : grid0.Coords) : Fin 3 → Nat :=
  let arg0 : BitVec 32 := BitVec.ofNat 32 (i 0).val
  let v10371 : Index := Scalar.indexCast arg0
  let c1_3725 : Index := 1#32
  let c13_3726 : Index := 13#32
  ![v10371.toNat, 1, 13]
def k0_off55 (i : grid0.Coords) : Fin 3 → Nat :=
  let arg0 : BitVec 32 := BitVec.ofNat 32 (i 0).val
  let v10373 : Index := Scalar.indexCast arg0
  let c1_3727 : Index := 1#32
  let c14_3728 : Index := 14#32
  ![v10373.toNat, 1, 14]
def k0_off56 (i : grid0.Coords) : Fin 3 → Nat :=
  let arg0 : BitVec 32 := BitVec.ofNat 32 (i 0).val
  let v10375 : Index := Scalar.indexCast arg0
  let c1_3729 : Index := 1#32
  let c15_3730 : Index := 15#32
  ![v10375.toNat, 1, 15]
def k0_off57 (i : grid0.Coords) : Fin 3 → Nat :=
  let arg0 : BitVec 32 := BitVec.ofNat 32 (i 0).val
  let v11112 : Index := Scalar.indexCast arg0
  let c2_3956 : Index := 2#32
  let c12_3957 : Index := 12#32
  ![v11112.toNat, 2, 12]
def k0_off58 (i : grid0.Coords) : Fin 3 → Nat :=
  let arg0 : BitVec 32 := BitVec.ofNat 32 (i 0).val
  let v11114 : Index := Scalar.indexCast arg0
  let c2_3958 : Index := 2#32
  let c13_3959 : Index := 13#32
  ![v11114.toNat, 2, 13]
def k0_off59 (i : grid0.Coords) : Fin 3 → Nat :=
  let arg0 : BitVec 32 := BitVec.ofNat 32 (i 0).val
  let v11116 : Index := Scalar.indexCast arg0
  let c2_3960 : Index := 2#32
  let c14_3961 : Index := 14#32
  ![v11116.toNat, 2, 14]
def k0_off60 (i : grid0.Coords) : Fin 3 → Nat :=
  let arg0 : BitVec 32 := BitVec.ofNat 32 (i 0).val
  let v11118 : Index := Scalar.indexCast arg0
  let c2_3962 : Index := 2#32
  let c15_3963 : Index := 15#32
  ![v11118.toNat, 2, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S6x3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S6x3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S6x3x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S6x3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6144x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1536x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1536x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6144x128 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6144x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6144x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1536x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1536x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
abbrev S128x2x128 : Shape := ⟨3, ![128, 2, 128]⟩
abbrev S128x1x128 : Shape := ⟨3, ![128, 1, 128]⟩
abbrev S64x2x128 : Shape := ⟨3, ![64, 2, 128]⟩
abbrev S64x1x128 : Shape := ⟨3, ![64, 1, 128]⟩
  | .local _ .vmem, ⟨21, _⟩ => ⟨S128x2x128, .bf16⟩
  | .local _ .vmem, ⟨22, _⟩ => ⟨S128x2x128, .bf16⟩
variable {F : FTy → Type} [FloatOps F] [Named F]
def κ : String → Option EReal := fun
  | "log2e" => some (((Real.log 2)⁻¹ : ℝ) : EReal)
  | "sm_scale" => some (((Real.sqrt 128)⁻¹ : ℝ) : EReal)
  | "sm_scale_log2e" => some (((Real.sqrt 128)⁻¹ * (Real.log 2)⁻¹ : ℝ) : EReal)
  | _ => none
-- ==== ReferenceIdeal.lean ====
abbrev S6x384x16x128 : Shape := ⟨4, ![6, 384, 16, 128]⟩
abbrev S6x3x16 : Shape := ⟨3, ![6, 3, 16]⟩
abbrev S6x384x4x128 : Shape := ⟨4, ![6, 384, 4, 128]⟩
abbrev S6x3x4 : Shape := ⟨3, ![6, 3, 4]⟩
abbrev S6x16x384 : Shape := ⟨3, ![6, 16, 384]⟩
abbrev S6x384x4x4x128 : Shape := ⟨5, ![6, 384, 4, 4, 128]⟩
abbrev S6x3x128x16 : Shape := ⟨4, ![6, 3, 128, 16]⟩
abbrev S6x384x16 : Shape := ⟨3, ![6, 384, 16]⟩
abbrev S6x3x128x4 : Shape := ⟨4, ![6, 3, 128, 4]⟩
abbrev S6x384x4 : Shape := ⟨3, ![6, 384, 4]⟩
abbrev S_ : Shape := ⟨0, ![]⟩
abbrev S6x384x16x1 : Shape := ⟨4, ![6, 384, 16, 1]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S6x4x384x384x4 : Shape := ⟨5, ![6, 4, 384, 384, 4]⟩
abbrev S6x4x4x384x384 : Shape := ⟨5, ![6, 4, 4, 384, 384]⟩
abbrev S6x384x4x4 : Shape := ⟨4, ![6, 384, 4, 4]⟩
abbrev S6x4x4x384 : Shape := ⟨4, ![6, 4, 4, 384]⟩
abbrev S6x4x4x384x1 : Shape := ⟨5, ![6, 4, 4, 384, 1]⟩
abbrev S6x4x384 : Shape := ⟨3, ![6, 4, 384]⟩
abbrev S6x4x1x1x384 : Shape := ⟨5, ![6, 4, 1, 1, 384]⟩
abbrev S6x384x4x1 : Shape := ⟨4, ![6, 384, 4, 1]⟩
abbrev S6x384x4x4x1 : Shape := ⟨5, ![6, 384, 4, 4, 1]⟩
abbrev S6x4x128x4x384 : Shape := ⟨5, ![6, 4, 128, 4, 384]⟩
abbrev S6x4x4x128x384 : Shape := ⟨5, ![6, 4, 4, 128, 384]⟩
abbrev S6x6144x128 : Shape := ⟨3, ![6, 6144, 128]⟩
abbrev S6x1536x128 : Shape := ⟨3, ![6, 1536, 128]⟩

abbrev nBuf : Space → Nat
  | .hbm => 127
  | .vmem => 8
  | .smem => 0
  | _ => 0

abbrev bufTy : (tb : Table) → Fin (tcTables nBuf tb) → BufTy
  | .hbm, ⟨0, _⟩ => ⟨S6x384x16x128, .fp8e4m3⟩
  | .hbm, ⟨1, _⟩ => ⟨S6x3x16, .f32⟩
  | .hbm, ⟨2, _⟩ => ⟨S6x384x4x128, .fp8e4m3⟩
  | .hbm, ⟨3, _⟩ => ⟨S6x3x4, .f32⟩
  | .hbm, ⟨4, _⟩ => ⟨S6x384x4x128, .fp8e4m3⟩
  | .hbm, ⟨5, _⟩ => ⟨S6x3x4, .f32⟩
  | .hbm, ⟨6, _⟩ => ⟨S6x384x16x128, .fp8e5m2⟩
  | .hbm, ⟨7, _⟩ => ⟨S6x3x16, .f32⟩
  | .hbm, ⟨8, _⟩ => ⟨S6x384x16x128, .bf16⟩
  | .hbm, ⟨9, _⟩ => ⟨S6x16x384, .f32⟩
  | .hbm, ⟨10, _⟩ => ⟨S6x384x16x128, .bf16⟩
  | .hbm, ⟨11, _⟩ => ⟨S6x384x4x128, .bf16⟩
  | .hbm, ⟨12, _⟩ => ⟨S6x384x4x128, .bf16⟩
  | .hbm, ⟨13, _⟩ => ⟨S6x384x16x128, .bf16⟩
  | .hbm, ⟨14, _⟩ => ⟨S6x384x4x4x128, .bf16⟩
  | .hbm, ⟨15, _⟩ => ⟨S6x384x4x4x128, .bf16⟩
  | .hbm, ⟨16, _⟩ => ⟨S6x3x128x16, .f32⟩
  | .hbm, ⟨17, _⟩ => ⟨S6x384x16, .f32⟩
  | .hbm, ⟨18, _⟩ => ⟨S6x3x128x16, .f32⟩
  | .hbm, ⟨19, _⟩ => ⟨S6x384x16, .f32⟩
  | .hbm, ⟨20, _⟩ => ⟨S6x3x128x4, .f32⟩
  | .hbm, ⟨21, _⟩ => ⟨S6x384x4, .f32⟩
  | .hbm, ⟨22, _⟩ => ⟨S6x3x128x4, .f32⟩
  | .hbm, ⟨23, _⟩ => ⟨S6x384x4, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S6x384x16x128, .f32⟩
  | .hbm, ⟨29, _⟩ => ⟨S6x384x16x1, .f32⟩
  | .hbm, ⟨30, _⟩ => ⟨S6x384x16x128, .f32⟩
  | .hbm, ⟨31, _⟩ => ⟨S6x384x16x128, .f32⟩
  | .hbm, ⟨32, _⟩ => ⟨S6x384x16x128, .f32⟩
  | .hbm, ⟨33, _⟩ => ⟨S6x384x16x128, .f32⟩
  | .hbm, ⟨34, _⟩ => ⟨S_, .f32⟩
  | .hbm, ⟨35, _⟩ => ⟨S6x384x16, .f32⟩
  | .hbm, ⟨36, _⟩ => ⟨S384, .i32⟩
  | .hbm, ⟨37, _⟩ => ⟨S384x1, .i32⟩
  | .hbm, ⟨38, _⟩ => ⟨S384, .i32⟩
  | .hbm, ⟨39, _⟩ => ⟨S1x384, .i32⟩
  | .hbm, ⟨40, _⟩ => ⟨S384x384, .i32⟩
  | .hbm, ⟨41, _⟩ => ⟨S384x384, .i32⟩
  | .hbm, ⟨42, _⟩ => ⟨S384x384, .i1⟩
  | .hbm, ⟨43, _⟩ => ⟨S_, .i32⟩
  | .hbm, ⟨44, _⟩ => ⟨S384x1, .i32⟩
  | .hbm, ⟨45, _⟩ => ⟨S384x1, .i32⟩
  | .hbm, ⟨46, _⟩ => ⟨S384x384, .i32⟩
  | .hbm, ⟨47, _⟩ => ⟨S384x384, .i32⟩
  | .hbm, ⟨48, _⟩ => ⟨S384x384, .i1⟩
  | .hbm, ⟨49, _⟩ => ⟨S384x384, .i1⟩
  | .hbm, ⟨50, _⟩ => ⟨S6x4x384x384x4, .f32⟩
  | .hbm, ⟨51, _⟩ => ⟨S6x4x4x384x384, .f32⟩
  | .hbm, ⟨52, _⟩ => ⟨S6x384x4x4, .f32⟩
  | .hbm, ⟨53, _⟩ => ⟨S6x4x4x384, .f32⟩
  | .hbm, ⟨54, _⟩ => ⟨S6x4x4x384x1, .f32⟩
  | .hbm, ⟨55, _⟩ => ⟨S6x4x4x384x384, .f32⟩
  | .hbm, ⟨56, _⟩ => ⟨S6x4x4x384x384, .f32⟩
  | .hbm, ⟨57, _⟩ => ⟨S6x4x384, .f32⟩
  | .hbm, ⟨58, _⟩ => ⟨S6x4x1x1x384, .f32⟩
  | .hbm, ⟨59, _⟩ => ⟨S6x4x4x384x384, .f32⟩
  | .hbm, ⟨60, _⟩ => ⟨S6x4x4x384x384, .f32⟩
  | .hbm, ⟨61, _⟩ => ⟨S6x4x4x384x384, .f32⟩
  | .hbm, ⟨62, _⟩ => ⟨S6x4x4x384x384, .f32⟩
  | .hbm, ⟨63, _⟩ => ⟨S6x4x4x384, .f32⟩
  | .hbm, ⟨64, _⟩ => ⟨S6x4x4x384x1, .f32⟩
  | .hbm, ⟨65, _⟩ => ⟨S6x4x4x384x384, .f32⟩
  | .hbm, ⟨66, _⟩ => ⟨S6x4x4x384x384, .f32⟩
  | .hbm, ⟨67, _⟩ => ⟨S_, .f32⟩
  | .hbm, ⟨68, _⟩ => ⟨S_, .f32⟩
  | .hbm, ⟨69, _⟩ => ⟨S6x4x4x384x384, .i1⟩
  | .hbm, ⟨70, _⟩ => ⟨S6x4x4x384x384, .f32⟩
  | .hbm, ⟨71, _⟩ => ⟨S6x4x4x384x384, .f32⟩
  | .hbm, ⟨72, _⟩ => ⟨S6x4x4x384x384, .f32⟩
  | .hbm, ⟨73, _⟩ => ⟨S6x4x384x384x4, .f32⟩
  | .hbm, ⟨74, _⟩ => ⟨S6x4x4x384x384, .f32⟩
  | .hbm, ⟨75, _⟩ => ⟨S6x384x4x4, .f32⟩
  | .hbm, ⟨76, _⟩ => ⟨S6x4x4x384, .f32⟩
  | .hbm, ⟨77, _⟩ => ⟨S6x4x4x384x1, .f32⟩
  | .hbm, ⟨78, _⟩ => ⟨S6x4x4x384x384, .f32⟩
  | .hbm, ⟨79, _⟩ => ⟨S6x4x4x384x384, .f32⟩
  | .hbm, ⟨80, _⟩ => ⟨S6x4x384, .f32⟩
  | .hbm, ⟨81, _⟩ => ⟨S6x4x1x1x384, .f32⟩
  | .hbm, ⟨82, _⟩ => ⟨S6x4x4x384x384, .f32⟩
  | .hbm, ⟨83, _⟩ => ⟨S6x4x4x384x384, .f32⟩
  | .hbm, ⟨84, _⟩ => ⟨S6x384x4x4, .f32⟩
  | .hbm, ⟨85, _⟩ => ⟨S6x4x4x384, .f32⟩
  | .hbm, ⟨86, _⟩ => ⟨S6x4x4x384x1, .f32⟩
  | .hbm, ⟨87, _⟩ => ⟨S6x4x4x384x384, .f32⟩
  | .hbm, ⟨88, _⟩ => ⟨S6x4x4x384x384, .f32⟩
  | .hbm, ⟨89, _⟩ => ⟨S6x4x4x384x384, .f32⟩
  | .hbm, ⟨90, _⟩ => ⟨S6x384x4, .bf16⟩
  | .hbm, ⟨91, _⟩ => ⟨S6x384x4x1, .bf16⟩
  | .hbm, ⟨92, _⟩ => ⟨S6x384x4x128, .bf16⟩
  | .hbm, ⟨93, _⟩ => ⟨S6x384x4x128, .bf16⟩
  | .hbm, ⟨94, _⟩ => ⟨S6x384x16, .bf16⟩
  | .hbm, ⟨95, _⟩ => ⟨S6x384x4x4, .bf16⟩
  | .hbm, ⟨96, _⟩ => ⟨S6x384x4x4x1, .bf16⟩
  | .hbm, ⟨97, _⟩ => ⟨S6x384x4x4x128, .bf16⟩
  | .hbm, ⟨98, _⟩ => ⟨S6x384x4x4x128, .bf16⟩
  | .hbm, ⟨99, _⟩ => ⟨S6x384x16, .bf16⟩
  | .hbm, ⟨100, _⟩ => ⟨S6x384x4x4, .bf16⟩
  | .hbm, ⟨101, _⟩ => ⟨S6x384x4x4x1, .bf16⟩
  | .hbm, ⟨102, _⟩ => ⟨S6x384x4x4x128, .bf16⟩
  | .hbm, ⟨103, _⟩ => ⟨S6x384x4x4x128, .bf16⟩
  | .hbm, ⟨104, _⟩ => ⟨S6x4x4x384x384, .bf16⟩
  | .hbm, ⟨105, _⟩ => ⟨S6x4x128x4x384, .f32⟩
  | .hbm, ⟨106, _⟩ => ⟨S6x384x4x4x128, .f32⟩
  | .hbm, ⟨107, _⟩ => ⟨S6x384x4x4x128, .f32⟩
  | .hbm, ⟨108, _⟩ => ⟨S6x384x4x4x128, .f32⟩
  | .hbm, ⟨109, _⟩ => ⟨S6x4x4x384x384, .bf16⟩
  | .hbm, ⟨110, _⟩ => ⟨S6x4x4x128x384, .f32⟩
  | .hbm, ⟨111, _⟩ => ⟨S6x384x4x4x128, .f32⟩
  | .hbm, ⟨112, _⟩ => ⟨S6x384x4x4x128, .f32⟩
  | .hbm, ⟨113, _⟩ => ⟨S6x384x4x4x128, .f32⟩
  | .hbm, ⟨114, _⟩ => ⟨S6x4x4x384x384, .bf16⟩
  | .hbm, ⟨115, _⟩ => ⟨S6x4x4x128x384, .f32⟩
  | .hbm, ⟨116, _⟩ => ⟨S6x384x4x4x128, .f32⟩
  | .hbm, ⟨117, _⟩ => ⟨S6x384x4x4x128, .bf16⟩
  | .hbm, ⟨118, _⟩ => ⟨S_, .f32⟩
  | .hbm, ⟨119, _⟩ => ⟨S6x384x4x128, .f32⟩
  | .hbm, ⟨120, _⟩ => ⟨S6x384x4x128, .bf16⟩
  | .hbm, ⟨121, _⟩ => ⟨S_, .f32⟩
  | .hbm, ⟨122, _⟩ => ⟨S6x384x4x128, .f32⟩
  | .hbm, ⟨123, _⟩ => ⟨S6x384x4x128, .bf16⟩
  | .hbm, ⟨124, _⟩ => ⟨S6x6144x128, .bf16⟩
  | .hbm, ⟨125, _⟩ => ⟨S6x1536x128, .bf16⟩
  | .hbm, ⟨126, _⟩ => ⟨S6x1536x128, .bf16⟩
  | .local _ .vmem, ⟨0, _⟩ => ⟨S6x384x16x128, .fp8e4m3⟩
  | .local _ .vmem, ⟨1, _⟩ => ⟨S6x384x4x128, .fp8e4m3⟩
  | .local _ .vmem, ⟨2, _⟩ => ⟨S6x384x4x128, .fp8e4m3⟩
  | .local _ .vmem, ⟨3, _⟩ => ⟨S6x384x16x128, .fp8e5m2⟩
  | .local _ .vmem, ⟨4, _⟩ => ⟨S6x384x16x128, .bf16⟩
  | .local _ .vmem, ⟨5, _⟩ => ⟨S6x384x4x128, .bf16⟩
  | .local _ .vmem, ⟨6, _⟩ => ⟨S6x384x4x128, .bf16⟩
  | .local _ .vmem, ⟨7, _⟩ => ⟨S6x384x16x128, .bf16⟩
  | _, _ => ⟨S6x384x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_2 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_3 : Ref sig .tc := ⟨.hbm, 118, rfl⟩
abbrev main_v97 : Ref sig .tc := ⟨.hbm, 119, rfl⟩
abbrev main_v98 : Ref sig .tc := ⟨.hbm, 120, rfl⟩
abbrev main_cst_4 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x384x16x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x384x4x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x384x4x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x384x16x128 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x384x16x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x384x4x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x384x4x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x384x16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Bits.Runs.lean ====
/- What the body run shares: the host prefix, the blocks, the staging memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 1 rfl).trans ((hA c 1).trans (V_main_arg3 m c)),
      ((h c).2 main_arg4 (Pipeline.mem_restRefs_of main_arg4 (by decide) (by decide))).trans (V_main_arg4 m c),
      (Pipeline.RDat.FramePost.arr_in h c 2 rfl).trans ((hA c 2).trans (V_main_arg5 m c)),
      ((h c).2 main_arg6 (Pipeline.mem_restRefs_of main_arg6 (by decide) (by decide))).trans (V_main_arg6 m c),
      (Pipeline.RDat.FramePost.arr_in h c 3 rfl).trans ((hA c 3).trans (V_main_arg7 m c)),
      ((h c).2 main_arg8 (Pipeline.mem_restRefs_of main_arg8 (by decide) (by decide))).trans (V_main_arg8 m c),
      (Pipeline.RDat.FramePost.arr_in h c 9 rfl).trans ((hA c 9).trans (V_main_arg9 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S6x3x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S6x3x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S6x3x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S6x3x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6144x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x6144x128 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x6144x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x384 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x6144x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1536x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1536x128 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S4x384x128 .fp8e4m3 := Memref.whole cc0_scratch0
abbrev scM0_1 : Memref sig .tc .vmem S4x384x128 .fp8e4m3 := Memref.whole cc0_scratch1
abbrev scM0_2 : Memref sig .tc .vmem S4x1x1536 .f32 := Memref.whole cc0_scratch2
abbrev scM0_3 : Memref sig .tc .vmem S128x128 .i32 := Memref.whole cc0_scratch3
abbrev scM0_4 : Memref sig .tc .vmem S128x128 .i32 := Memref.whole cc0_scratch4
abbrev scM0_5 : Memref sig .tc .vmem S2x384x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.Bits.RunA.lean ====
/- The kernel body's triple, outputs at some contents. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9968000 in set_option sl_exec.stridedRows true in
/-- The body's triple: on whole staging memrefs — the inputs' at their contents,
    the FORGOTTEN outputs' (10, 11, 12) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .smem S6x3x16 .f32) (harg1 : arg1.IsWhole) (arg2 : Memref sig .tc .smem S6x3x4 .f32) (harg2 : arg2.IsWhole) (arg3 : Memref sig .tc .smem S6x3x4 .f32) (harg3 : arg3.IsWhole) (arg4 : Memref sig .tc .smem S6x3x16 .f32) (harg4 : arg4.IsWhole) (arg5 : Memref sig .tc .vmem S1x6144x128 .fp8e4m3) (harg5 : arg5.IsWhole) (arg6 : Memref sig .tc .vmem S1x1536x128 .fp8e4m3) (harg6 : arg6.IsWhole) (arg7 : Memref sig .tc .vmem S1x1536x128 .fp8e4m3) (harg7 : arg7.IsWhole) (arg8 : Memref sig .tc .vmem S1x6144x128 .fp8e5m2) (harg8 : arg8.IsWhole) (arg9 : Memref sig .tc .vmem S1x6144x128 .bf16) (harg9 : arg9.IsWhole) (arg10 : Memref sig .tc .vmem S1x16x384 .f32) (harg10 : arg10.IsWhole) (arg11 : Memref sig .tc .vmem S1x6144x128 .bf16) (harg11 : arg11.IsWhole) (arg12 : Memref sig .tc .vmem S1x1536x128 .bf16) (harg12 : arg12.IsWhole) (arg13 : Memref sig .tc .vmem S1x1536x128 .bf16) (harg13 : arg13.IsWhole) (arg14 : Memref sig .tc .vmem S4x384x128 .fp8e4m3) (harg14 : arg14.IsWhole) (arg15 : Memref sig .tc .vmem S4x384x128 .fp8e4m3) (harg15 : arg15.IsWhole) (arg16 : Memref sig .tc .vmem S4x1x1536 .f32) (harg16 : arg16.IsWhole) (arg17 : Memref sig .tc .vmem S128x128 .i32) (harg17 : arg17.IsWhole) (arg18 : Memref sig .tc .vmem S128x128 .i32) (harg18 : arg18.IsWhole) (arg19 : Memref sig .tc .vmem S2x384x128 .f32) (harg19 : arg19.IsWhole)
    (x0 : Vec F S6x3x16 .f32) (x1 : Vec F S6x3x4 .f32) (x2 : Vec F S6x3x4 .f32) (x3 : Vec F S6x3x16 .f32) (x4 : Vec F S1x6144x128 .fp8e4m3) (x5 : Vec F S1x1536x128 .fp8e4m3) (x6 : Vec F S1x1536x128 .fp8e4m3) (x7 : Vec F S1x6144x128 .fp8e5m2) (x8 : Vec F S1x6144x128 .bf16) (x9 : Vec F S1x16x384 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0__body_eq_skeleton]; unfold cc0__body_skel
    simp only [k0_part275_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part276_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part277_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part278_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Hand

end
-- ==== Proof.Bits.Frame.lean ====
/- The frame of the launch. -/
module

public import proofs.«01_k».proof.Proof.Bits.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12): nothing reads what the kernel leaves in them, so nothing
    of it is named (Lib/Pipeline/Dat.lean `Dat.toRForget`). -/
def forgets0 : Fin 13 → Bool := fun w => w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- The frame: arguments end unchanged, counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Hand

end
-- ==== Proof.Ledger.lean ====
/- The ledger of the idealization: each rewrite rule's statement at the shapes and constants of its sites. -/
module

public import proofs.«01_k».proof.Defs
public import Idealize.ShloMosaic.Lib.Bf16Pair
public import Idealize.ShloMosaic.Lib.Bf16PairInverse

@[expose] public section

noncomputable section

namespace Cert.Proof

open Idealize.ShloMosaic

/-- Every rewrite the idealization made is its rule's statement. -/
theorem preserves : Cert.preserves_Kernel_KernelIdeal :=
  ⟨IdealRules.bf16_pair.bufferStatement _ _,
   IdealRules.named_const.statement Cert.KernelIdeal.κ "log2e" .f32 0x3FB8AA3B#32 _ rfl,
   IdealRules.bf16_pair.statement _ _, IdealRules.bf16_pair.statement _ _,
   IdealRules.bf16_pair.statement _ _, IdealRules.bf16_pair.statement _ _,
   IdealRules.named_const.statement Cert.KernelIdeal.κ "sm_scale_log2e" .f32 0x3E0293EE#32 _ rfl,
   IdealRules.named_const.statement Cert.KernelIdeal.κ "sm_scale" .f32 0x3DB504F3#32 _ rfl,
   IdealRules.bf16_pair.packStatement _,
   IdealRules.bf16_pair.statement _ _⟩

end Cert.Proof

end
-- ==== Proof.Exact.Runs.lean ====
/- What the body run shares: the host prefix, the blocks, the staging memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 1 rfl).trans ((hA c 1).trans (V_main_arg3 m c)),
      ((h c).2 main_arg4 (Pipeline.mem_restRefs_of main_arg4 (by decide) (by decide))).trans (V_main_arg4 m c),
      (Pipeline.RDat.FramePost.arr_in h c 2 rfl).trans ((hA c 2).trans (V_main_arg5 m c)),
      ((h c).2 main_arg6 (Pipeline.mem_restRefs_of main_arg6 (by decide) (by decide))).trans (V_main_arg6 m c),
      (Pipeline.RDat.FramePost.arr_in h c 3 rfl).trans ((hA c 3).trans (V_main_arg7 m c)),
      ((h c).2 main_arg8 (Pipeline.mem_restRefs_of main_arg8 (by decide) (by decide))).trans (V_main_arg8 m c),
      (Pipeline.RDat.FramePost.arr_in h c 9 rfl).trans ((hA c 9).trans (V_main_arg9 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S6x3x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S6x3x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S6x3x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S6x3x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6144x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x6144x128 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x6144x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x384 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x6144x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1536x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1536x128 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S4x384x128 .fp8e4m3 := Memref.whole cc0_scratch0
abbrev scM0_1 : Memref sig .tc .vmem S4x384x128 .fp8e4m3 := Memref.whole cc0_scratch1
abbrev scM0_2 : Memref sig .tc .vmem S4x1x1536 .f32 := Memref.whole cc0_scratch2
abbrev scM0_3 : Memref sig .tc .vmem S128x2x128 .bf16 := Memref.whole cc0_scratch3
abbrev scM0_4 : Memref sig .tc .vmem S128x2x128 .bf16 := Memref.whole cc0_scratch4
abbrev scM0_5 : Memref sig .tc .vmem S2x384x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.Exact.Run.lean ====
/- The kernel body's triple, outputs at some contents. -/
module

public import proofs.«01_k».proof.Proof.Exact.Runs

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is given: its core and grid point, its staging and scratch memrefs, and what the inputs hold. -/
structure Pack (F : FTy → Type) where
  c : Dev nD
  i : grid0.Coords
  arg1 : Memref sig .tc .smem S6x3x16 .f32
  harg1 : arg1.IsWhole
  arg2 : Memref sig .tc .smem S6x3x4 .f32
  harg2 : arg2.IsWhole
  arg3 : Memref sig .tc .smem S6x3x4 .f32
  harg3 : arg3.IsWhole
  arg4 : Memref sig .tc .smem S6x3x16 .f32
  harg4 : arg4.IsWhole
  arg5 : Memref sig .tc .vmem S1x6144x128 .fp8e4m3
  harg5 : arg5.IsWhole
  arg6 : Memref sig .tc .vmem S1x1536x128 .fp8e4m3
  harg6 : arg6.IsWhole
  arg7 : Memref sig .tc .vmem S1x1536x128 .fp8e4m3
  harg7 : arg7.IsWhole
  arg8 : Memref sig .tc .vmem S1x6144x128 .fp8e5m2
  harg8 : arg8.IsWhole
  arg9 : Memref sig .tc .vmem S1x6144x128 .bf16
  harg9 : arg9.IsWhole
  arg10 : Memref sig .tc .vmem S1x16x384 .f32
  harg10 : arg10.IsWhole
  arg11 : Memref sig .tc .vmem S1x6144x128 .bf16
  harg11 : arg11.IsWhole
  arg12 : Memref sig .tc .vmem S1x1536x128 .bf16
  harg12 : arg12.IsWhole
  arg13 : Memref sig .tc .vmem S1x1536x128 .bf16
  harg13 : arg13.IsWhole
  arg14 : Memref sig .tc .vmem S4x384x128 .fp8e4m3
  harg14 : arg14.IsWhole
  arg15 : Memref sig .tc .vmem S4x384x128 .fp8e4m3
  harg15 : arg15.IsWhole
  arg16 : Memref sig .tc .vmem S4x1x1536 .f32
  harg16 : arg16.IsWhole
  arg17 : Memref sig .tc .vmem S128x2x128 .bf16
  harg17 : arg17.IsWhole
  arg18 : Memref sig .tc .vmem S128x2x128 .bf16
  harg18 : arg18.IsWhole
  arg19 : Memref sig .tc .vmem S2x384x128 .f32
  harg19 : arg19.IsWhole
  x0 : Vec F S6x3x16 .f32
  x1 : Vec F S6x3x4 .f32
  x2 : Vec F S6x3x4 .f32
  x3 : Vec F S6x3x16 .f32
  x4 : Vec F S1x6144x128 .fp8e4m3
  x5 : Vec F S1x1536x128 .fp8e4m3
  x6 : Vec F S1x1536x128 .fp8e4m3
  x7 : Vec F S1x6144x128 .fp8e5m2
  x8 : Vec F S1x6144x128 .bf16
  x9 : Vec F S1x16x384 .f32

-- (the run's proof term is large: checking it walks past the default budget)
set_option maxHeartbeats 10952000 in set_option sl_exec.stridedRows true in set_option sl_exec.resultNames true in
/-- The body's triple on whole staging memrefs: inputs kept, each output at a function of what it held, found by the run. -/
noncomputable def bodyRun (A : Pack F) :
    Σ' (W10 : Buf (Elt F) (View.loc (A.c : Thread nD τ) A.arg11.view) → Buf (Elt F) (View.loc (A.c : Thread nD τ) A.arg11.view)) (W11 : Buf (Elt F) (View.loc (A.c : Thread nD τ) A.arg12.view) → Buf (Elt F) (View.loc (A.c : Thread nD τ) A.arg12.view)), { W12 : Buf (Elt F) (View.loc (A.c : Thread nD τ) A.arg13.view) → Buf (Elt F) (View.loc (A.c : Thread nD τ) A.arg13.view) //
      ∀ (E : Set ℕ) (K : PUnit → sProp 𝕄),
        iprop(owns (A.c : Thread nD τ) A.arg1 fullShare A.x0 ∗ owns (A.c : Thread nD τ) A.arg2 fullShare A.x1 ∗ owns (A.c : Thread nD τ) A.arg3 fullShare A.x2 ∗ owns (A.c : Thread nD τ) A.arg4 fullShare A.x3 ∗ owns (A.c : Thread nD τ) A.arg5 fullShare A.x4 ∗ owns (A.c : Thread nD τ) A.arg6 fullShare A.x5 ∗ owns (A.c : Thread nD τ) A.arg7 fullShare A.x6 ∗ owns (A.c : Thread nD τ) A.arg8 fullShare A.x7 ∗ owns (A.c : Thread nD τ) A.arg9 fullShare A.x8 ∗ owns (A.c : Thread nD τ) A.arg10 fullShare A.x9 ∗ (∃ d, owns (A.c : Thread nD τ) A.arg11 fullShare d) ∗ (∃ d, owns (A.c : Thread nD τ) A.arg12 fullShare d) ∗ (∃ d, owns (A.c : Thread nD τ) A.arg13 fullShare d) ∗ (∃ d, owns (A.c : Thread nD τ) A.arg14 fullShare d) ∗ (∃ d, owns (A.c : Thread nD τ) A.arg15 fullShare d) ∗ (∃ d, owns (A.c : Thread nD τ) A.arg16 fullShare d) ∗ (∃ d, owns (A.c : Thread nD τ) A.arg17 fullShare d) ∗ (∃ d, owns (A.c : Thread nD τ) A.arg18 fullShare d) ∗ (∃ d, owns (A.c : Thread nD τ) A.arg19 fullShare d)
            ∗ (iprop(owns (A.c : Thread nD τ) A.arg1 fullShare A.x0 ∗ owns (A.c : Thread nD τ) A.arg2 fullShare A.x1 ∗ owns (A.c : Thread nD τ) A.arg3 fullShare A.x2 ∗ owns (A.c : Thread nD τ) A.arg4 fullShare A.x3 ∗ owns (A.c : Thread nD τ) A.arg5 fullShare A.x4 ∗ owns (A.c : Thread nD τ) A.arg6 fullShare A.x5 ∗ owns (A.c : Thread nD τ) A.arg7 fullShare A.x6 ∗ owns (A.c : Thread nD τ) A.arg8 fullShare A.x7 ∗ owns (A.c : Thread nD τ) A.arg9 fullShare A.x8 ∗ owns (A.c : Thread nD τ) A.arg10 fullShare A.x9 ∗ (∃ f : Buf (Elt F) (View.loc (A.c : Thread nD τ) A.arg11.view), View.loc (A.c : Thread nD τ) A.arg11.view ↦[A.arg11.view.set]{fullShare} W10 f) ∗ (∃ f : Buf (Elt F) (View.loc (A.c : Thread nD τ) A.arg12.view), View.loc (A.c : Thread nD τ) A.arg12.view ↦[A.arg12.view.set]{fullShare} W11 f) ∗ (∃ f : Buf (Elt F) (View.loc (A.c : Thread nD τ) A.arg13.view), View.loc (A.c : Thread nD τ) A.arg13.view ↦[A.arg13.view.set]{fullShare} W12 f) ∗ (∃ d, owns (A.c : Thread nD τ) A.arg14 fullShare d) ∗ (∃ d, owns (A.c : Thread nD τ) A.arg15 fullShare d) ∗ (∃ d, owns (A.c : Thread nD τ) A.arg16 fullShare d) ∗ (∃ d, owns (A.c : Thread nD τ) A.arg17 fullShare d) ∗ (∃ d, owns (A.c : Thread nD τ) A.arg18 fullShare d) ∗ (∃ d, owns (A.c : Thread nD τ) A.arg19 fullShare d)) -∗ K ⟨⟩))
          ⊢ wp frame (wpE (defs₀ (F := F)) Variants.none A.c none) E (cc0__body A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19) K  } := by
    refine ⟨?_, ?_, ?_, fun E K => ?run⟩
    case run =>
    simp only [cc0__body_eq_skeleton]; unfold cc0__body_skel
    simp only [k0_part286_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part287_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part288_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part289_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part290_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := A.harg1.eq_unread hf0; obtain rfl := A.harg2.eq_unread hf1; obtain rfl := A.harg3.eq_unread hf2; obtain rfl := A.harg4.eq_unread hf3; obtain rfl := A.harg5.eq_unread hf4; obtain rfl := A.harg6.eq_unread hf5; obtain rfl := A.harg7.eq_unread hf6; obtain rfl := A.harg8.eq_unread hf7; obtain rfl := A.harg9.eq_unread hf8; obtain rfl := A.harg10.eq_unread hf9
    sl_exec
    sl_step
    iapply Hk
    isplitl [H0]
    · iexists _; isplitr; · ipureintro; exact A.harg1.read_unread _
      iexact H0
    isplitl [H1]
    · iexists _; isplitr; · ipureintro; exact A.harg2.read_unread _
      iexact H1
    isplitl [H2]
    · iexists _; isplitr; · ipureintro; exact A.harg3.read_unread _
      iexact H2
    isplitl [H3]
    · iexists _; isplitr; · ipureintro; exact A.harg4.read_unread _
      iexact H3
    isplitl [H4]
    · iexists _; isplitr; · ipureintro; exact A.harg5.read_unread _
      iexact H4
    isplitl [H5]
    · iexists _; isplitr; · ipureintro; exact A.harg6.read_unread _
      iexact H5
    isplitl [H6]
    · iexists _; isplitr; · ipureintro; exact A.harg7.read_unread _
      iexact H6
    isplitl [H7]
    · iexists _; isplitr; · ipureintro; exact A.harg8.read_unread _
      iexact H7
    isplitl [H8]
    · iexists _; isplitr; · ipureintro; exact A.harg9.read_unread _
      iexact H8
    isplitl [H9]
    · iexists _; isplitr; · ipureintro; exact A.harg10.read_unread _
      iexact H9
    isplitl [H10]
    · iexists f10; iexact H10
    isplitl [H11]
    · iexists f11; iexact H11
    isplitl [H12]
    · iexists f12; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Hand

end
-- ==== Proof.Exact.Tile.lean ====
module

public import proofs.«01_k».proof.Proof.Gen.KernelIdeal.Skeleton
public import Idealize.ShloMosaic.Lib.Pointwise

@[expose] public section

set_option maxRecDepth 16384

noncomputable section

namespace Cert.KernelIdeal.Hand

open Cert.KernelIdeal.Gen Idealize.ShloMosaic

variable {F : FTy → Type} [FloatOps F] [Named F]

/-- The row sums of the product of two blocks of 256 rows, as one row of 256. -/
def rowDots (x y : FVec F S256x128 .bf16) : FVec F S1x256 .f32 :=
  have t0 : FVec F S128x256 .bf16 := transpose S128x256 [1, 0] x transposes_S256x128_p1_0_S128x256
  have t1 : FVec F S16x256 .bf16 := extractStridedSlice S16x256 ![0, 0] t0 slices_S128x256_o0_0_S16x256
  have t2 : FVec F S16x256 .f32 := extf .f32 t1 bitsLt_bf16_f32
  have t3 : FVec F S128x256 .bf16 := transpose S128x256 [1, 0] y transposes_S256x128_p1_0_S128x256
  have t4 : FVec F S16x256 .bf16 := extractStridedSlice S16x256 ![0, 0] t3 slices_S128x256_o0_0_S16x256
  have t5 : FVec F S16x256 .f32 := extf .f32 t4 bitsLt_bf16_f32
  have t6 : FVec F S16x256 .f32 := mulf t2 t5
  have t7 : FVec F S16x256 .bf16 := extractStridedSlice S16x256 ![16, 0] t0 slices_S128x256_o16_0_S16x256
  have t8 : FVec F S16x256 .f32 := extf .f32 t7 bitsLt_bf16_f32
  have t9 : FVec F S16x256 .bf16 := extractStridedSlice S16x256 ![16, 0] t3 slices_S128x256_o16_0_S16x256
  have t10 : FVec F S16x256 .f32 := extf .f32 t9 bitsLt_bf16_f32
  have t11 : FVec F S16x256 .f32 := mulf t8 t10
  have t12 : FVec F S16x256 .f32 := addf t6 t11
  have t13 : FVec F S16x256 .bf16 := extractStridedSlice S16x256 ![32, 0] t0 slices_S128x256_o32_0_S16x256
  have t14 : FVec F S16x256 .f32 := extf .f32 t13 bitsLt_bf16_f32
  have t15 : FVec F S16x256 .bf16 := extractStridedSlice S16x256 ![32, 0] t3 slices_S128x256_o32_0_S16x256
  have t16 : FVec F S16x256 .f32 := extf .f32 t15 bitsLt_bf16_f32
  have t17 : FVec F S16x256 .f32 := mulf t14 t16
  have t18 : FVec F S16x256 .f32 := addf t12 t17
  have t19 : FVec F S16x256 .bf16 := extractStridedSlice S16x256 ![48, 0] t0 slices_S128x256_o48_0_S16x256
  have t20 : FVec F S16x256 .f32 := extf .f32 t19 bitsLt_bf16_f32
  have t21 : FVec F S16x256 .bf16 := extractStridedSlice S16x256 ![48, 0] t3 slices_S128x256_o48_0_S16x256
  have t22 : FVec F S16x256 .f32 := extf .f32 t21 bitsLt_bf16_f32
  have t23 : FVec F S16x256 .f32 := mulf t20 t22
  have t24 : FVec F S16x256 .f32 := addf t18 t23
  have t25 : FVec F S16x256 .bf16 := extractStridedSlice S16x256 ![64, 0] t0 slices_S128x256_o64_0_S16x256
  have t26 : FVec F S16x256 .f32 := extf .f32 t25 bitsLt_bf16_f32
  have t27 : FVec F S16x256 .bf16 := extractStridedSlice S16x256 ![64, 0] t3 slices_S128x256_o64_0_S16x256
  have t28 : FVec F S16x256 .f32 := extf .f32 t27 bitsLt_bf16_f32
  have t29 : FVec F S16x256 .f32 := mulf t26 t28
  have t30 : FVec F S16x256 .f32 := addf t24 t29
  have t31 : FVec F S16x256 .bf16 := extractStridedSlice S16x256 ![80, 0] t0 slices_S128x256_o80_0_S16x256
  have t32 : FVec F S16x256 .f32 := extf .f32 t31 bitsLt_bf16_f32
  have t33 : FVec F S16x256 .bf16 := extractStridedSlice S16x256 ![80, 0] t3 slices_S128x256_o80_0_S16x256
  have t34 : FVec F S16x256 .f32 := extf .f32 t33 bitsLt_bf16_f32
  have t35 : FVec F S16x256 .f32 := mulf t32 t34
  have t36 : FVec F S16x256 .f32 := addf t30 t35
  have t37 : FVec F S16x256 .bf16 := extractStridedSlice S16x256 ![96, 0] t0 slices_S128x256_o96_0_S16x256
  have t38 : FVec F S16x256 .f32 := extf .f32 t37 bitsLt_bf16_f32
  have t39 : FVec F S16x256 .bf16 := extractStridedSlice S16x256 ![96, 0] t3 slices_S128x256_o96_0_S16x256
  have t40 : FVec F S16x256 .f32 := extf .f32 t39 bitsLt_bf16_f32
  have t41 : FVec F S16x256 .f32 := mulf t38 t40
  have t42 : FVec F S16x256 .f32 := addf t36 t41
  have t43 : FVec F S16x256 .bf16 := extractStridedSlice S16x256 ![112, 0] t0 slices_S128x256_o112_0_S16x256
  have t44 : FVec F S16x256 .f32 := extf .f32 t43 bitsLt_bf16_f32
  have t45 : FVec F S16x256 .bf16 := extractStridedSlice S16x256 ![112, 0] t3 slices_S128x256_o112_0_S16x256
  have t46 : FVec F S16x256 .f32 := extf .f32 t45 bitsLt_bf16_f32
  have t47 : FVec F S16x256 .f32 := mulf t44 t46
  have t48 : FVec F S16x256 .f32 := addf t42 t47
  have t49 : FVec F S256 .f32 := multiReduction .add [0] S256 t48 0x00000000#32 reduces_S16x256_S256 (.inl rfl) rfl
  have t50 : FVec F S1x256 .f32 := shapeCast S1x256 t49 shapeCasts_S256_S1x256
  t50

/-- Four scalars, one per head, repeated down 16 rows. -/
def heads16 (s0 s1 s2 s3 : F .f32) : FVec F S16x128 .f32 :=
  have t0 : IVec S16x128 32 := iota .tc S16x128 32 [0] iota_S16x128_d0_w32
  have t1 : BitVec 1 := Scalar.cmpi .eq 4#32 0#32
  have t2 : BitVec 32 := Scalar.select t1 1#32 4#32
  have t3 : IVec S16x128 32 := broadcast S16x128 t2
  have t4 : IVec S16x128 32 := remsi t0 t3
  have t5 : IVec S16x128 32 := broadcast S16x128 0#32
  have t6 : IVec S16x128 1 := cmpi .slt t4 t5
  have t7 : BitVec 1 := Scalar.cmpi .slt t2 0#32
  have t8 : IVec S16x128 1 := broadcast S16x128 t7
  have t9 : IVec S16x128 1 := broadcastTo S16x128 t8 broadcasts_S16x128_S16x128
  have t10 : IVec S16x128 1 := xori t6 t9
  have t11 : IVec S16x128 32 := broadcast S16x128 0#32
  have t12 : IVec S16x128 1 := cmpi .ne t4 t11
  have t13 : IVec S16x128 1 := andi t10 t12
  have t14 : IVec S16x128 32 := broadcast S16x128 t2
  have t15 : IVec S16x128 32 := addi t4 t14
  have t16 : IVec S16x128 32 := select t13 t15 t4
  have t17 : IVec S16x128 32 := broadcast S16x128 2#32
  have t18 : IVec S16x128 1 := cmpi .slt t16 t17
  have t19 : IVec S16x128 32 := broadcast S16x128 0#32
  have t20 : IVec S16x128 1 := cmpi .eq t16 t19
  have t21 : FVec F S16x128 .f32 := broadcast S16x128 s0
  have t22 : FVec F S16x128 .f32 := broadcast S16x128 s1
  have t23 : FVec F S16x128 .f32 := select t20 t21 t22
  have t24 : IVec S16x128 32 := broadcast S16x128 2#32
  have t25 : IVec S16x128 1 := cmpi .eq t16 t24
  have t26 : FVec F S16x128 .f32 := broadcast S16x128 s2
  have t27 : FVec F S16x128 .f32 := broadcast S16x128 s3
  have t28 : FVec F S16x128 .f32 := select t25 t26 t27
  have t29 : FVec F S16x128 .f32 := select t18 t23 t28
  t29

/-- A block of 256 rows times 16 rows repeated down it. -/
def scaleRows (x : FVec F S256x128 .bf16) (b : FVec F S16x128 .f32) : FVec F S256x128 .bf16 :=
  have t0 : FVec F S16x16x128 .bf16 := shapeCast S16x16x128 x shapeCasts_S256x128_S16x16x128
  have t1 : FVec F S16x128 .bf16 := truncf .bf16 b bitsLt_bf16_f32
  have t2 : FVec F S1x16x128 .bf16 := shapeCast S1x16x128 t1 shapeCasts_S16x128_S1x16x128
  have t3 : FVec F S16x16x128 .bf16 := broadcastTo S16x16x128 t2 broadcasts_S1x16x128_S16x16x128
  have t4 : FVec F S16x16x128 .bf16 := mulf t0 t3
  have t5 : FVec F S256x128 .bf16 := shapeCast S256x128 t4 shapeCasts_S16x16x128_S256x128
  t5

/-- Four scalars, one per head, repeated along a row of 256. -/
def heads256 (s0 s1 s2 s3 : F .f32) : FVec F S1x256 .f32 :=
  have t0 : IVec S1x256 32 := iota .tc S1x256 32 [1] iota_S1x256_d1_w32
  have t1 : BitVec 1 := Scalar.cmpi .eq 4#32 0#32
  have t2 : BitVec 32 := Scalar.select t1 1#32 4#32
  have t3 : IVec S1x256 32 := broadcast S1x256 t2
  have t4 : IVec S1x256 32 := remsi t0 t3
  have t5 : IVec S1x256 32 := broadcast S1x256 0#32
  have t6 : IVec S1x256 1 := cmpi .slt t4 t5
  have t7 : BitVec 1 := Scalar.cmpi .slt t2 0#32
  have t8 : IVec S1x256 1 := broadcast S1x256 t7
  have t9 : IVec S1x256 1 := broadcastTo S1x256 t8 broadcasts_S1x256_S1x256
  have t10 : IVec S1x256 1 := xori t6 t9
  have t11 : IVec S1x256 32 := broadcast S1x256 0#32
  have t12 : IVec S1x256 1 := cmpi .ne t4 t11
  have t13 : IVec S1x256 1 := andi t10 t12
  have t14 : IVec S1x256 32 := broadcast S1x256 t2
  have t15 : IVec S1x256 32 := addi t4 t14
  have t16 : IVec S1x256 32 := select t13 t15 t4
  have t17 : IVec S1x256 32 := broadcast S1x256 2#32
  have t18 : IVec S1x256 1 := cmpi .slt t16 t17
  have t19 : IVec S1x256 32 := broadcast S1x256 0#32
  have t20 : IVec S1x256 1 := cmpi .eq t16 t19
  have t21 : FVec F S1x256 .f32 := broadcast S1x256 s0
  have t22 : FVec F S1x256 .f32 := broadcast S1x256 s1
  have t23 : FVec F S1x256 .f32 := select t20 t21 t22
  have t24 : IVec S1x256 32 := broadcast S1x256 2#32
  have t25 : IVec S1x256 1 := cmpi .eq t16 t24
  have t26 : FVec F S1x256 .f32 := broadcast S1x256 s2
  have t27 : FVec F S1x256 .f32 := broadcast S1x256 s3
  have t28 : FVec F S1x256 .f32 := select t25 t26 t27
  have t29 : FVec F S1x256 .f32 := select t18 t23 t28
  t29

/-- The weights of a tile before its mask. -/
def weights (s : FVec F S64x256 .f32) (cq : FVec F S1x256 .f32) (ks : F .f32) (l2 : FVec F S1x256 .f32) : FVec F S64x256 .f32 :=
  have t0 : FVec F S1x256 .f32 := broadcast S1x256 ks
  have t1 : FVec F S1x256 .f32 := mulf cq t0
  have t2 : FVec F S64x256 .f32 := broadcastTo S64x256 t1 broadcasts_S1x256_S64x256
  have t3 : FVec F S64x256 .f32 := mulf s t2
  have t4 : FVec F S64x256 .f32 := broadcastTo S64x256 l2 broadcasts_S1x256_S64x256
  have t5 : FVec F S64x256 .f32 := subf t3 t4
  have t6 : FVec F S64x256 .f32 := exp2 t5
  t6

/-- The weights of the diagonal tile. -/
def maskDiag (p : FVec F S64x256 .f32) : FVec F S64x256 .f32 :=
  have t0 : IVec S64x256 32 := iota .tc S64x256 32 [0] iota_S64x256_d0_w32
  have t1 : IVec S64x256 32 := iota .tc S64x256 32 [1] iota_S64x256_d1_w32
  have t2 : IVec S64x256 32 := broadcast S64x256 0#32
  have t3 : IVec S64x256 1 := cmpi .sgt t1 t2
  have t4 : IVec S64x256 32 := extui 32 t3 natLt_1_32
  have t5 : IVec S64x256 32 := broadcast S64x256 0#32
  have t6 : IVec S64x256 1 := cmpi .slt t1 t5
  have t7 : IVec S64x256 32 := extui 32 t6 natLt_1_32
  have t8 : IVec S64x256 32 := subi t4 t7
  have t9 : BitVec 1 := Scalar.cmpi .sgt 4#32 0#32
  have t10 : BitVec 32 := Scalar.extui t9
  have t11 : BitVec 1 := Scalar.cmpi .slt 4#32 0#32
  have t12 : BitVec 32 := Scalar.extui t11
  have t13 : BitVec 32 := Scalar.subi t10 t12
  have t14 : IVec S64x256 32 := broadcast S64x256 t13
  have t15 : IVec S64x256 1 := cmpi .ne t8 t14
  have t16 : IVec S64x256 32 := broadcast S64x256 4#32
  have t17 : IVec S64x256 32 := remsi t1 t16
  have t18 : IVec S64x256 32 := broadcast S64x256 0#32
  have t19 : IVec S64x256 1 := cmpi .ne t17 t18
  have t20 : IVec S64x256 1 := andi t15 t19
  have t21 : IVec S64x256 32 := broadcast S64x256 4#32
  have t22 : IVec S64x256 32 := divsi t1 t21
  have t23 : IVec S64x256 32 := broadcast S64x256 1#32
  have t24 : IVec S64x256 32 := subi t22 t23
  have t25 : IVec S64x256 32 := select t20 t24 t22
  have t26 : IVec S64x256 1 := cmpi .sle t0 t25
  have t27 : FVec F S64x256 .f32 := broadcast S64x256 (Scalar.ofBits .f32 0x00000000#32)
  have t28 : FVec F S64x256 .f32 := select t26 p t27
  t28

/-- The weights of the tile at the far edge of the window. -/
def maskEdge (p : FVec F S64x256 .f32) : FVec F S64x256 .f32 :=
  have t0 : IVec S64x256 32 := iota .tc S64x256 32 [0] iota_S64x256_d0_w32
  have t1 : IVec S64x256 32 := iota .tc S64x256 32 [1] iota_S64x256_d1_w32
  have t2 : IVec S64x256 32 := broadcast S64x256 0#32
  have t3 : IVec S64x256 1 := cmpi .sgt t1 t2
  have t4 : IVec S64x256 32 := extui 32 t3 natLt_1_32
  have t5 : IVec S64x256 32 := broadcast S64x256 0#32
  have t6 : IVec S64x256 1 := cmpi .slt t1 t5
  have t7 : IVec S64x256 32 := extui 32 t6 natLt_1_32
  have t8 : IVec S64x256 32 := subi t4 t7
  have t9 : BitVec 1 := Scalar.cmpi .sgt 4#32 0#32
  have t10 : BitVec 32 := Scalar.extui t9
  have t11 : BitVec 1 := Scalar.cmpi .slt 4#32 0#32
  have t12 : BitVec 32 := Scalar.extui t11
  have t13 : BitVec 32 := Scalar.subi t10 t12
  have t14 : IVec S64x256 32 := broadcast S64x256 t13
  have t15 : IVec S64x256 1 := cmpi .ne t8 t14
  have t16 : IVec S64x256 32 := broadcast S64x256 4#32
  have t17 : IVec S64x256 32 := remsi t1 t16
  have t18 : IVec S64x256 32 := broadcast S64x256 0#32
  have t19 : IVec S64x256 1 := cmpi .ne t17 t18
  have t20 : IVec S64x256 1 := andi t15 t19
  have t21 : IVec S64x256 32 := broadcast S64x256 4#32
  have t22 : IVec S64x256 32 := divsi t1 t21
  have t23 : IVec S64x256 32 := broadcast S64x256 1#32
  have t24 : IVec S64x256 32 := subi t22 t23
  have t25 : IVec S64x256 32 := select t20 t24 t22
  have t26 : IVec S64x256 1 := cmpi .sgt t0 t25
  have t27 : FVec F S64x256 .f32 := broadcast S64x256 (Scalar.ofBits .f32 0x00000000#32)
  have t28 : FVec F S64x256 .f32 := select t26 p t27
  t28

/-- The gradient of a tile's scores. -/
def grads (p dp : FVec F S64x256 .f32) (dl : FVec F S1x256 .f32) (vs : F .f32) : FVec F S64x256 .f32 :=
  have t0 : F .f32 := Scalar.divf (Scalar.ofBits .f32 0x3F800000#32) vs
  have t1 : FVec F S1x256 .f32 := broadcast S1x256 t0
  have t2 : FVec F S1x256 .f32 := mulf dl t1
  have t3 : FVec F S64x256 .f32 := broadcastTo S64x256 t2 broadcasts_S1x256_S64x256
  have t4 : FVec F S64x256 .f32 := subf dp t3
  have t5 : FVec F S64x256 .f32 := mulf p t4
  t5

theorem rows_apply {e : EltTy} (x : Vec F S1x1024x128 e) (o : ℕ) (hs : S64x16x128.Slices ![0, o, 0] S64x4x128) (ho : o + 4 ≤ 16) (r : Fin 256) (d : Fin 128) :
    shapeCast S256x128 (extractStridedSlice S64x4x128 ![0, o, 0] (shapeCast S64x16x128 (shapeCast S1024x128 x shapeCasts_S1x1024x128_S1024x128) shapeCasts_S1024x128_S64x16x128) hs) shapeCasts_S64x4x128_S256x128 (ix2 r d)
      = x (ix3 (0 : Fin 1) (⟨16 * (r.val / 4) + o + r.val % 4, by omega⟩ : Fin 1024) d) := by
  pointwise
  congr 2
  apply Fin.ext
  dsimp only
  omega

/-- Column `c` of a tile is token `c / 4`. -/
theorem tokOf (c : Fin 256) : Scalar.select
          (IntOp.andi
            (IntOp.cmpi CmpIPredicate.ne
              (IntOp.subi (BitVec.setWidth 32 (IntOp.cmpi CmpIPredicate.sgt (BitVec.ofNat 32 ↑c) 0#32))
                (BitVec.setWidth 32 (IntOp.cmpi CmpIPredicate.slt (BitVec.ofNat 32 ↑c) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (BitVec.ofNat 32 ↑c) 4#32) 0#32))
          (IntOp.subi (IntOp.divsi ArithUnit.vector (BitVec.ofNat 32 ↑c) 4#32) 1#32)
          (IntOp.divsi ArithUnit.vector (BitVec.ofNat 32 ↑c) 4#32) = BitVec.ofNat 32 (c.val / 4) := by
  revert c
  decide +kernel

theorem sle_tok : ∀ (r t : Fin 64), IntOp.cmpi CmpIPredicate.sle (BitVec.ofNat 32 ↑r) (BitVec.ofNat 32 ↑t) = if r.val ≤ t.val then 1#1 else 0#1 := by
  decide +kernel

theorem sgt_tok : ∀ (r t : Fin 64), IntOp.cmpi CmpIPredicate.sgt (BitVec.ofNat 32 ↑r) (BitVec.ofNat 32 ↑t) = if t.val < r.val then 1#1 else 0#1 := by
  decide +kernel

theorem maskDiag_apply (p : FVec Ideal S64x256 .f32) (r : Fin 64) (c : Fin 256) :
    maskDiag p (ix2 r c) = if r.val ≤ c.val / 4 then p (ix2 r c) else 0 := by
  pointwise [maskDiag]
  rw [tokOf, sle_tok r ⟨c.val / 4, by omega⟩]
  split <;> simp [Scalar.select]

theorem maskEdge_apply (p : FVec Ideal S64x256 .f32) (r : Fin 64) (c : Fin 256) :
    maskEdge p (ix2 r c) = if c.val / 4 < r.val then p (ix2 r c) else 0 := by
  pointwise [maskEdge]
  rw [tokOf, sgt_tok r ⟨c.val / 4, by omega⟩]
  split <;> simp [Scalar.select]

/-- Row (or column) `n` of a tile is head `n % 4`. -/
theorem headOf (r : Fin 256) : (Scalar.select
          (IntOp.andi
            (IntOp.xori
              (IntOp.cmpi CmpIPredicate.slt
                (IntOp.remsi ArithUnit.vector (BitVec.ofNat 32 ↑r)
                  (Scalar.select (Scalar.cmpi CmpIPredicate.eq 4#32 0#32) 1#32 4#32))
                0#32)
              (Scalar.cmpi CmpIPredicate.slt (Scalar.select (Scalar.cmpi CmpIPredicate.eq 4#32 0#32) 1#32 4#32) 0#32))
            (IntOp.cmpi CmpIPredicate.ne
              (IntOp.remsi ArithUnit.vector (BitVec.ofNat 32 ↑r)
                (Scalar.select (Scalar.cmpi CmpIPredicate.eq 4#32 0#32) 1#32 4#32))
              0#32))
          (IntOp.addi
            (IntOp.remsi ArithUnit.vector (BitVec.ofNat 32 ↑r)
              (Scalar.select (Scalar.cmpi CmpIPredicate.eq 4#32 0#32) 1#32 4#32))
            (Scalar.select (Scalar.cmpi CmpIPredicate.eq 4#32 0#32) 1#32 4#32))
          (IntOp.remsi ArithUnit.vector (BitVec.ofNat 32 ↑r)
            (Scalar.select (Scalar.cmpi CmpIPredicate.eq 4#32 0#32) 1#32 4#32))) = BitVec.ofNat 32 (r.val % 4) := by
  revert r
  decide +kernel

/-- The nested choice by head number. -/
theorem pick (f : ℕ → EReal) : ∀ h : Fin 4, Scalar.select (IntOp.cmpi CmpIPredicate.slt (BitVec.ofNat 32 h.val) 2#32)
      (Scalar.select (IntOp.cmpi CmpIPredicate.eq (BitVec.ofNat 32 h.val) 0#32) (f 0) (f 1))
      (Scalar.select (IntOp.cmpi CmpIPredicate.eq (BitVec.ofNat 32 h.val) 2#32) (f 2) (f 3)) = f h.val
  | 0 => rfl
  | 1 => rfl
  | 2 => rfl
  | 3 => rfl

theorem heads16_apply {s0 s1 s2 s3 : Ideal .f32} (f : ℕ → EReal) (h0 : s0 = f 0) (h1 : s1 = f 1) (h2 : s2 = f 2) (h3 : s3 = f 3) (r : Fin 16) (d : Fin 128) :
    heads16 (F := Ideal) s0 s1 s2 s3 (ix2 r d) = f (r.val % 4) := by
  subst h0 h1 h2 h3
  pointwise [heads16]
  have := headOf ⟨r.val, by omega⟩
  dsimp only at this
  rw [this]
  exact pick f ⟨r.val % 4, by omega⟩

theorem heads256_apply {s0 s1 s2 s3 : Ideal .f32} (f : ℕ → EReal) (h0 : s0 = f 0) (h1 : s1 = f 1) (h2 : s2 = f 2) (h3 : s3 = f 3) (c : Fin 256) :
    heads256 (F := Ideal) s0 s1 s2 s3 (ix2 0 c) = f (c.val % 4) := by
  subst h0 h1 h2 h3
  pointwise [heads256]
  rw [headOf]
  exact pick f ⟨c.val % 4, by omega⟩

theorem weights_apply (s : FVec Ideal S64x256 .f32) (cq : FVec Ideal S1x256 .f32) (ks : EReal) (l2 : FVec Ideal S1x256 .f32) (r : Fin 64) (c : Fin 256) :
    weights s cq ks l2 (ix2 r c) = (FloatOps.exp2 (s (ix2 r c) * (cq (ix2 0 c) * ks) - l2 (ix2 0 c) : Ideal .f32) : Ideal .f32) := by
  pointwise [weights]

theorem grads_apply (p dp : FVec Ideal S64x256 .f32) (dl : FVec Ideal S1x256 .f32) (vs : EReal) (r : Fin 64) (c : Fin 256) :
    grads p dp dl vs (ix2 r c) = p (ix2 r c) * (dp (ix2 r c) - dl (ix2 0 c) * Ideal.div 1 vs) := by
  pointwise [grads]

/-- A sum of 128 as 16 sums of 8. -/
theorem sum_128 (f : Fin 128 → EReal) : ∑ d, f d = ∑ r : Fin 16, (f ⟨r.val, by omega⟩ + f ⟨16 + r.val, by omega⟩ + f ⟨32 + r.val, by omega⟩
    + f ⟨48 + r.val, by omega⟩ + f ⟨64 + r.val, by omega⟩ + f ⟨80 + r.val, by omega⟩ + f ⟨96 + r.val, by omega⟩ + f ⟨112 + r.val, by omega⟩) := by
  have e : ∑ d, f d = ∑ r : Fin 16, ∑ u : Fin 8, f ⟨16 * u.val + r.val, by omega⟩ := by
    rw [Finset.sum_comm, ← Fintype.sum_prod_type']
    refine (Fintype.sum_equiv (finProdFinEquiv (m := 8) (n := 16)) _ _ fun x => ?_).symm
    congr 1
    apply Fin.ext
    simp [finProdFinEquiv]
    omega
  rw [e]
  refine Finset.sum_congr rfl fun r _ => ?_
  rw [Fin.sum_univ_eight]
  simp only [Fin.isValue, Fin.coe_ofNat_eq_mod, Nat.zero_mod, Nat.mul_zero, Nat.zero_add]

theorem rowDots_apply (x y : FVec Ideal S256x128 .bf16) (c : Fin 256) :
    rowDots x y (ix2 0 c) = ∑ d : Fin 128, x (ix2 c d) * y (ix2 c d) := by
  rw [sum_128]
  pointwise [rowDots]

theorem scaleRows_apply (x : FVec Ideal S256x128 .bf16)  (b : FVec Ideal S16x128 .f32) (c : Fin 256) (d : Fin 128) :
    scaleRows x b (ix2 c d) = x (ix2 c d) * b (ix2 (⟨c.val % 16, by omega⟩ : Fin 16) d) := by
  pointwise [scaleRows]

end Cert.KernelIdeal.Hand
-- ==== Proof.Exact.Load.lean ====
module

public import proofs.«01_k».proof.Proof.Exact.Run
public import proofs.«01_k».proof.Proof.Exact.Tile
public import Idealize.ShloMosaic.Lib.Pipeline.ValueKit

@[expose] public section

set_option maxRecDepth 16384

noncomputable section

namespace Cert.KernelIdeal.Hand

open Cert.KernelIdeal.Gen Idealize.ShloMosaic

/-! ## Reading a block through a rectangle -/

theorem load3 {sp : Space} {a b c p q r : ℕ} {e : EltTy} (M : Memref sig .tc sp ⟨3, ![a, b, c]⟩ e) (hM : M.IsWhole) (x : Vec Ideal ⟨3, ![a, b, c]⟩ e)
    (o0 o1 o2 : ℕ) (inb) (y : Shape.Idx ⟨3, ![p, q, r]⟩) (i : Shape.Idx ⟨3, ![a, b, c]⟩)
    (h0 : (i 0).val = o0 + (y 0).val) (h1 : (i 1).val = o1 + (y 1).val) (h2 : (i 2).val = o2 + (y 2).val) :
    View.readAt (Elt Ideal) M.view (Rect.unit (s := ⟨3, ![a, b, c]⟩) ![o0, o1, o2] ![p, q, r] inb).toLoadRect (hM.unread x) y = x i := by
  rw [View.readAt_eq_ld, hM.read_unread]
  refine View.ld_unit_apply_of _ _ _ _ _ _ fun k => ?_
  match k with
  | ⟨0, _⟩ => exact h0
  | ⟨1, _⟩ => exact h1
  | ⟨2, _⟩ => exact h2

/-- One head of 32 tokens of a block of rows. -/
def headRows {F : FTy → Type} {e : EltTy} (X : Vec F S1x128x128 e) (g : ℕ) (hs : S32x4x128.Slices ![0, g, 0] S32x1x128) : Vec F S1x32x128 e :=
  shapeCast S1x32x128 (shapeCast S32x128 (extractStridedSlice S32x1x128 ![0, g, 0] (shapeCast S32x4x128 (shapeCast S128x128 X shapeCasts_S1x128x128_S128x128) shapeCasts_S128x128_S32x4x128) hs) shapeCasts_S32x1x128_S32x128) shapeCasts_S32x128_S1x32x128

theorem headRows_apply {F : FTy → Type} [FloatOps F] {e : EltTy} (X : Vec F S1x128x128 e) (g : ℕ) (hs : S32x4x128.Slices ![0, g, 0] S32x1x128) (hg : g < 4) (r : Fin 32) (d : Fin 128) :
    headRows X g hs (ix3 (0 : Fin 1) r d) = X (ix3 (0 : Fin 1) (⟨4 * r.val + g, by omega⟩ : Fin 128) d) := by
  pointwise [headRows]
  try (congr 2; apply Fin.ext; dsimp only; omega)

theorem headRows_load (M : Memref sig .tc .vmem S1x1536x128 .fp8e4m3) (hM : M.IsWhole) (x : Vec Ideal S1x1536x128 .fp8e4m3) (o g : ℕ) (inb)
    (hs : S32x4x128.Slices ![0, g, 0] S32x1x128) (hg : g < 4) (y : S1x32x128.Idx) (i : S1x1536x128.Idx)
    (h1 : (i 1).val = o + 4 * (y 1).val + g) (h2 : (i 2).val = (y 2).val) :
    headRows (View.readAt (Elt Ideal) M.view (Rect.unit (s := S1x1536x128) ![0, o, 0] S1x128x128.size inb).toLoadRect (hM.unread x)) g hs y = x i := by
  obtain ⟨y0, y1, y2, rfl⟩ : ∃ (p : Fin 1) (q : Fin 32) (r : Fin 128), y = ix3 p q r := ⟨y 0, y 1, y 2, eq_ix3 y⟩
  obtain rfl : y0 = 0 := Subsingleton.elim _ _
  change (i 1).val = o + 4 * y1.val + g at h1
  change (i 2).val = y2.val at h2
  rw [headRows_apply _ _ _ hg]
  refine load3 (p := 1) (q := 128) (r := 128) M hM x 0 o 0 inb _ i ?_ ?_ ?_
  · have : (i 0).val < 1 := (i 0).isLt
    show (i 0).val = 0 + 0
    omega
  · rw [h1]
    show _ = o + (4 * y1.val + g)
    omega
  · rw [h2]
    exact (Nat.zero_add _).symm

theorem canonK (A : Pack Ideal) (y : S4x384x128.Idx) :
    View.canon (bodyRun.sl.HS0_48 A) y = A.x5 (ix3 (0 : Fin 1) (⟨4 * (y 1).val + (y 0).val, by have h0 : (y 0).val < 4 := (y 0).isLt; have h1 : (y 1).val < 384 := (y 1).isLt; omega⟩ : Fin 1536) (y 2 : Fin 128)) := by
  unfold bodyRun.sl.HS0_48
  canon_tiles x h
  case piece0 => exact headRows_load A.arg6 A.harg6 A.x5 1408 3 (by decide) (by decide) (by decide) x _ (by show 4 * (y 1).val + (y 0).val = _; omega) h2
  case piece1 => exact headRows_load A.arg6 A.harg6 A.x5 1408 2 (by decide) (by decide) (by decide) x _ (by show 4 * (y 1).val + (y 0).val = _; omega) h2
  case piece2 => exact headRows_load A.arg6 A.harg6 A.x5 1408 1 (by decide) (by decide) (by decide) x _ (by show 4 * (y 1).val + (y 0).val = _; omega) h2
  case piece3 => exact headRows_load A.arg6 A.harg6 A.x5 1408 0 (by decide) (by decide) (by decide) x _ (by show 4 * (y 1).val + (y 0).val = _; omega) h2
  case piece4 => exact headRows_load A.arg6 A.harg6 A.x5 1280 3 (by decide) (by decide) (by decide) x _ (by show 4 * (y 1).val + (y 0).val = _; omega) h2
  case piece5 => exact headRows_load A.arg6 A.harg6 A.x5 1280 2 (by decide) (by decide) (by decide) x _ (by show 4 * (y 1).val + (y 0).val = _; omega) h2
  case piece6 => exact headRows_load A.arg6 A.harg6 A.x5 1280 1 (by decide) (by decide) (by decide) x _ (by show 4 * (y 1).val + (y 0).val = _; omega) h2
  case piece7 => exact headRows_load A.arg6 A.harg6 A.x5 1280 0 (by decide) (by decide) (by decide) x _ (by show 4 * (y 1).val + (y 0).val = _; omega) h2
  case piece8 => exact headRows_load A.arg6 A.harg6 A.x5 1152 3 (by decide) (by decide) (by decide) x _ (by show 4 * (y 1).val + (y 0).val = _; omega) h2
  case piece9 => exact headRows_load A.arg6 A.harg6 A.x5 1152 2 (by decide) (by decide) (by decide) x _ (by show 4 * (y 1).val + (y 0).val = _; omega) h2
  case piece10 => exact headRows_load A.arg6 A.harg6 A.x5 1152 1 (by decide) (by decide) (by decide) x _ (by show 4 * (y 1).val + (y 0).val = _; omega) h2
  case piece11 => exact headRows_load A.arg6 A.harg6 A.x5 1152 0 (by decide) (by decide) (by decide) x _ (by show 4 * (y 1).val + (y 0).val = _; omega) h2
  case piece12 => exact headRows_load A.arg6 A.harg6 A.x5 1024 3 (by decide) (by decide) (by decide) x _ (by show 4 * (y 1).val + (y 0).val = _; omega) h2
  case piece13 => exact headRows_load A.arg6 A.harg6 A.x5 1024 2 (by decide) (by decide) (by decide) x _ (by show 4 * (y 1).val + (y 0).val = _; omega) h2
  case piece14 => exact headRows_load A.arg6 A.harg6 A.x5 1024 1 (by decide) (by decide) (by decide) x _ (by show 4 * (y 1).val + (y 0).val = _; omega) h2
  case piece15 => exact headRows_load A.arg6 A.harg6 A.x5 1024 0 (by decide) (by decide) (by decide) x _ (by show 4 * (y 1).val + (y 0).val = _; omega) h2
  case piece16 => exact headRows_load A.arg6 A.harg6 A.x5 896 3 (by decide) (by decide) (by decide) x _ (by show 4 * (y 1).val + (y 0).val = _; omega) h2
  case piece17 => exact headRows_load A.arg6 A.harg6 A.x5 896 2 (by decide) (by decide) (by decide) x _ (by show 4 * (y 1).val + (y 0).val = _; omega) h2
  case piece18 => exact headRows_load A.arg6 A.harg6 A.x5 896 1 (by decide) (by decide) (by decide) x _ (by show 4 * (y 1).val + (y 0).val = _; omega) h2
  case piece19 => exact headRows_load A.arg6 A.harg6 A.x5 896 0 (by decide) (by decide) (by decide) x _ (by show 4 * (y 1).val + (y 0).val = _; omega) h2
  case piece20 => exact headRows_load A.arg6 A.harg6 A.x5 768 3 (by decide) (by decide) (by decide) x _ (by show 4 * (y 1).val + (y 0).val = _; omega) h2
  case piece21 => exact headRows_load A.arg6 A.harg6 A.x5 768 2 (by decide) (by decide) (by decide) x _ (by show 4 * (y 1).val + (y 0).val = _; omega) h2
  case piece22 => exact headRows_load A.arg6 A.harg6 A.x5 768 1 (by decide) (by decide) (by decide) x _ (by show 4 * (y 1).val + (y 0).val = _; omega) h2
  case piece23 => exact headRows_load A.arg6 A.harg6 A.x5 768 0 (by decide) (by decide) (by decide) x _ (by show 4 * (y 1).val + (y 0).val = _; omega) h2
  case piece24 => exact headRows_load A.arg6 A.harg6 A.x5 640 3 (by decide) (by decide) (by decide) x _ (by show 4 * (y 1).val + (y 0).val = _; omega) h2
  case piece25 => exact headRows_load A.arg6 A.harg6 A.x5 640 2 (by decide) (by decide) (by decide) x _ (by show 4 * (y 1).val + (y 0).val = _; omega) h2
  case piece26 => exact headRows_load A.arg6 A.harg6 A.x5 640 1 (by decide) (by decide) (by decide) x _ (by show 4 * (y 1).val + (y 0).val = _; omega) h2
  case piece27 => exact headRows_load A.arg6 A.harg6 A.x5 640 0 (by decide) (by decide) (by decide) x _ (by show 4 * (y 1).val + (y 0).val = _; omega) h2
  case piece28 => exact headRows_load A.arg6 A.harg6 A.x5 512 3 (by decide) (by decide) (by decide) x _ (by show 4 * (y 1).val + (y 0).val = _; omega) h2
  case piece29 => exact headRows_load A.arg6 A.harg6 A.x5 512 2 (by decide) (by decide) (by decide) x _ (by show 4 * (y 1).val + (y 0).val = _; omega) h2
  case piece30 => exact headRows_load A.arg6 A.harg6 A.x5 512 1 (by decide) (by decide) (by decide) x _ (by show 4 * (y 1).val + (y 0).val = _; omega) h2
  case piece31 => exact headRows_load A.arg6 A.harg6 A.x5 512 0 (by decide) (by decide) (by decide) x _ (by show 4 * (y 1).val + (y 0).val = _; omega) h2
  case piece32 => exact headRows_load A.arg6 A.harg6 A.x5 384 3 (by decide) (by decide) (by decide) x _ (by show 4 * (y 1).val + (y 0).val = _; omega) h2
  case piece33 => exact headRows_load A.arg6 A.harg6 A.x5 384 2 (by decide) (by decide) (by decide) x _ (by show 4 * (y 1).val + (y 0).val = _; omega) h2
  case piece34 => exact headRows_load A.arg6 A.harg6 A.x5 384 1 (by decide) (by decide) (by decide) x _ (by show 4 * (y 1).val + (y 0).val = _; omega) h2
  case piece35 => exact headRows_load A.arg6 A.harg6 A.x5 384 0 (by decide) (by decide) (by decide) x _ (by show 4 * (y 1).val + (y 0).val = _; omega) h2
  case piece36 => exact headRows_load A.arg6 A.harg6 A.x5 256 3 (by decide) (by decide) (by decide) x _ (by show 4 * (y 1).val + (y 0).val = _; omega) h2
  case piece37 => exact headRows_load A.arg6 A.harg6 A.x5 256 2 (by decide) (by decide) (by decide) x _ (by show 4 * (y 1).val + (y 0).val = _; omega) h2
  case piece38 => exact headRows_load A.arg6 A.harg6 A.x5 256 1 (by decide) (by decide) (by decide) x _ (by show 4 * (y 1).val + (y 0).val = _; omega) h2
  case piece39 => exact headRows_load A.arg6 A.harg6 A.x5 256 0 (by decide) (by decide) (by decide) x _ (by show 4 * (y 1).val + (y 0).val = _; omega) h2
  case piece40 => exact headRows_load A.arg6 A.harg6 A.x5 128 3 (by decide) (by decide) (by decide) x _ (by show 4 * (y 1).val + (y 0).val = _; omega) h2
  case piece41 => exact headRows_load A.arg6 A.harg6 A.x5 128 2 (by decide) (by decide) (by decide) x _ (by show 4 * (y 1).val + (y 0).val = _; omega) h2
  case piece42 => exact headRows_load A.arg6 A.harg6 A.x5 128 1 (by decide) (by decide) (by decide) x _ (by show 4 * (y 1).val + (y 0).val = _; omega) h2
  case piece43 => exact headRows_load A.arg6 A.harg6 A.x5 128 0 (by decide) (by decide) (by decide) x _ (by show 4 * (y 1).val + (y 0).val = _; omega) h2
  case piece44 => exact headRows_load A.arg6 A.harg6 A.x5 0 3 (by decide) (by decide) (by decide) x _ (by show 4 * (y 1).val + (y 0).val = _; omega) h2
  case piece45 => exact headRows_load A.arg6 A.harg6 A.x5 0 2 (by decide) (by decide) (by decide) x _ (by show 4 * (y 1).val + (y 0).val = _; omega) h2
  case piece46 => exact headRows_load A.arg6 A.harg6 A.x5 0 1 (by decide) (by decide) (by decide) x _ (by show 4 * (y 1).val + (y 0).val = _; omega) h2
  case piece47 => exact headRows_load A.arg6 A.harg6 A.x5 0 0 (by decide) (by decide) (by decide) x _ (by show 4 * (y 1).val + (y 0).val = _; omega) h2

theorem canonV (A : Pack Ideal) (y : S4x384x128.Idx) :
    View.canon (bodyRun.sl.HS1_48 A) y = A.x6 (ix3 (0 : Fin 1) (⟨4 * (y 1).val + (y 0).val, by have h0 : (y 0).val < 4 := (y 0).isLt; have h1 : (y 1).val < 384 := (y 1).isLt; omega⟩ : Fin 1536) (y 2 : Fin 128)) := by
  unfold bodyRun.sl.HS1_48
  canon_tiles x h
  case piece0 => exact headRows_load A.arg7 A.harg7 A.x6 1408 3 (by decide) (by decide) (by decide) x _ (by show 4 * (y 1).val + (y 0).val = _; omega) h2
  case piece1 => exact headRows_load A.arg7 A.harg7 A.x6 1408 2 (by decide) (by decide) (by decide) x _ (by show 4 * (y 1).val + (y 0).val = _; omega) h2
  case piece2 => exact headRows_load A.arg7 A.harg7 A.x6 1408 1 (by decide) (by decide) (by decide) x _ (by show 4 * (y 1).val + (y 0).val = _; omega) h2
  case piece3 => exact headRows_load A.arg7 A.harg7 A.x6 1408 0 (by decide) (by decide) (by decide) x _ (by show 4 * (y 1).val + (y 0).val = _; omega) h2
  case piece4 => exact headRows_load A.arg7 A.harg7 A.x6 1280 3 (by decide) (by decide) (by decide) x _ (by show 4 * (y 1).val + (y 0).val = _; omega) h2
  case piece5 => exact headRows_load A.arg7 A.harg7 A.x6 1280 2 (by decide) (by decide) (by decide) x _ (by show 4 * (y 1).val + (y 0).val = _; omega) h2
  case piece6 => exact headRows_load A.arg7 A.harg7 A.x6 1280 1 (by decide) (by decide) (by decide) x _ (by show 4 * (y 1).val + (y 0).val = _; omega) h2
  case piece7 => exact headRows_load A.arg7 A.harg7 A.x6 1280 0 (by decide) (by decide) (by decide) x _ (by show 4 * (y 1).val + (y 0).val = _; omega) h2
  case piece8 => exact headRows_load A.arg7 A.harg7 A.x6 1152 3 (by decide) (by decide) (by decide) x _ (by show 4 * (y 1).val + (y 0).val = _; omega) h2
  case piece9 => exact headRows_load A.arg7 A.harg7 A.x6 1152 2 (by decide) (by decide) (by decide) x _ (by show 4 * (y 1).val + (y 0).val = _; omega) h2
  case piece10 => exact headRows_load A.arg7 A.harg7 A.x6 1152 1 (by decide) (by decide) (by decide) x _ (by show 4 * (y 1).val + (y 0).val = _; omega) h2
  case piece11 => exact headRows_load A.arg7 A.harg7 A.x6 1152 0 (by decide) (by decide) (by decide) x _ (by show 4 * (y 1).val + (y 0).val = _; omega) h2
  case piece12 => exact headRows_load A.arg7 A.harg7 A.x6 1024 3 (by decide) (by decide) (by decide) x _ (by show 4 * (y 1).val + (y 0).val = _; omega) h2
  case piece13 => exact headRows_load A.arg7 A.harg7 A.x6 1024 2 (by decide) (by decide) (by decide) x _ (by show 4 * (y 1).val + (y 0).val = _; omega) h2
  case piece14 => exact headRows_load A.arg7 A.harg7 A.x6 1024 1 (by decide) (by decide) (by decide) x _ (by show 4 * (y 1).val + (y 0).val = _; omega) h2
  case piece15 => exact headRows_load A.arg7 A.harg7 A.x6 1024 0 (by decide) (by decide) (by decide) x _ (by show 4 * (y 1).val + (y 0).val = _; omega) h2
  case piece16 => exact headRows_load A.arg7 A.harg7 A.x6 896 3 (by decide) (by decide) (by decide) x _ (by show 4 * (y 1).val + (y 0).val = _; omega) h2
  case piece17 => exact headRows_load A.arg7 A.harg7 A.x6 896 2 (by decide) (by decide) (by decide) x _ (by show 4 * (y 1).val + (y 0).val = _; omega) h2
  case piece18 => exact headRows_load A.arg7 A.harg7 A.x6 896 1 (by decide) (by decide) (by decide) x _ (by show 4 * (y 1).val + (y 0).val = _; omega) h2
  case piece19 => exact headRows_load A.arg7 A.harg7 A.x6 896 0 (by decide) (by decide) (by decide) x _ (by show 4 * (y 1).val + (y 0).val = _; omega) h2
  case piece20 => exact headRows_load A.arg7 A.harg7 A.x6 768 3 (by decide) (by decide) (by decide) x _ (by show 4 * (y 1).val + (y 0).val = _; omega) h2
  case piece21 => exact headRows_load A.arg7 A.harg7 A.x6 768 2 (by decide) (by decide) (by decide) x _ (by show 4 * (y 1).val + (y 0).val = _; omega) h2
  case piece22 => exact headRows_load A.arg7 A.harg7 A.x6 768 1 (by decide) (by decide) (by decide) x _ (by show 4 * (y 1).val + (y 0).val = _; omega) h2
  case piece23 => exact headRows_load A.arg7 A.harg7 A.x6 768 0 (by decide) (by decide) (by decide) x _ (by show 4 * (y 1).val + (y 0).val = _; omega) h2
  case piece24 => exact headRows_load A.arg7 A.harg7 A.x6 640 3 (by decide) (by decide) (by decide) x _ (by show 4 * (y 1).val + (y 0).val = _; omega) h2
  case piece25 => exact headRows_load A.arg7 A.harg7 A.x6 640 2 (by decide) (by decide) (by decide) x _ (by show 4 * (y 1).val + (y 0).val = _; omega) h2
  case piece26 => exact headRows_load A.arg7 A.harg7 A.x6 640 1 (by decide) (by decide) (by decide) x _ (by show 4 * (y 1).val + (y 0).val = _; omega) h2
  case piece27 => exact headRows_load A.arg7 A.harg7 A.x6 640 0 (by decide) (by decide) (by decide) x _ (by show 4 * (y 1).val + (y 0).val = _; omega) h2
  case piece28 => exact headRows_load A.arg7 A.harg7 A.x6 512 3 (by decide) (by decide) (by decide) x _ (by show 4 * (y 1).val + (y 0).val = _; omega) h2
  case piece29 => exact headRows_load A.arg7 A.harg7 A.x6 512 2 (by decide) (by decide) (by decide) x _ (by show 4 * (y 1).val + (y 0).val = _; omega) h2
  case piece30 => exact headRows_load A.arg7 A.harg7 A.x6 512 1 (by decide) (by decide) (by decide) x _ (by show 4 * (y 1).val + (y 0).val = _; omega) h2
  case piece31 => exact headRows_load A.arg7 A.harg7 A.x6 512 0 (by decide) (by decide) (by decide) x _ (by show 4 * (y 1).val + (y 0).val = _; omega) h2
  case piece32 => exact headRows_load A.arg7 A.harg7 A.x6 384 3 (by decide) (by decide) (by decide) x _ (by show 4 * (y 1).val + (y 0).val = _; omega) h2
  case piece33 => exact headRows_load A.arg7 A.harg7 A.x6 384 2 (by decide) (by decide) (by decide) x _ (by show 4 * (y 1).val + (y 0).val = _; omega) h2
  case piece34 => exact headRows_load A.arg7 A.harg7 A.x6 384 1 (by decide) (by decide) (by decide) x _ (by show 4 * (y 1).val + (y 0).val = _; omega) h2
  case piece35 => exact headRows_load A.arg7 A.harg7 A.x6 384 0 (by decide) (by decide) (by decide) x _ (by show 4 * (y 1).val + (y 0).val = _; omega) h2
  case piece36 => exact headRows_load A.arg7 A.harg7 A.x6 256 3 (by decide) (by decide) (by decide) x _ (by show 4 * (y 1).val + (y 0).val = _; omega) h2
  case piece37 => exact headRows_load A.arg7 A.harg7 A.x6 256 2 (by decide) (by decide) (by decide) x _ (by show 4 * (y 1).val + (y 0).val = _; omega) h2
  case piece38 => exact headRows_load A.arg7 A.harg7 A.x6 256 1 (by decide) (by decide) (by decide) x _ (by show 4 * (y 1).val + (y 0).val = _; omega) h2
  case piece39 => exact headRows_load A.arg7 A.harg7 A.x6 256 0 (by decide) (by decide) (by decide) x _ (by show 4 * (y 1).val + (y 0).val = _; omega) h2
  case piece40 => exact headRows_load A.arg7 A.harg7 A.x6 128 3 (by decide) (by decide) (by decide) x _ (by show 4 * (y 1).val + (y 0).val = _; omega) h2
  case piece41 => exact headRows_load A.arg7 A.harg7 A.x6 128 2 (by decide) (by decide) (by decide) x _ (by show 4 * (y 1).val + (y 0).val = _; omega) h2
  case piece42 => exact headRows_load A.arg7 A.harg7 A.x6 128 1 (by decide) (by decide) (by decide) x _ (by show 4 * (y 1).val + (y 0).val = _; omega) h2
  case piece43 => exact headRows_load A.arg7 A.harg7 A.x6 128 0 (by decide) (by decide) (by decide) x _ (by show 4 * (y 1).val + (y 0).val = _; omega) h2
  case piece44 => exact headRows_load A.arg7 A.harg7 A.x6 0 3 (by decide) (by decide) (by decide) x _ (by show 4 * (y 1).val + (y 0).val = _; omega) h2
  case piece45 => exact headRows_load A.arg7 A.harg7 A.x6 0 2 (by decide) (by decide) (by decide) x _ (by show 4 * (y 1).val + (y 0).val = _; omega) h2
  case piece46 => exact headRows_load A.arg7 A.harg7 A.x6 0 1 (by decide) (by decide) (by decide) x _ (by show 4 * (y 1).val + (y 0).val = _; omega) h2
  case piece47 => exact headRows_load A.arg7 A.harg7 A.x6 0 0 (by decide) (by decide) (by decide) x _ (by show 4 * (y 1).val + (y 0).val = _; omega) h2

/-- The row of 128 log sums (scaled) of four heads over 32 tokens. -/
def lseRow {F : FTy → Type} [FloatOps F] [Named F] (X : Vec F S1x8x128 .f32) (b u : BitVec 32) : FVec F S1x1x128 .f32 :=
  have t0 : IVec S8x128 32 := iota .tc S8x128 32 [0] iota_S8x128_d0_w32
  have t1 : IVec S8x128 32 := iota .tc S8x128 32 [1] iota_S8x128_d1_w32
  have t2 : BitVec 1 := Scalar.cmpi .eq 4#32 0#32
  have t3 : BitVec 32 := Scalar.select t2 1#32 4#32
  have t4 : IVec S8x128 32 := broadcast S8x128 t3
  have t5 : IVec S8x128 32 := remsi t1 t4
  have t6 : IVec S8x128 32 := broadcast S8x128 0#32
  have t7 : IVec S8x128 1 := cmpi .slt t5 t6
  have t8 : BitVec 1 := Scalar.cmpi .slt t3 0#32
  have t9 : IVec S8x128 1 := broadcast S8x128 t8
  have t10 : IVec S8x128 1 := broadcastTo S8x128 t9 broadcasts_S8x128_S8x128
  have t11 : IVec S8x128 1 := xori t7 t10
  have t12 : IVec S8x128 32 := broadcast S8x128 0#32
  have t13 : IVec S8x128 1 := cmpi .ne t5 t12
  have t14 : IVec S8x128 1 := andi t11 t13
  have t15 : IVec S8x128 32 := broadcast S8x128 t3
  have t16 : IVec S8x128 32 := addi t5 t15
  have t17 : IVec S8x128 32 := select t14 t16 t5
  have t18 : IVec S8x128 32 := addi t17 (broadcast S8x128 u)
  have t19 : IVec S8x128 1 := cmpi .eq t0 t18
  have t20 : FVec F S8x128 .f32 := shapeCast S8x128 X shapeCasts_S1x8x128_S8x128
  have t21 : FVec F S8x128 .f32 := broadcast S8x128 (Named.named κ "log2e" 0x3FB8AA3B#32)
  have t22 : FVec F S8x128 .f32 := mulf t20 t21
  have t23 : IVec S8x128 32 := broadcast S8x128 0#32
  have t24 : IVec S8x128 1 := cmpi .sgt t1 t23
  have t25 : IVec S8x128 32 := extui 32 t24 natLt_1_32
  have t26 : IVec S8x128 32 := broadcast S8x128 0#32
  have t27 : IVec S8x128 1 := cmpi .slt t1 t26
  have t28 : IVec S8x128 32 := extui 32 t27 natLt_1_32
  have t29 : IVec S8x128 32 := subi t25 t28
  have t30 : BitVec 1 := Scalar.cmpi .sgt 4#32 0#32
  have t31 : BitVec 32 := Scalar.extui t30
  have t32 : BitVec 1 := Scalar.cmpi .slt 4#32 0#32
  have t33 : BitVec 32 := Scalar.extui t32
  have t34 : BitVec 32 := Scalar.subi t31 t33
  have t35 : IVec S8x128 32 := broadcast S8x128 t34
  have t36 : IVec S8x128 1 := cmpi .ne t29 t35
  have t37 : IVec S8x128 32 := broadcast S8x128 4#32
  have t38 : IVec S8x128 32 := remsi t1 t37
  have t39 : IVec S8x128 32 := broadcast S8x128 0#32
  have t40 : IVec S8x128 1 := cmpi .ne t38 t39
  have t41 : IVec S8x128 1 := andi t36 t40
  have t42 : IVec S8x128 32 := broadcast S8x128 4#32
  have t43 : IVec S8x128 32 := divsi t1 t42
  have t44 : IVec S8x128 32 := broadcast S8x128 1#32
  have t45 : IVec S8x128 32 := subi t43 t44
  have t46 : IVec S8x128 32 := select t41 t45 t43
  have t47 : IVec S8x128 32 := addi (broadcast S8x128 b) t46
  have t48 : IVec S8x128 32 := broadcast S8x128 0#32
  have t49 : IVec S8x128 1 := cmpi .slt t47 t48
  have t50 : IVec S8x128 32 := broadcast S8x128 128#32
  have t51 : IVec S8x128 32 := addi t47 t50
  have t52 : IVec S8x128 32 := select t49 t51 t47
  have t53 : IVec S8x128x1 32 := shapeCast S8x128x1 t52 shapeCasts_S8x128_S8x128x1
  have t54 : IVec S8x128 32 := shapeCast S8x128 t53 shapeCasts_S8x128x1_S8x128
  have t55 : FVec F S8x128 .f32 := dynamicGather 1 t22 t54
  have t56 : FVec F S8x128 .f32 := broadcast S8x128 (Scalar.ofBits .f32 0x00000000#32)
  have t57 : FVec F S8x128 .f32 := select t19 t55 t56
  have t58 : FVec F S128 .f32 := multiReduction .add [0] S128 t57 0x00000000#32 reduces_S8x128_S128 (.inl rfl) rfl
  have t59 : FVec F S1x128 .f32 := shapeCast S1x128 t58 shapeCasts_S128_S1x128
  have t60 : FVec F S1x1x128 .f32 := shapeCast S1x1x128 t59 shapeCasts_S1x128_S1x1x128
  t60

/-- The factor that turns a log sum to base 2. -/
abbrev toBase2 : Ideal .f32 := Named.named κ "log2e" 0x3FB8AA3B#32

theorem eq_head : ∀ (r : Fin 8) (w : Fin 2) (h : Fin 4), IntOp.cmpi CmpIPredicate.eq (BitVec.ofNat 32 r.val) (IntOp.addi (BitVec.ofNat 32 h.val) (BitVec.ofNat 32 (4 * w.val)))
    = if r.val = 4 * w.val + h.val then 1#1 else 0#1 := by decide +kernel

theorem gather_lane : ∀ (m : Fin 4) (t : Fin 32), (Scalar.select
        (IntOp.cmpi CmpIPredicate.slt (IntOp.addi (BitVec.ofNat 32 (32 * m.val)) (BitVec.ofNat 32 t.val)) 0#32)
        (IntOp.addi (IntOp.addi (BitVec.ofNat 32 (32 * m.val)) (BitVec.ofNat 32 t.val)) 128#32)
        (IntOp.addi (BitVec.ofNat 32 (32 * m.val)) (BitVec.ofNat 32 t.val))).toNat % 128 = 32 * m.val + t.val := by decide +kernel

theorem lseRow_apply (X : Vec Ideal S1x8x128 .f32) (m : Fin 4) (w : Fin 2) (l : Fin 128) :
    lseRow X (BitVec.ofNat 32 (32 * m.val)) (BitVec.ofNat 32 (4 * w.val)) (ix3 (0 : Fin 1) (0 : Fin 1) l)
      = X (ix3 (0 : Fin 1) (⟨4 * w.val + l.val % 4, by omega⟩ : Fin 8) (⟨32 * m.val + l.val / 4, by omega⟩ : Fin 128)) * toBase2 := by
  pointwise [lseRow]
  have e1 := headOf ⟨l.val, by omega⟩
  have e2 := tokOf ⟨l.val, by omega⟩
  have e3 := gather_lane m ⟨l.val / 4, by omega⟩
  have e4 := fun r => eq_head r w ⟨l.val % 4, by omega⟩
  dsimp only at e1 e2 e3 e4
  simp only [e1, e2, e3, e4]
  rw [Finset.sum_eq_single (⟨4 * w.val + l.val % 4, by omega⟩ : Fin 8)]
  · rw [if_pos rfl]
    rfl
  · intro b _ hb
    rw [if_neg fun h => hb (Fin.ext h)]
    rfl
  · intro h
    exact absurd (Finset.mem_univ _) h

theorem lseRow_load (M : Memref sig .tc .vmem S1x16x384 .f32) (hM : M.IsWhole) (x : Vec Ideal S1x16x384 .f32) (o1 o2 : ℕ) (inb)
    (m : Fin 4) (w : Fin 2) (b u : BitVec 32) (hb : b = BitVec.ofNat 32 (32 * m.val)) (hu : u = BitVec.ofNat 32 (4 * w.val)) (y : S1x1x128.Idx) (i : S1x16x384.Idx)
    (h1 : (i 1).val = o1 + (4 * w.val + (y 2).val % 4)) (h2 : (i 2).val = o2 + (32 * m.val + (y 2).val / 4)) :
    lseRow (View.readAt (Elt Ideal) M.view (Rect.unit (s := S1x16x384) ![0, o1, o2] S1x8x128.size inb).toLoadRect (hM.unread x)) b u y = x i * toBase2 := by
  subst hb hu
  obtain ⟨y0, y1, y2, rfl⟩ : ∃ (p : Fin 1) (q : Fin 1) (r : Fin 128), y = ix3 p q r := ⟨y 0, y 1, y 2, eq_ix3 y⟩
  obtain rfl : y0 = 0 := Subsingleton.elim _ _
  obtain rfl : y1 = 0 := Subsingleton.elim _ _
  change (i 1).val = o1 + (4 * w.val + y2.val % 4) at h1
  change (i 2).val = o2 + (32 * m.val + y2.val / 4) at h2
  rw [lseRow_apply]
  congr 1
  refine load3 (p := 1) (q := 8) (r := 128) M hM x 0 o1 o2 inb _ i ?_ ?_ ?_
  · have : (i 0).val < 1 := (i 0).isLt
    show (i 0).val = 0 + 0
    omega
  · exact h1
  · exact h2

theorem canonL (A : Pack Ideal) (y : S4x1x1536.Idx) :
    View.canon (bodyRun.sl.HS2_48 A) y = A.x9 (ix3 (0 : Fin 1) (⟨4 * (y 0).val + (y 2).val % 4, by have h0 : (y 0).val < 4 := (y 0).isLt; omega⟩ : Fin 16) (⟨(y 2).val / 4, by have h2 : (y 2).val < 1536 := (y 2).isLt; omega⟩ : Fin 384)) * toBase2 := by
  unfold bodyRun.sl.HS2_48
  canon_tiles x h
  case piece0 => exact lseRow_load A.arg10 A.harg10 A.x9 8 256 (by decide) 3 1 _ _ rfl rfl x _ (by show 4 * (y 0).val + (y 2).val % 4 = 8 + (4 * 1 + _); omega) (by show (y 2).val / 4 = 256 + (32 * 3 + _); omega)
  case piece1 => exact lseRow_load A.arg10 A.harg10 A.x9 8 256 (by decide) 3 0 _ _ rfl rfl x _ (by show 4 * (y 0).val + (y 2).val % 4 = 8 + (4 * 0 + _); omega) (by show (y 2).val / 4 = 256 + (32 * 3 + _); omega)
  case piece2 => exact lseRow_load A.arg10 A.harg10 A.x9 8 256 (by decide) 2 1 _ _ rfl rfl x _ (by show 4 * (y 0).val + (y 2).val % 4 = 8 + (4 * 1 + _); omega) (by show (y 2).val / 4 = 256 + (32 * 2 + _); omega)
  case piece3 => exact lseRow_load A.arg10 A.harg10 A.x9 8 256 (by decide) 2 0 _ _ rfl rfl x _ (by show 4 * (y 0).val + (y 2).val % 4 = 8 + (4 * 0 + _); omega) (by show (y 2).val / 4 = 256 + (32 * 2 + _); omega)
  case piece4 => exact lseRow_load A.arg10 A.harg10 A.x9 8 256 (by decide) 1 1 _ _ rfl rfl x _ (by show 4 * (y 0).val + (y 2).val % 4 = 8 + (4 * 1 + _); omega) (by show (y 2).val / 4 = 256 + (32 * 1 + _); omega)
  case piece5 => exact lseRow_load A.arg10 A.harg10 A.x9 8 256 (by decide) 1 0 _ _ rfl rfl x _ (by show 4 * (y 0).val + (y 2).val % 4 = 8 + (4 * 0 + _); omega) (by show (y 2).val / 4 = 256 + (32 * 1 + _); omega)
  case piece6 => exact lseRow_load A.arg10 A.harg10 A.x9 8 256 (by decide) 0 1 _ _ rfl rfl x _ (by show 4 * (y 0).val + (y 2).val % 4 = 8 + (4 * 1 + _); omega) (by show (y 2).val / 4 = 256 + (32 * 0 + _); omega)
  case piece7 => exact lseRow_load A.arg10 A.harg10 A.x9 8 256 (by decide) 0 0 _ _ rfl rfl x _ (by show 4 * (y 0).val + (y 2).val % 4 = 8 + (4 * 0 + _); omega) (by show (y 2).val / 4 = 256 + (32 * 0 + _); omega)
  case piece8 => exact lseRow_load A.arg10 A.harg10 A.x9 8 128 (by decide) 3 1 _ _ rfl rfl x _ (by show 4 * (y 0).val + (y 2).val % 4 = 8 + (4 * 1 + _); omega) (by show (y 2).val / 4 = 128 + (32 * 3 + _); omega)
  case piece9 => exact lseRow_load A.arg10 A.harg10 A.x9 8 128 (by decide) 3 0 _ _ rfl rfl x _ (by show 4 * (y 0).val + (y 2).val % 4 = 8 + (4 * 0 + _); omega) (by show (y 2).val / 4 = 128 + (32 * 3 + _); omega)
  case piece10 => exact lseRow_load A.arg10 A.harg10 A.x9 8 128 (by decide) 2 1 _ _ rfl rfl x _ (by show 4 * (y 0).val + (y 2).val % 4 = 8 + (4 * 1 + _); omega) (by show (y 2).val / 4 = 128 + (32 * 2 + _); omega)
  case piece11 => exact lseRow_load A.arg10 A.harg10 A.x9 8 128 (by decide) 2 0 _ _ rfl rfl x _ (by show 4 * (y 0).val + (y 2).val % 4 = 8 + (4 * 0 + _); omega) (by show (y 2).val / 4 = 128 + (32 * 2 + _); omega)
  case piece12 => exact lseRow_load A.arg10 A.harg10 A.x9 8 128 (by decide) 1 1 _ _ rfl rfl x _ (by show 4 * (y 0).val + (y 2).val % 4 = 8 + (4 * 1 + _); omega) (by show (y 2).val / 4 = 128 + (32 * 1 + _); omega)
  case piece13 => exact lseRow_load A.arg10 A.harg10 A.x9 8 128 (by decide) 1 0 _ _ rfl rfl x _ (by show 4 * (y 0).val + (y 2).val % 4 = 8 + (4 * 0 + _); omega) (by show (y 2).val / 4 = 128 + (32 * 1 + _); omega)
  case piece14 => exact lseRow_load A.arg10 A.harg10 A.x9 8 128 (by decide) 0 1 _ _ rfl rfl x _ (by show 4 * (y 0).val + (y 2).val % 4 = 8 + (4 * 1 + _); omega) (by show (y 2).val / 4 = 128 + (32 * 0 + _); omega)
  case piece15 => exact lseRow_load A.arg10 A.harg10 A.x9 8 128 (by decide) 0 0 _ _ rfl rfl x _ (by show 4 * (y 0).val + (y 2).val % 4 = 8 + (4 * 0 + _); omega) (by show (y 2).val / 4 = 128 + (32 * 0 + _); omega)
  case piece16 => exact lseRow_load A.arg10 A.harg10 A.x9 8 0 (by decide) 3 1 _ _ rfl rfl x _ (by show 4 * (y 0).val + (y 2).val % 4 = 8 + (4 * 1 + _); omega) (by show (y 2).val / 4 = 0 + (32 * 3 + _); omega)
  case piece17 => exact lseRow_load A.arg10 A.harg10 A.x9 8 0 (by decide) 3 0 _ _ rfl rfl x _ (by show 4 * (y 0).val + (y 2).val % 4 = 8 + (4 * 0 + _); omega) (by show (y 2).val / 4 = 0 + (32 * 3 + _); omega)
  case piece18 => exact lseRow_load A.arg10 A.harg10 A.x9 8 0 (by decide) 2 1 _ _ rfl rfl x _ (by show 4 * (y 0).val + (y 2).val % 4 = 8 + (4 * 1 + _); omega) (by show (y 2).val / 4 = 0 + (32 * 2 + _); omega)
  case piece19 => exact lseRow_load A.arg10 A.harg10 A.x9 8 0 (by decide) 2 0 _ _ rfl rfl x _ (by show 4 * (y 0).val + (y 2).val % 4 = 8 + (4 * 0 + _); omega) (by show (y 2).val / 4 = 0 + (32 * 2 + _); omega)
  case piece20 => exact lseRow_load A.arg10 A.harg10 A.x9 8 0 (by decide) 1 1 _ _ rfl rfl x _ (by show 4 * (y 0).val + (y 2).val % 4 = 8 + (4 * 1 + _); omega) (by show (y 2).val / 4 = 0 + (32 * 1 + _); omega)
  case piece21 => exact lseRow_load A.arg10 A.harg10 A.x9 8 0 (by decide) 1 0 _ _ rfl rfl x _ (by show 4 * (y 0).val + (y 2).val % 4 = 8 + (4 * 0 + _); omega) (by show (y 2).val / 4 = 0 + (32 * 1 + _); omega)
  case piece22 => exact lseRow_load A.arg10 A.harg10 A.x9 8 0 (by decide) 0 1 _ _ rfl rfl x _ (by show 4 * (y 0).val + (y 2).val % 4 = 8 + (4 * 1 + _); omega) (by show (y 2).val / 4 = 0 + (32 * 0 + _); omega)
  case piece23 => exact lseRow_load A.arg10 A.harg10 A.x9 8 0 (by decide) 0 0 _ _ rfl rfl x _ (by show 4 * (y 0).val + (y 2).val % 4 = 8 + (4 * 0 + _); omega) (by show (y 2).val / 4 = 0 + (32 * 0 + _); omega)
  case piece24 => exact lseRow_load A.arg10 A.harg10 A.x9 0 256 (by decide) 3 1 _ _ rfl rfl x _ (by show 4 * (y 0).val + (y 2).val % 4 = 0 + (4 * 1 + _); omega) (by show (y 2).val / 4 = 256 + (32 * 3 + _); omega)
  case piece25 => exact lseRow_load A.arg10 A.harg10 A.x9 0 256 (by decide) 3 0 _ _ rfl rfl x _ (by show 4 * (y 0).val + (y 2).val % 4 = 0 + (4 * 0 + _); omega) (by show (y 2).val / 4 = 256 + (32 * 3 + _); omega)
  case piece26 => exact lseRow_load A.arg10 A.harg10 A.x9 0 256 (by decide) 2 1 _ _ rfl rfl x _ (by show 4 * (y 0).val + (y 2).val % 4 = 0 + (4 * 1 + _); omega) (by show (y 2).val / 4 = 256 + (32 * 2 + _); omega)
  case piece27 => exact lseRow_load A.arg10 A.harg10 A.x9 0 256 (by decide) 2 0 _ _ rfl rfl x _ (by show 4 * (y 0).val + (y 2).val % 4 = 0 + (4 * 0 + _); omega) (by show (y 2).val / 4 = 256 + (32 * 2 + _); omega)
  case piece28 => exact lseRow_load A.arg10 A.harg10 A.x9 0 256 (by decide) 1 1 _ _ rfl rfl x _ (by show 4 * (y 0).val + (y 2).val % 4 = 0 + (4 * 1 + _); omega) (by show (y 2).val / 4 = 256 + (32 * 1 + _); omega)
  case piece29 => exact lseRow_load A.arg10 A.harg10 A.x9 0 256 (by decide) 1 0 _ _ rfl rfl x _ (by show 4 * (y 0).val + (y 2).val % 4 = 0 + (4 * 0 + _); omega) (by show (y 2).val / 4 = 256 + (32 * 1 + _); omega)
  case piece30 => exact lseRow_load A.arg10 A.harg10 A.x9 0 256 (by decide) 0 1 _ _ rfl rfl x _ (by show 4 * (y 0).val + (y 2).val % 4 = 0 + (4 * 1 + _); omega) (by show (y 2).val / 4 = 256 + (32 * 0 + _); omega)
  case piece31 => exact lseRow_load A.arg10 A.harg10 A.x9 0 256 (by decide) 0 0 _ _ rfl rfl x _ (by show 4 * (y 0).val + (y 2).val % 4 = 0 + (4 * 0 + _); omega) (by show (y 2).val / 4 = 256 + (32 * 0 + _); omega)
  case piece32 => exact lseRow_load A.arg10 A.harg10 A.x9 0 128 (by decide) 3 1 _ _ rfl rfl x _ (by show 4 * (y 0).val + (y 2).val % 4 = 0 + (4 * 1 + _); omega) (by show (y 2).val / 4 = 128 + (32 * 3 + _); omega)
  case piece33 => exact lseRow_load A.arg10 A.harg10 A.x9 0 128 (by decide) 3 0 _ _ rfl rfl x _ (by show 4 * (y 0).val + (y 2).val % 4 = 0 + (4 * 0 + _); omega) (by show (y 2).val / 4 = 128 + (32 * 3 + _); omega)
  case piece34 => exact lseRow_load A.arg10 A.harg10 A.x9 0 128 (by decide) 2 1 _ _ rfl rfl x _ (by show 4 * (y 0).val + (y 2).val % 4 = 0 + (4 * 1 + _); omega) (by show (y 2).val / 4 = 128 + (32 * 2 + _); omega)
  case piece35 => exact lseRow_load A.arg10 A.harg10 A.x9 0 128 (by decide) 2 0 _ _ rfl rfl x _ (by show 4 * (y 0).val + (y 2).val % 4 = 0 + (4 * 0 + _); omega) (by show (y 2).val / 4 = 128 + (32 * 2 + _); omega)
  case piece36 => exact lseRow_load A.arg10 A.harg10 A.x9 0 128 (by decide) 1 1 _ _ rfl rfl x _ (by show 4 * (y 0).val + (y 2).val % 4 = 0 + (4 * 1 + _); omega) (by show (y 2).val / 4 = 128 + (32 * 1 + _); omega)
  case piece37 => exact lseRow_load A.arg10 A.harg10 A.x9 0 128 (by decide) 1 0 _ _ rfl rfl x _ (by show 4 * (y 0).val + (y 2).val % 4 = 0 + (4 * 0 + _); omega) (by show (y 2).val / 4 = 128 + (32 * 1 + _); omega)
  case piece38 => exact lseRow_load A.arg10 A.harg10 A.x9 0 128 (by decide) 0 1 _ _ rfl rfl x _ (by show 4 * (y 0).val + (y 2).val % 4 = 0 + (4 * 1 + _); omega) (by show (y 2).val / 4 = 128 + (32 * 0 + _); omega)
  case piece39 => exact lseRow_load A.arg10 A.harg10 A.x9 0 128 (by decide) 0 0 _ _ rfl rfl x _ (by show 4 * (y 0).val + (y 2).val % 4 = 0 + (4 * 0 + _); omega) (by show (y 2).val / 4 = 128 + (32 * 0 + _); omega)
  case piece40 => exact lseRow_load A.arg10 A.harg10 A.x9 0 0 (by decide) 3 1 _ _ rfl rfl x _ (by show 4 * (y 0).val + (y 2).val % 4 = 0 + (4 * 1 + _); omega) (by show (y 2).val / 4 = 0 + (32 * 3 + _); omega)
  case piece41 => exact lseRow_load A.arg10 A.harg10 A.x9 0 0 (by decide) 3 0 _ _ rfl rfl x _ (by show 4 * (y 0).val + (y 2).val % 4 = 0 + (4 * 0 + _); omega) (by show (y 2).val / 4 = 0 + (32 * 3 + _); omega)
  case piece42 => exact lseRow_load A.arg10 A.harg10 A.x9 0 0 (by decide) 2 1 _ _ rfl rfl x _ (by show 4 * (y 0).val + (y 2).val % 4 = 0 + (4 * 1 + _); omega) (by show (y 2).val / 4 = 0 + (32 * 2 + _); omega)
  case piece43 => exact lseRow_load A.arg10 A.harg10 A.x9 0 0 (by decide) 2 0 _ _ rfl rfl x _ (by show 4 * (y 0).val + (y 2).val % 4 = 0 + (4 * 0 + _); omega) (by show (y 2).val / 4 = 0 + (32 * 2 + _); omega)
  case piece44 => exact lseRow_load A.arg10 A.harg10 A.x9 0 0 (by decide) 1 1 _ _ rfl rfl x _ (by show 4 * (y 0).val + (y 2).val % 4 = 0 + (4 * 1 + _); omega) (by show (y 2).val / 4 = 0 + (32 * 1 + _); omega)
  case piece45 => exact lseRow_load A.arg10 A.harg10 A.x9 0 0 (by decide) 1 0 _ _ rfl rfl x _ (by show 4 * (y 0).val + (y 2).val % 4 = 0 + (4 * 0 + _); omega) (by show (y 2).val / 4 = 0 + (32 * 1 + _); omega)
  case piece46 => exact lseRow_load A.arg10 A.harg10 A.x9 0 0 (by decide) 0 1 _ _ rfl rfl x _ (by show 4 * (y 0).val + (y 2).val % 4 = 0 + (4 * 1 + _); omega) (by show (y 2).val / 4 = 0 + (32 * 0 + _); omega)
  case piece47 => exact lseRow_load A.arg10 A.harg10 A.x9 0 0 (by decide) 0 0 _ _ rfl rfl x _ (by show 4 * (y 0).val + (y 2).val % 4 = 0 + (4 * 0 + _); omega) (by show (y 2).val / 4 = 0 + (32 * 0 + _); omega)

end Cert.KernelIdeal.Hand
-- ==== Proof.Exact.Products.lean ====
module

public import proofs.«01_k».proof.Proof.Exact.Load

@[expose] public section

set_option maxRecDepth 16384

noncomputable section

namespace Cert.KernelIdeal.Hand

open Cert.KernelIdeal.Gen Idealize.ShloMosaic

/-! ## The products of a tile -/

theorem score1 {φ ψ : FTy} (k : FVec Ideal S384x128 φ) (q : FVec Ideal S256x128 ψ) (o : ℕ) (hs : S384x128.Slices ![o, 0] S64x128) (ho : o + 64 ≤ 384) (j : Fin 64) (c : Fin 256) :
    matmul dot_S64x128_S256x128_S64x256_1_1_0_0_n_n none (extractStridedSlice S64x128 ![o, 0] k hs) q (constant S64x256 .f32 0x00000000#32) (ix2 j c)
      = ∑ d : Fin 128, k (ix2 (⟨o + j.val, by omega⟩ : Fin 384) d) * q (ix2 c d) := by
  pointwise

theorem over1 {φ ψ : FTy} (p : FVec Ideal S64x256 φ) (x : FVec Ideal S256x128 ψ) (j : Fin 64) (d : Fin 128) :
    matmul dot_S64x256_S256x128_S64x128_1_0_0_1_n_n none p x (constant S64x128 .f32 0x00000000#32) (ix2 j d)
      = ∑ c : Fin 256, p (ix2 j c) * x (ix2 c d) := by
  pointwise

theorem keys1 {φ ψ : FTy} (k : FVec Ideal S128x384 φ) (s : FVec Ideal S64x256 ψ) (o : ℕ) (hs : S128x384.Slices ![0, o] S128x64) (ho : o + 64 ≤ 384) (d : Fin 128) (c : Fin 256) :
    matmul dot_S128x64_S64x256_S128x256_1_0_0_1_n_n none (extractStridedSlice S128x64 ![0, o] k hs) s (constant S128x256 .f32 0x00000000#32) (ix2 d c)
      = ∑ j : Fin 64, k (ix2 d (⟨o + j.val, by omega⟩ : Fin 384)) * s (ix2 j c) := by
  pointwise

theorem score2 {φ ψ : FTy} (k : FVec Ideal S384x128 φ) (q : FVec Ideal S256x128 ψ) (o : ℕ) (hs : S384x128.Slices ![o, 0] S128x128) (ho : o + 128 ≤ 384) (j : Fin 128) (c : Fin 256) :
    matmul dot_S128x128_S256x128_S128x256_1_1_0_0_n_n none (extractStridedSlice S128x128 ![o, 0] k hs) q (constant S128x256 .f32 0x00000000#32) (ix2 j c)
      = ∑ d : Fin 128, k (ix2 (⟨o + j.val, by omega⟩ : Fin 384) d) * q (ix2 c d) := by
  pointwise

theorem over2 {φ ψ : FTy} (p : FVec Ideal S128x256 φ) (x : FVec Ideal S256x128 ψ) (j : Fin 128) (d : Fin 128) :
    matmul dot_S128x256_S256x128_S128x128_1_0_0_1_n_n none p x (constant S128x128 .f32 0x00000000#32) (ix2 j d)
      = ∑ c : Fin 256, p (ix2 j c) * x (ix2 c d) := by
  pointwise

theorem keys2 {φ ψ : FTy} (k : FVec Ideal S128x384 φ) (s : FVec Ideal S128x256 ψ) (o : ℕ) (hs : S128x384.Slices ![0, o] S128x128) (ho : o + 128 ≤ 384) (d : Fin 128) (c : Fin 256) :
    matmul dot_S128x128_S128x256_S128x256_1_0_0_1_n_n none (extractStridedSlice S128x128 ![0, o] k hs) s (constant S128x256 .f32 0x00000000#32) (ix2 d c)
      = ∑ j : Fin 128, k (ix2 d (⟨o + j.val, by omega⟩ : Fin 384)) * s (ix2 j c) := by
  pointwise

theorem join2 {φ : FTy} (p0 p1 : FVec Ideal S64x256 φ) (f : ℕ → Fin 256 → EReal) (h0 : ∀ (r : Fin 64) (c : Fin 256), p0 (ix2 r c) = f (0 + r.val) c) (h1 : ∀ (r : Fin 64) (c : Fin 256), p1 (ix2 r c) = f (64 + r.val) c) (hc) (j : Fin 128) (c : Fin 256) :
    (concatenate S128x256 0 [⟨S64x256, p0⟩, ⟨S64x256, p1⟩] hc : FVec Ideal S128x256 φ) (ix2 j c) = f j.val c := by
  pointwise
  split_ifs <;> simp only [h0, h1] <;> congr 1 <;> omega

theorem score3 {φ ψ : FTy} (k : FVec Ideal S384x128 φ) (q : FVec Ideal S256x128 ψ) (o : ℕ) (hs : S384x128.Slices ![o, 0] S192x128) (ho : o + 192 ≤ 384) (j : Fin 192) (c : Fin 256) :
    matmul dot_S192x128_S256x128_S192x256_1_1_0_0_n_n none (extractStridedSlice S192x128 ![o, 0] k hs) q (constant S192x256 .f32 0x00000000#32) (ix2 j c)
      = ∑ d : Fin 128, k (ix2 (⟨o + j.val, by omega⟩ : Fin 384) d) * q (ix2 c d) := by
  pointwise

theorem over3 {φ ψ : FTy} (p : FVec Ideal S192x256 φ) (x : FVec Ideal S256x128 ψ) (j : Fin 192) (d : Fin 128) :
    matmul dot_S192x256_S256x128_S192x128_1_0_0_1_n_n none p x (constant S192x128 .f32 0x00000000#32) (ix2 j d)
      = ∑ c : Fin 256, p (ix2 j c) * x (ix2 c d) := by
  pointwise

theorem keys3 {φ ψ : FTy} (k : FVec Ideal S128x384 φ) (s : FVec Ideal S192x256 ψ) (o : ℕ) (hs : S128x384.Slices ![0, o] S128x192) (ho : o + 192 ≤ 384) (d : Fin 128) (c : Fin 256) :
    matmul dot_S128x192_S192x256_S128x256_1_0_0_1_n_n none (extractStridedSlice S128x192 ![0, o] k hs) s (constant S128x256 .f32 0x00000000#32) (ix2 d c)
      = ∑ j : Fin 192, k (ix2 d (⟨o + j.val, by omega⟩ : Fin 384)) * s (ix2 j c) := by
  pointwise

theorem join3 {φ : FTy} (p0 p1 p2 : FVec Ideal S64x256 φ) (f : ℕ → Fin 256 → EReal) (h0 : ∀ (r : Fin 64) (c : Fin 256), p0 (ix2 r c) = f (0 + r.val) c) (h1 : ∀ (r : Fin 64) (c : Fin 256), p1 (ix2 r c) = f (64 + r.val) c) (h2 : ∀ (r : Fin 64) (c : Fin 256), p2 (ix2 r c) = f (128 + r.val) c) (hc) (j : Fin 192) (c : Fin 256) :
    (concatenate S192x256 0 [⟨S64x256, p0⟩, ⟨S64x256, p1⟩, ⟨S64x256, p2⟩] hc : FVec Ideal S192x256 φ) (ix2 j c) = f j.val c := by
  pointwise
  split_ifs <;> simp only [h0, h1, h2] <;> congr 1 <;> omega

theorem score4 {φ ψ : FTy} (k : FVec Ideal S384x128 φ) (q : FVec Ideal S256x128 ψ) (o : ℕ) (hs : S384x128.Slices ![o, 0] S256x128) (ho : o + 256 ≤ 384) (j : Fin 256) (c : Fin 256) :
    matmul dot_S256x128_S256x128_S256x256_1_1_0_0_n_n none (extractStridedSlice S256x128 ![o, 0] k hs) q (constant S256x256 .f32 0x00000000#32) (ix2 j c)
      = ∑ d : Fin 128, k (ix2 (⟨o + j.val, by omega⟩ : Fin 384) d) * q (ix2 c d) := by
  pointwise

theorem over4 {φ ψ : FTy} (p : FVec Ideal S256x256 φ) (x : FVec Ideal S256x128 ψ) (j : Fin 256) (d : Fin 128) :
    matmul dot_S256x256_S256x128_S256x128_1_0_0_1_n_n none p x (constant S256x128 .f32 0x00000000#32) (ix2 j d)
      = ∑ c : Fin 256, p (ix2 j c) * x (ix2 c d) := by
  pointwise

theorem keys4 {φ ψ : FTy} (k : FVec Ideal S128x384 φ) (s : FVec Ideal S256x256 ψ) (o : ℕ) (hs : S128x384.Slices ![0, o] S128x256) (ho : o + 256 ≤ 384) (d : Fin 128) (c : Fin 256) :
    matmul dot_S128x256_S256x256_S128x256_1_0_0_1_n_n none (extractStridedSlice S128x256 ![0, o] k hs) s (constant S128x256 .f32 0x00000000#32) (ix2 d c)
      = ∑ j : Fin 256, k (ix2 d (⟨o + j.val, by omega⟩ : Fin 384)) * s (ix2 j c) := by
  pointwise

theorem join4 {φ : FTy} (p0 p1 p2 p3 : FVec Ideal S64x256 φ) (f : ℕ → Fin 256 → EReal) (h0 : ∀ (r : Fin 64) (c : Fin 256), p0 (ix2 r c) = f (0 + r.val) c) (h1 : ∀ (r : Fin 64) (c : Fin 256), p1 (ix2 r c) = f (64 + r.val) c) (h2 : ∀ (r : Fin 64) (c : Fin 256), p2 (ix2 r c) = f (128 + r.val) c) (h3 : ∀ (r : Fin 64) (c : Fin 256), p3 (ix2 r c) = f (192 + r.val) c) (hc) (j : Fin 256) (c : Fin 256) :
    (concatenate S256x256 0 [⟨S64x256, p0⟩, ⟨S64x256, p1⟩, ⟨S64x256, p2⟩, ⟨S64x256, p3⟩] hc : FVec Ideal S256x256 φ) (ix2 j c) = f j.val c := by
  pointwise
  split_ifs <;> simp only [h0, h1, h2, h3] <;> congr 1 <;> omega

theorem score5 {φ ψ : FTy} (k : FVec Ideal S384x128 φ) (q : FVec Ideal S256x128 ψ) (o : ℕ) (hs : S384x128.Slices ![o, 0] S320x128) (ho : o + 320 ≤ 384) (j : Fin 320) (c : Fin 256) :
    matmul dot_S320x128_S256x128_S320x256_1_1_0_0_n_n none (extractStridedSlice S320x128 ![o, 0] k hs) q (constant S320x256 .f32 0x00000000#32) (ix2 j c)
      = ∑ d : Fin 128, k (ix2 (⟨o + j.val, by omega⟩ : Fin 384) d) * q (ix2 c d) := by
  pointwise

theorem over5 {φ ψ : FTy} (p : FVec Ideal S320x256 φ) (x : FVec Ideal S256x128 ψ) (j : Fin 320) (d : Fin 128) :
    matmul dot_S320x256_S256x128_S320x128_1_0_0_1_n_n none p x (constant S320x128 .f32 0x00000000#32) (ix2 j d)
      = ∑ c : Fin 256, p (ix2 j c) * x (ix2 c d) := by
  pointwise

theorem keys5 {φ ψ : FTy} (k : FVec Ideal S128x384 φ) (s : FVec Ideal S320x256 ψ) (o : ℕ) (hs : S128x384.Slices ![0, o] S128x320) (ho : o + 320 ≤ 384) (d : Fin 128) (c : Fin 256) :
    matmul dot_S128x320_S320x256_S128x256_1_0_0_1_n_n none (extractStridedSlice S128x320 ![0, o] k hs) s (constant S128x256 .f32 0x00000000#32) (ix2 d c)
      = ∑ j : Fin 320, k (ix2 d (⟨o + j.val, by omega⟩ : Fin 384)) * s (ix2 j c) := by
  pointwise

theorem join5 {φ : FTy} (p0 p1 p2 p3 p4 : FVec Ideal S64x256 φ) (f : ℕ → Fin 256 → EReal) (h0 : ∀ (r : Fin 64) (c : Fin 256), p0 (ix2 r c) = f (0 + r.val) c) (h1 : ∀ (r : Fin 64) (c : Fin 256), p1 (ix2 r c) = f (64 + r.val) c) (h2 : ∀ (r : Fin 64) (c : Fin 256), p2 (ix2 r c) = f (128 + r.val) c) (h3 : ∀ (r : Fin 64) (c : Fin 256), p3 (ix2 r c) = f (192 + r.val) c) (h4 : ∀ (r : Fin 64) (c : Fin 256), p4 (ix2 r c) = f (256 + r.val) c) (hc) (j : Fin 320) (c : Fin 256) :
    (concatenate S320x256 0 [⟨S64x256, p0⟩, ⟨S64x256, p1⟩, ⟨S64x256, p2⟩, ⟨S64x256, p3⟩, ⟨S64x256, p4⟩] hc : FVec Ideal S320x256 φ) (ix2 j c) = f j.val c := by
  pointwise
  split_ifs <;> simp only [h0, h1, h2, h3, h4] <;> congr 1 <;> omega

end Cert.KernelIdeal.Hand
-- ==== Proof.Exact.Spec.lean ====
module

public import proofs.«01_k».proof.Proof.Exact.Products

@[expose] public section

set_option maxRecDepth 16384

noncomputable section

namespace Cert.KernelIdeal.Hand

open Cert.KernelIdeal.Gen Idealize.ShloMosaic

/-! ## What the body computes, as sums over the blocks it is given -/

/-- Row `n` of a block of rows, zero past its end. -/
def rd {N : ℕ} {e : EltTy} (x : Shape.Idx ⟨3, ![1, N, 128]⟩ → EReal) (n : ℕ) (d : Fin 128) : EReal :=
  if h : n < N then x (ix3 (0 : Fin 1) (⟨n, h⟩ : Fin N) d) else 0

/-- Entry `b, h` of one batch of a table of scales, zero outside it. -/
def sc {B N : ℕ} (x : Shape.Idx ⟨3, ![6, B, N]⟩ → EReal) (i : Fin 6) (b h : ℕ) : EReal :=
  if hh : b < B ∧ h < N then x (ix3 i (⟨b, hh.1⟩ : Fin B) (⟨h, hh.2⟩ : Fin N)) else 0

def Qf (A : Pack Ideal) (i h : ℕ) (d : Fin 128) : EReal := rd (e := .fp8e4m3) A.x4 (16 * i + h) d
def Kf (A : Pack Ideal) (j g : ℕ) (d : Fin 128) : EReal := rd (e := .fp8e4m3) A.x5 (4 * j + g) d
def Vf (A : Pack Ideal) (j g : ℕ) (d : Fin 128) : EReal := rd (e := .fp8e4m3) A.x6 (4 * j + g) d
def Gf (A : Pack Ideal) (i h : ℕ) (d : Fin 128) : EReal := rd (e := .fp8e5m2) A.x7 (16 * i + h) d
def Of (A : Pack Ideal) (i h : ℕ) (d : Fin 128) : EReal := rd (e := .bf16) A.x8 (16 * i + h) d
/-- The logarithm of a row's sum of weights. -/
def Lf (A : Pack Ideal) (i h : ℕ) : EReal := if hh : h < 16 ∧ i < 384 then A.x9 (ix3 (0 : Fin 1) (⟨h, hh.1⟩ : Fin 16) (⟨i, hh.2⟩ : Fin 384)) else 0
def qsF (A : Pack Ideal) (b h : ℕ) : EReal := sc A.x0 (A.i 0) b h
def ksF (A : Pack Ideal) (b h : ℕ) : EReal := sc A.x1 (A.i 0) b h
def vsF (A : Pack Ideal) (b h : ℕ) : EReal := sc A.x2 (A.i 0) b h
def gsF (A : Pack Ideal) (b h : ℕ) : EReal := sc A.x3 (A.i 0) b h
/-- The scale of the scores, in base two. -/
def smTwo : EReal := Named.named (F := Ideal) (φ := .f32) κ "sm_scale_log2e" 0x3E0293EE#32
/-- The scale of the scores. -/
def smE : EReal := Named.named (F := Ideal) (φ := .f32) κ "sm_scale" 0x3DB504F3#32

/-- The raw score of a query row and a key. -/
def SF (A : Pack Ideal) (g i e j : ℕ) : EReal := ∑ d : Fin 128, Kf A j g d * Qf A i (4 * g + e) d
/-- The weight of a query row at a key it sees, zero at the others. -/
def PF (A : Pack Ideal) (g i e j : ℕ) : EReal :=
  if j ≤ i ∧ i < j + 256 then
    (FloatOps.exp2 (SF A g i e j * (qsF A (i / 128) (4 * g + e) * smTwo * ksF A (j / 128) g) - Lf A i (4 * g + e) * toBase2 : Ideal .f32) : Ideal .f32)
  else 0
def DPF (A : Pack Ideal) (g i e j : ℕ) : EReal := ∑ d : Fin 128, Vf A j g d * Gf A i (4 * g + e) d
def DLF (A : Pack Ideal) (i h : ℕ) : EReal := ∑ d : Fin 128, Gf A i h d * Of A i h d
/-- The gradient of a score. -/
def GF (A : Pack Ideal) (g i e j : ℕ) : EReal := PF A g i e j * (DPF A g i e j - DLF A i (4 * g + e) * Ideal.div 1 (vsF A (j / 128) g))
/-- A row of the output gradient, scaled. -/
def GEF (A : Pack Ideal) (i h : ℕ) (d : Fin 128) : EReal := Gf A i h d * gsF A (i / 128) h
/-- A row of the query, scaled. -/
def QEF (A : Pack Ideal) (i h : ℕ) (d : Fin 128) : EReal := Qf A i h d * (qsF A (i / 128) h * gsF A (i / 128) h)
/-- What the 64 tokens of tile `a` add. -/
def tileSum (f x : ℕ → ℕ → EReal) (a : ℕ) : EReal := ∑ c : Fin 256, f (64 * a + c.val / 4) (c.val % 4) * x (64 * a + c.val / 4) (c.val % 4)
def DVF (A : Pack Ideal) (g a j : ℕ) (d : Fin 128) : EReal := tileSum (fun i e => PF A g i e j) (fun i e => GEF A i (4 * g + e) d) a
def DKF (A : Pack Ideal) (g a j : ℕ) (d : Fin 128) : EReal := tileSum (fun i e => GF A g i e j) (fun i e => QEF A i (4 * g + e) d) a
def DV (A : Pack Ideal) (g j : ℕ) (d : Fin 128) : EReal := ∑ a : Fin 6, DVF A g a.val j d
def DK (A : Pack Ideal) (g j : ℕ) (d : Fin 128) : EReal := ∑ a : Fin 6, DKF A g a.val j d
/-- A row of the key, scaled. -/
def KEF (A : Pack Ideal) (j g : ℕ) (d : Fin 128) : EReal := Kf A j g d * (ksF A (j / 128) g * vsF A (j / 128) g)
def DQ (A : Pack Ideal) (g i e : ℕ) (d : Fin 128) : EReal := (∑ j : Fin 384, KEF A j.val g d * GF A g i e j.val) * (gsF A (i / 128) (4 * g + e) * smE)

theorem PF_zero (A : Pack Ideal) (g i e j : ℕ) (h : ¬(j ≤ i ∧ i < j + 256)) : PF A g i e j = 0 := if_neg h
theorem GF_zero (A : Pack Ideal) (g i e j : ℕ) (h : ¬(j ≤ i ∧ i < j + 256)) : GF A g i e j = 0 := by rw [GF, PF_zero A g i e j h, zero_mul]

theorem tileSum_zero (f x : ℕ → ℕ → EReal) (a : ℕ) (h : ∀ t e : ℕ, t < 64 → f (64 * a + t) e = 0) : tileSum f x a = 0 :=
  Finset.sum_eq_zero fun c _ => by rw [h (c.val / 4) (c.val % 4) (by omega), zero_mul]

theorem DVF_zero (A : Pack Ideal) (g a kt r : ℕ) (d : Fin 128) (hr : r < 64) (h : a < kt ∨ kt + 4 < a) : DVF A g a (64 * kt + r) d = 0 :=
  tileSum_zero _ _ _ fun t e ht => PF_zero A g _ e _ (by omega)
theorem DKF_zero (A : Pack Ideal) (g a kt r : ℕ) (d : Fin 128) (hr : r < 64) (h : a < kt ∨ kt + 4 < a) : DKF A g a (64 * kt + r) d = 0 :=
  tileSum_zero _ _ _ fun t e ht => GF_zero A g _ e _ (by omega)

theorem DV_row0 (A : Pack Ideal) (g r : ℕ) (d : Fin 128) (hr : r < 64) :
    DVF A g 0 (64 * 0 + r) d + DVF A g 1 (64 * 0 + r) d + DVF A g 2 (64 * 0 + r) d + DVF A g 3 (64 * 0 + r) d + DVF A g 4 (64 * 0 + r) d = DV A g (64 * 0 + r) d := by
  rw [DV, Fin.sum_univ_six]
  show _ = DVF A g 0 (64 * 0 + r) d + DVF A g 1 (64 * 0 + r) d + DVF A g 2 (64 * 0 + r) d + DVF A g 3 (64 * 0 + r) d + DVF A g 4 (64 * 0 + r) d + DVF A g 5 (64 * 0 + r) d
  rw [DVF_zero A g 5 0 r d hr (by omega)]
  simp only [zero_add, add_zero]

theorem DV_row1 (A : Pack Ideal) (g r : ℕ) (d : Fin 128) (hr : r < 64) :
    DVF A g 1 (64 * 1 + r) d + DVF A g 2 (64 * 1 + r) d + DVF A g 3 (64 * 1 + r) d + DVF A g 4 (64 * 1 + r) d + DVF A g 5 (64 * 1 + r) d = DV A g (64 * 1 + r) d := by
  rw [DV, Fin.sum_univ_six]
  show _ = DVF A g 0 (64 * 1 + r) d + DVF A g 1 (64 * 1 + r) d + DVF A g 2 (64 * 1 + r) d + DVF A g 3 (64 * 1 + r) d + DVF A g 4 (64 * 1 + r) d + DVF A g 5 (64 * 1 + r) d
  rw [DVF_zero A g 0 1 r d hr (by omega)]
  simp only [zero_add, add_zero]

theorem DV_row2 (A : Pack Ideal) (g r : ℕ) (d : Fin 128) (hr : r < 64) :
    DVF A g 2 (64 * 2 + r) d + DVF A g 3 (64 * 2 + r) d + DVF A g 4 (64 * 2 + r) d + DVF A g 5 (64 * 2 + r) d = DV A g (64 * 2 + r) d := by
  rw [DV, Fin.sum_univ_six]
  show _ = DVF A g 0 (64 * 2 + r) d + DVF A g 1 (64 * 2 + r) d + DVF A g 2 (64 * 2 + r) d + DVF A g 3 (64 * 2 + r) d + DVF A g 4 (64 * 2 + r) d + DVF A g 5 (64 * 2 + r) d
  rw [DVF_zero A g 0 2 r d hr (by omega), DVF_zero A g 1 2 r d hr (by omega)]
  simp only [zero_add, add_zero]

theorem DV_row3 (A : Pack Ideal) (g r : ℕ) (d : Fin 128) (hr : r < 64) :
    DVF A g 3 (64 * 3 + r) d + DVF A g 4 (64 * 3 + r) d + DVF A g 5 (64 * 3 + r) d = DV A g (64 * 3 + r) d := by
  rw [DV, Fin.sum_univ_six]
  show _ = DVF A g 0 (64 * 3 + r) d + DVF A g 1 (64 * 3 + r) d + DVF A g 2 (64 * 3 + r) d + DVF A g 3 (64 * 3 + r) d + DVF A g 4 (64 * 3 + r) d + DVF A g 5 (64 * 3 + r) d
  rw [DVF_zero A g 0 3 r d hr (by omega), DVF_zero A g 1 3 r d hr (by omega), DVF_zero A g 2 3 r d hr (by omega)]
  simp only [zero_add, add_zero]

theorem DV_row4 (A : Pack Ideal) (g r : ℕ) (d : Fin 128) (hr : r < 64) :
    DVF A g 4 (64 * 4 + r) d + DVF A g 5 (64 * 4 + r) d = DV A g (64 * 4 + r) d := by
  rw [DV, Fin.sum_univ_six]
  show _ = DVF A g 0 (64 * 4 + r) d + DVF A g 1 (64 * 4 + r) d + DVF A g 2 (64 * 4 + r) d + DVF A g 3 (64 * 4 + r) d + DVF A g 4 (64 * 4 + r) d + DVF A g 5 (64 * 4 + r) d
  rw [DVF_zero A g 0 4 r d hr (by omega), DVF_zero A g 1 4 r d hr (by omega), DVF_zero A g 2 4 r d hr (by omega), DVF_zero A g 3 4 r d hr (by omega)]
  simp only [zero_add, add_zero]

theorem DV_row5 (A : Pack Ideal) (g r : ℕ) (d : Fin 128) (hr : r < 64) :
    DVF A g 5 (64 * 5 + r) d = DV A g (64 * 5 + r) d := by
  rw [DV, Fin.sum_univ_six]
  show _ = DVF A g 0 (64 * 5 + r) d + DVF A g 1 (64 * 5 + r) d + DVF A g 2 (64 * 5 + r) d + DVF A g 3 (64 * 5 + r) d + DVF A g 4 (64 * 5 + r) d + DVF A g 5 (64 * 5 + r) d
  rw [DVF_zero A g 0 5 r d hr (by omega), DVF_zero A g 1 5 r d hr (by omega), DVF_zero A g 2 5 r d hr (by omega), DVF_zero A g 3 5 r d hr (by omega), DVF_zero A g 4 5 r d hr (by omega)]
  simp only [zero_add, add_zero]

theorem DK_row0 (A : Pack Ideal) (g r : ℕ) (d : Fin 128) (hr : r < 64) :
    DKF A g 0 (64 * 0 + r) d + DKF A g 1 (64 * 0 + r) d + DKF A g 2 (64 * 0 + r) d + DKF A g 3 (64 * 0 + r) d + DKF A g 4 (64 * 0 + r) d = DK A g (64 * 0 + r) d := by
  rw [DK, Fin.sum_univ_six]
  show _ = DKF A g 0 (64 * 0 + r) d + DKF A g 1 (64 * 0 + r) d + DKF A g 2 (64 * 0 + r) d + DKF A g 3 (64 * 0 + r) d + DKF A g 4 (64 * 0 + r) d + DKF A g 5 (64 * 0 + r) d
  rw [DKF_zero A g 5 0 r d hr (by omega)]
  simp only [zero_add, add_zero]

theorem DK_row1 (A : Pack Ideal) (g r : ℕ) (d : Fin 128) (hr : r < 64) :
    DKF A g 1 (64 * 1 + r) d + DKF A g 2 (64 * 1 + r) d + DKF A g 3 (64 * 1 + r) d + DKF A g 4 (64 * 1 + r) d + DKF A g 5 (64 * 1 + r) d = DK A g (64 * 1 + r) d := by
  rw [DK, Fin.sum_univ_six]
  show _ = DKF A g 0 (64 * 1 + r) d + DKF A g 1 (64 * 1 + r) d + DKF A g 2 (64 * 1 + r) d + DKF A g 3 (64 * 1 + r) d + DKF A g 4 (64 * 1 + r) d + DKF A g 5 (64 * 1 + r) d
  rw [DKF_zero A g 0 1 r d hr (by omega)]
  simp only [zero_add, add_zero]

theorem DK_row2 (A : Pack Ideal) (g r : ℕ) (d : Fin 128) (hr : r < 64) :
    DKF A g 2 (64 * 2 + r) d + DKF A g 3 (64 * 2 + r) d + DKF A g 4 (64 * 2 + r) d + DKF A g 5 (64 * 2 + r) d = DK A g (64 * 2 + r) d := by
  rw [DK, Fin.sum_univ_six]
  show _ = DKF A g 0 (64 * 2 + r) d + DKF A g 1 (64 * 2 + r) d + DKF A g 2 (64 * 2 + r) d + DKF A g 3 (64 * 2 + r) d + DKF A g 4 (64 * 2 + r) d + DKF A g 5 (64 * 2 + r) d
  rw [DKF_zero A g 0 2 r d hr (by omega), DKF_zero A g 1 2 r d hr (by omega)]
  simp only [zero_add, add_zero]

theorem DK_row3 (A : Pack Ideal) (g r : ℕ) (d : Fin 128) (hr : r < 64) :
    DKF A g 3 (64 * 3 + r) d + DKF A g 4 (64 * 3 + r) d + DKF A g 5 (64 * 3 + r) d = DK A g (64 * 3 + r) d := by
  rw [DK, Fin.sum_univ_six]
  show _ = DKF A g 0 (64 * 3 + r) d + DKF A g 1 (64 * 3 + r) d + DKF A g 2 (64 * 3 + r) d + DKF A g 3 (64 * 3 + r) d + DKF A g 4 (64 * 3 + r) d + DKF A g 5 (64 * 3 + r) d
  rw [DKF_zero A g 0 3 r d hr (by omega), DKF_zero A g 1 3 r d hr (by omega), DKF_zero A g 2 3 r d hr (by omega)]
  simp only [zero_add, add_zero]

theorem DK_row4 (A : Pack Ideal) (g r : ℕ) (d : Fin 128) (hr : r < 64) :
    DKF A g 4 (64 * 4 + r) d + DKF A g 5 (64 * 4 + r) d = DK A g (64 * 4 + r) d := by
  rw [DK, Fin.sum_univ_six]
  show _ = DKF A g 0 (64 * 4 + r) d + DKF A g 1 (64 * 4 + r) d + DKF A g 2 (64 * 4 + r) d + DKF A g 3 (64 * 4 + r) d + DKF A g 4 (64 * 4 + r) d + DKF A g 5 (64 * 4 + r) d
  rw [DKF_zero A g 0 4 r d hr (by omega), DKF_zero A g 1 4 r d hr (by omega), DKF_zero A g 2 4 r d hr (by omega), DKF_zero A g 3 4 r d hr (by omega)]
  simp only [zero_add, add_zero]

theorem DK_row5 (A : Pack Ideal) (g r : ℕ) (d : Fin 128) (hr : r < 64) :
    DKF A g 5 (64 * 5 + r) d = DK A g (64 * 5 + r) d := by
  rw [DK, Fin.sum_univ_six]
  show _ = DKF A g 0 (64 * 5 + r) d + DKF A g 1 (64 * 5 + r) d + DKF A g 2 (64 * 5 + r) d + DKF A g 3 (64 * 5 + r) d + DKF A g 4 (64 * 5 + r) d + DKF A g 5 (64 * 5 + r) d
  rw [DKF_zero A g 0 5 r d hr (by omega), DKF_zero A g 1 5 r d hr (by omega), DKF_zero A g 2 5 r d hr (by omega), DKF_zero A g 3 5 r d hr (by omega), DKF_zero A g 4 5 r d hr (by omega)]
  simp only [zero_add, add_zero]

theorem rd_of {N : ℕ} {e : EltTy} (x : Shape.Idx ⟨3, ![1, N, 128]⟩ → EReal) (p : Fin 1) (q : Fin N) (d : Fin 128) (n : ℕ) (h : q.val = n) :
    x (ix3 p q d) = rd (e := e) x n d := by
  subst h
  obtain rfl : p = 0 := Subsingleton.elim _ _
  rw [rd, dif_pos q.isLt]

/-! ## Scalars -/

/-- One scalar of a table. -/
def sca {N : ℕ} (M : Memref sig .tc .smem ⟨3, ![6, 3, N]⟩ .f32) (hM : M.IsWhole) (x : Vec Ideal ⟨3, ![6, 3, N]⟩ .f32) (off : Fin 3 → ℕ)
    (inb : ∀ a, off a + S1x1x1.size a ≤ (⟨3, ![6, 3, N]⟩ : Shape).size a) : EReal :=
  View.readAt (Elt Ideal) M.view (Rect.unit (s := ⟨3, ![6, 3, N]⟩) off S1x1x1.size inb).toLoadRect (hM.unread x) (Shape.Idx.first (show 0 < S1x1x1.numel from numel1_S1x1x1 ▸ Nat.one_pos))

theorem sca_eq {N : ℕ} (M : Memref sig .tc .smem ⟨3, ![6, 3, N]⟩ .f32) (hM : M.IsWhole) (x : Vec Ideal ⟨3, ![6, 3, N]⟩ .f32) (off : Fin 3 → ℕ) (inb) (i : Fin 6) (b h : ℕ)
    (e : off = ![i.val, b, h]) : sca M hM x off inb = sc x i b h := by
  subst e
  have hb : b < 3 := by have := inb 1; change b + 1 ≤ 3 at this; omega
  have hh : h < N := by have := inb 2; change h + 1 ≤ N at this; omega
  rw [sc, dif_pos ⟨hb, hh⟩]
  exact load3 (p := 1) (q := 1) (r := 1) M hM x i.val b h inb _ _ rfl rfl rfl

theorem toNat_i (i : grid0.Coords) : BitVec.toNat (Scalar.indexCast (BitVec.ofNat 32 (i 0).val)) = (i 0).val := by
  have : (i 0).val < 6 := (i 0).isLt
  show ((BitVec.ofNat 32 (i 0).val).setWidth 64).toNat = _
  simp
  omega

theorem offs {i : grid0.Coords} (b h : ℕ) : ![BitVec.toNat (Scalar.indexCast (BitVec.ofNat 32 (i 0).val)), b, h] = ![(i 0).val, b, h] := by rw [toNat_i]

theorem q_sca (A : Pack Ideal) (b h : ℕ) (inb) : sca A.arg1 A.harg1 A.x0 ![BitVec.toNat (Scalar.indexCast (BitVec.ofNat 32 (A.i 0).val)), b, h] inb = qsF A b h :=
  sca_eq A.arg1 A.harg1 A.x0 _ inb (A.i 0) b h (offs b h)
theorem k_sca (A : Pack Ideal) (b h : ℕ) (inb) : sca A.arg2 A.harg2 A.x1 ![BitVec.toNat (Scalar.indexCast (BitVec.ofNat 32 (A.i 0).val)), b, h] inb = ksF A b h :=
  sca_eq A.arg2 A.harg2 A.x1 _ inb (A.i 0) b h (offs b h)
theorem v_sca (A : Pack Ideal) (b h : ℕ) (inb) : sca A.arg3 A.harg3 A.x2 ![BitVec.toNat (Scalar.indexCast (BitVec.ofNat 32 (A.i 0).val)), b, h] inb = vsF A b h :=
  sca_eq A.arg3 A.harg3 A.x2 _ inb (A.i 0) b h (offs b h)
theorem g_sca (A : Pack Ideal) (b h : ℕ) (inb) : sca A.arg4 A.harg4 A.x3 ![BitVec.toNat (Scalar.indexCast (BitVec.ofNat 32 (A.i 0).val)), b, h] inb = gsF A b h :=
  sca_eq A.arg4 A.harg4 A.x3 _ inb (A.i 0) b h (offs b h)

/-! ## Rows of the blocks -/

/-- Four heads of 64 tokens of a block of rows. -/
def rows256 {F : FTy → Type} {e : EltTy} (X : Vec F S1x1024x128 e) (o : ℕ) (hs : S64x16x128.Slices ![0, o, 0] S64x4x128) : Vec F S256x128 e :=
  shapeCast S256x128 (extractStridedSlice S64x4x128 ![0, o, 0] (shapeCast S64x16x128 (shapeCast S1024x128 X shapeCasts_S1x1024x128_S1024x128) shapeCasts_S1024x128_S64x16x128) hs) shapeCasts_S64x4x128_S256x128

theorem rows256_load {e : EltTy} (M : Memref sig .tc .vmem S1x6144x128 e) (hM : M.IsWhole) (x : Vec Ideal S1x6144x128 e) (off o : ℕ) (inb) (hs) (ho : o + 4 ≤ 16) (c : Fin 256) (d : Fin 128) :
    rows256 (View.readAt (Elt Ideal) M.view (Rect.unit (s := S1x6144x128) ![0, off, 0] S1x1024x128.size inb).toLoadRect (hM.unread x)) o hs (ix2 c d)
      = x (ix3 (0 : Fin 1) (⟨off + (16 * (c.val / 4) + o + c.val % 4), by have := inb 1; change off + 1024 ≤ 6144 at this; omega⟩ : Fin 6144) d) := by
  refine (rows_apply _ o hs ho c d).trans ?_
  exact load3 (p := 1) (q := 1024) (r := 128) M hM x 0 off 0 inb _ _ rfl rfl (Nat.zero_add _).symm

theorem rowsQ (A : Pack Ideal) (g a off o : ℕ) (inb) (hs : S64x16x128.Slices ![0, o, 0] S64x4x128) (hg : g < 4) (h1 : off = 1024 * a) (h2 : o = 4 * g) (c : Fin 256) (d : Fin 128) :
    rows256 (View.readAt (Elt Ideal) A.arg5.view (Rect.unit (s := S1x6144x128) ![0, off, 0] S1x1024x128.size inb).toLoadRect (A.harg5.unread A.x4)) o hs (ix2 c d)
      = Qf A (64 * a + c.val / 4) (4 * g + c.val % 4) d := by
  subst h1 h2
  exact (rows256_load A.arg5 A.harg5 A.x4 _ _ inb hs (by omega) c d).trans (rd_of _ _ _ _ _ (by dsimp only; omega))

theorem rowsG (A : Pack Ideal) (g a off o : ℕ) (inb) (hs : S64x16x128.Slices ![0, o, 0] S64x4x128) (hg : g < 4) (h1 : off = 1024 * a) (h2 : o = 4 * g) (c : Fin 256) (d : Fin 128) :
    rows256 (View.readAt (Elt Ideal) A.arg8.view (Rect.unit (s := S1x6144x128) ![0, off, 0] S1x1024x128.size inb).toLoadRect (A.harg8.unread A.x7)) o hs (ix2 c d)
      = Gf A (64 * a + c.val / 4) (4 * g + c.val % 4) d := by
  subst h1 h2
  exact (rows256_load A.arg8 A.harg8 A.x7 _ _ inb hs (by omega) c d).trans (rd_of _ _ _ _ _ (by dsimp only; omega))

theorem cast384 {e : EltTy} (X : Vec Ideal S1x384x128 e) (j : Fin 384) (d : Fin 128) : shapeCast S384x128 X shapeCasts_S1x384x128_S384x128 (ix2 j d) = X (ix3 0 j d) := by
  pointwise

theorem cast256 (X : Vec Ideal S1x1x256 .f32) (c : Fin 256) : shapeCast S1x256 X shapeCasts_S1x1x256_S1x256 (ix2 0 c) = X (ix3 0 0 c) := by
  pointwise

theorem keysK (A : Pack Ideal) (g : ℕ) (inb : ∀ a, (![g, 0, 0] : Fin 3 → ℕ) a + S1x384x128.size a ≤ S4x384x128.size a) (hg : g < 4) (j : Fin 384) (d : Fin 128) :
    (shapeCast S384x128 (A.arg14.view.readCov (bodyRun.sl.HS0_48 A) (Rect.unit (s := S4x384x128) ![g, 0, 0] S1x384x128.size inb).toLoadRect) shapeCasts_S1x384x128_S384x128 : Vec Ideal S384x128 .fp8e4m3) (ix2 j d)
      = Kf A j.val g d := by
  rw [View.readCov_eq_canon', cast384]
  refine (canonK A _).trans ((rd_of (e := .fp8e4m3) _ _ _ _ (4 * j.val + g) ?_).trans (congrArg _ (Fin.ext ?_)))
  · show 4 * (0 + 1 * j.val) + (g + 1 * 0) = _
    omega
  · show 0 + 1 * d.val = _
    omega

theorem keysV (A : Pack Ideal) (g : ℕ) (inb : ∀ a, (![g, 0, 0] : Fin 3 → ℕ) a + S1x384x128.size a ≤ S4x384x128.size a) (hg : g < 4) (j : Fin 384) (d : Fin 128) :
    (shapeCast S384x128 (A.arg15.view.readCov (bodyRun.sl.HS1_48 A) (Rect.unit (s := S4x384x128) ![g, 0, 0] S1x384x128.size inb).toLoadRect) shapeCasts_S1x384x128_S384x128 : Vec Ideal S384x128 .fp8e4m3) (ix2 j d)
      = Vf A j.val g d := by
  rw [View.readCov_eq_canon', cast384]
  refine (canonV A _).trans ((rd_of (e := .fp8e4m3) _ _ _ _ (4 * j.val + g) ?_).trans (congrArg _ (Fin.ext ?_)))
  · show 4 * (0 + 1 * j.val) + (g + 1 * 0) = _
    omega
  · show 0 + 1 * d.val = _
    omega

theorem lses (A : Pack Ideal) (g a off : ℕ) (inb : ∀ k, (![g, 0, off] : Fin 3 → ℕ) k + S1x1x256.size k ≤ S4x1x1536.size k) (hg : g < 4) (ha : a < 6) (h1 : off = 256 * a) (c : Fin 256) :
    (shapeCast S1x256 (A.arg16.view.readCov (bodyRun.sl.HS2_48 A) (Rect.unit (s := S4x1x1536) ![g, 0, off] S1x1x256.size inb).toLoadRect) shapeCasts_S1x1x256_S1x256 : Vec Ideal S1x256 .f32) (ix2 0 c)
      = Lf A (64 * a + c.val / 4) (4 * g + c.val % 4) * toBase2 := by
  subst h1
  rw [View.readCov_eq_canon', cast256, Lf, dif_pos (by omega)]
  refine (canonL A _).trans ?_
  congr 2
  refine congrArg₂ (ix3 (0 : Fin 1)) (Fin.ext ?_) (Fin.ext ?_)
  · show 4 * (g + 1 * 0) + (256 * a + 1 * c.val) % 4 = _
    dsimp only
    omega
  · show (256 * a + 1 * c.val) / 4 = _
    dsimp only
    omega

/-! ## The weights and gradients of one tile -/

theorem tile_weights (A : Pack Ideal) (g a kt bq bk : ℕ) (hb : a / 2 = bq) (hk : kt / 2 = bk) (s : FVec Ideal S64x256 .f32) (cq : FVec Ideal S1x256 .f32) (ks : EReal) (l2 : FVec Ideal S1x256 .f32)
    (hs : ∀ (r : Fin 64) (c : Fin 256), s (ix2 r c) = SF A g (64 * a + c.val / 4) (c.val % 4) (64 * kt + r.val))
    (hq : ∀ c : Fin 256, cq (ix2 0 c) = qsF A bq (4 * g + c.val % 4) * smTwo) (hks : ks = ksF A bk g)
    (hl : ∀ c : Fin 256, l2 (ix2 0 c) = Lf A (64 * a + c.val / 4) (4 * g + c.val % 4) * toBase2)
    (r : Fin 64) (c : Fin 256) : weights s cq ks l2 (ix2 r c)
      = (FloatOps.exp2 (SF A g (64 * a + c.val / 4) (c.val % 4) (64 * kt + r.val) * (qsF A ((64 * a + c.val / 4) / 128) (4 * g + c.val % 4) * smTwo * ksF A ((64 * kt + r.val) / 128) g) - Lf A (64 * a + c.val / 4) (4 * g + c.val % 4) * toBase2 : Ideal .f32) : Ideal .f32) := by
  rw [weights_apply, hs, hq, hks, hl, show (64 * a + c.val / 4) / 128 = bq by omega, show (64 * kt + r.val) / 128 = bk by omega]

theorem tile_full (A : Pack Ideal) (g a kt bq bk : ℕ) (hb : a / 2 = bq) (hk : kt / 2 = bk) (s : FVec Ideal S64x256 .f32) (cq : FVec Ideal S1x256 .f32) (ks : EReal) (l2 : FVec Ideal S1x256 .f32)
    (hs : ∀ (r : Fin 64) (c : Fin 256), s (ix2 r c) = SF A g (64 * a + c.val / 4) (c.val % 4) (64 * kt + r.val))
    (hq : ∀ c : Fin 256, cq (ix2 0 c) = qsF A bq (4 * g + c.val % 4) * smTwo) (hks : ks = ksF A bk g)
    (hl : ∀ c : Fin 256, l2 (ix2 0 c) = Lf A (64 * a + c.val / 4) (4 * g + c.val % 4) * toBase2)
    (h1 : kt < a) (h2 : a < kt + 4) (r : Fin 64) (c : Fin 256) : weights s cq ks l2 (ix2 r c) = PF A g (64 * a + c.val / 4) (c.val % 4) (64 * kt + r.val) := by
  rw [PF, if_pos (by omega)]
  exact tile_weights A g a kt bq bk hb hk s cq ks l2 hs hq hks hl r c

theorem tile_diag (A : Pack Ideal) (g a kt bq bk : ℕ) (hb : a / 2 = bq) (hk : kt / 2 = bk) (s : FVec Ideal S64x256 .f32) (cq : FVec Ideal S1x256 .f32) (ks : EReal) (l2 : FVec Ideal S1x256 .f32)
    (hs : ∀ (r : Fin 64) (c : Fin 256), s (ix2 r c) = SF A g (64 * a + c.val / 4) (c.val % 4) (64 * kt + r.val))
    (hq : ∀ c : Fin 256, cq (ix2 0 c) = qsF A bq (4 * g + c.val % 4) * smTwo) (hks : ks = ksF A bk g)
    (hl : ∀ c : Fin 256, l2 (ix2 0 c) = Lf A (64 * a + c.val / 4) (4 * g + c.val % 4) * toBase2)
    (h1 : kt = a) (r : Fin 64) (c : Fin 256) : maskDiag (weights s cq ks l2) (ix2 r c) = PF A g (64 * a + c.val / 4) (c.val % 4) (64 * kt + r.val) := by
  rw [maskDiag_apply, PF]
  split
  · rw [if_pos (by omega)]
    exact tile_weights A g a kt bq bk hb hk s cq ks l2 hs hq hks hl r c
  · rw [if_neg (by omega)]

theorem tile_edge (A : Pack Ideal) (g a kt bq bk : ℕ) (hb : a / 2 = bq) (hk : kt / 2 = bk) (s : FVec Ideal S64x256 .f32) (cq : FVec Ideal S1x256 .f32) (ks : EReal) (l2 : FVec Ideal S1x256 .f32)
    (hs : ∀ (r : Fin 64) (c : Fin 256), s (ix2 r c) = SF A g (64 * a + c.val / 4) (c.val % 4) (64 * kt + r.val))
    (hq : ∀ c : Fin 256, cq (ix2 0 c) = qsF A bq (4 * g + c.val % 4) * smTwo) (hks : ks = ksF A bk g)
    (hl : ∀ c : Fin 256, l2 (ix2 0 c) = Lf A (64 * a + c.val / 4) (4 * g + c.val % 4) * toBase2)
    (h1 : a = kt + 4) (r : Fin 64) (c : Fin 256) : maskEdge (weights s cq ks l2) (ix2 r c) = PF A g (64 * a + c.val / 4) (c.val % 4) (64 * kt + r.val) := by
  rw [maskEdge_apply, PF]
  split
  · rw [if_pos (by omega)]
    exact tile_weights A g a kt bq bk hb hk s cq ks l2 hs hq hks hl r c
  · rw [if_neg (by omega)]

theorem tile_grads (A : Pack Ideal) (g a kt bk : ℕ) (hk : kt / 2 = bk) (p dp : FVec Ideal S64x256 .f32) (dl : FVec Ideal S1x256 .f32) (vs : EReal)
    (hp : ∀ (r : Fin 64) (c : Fin 256), p (ix2 r c) = PF A g (64 * a + c.val / 4) (c.val % 4) (64 * kt + r.val))
    (hd : ∀ (r : Fin 64) (c : Fin 256), dp (ix2 r c) = DPF A g (64 * a + c.val / 4) (c.val % 4) (64 * kt + r.val))
    (hl : ∀ c : Fin 256, dl (ix2 0 c) = DLF A (64 * a + c.val / 4) (4 * g + c.val % 4)) (hv : vs = vsF A bk g) (r : Fin 64) (c : Fin 256) :
    grads p dp dl vs (ix2 r c) = GF A g (64 * a + c.val / 4) (c.val % 4) (64 * kt + r.val) := by
  rw [grads_apply, hp, hd, hl, hv, GF, show (64 * kt + r.val) / 128 = bk by omega]

/-- The scaled rows of a tile's output gradient. -/
theorem tile_doeff (A : Pack Ideal) (g a bq : ℕ) (hb : a / 2 = bq) (x : FVec Ideal S256x128 .bf16) (s0 s1 s2 s3 : Ideal .f32)
    (hx : ∀ (c : Fin 256) (d : Fin 128), x (ix2 c d) = Gf A (64 * a + c.val / 4) (4 * g + c.val % 4) d)
    (h0 : s0 = gsF A bq (4 * g + 0)) (h1 : s1 = gsF A bq (4 * g + 1)) (h2 : s2 = gsF A bq (4 * g + 2)) (h3 : s3 = gsF A bq (4 * g + 3)) (c : Fin 256) (d : Fin 128) :
    scaleRows x (heads16 s0 s1 s2 s3) (ix2 c d) = GEF A (64 * a + c.val / 4) (4 * g + c.val % 4) d := by
  rw [scaleRows_apply, hx, heads16_apply (fun h => gsF A bq (4 * g + h)) h0 h1 h2 h3, GEF, show (64 * a + c.val / 4) / 128 = bq by omega]
  show _ * gsF A bq (4 * g + c.val % 16 % 4) = _
  rw [show c.val % 16 % 4 = c.val % 4 by omega]

/-- The scaled rows of a tile's queries. -/
theorem tile_qeff (A : Pack Ideal) (g a bq : ℕ) (hb : a / 2 = bq) (x : FVec Ideal S256x128 .bf16) (q0 q1 q2 q3 s0 s1 s2 s3 : Ideal .f32)
    (hx : ∀ (c : Fin 256) (d : Fin 128), x (ix2 c d) = Qf A (64 * a + c.val / 4) (4 * g + c.val % 4) d)
    (k0 : q0 = qsF A bq (4 * g + 0)) (k1 : q1 = qsF A bq (4 * g + 1)) (k2 : q2 = qsF A bq (4 * g + 2)) (k3 : q3 = qsF A bq (4 * g + 3))
    (h0 : s0 = gsF A bq (4 * g + 0)) (h1 : s1 = gsF A bq (4 * g + 1)) (h2 : s2 = gsF A bq (4 * g + 2)) (h3 : s3 = gsF A bq (4 * g + 3)) (c : Fin 256) (d : Fin 128) :
    scaleRows x (heads16 (Scalar.mulf q0 s0) (Scalar.mulf q1 s1) (Scalar.mulf q2 s2) (Scalar.mulf q3 s3)) (ix2 c d) = QEF A (64 * a + c.val / 4) (4 * g + c.val % 4) d := by
  subst k0 k1 k2 k3 h0 h1 h2 h3
  rw [scaleRows_apply, hx, heads16_apply (s0 := Scalar.mulf _ _) (s1 := Scalar.mulf _ _) (s2 := Scalar.mulf _ _) (s3 := Scalar.mulf _ _) (fun h => qsF A bq (4 * g + h) * gsF A bq (4 * g + h)) rfl rfl rfl rfl, QEF, show (64 * a + c.val / 4) / 128 = bq by omega]
  show _ * (qsF A bq (4 * g + c.val % 16 % 4) * gsF A bq (4 * g + c.val % 16 % 4)) = _
  rw [show c.val % 16 % 4 = c.val % 4 by omega]

/-- The scores' scale, per column of a tile. -/
theorem tile_cq (A : Pack Ideal) (g bq : ℕ) (q0 q1 q2 q3 : Ideal .f32)
    (k0 : q0 = qsF A bq (4 * g + 0)) (k1 : q1 = qsF A bq (4 * g + 1)) (k2 : q2 = qsF A bq (4 * g + 2)) (k3 : q3 = qsF A bq (4 * g + 3)) (c : Fin 256) :
    heads256 (F := Ideal) (Scalar.mulf q0 (Named.named κ "sm_scale_log2e" 0x3E0293EE#32)) (Scalar.mulf q1 (Named.named κ "sm_scale_log2e" 0x3E0293EE#32)) (Scalar.mulf q2 (Named.named κ "sm_scale_log2e" 0x3E0293EE#32)) (Scalar.mulf q3 (Named.named κ "sm_scale_log2e" 0x3E0293EE#32)) (ix2 0 c)
      = qsF A bq (4 * g + c.val % 4) * smTwo := by
  subst k0 k1 k2 k3
  exact heads256_apply (fun h => qsF A bq (4 * g + h) * smTwo) rfl rfl rfl rfl c

/-- The output gradient's scale with the scores', per column of a tile. -/
theorem tile_dq (A : Pack Ideal) (g bq : ℕ) (q0 q1 q2 q3 : Ideal .f32)
    (k0 : q0 = gsF A bq (4 * g + 0)) (k1 : q1 = gsF A bq (4 * g + 1)) (k2 : q2 = gsF A bq (4 * g + 2)) (k3 : q3 = gsF A bq (4 * g + 3)) (c : Fin 256) :
    heads256 (F := Ideal) (Scalar.mulf q0 (Named.named κ "sm_scale" 0x3DB504F3#32)) (Scalar.mulf q1 (Named.named κ "sm_scale" 0x3DB504F3#32)) (Scalar.mulf q2 (Named.named κ "sm_scale" 0x3DB504F3#32)) (Scalar.mulf q3 (Named.named κ "sm_scale" 0x3DB504F3#32)) (ix2 0 c)
      = gsF A bq (4 * g + c.val % 4) * smE := by
  subst k0 k1 k2 k3
  exact heads256_apply (fun h => gsF A bq (4 * g + h) * smE) rfl rfl rfl rfl c

theorem join6 {φ : FTy} (p0 p1 p2 p3 p4 p5 : FVec Ideal S64x128 φ) (f : ℕ → Fin 128 → EReal) (h0 : ∀ (r : Fin 64) (c : Fin 128), p0 (ix2 r c) = f (64 * 0 + r.val) c) (h1 : ∀ (r : Fin 64) (c : Fin 128), p1 (ix2 r c) = f (64 * 1 + r.val) c) (h2 : ∀ (r : Fin 64) (c : Fin 128), p2 (ix2 r c) = f (64 * 2 + r.val) c) (h3 : ∀ (r : Fin 64) (c : Fin 128), p3 (ix2 r c) = f (64 * 3 + r.val) c) (h4 : ∀ (r : Fin 64) (c : Fin 128), p4 (ix2 r c) = f (64 * 4 + r.val) c) (h5 : ∀ (r : Fin 64) (c : Fin 128), p5 (ix2 r c) = f (64 * 5 + r.val) c) (hc) (j : Fin 384) (c : Fin 128) :
    (concatenate S384x128 0 [⟨S64x128, p0⟩, ⟨S64x128, p1⟩, ⟨S64x128, p2⟩, ⟨S64x128, p3⟩, ⟨S64x128, p4⟩, ⟨S64x128, p5⟩] hc : FVec Ideal S384x128 φ) (ix2 j c) = f j.val c := by
  pointwise
  split_ifs <;> simp only [h0, h1, h2, h3, h4, h5] <;> congr 1 <;> omega

end Cert.KernelIdeal.Hand
-- ==== Proof.Exact.Rows.lean ====
module

public import proofs.«01_k».proof.Proof.Exact.Spec

@[expose] public section

set_option maxRecDepth 16384

noncomputable section

namespace Cert.KernelIdeal.Hand

open Cert.KernelIdeal.Gen Idealize.ShloMosaic

/-! ## Rows kept in pairs -/

/-- 128 pairs of rows as 256 rows. -/
def joinPairs {F : FTy → Type} (X : Vec F S128x2x128 .bf16) : Vec F S256x128 .bf16 :=
  interleaveRows S256x128 (shapeCast S128x128 (rowsOfParity 0 S128x1x128 X bitcasts_S128x2x128_w16_S128x1x128_w32) shapeCasts_S128x1x128_S128x128)
    (shapeCast S128x128 (rowsOfParity 1 S128x1x128 X bitcasts_S128x2x128_w16_S128x1x128_w32) shapeCasts_S128x1x128_S128x128) bitcasts_S256x128_w16_S128x128_w32

theorem joinPairs_apply (X : Vec Ideal S128x2x128 .bf16) (c : Fin 256) (d : Fin 128) :
    joinPairs X (ix2 c d) = X (ix3 (⟨c.val / 2, by omega⟩ : Fin 128) (⟨c.val % 2, by omega⟩ : Fin 2) d) := by
  pointwise [joinPairs]
  split
  · exact congrArg (fun z : Fin 2 => X (ix3 (⟨c.val / 2, by omega⟩ : Fin 128) z d)) (Fin.ext (show 0 = c.val % 2 by omega))
  · exact congrArg (fun z : Fin 2 => X (ix3 (⟨c.val / 2, by omega⟩ : Fin 128) z d)) (Fin.ext (show 1 = c.val % 2 by omega))

/-- The pairs of a block, its leading axis dropped. -/
def repack {F : FTy → Type} (Y : Vec F S1x64x2x128 .bf16) : Vec F S64x2x128 .bf16 :=
  interleaveRows S64x2x128 (shapeCast S64x1x128 (shapeCast S64x128 (rowsOfParity 0 S1x64x1x128 Y bitcasts_S1x64x2x128_w16_S1x64x1x128_w32) shapeCasts_S1x64x1x128_S64x128) shapeCasts_S64x128_S64x1x128)
    (shapeCast S64x1x128 (shapeCast S64x128 (rowsOfParity 1 S1x64x1x128 Y bitcasts_S1x64x2x128_w16_S1x64x1x128_w32) shapeCasts_S1x64x1x128_S64x128) shapeCasts_S64x128_S64x1x128) bitcasts_S64x2x128_w16_S64x1x128_w32

theorem repack_apply (Y : Vec Ideal S1x64x2x128 .bf16) (k : Fin 64) (u : Fin 2) (d : Fin 128) : repack Y (ix3 k u d) = Y (ix4 (0 : Fin 1) k u d) := by
  pointwise [repack]
  split
  · exact congrArg (fun z : Fin 2 => Y (ix4 (0 : Fin 1) k z d)) (Fin.ext (show 0 = u.val by omega))
  · exact congrArg (fun z : Fin 2 => Y (ix4 (0 : Fin 1) k z d)) (Fin.ext (show 1 = u.val by omega))

theorem read_pairs (M : Memref sig .tc .vmem S1x6144x128 .bf16) (hM : M.IsWhole) (x : Vec Ideal S1x6144x128 .bf16) (h) (h2) (h3) (r : LoadRect S1x3072x2x128) (y : r.shape.Idx) (n : ℕ) (u : ℕ) (d : Fin 128)
    (e1 : (r.idx y 1).val = n) (e2 : (r.idx y 2).val = u) (e3 : (r.idx y 3).val = d.val) :
    View.readAt (Elt Ideal) (M.reshape S1x3072x2x128 h h2 h3).view r (hM.unread x) y = rd (e := .bf16) x (2 * n + u) d := by
  show M.view.read (Elt Ideal) (hM.unread x) (Shape.reshapeEquiv _ (r.idx y)) = _
  rw [hM.read_unread]
  show shapeCast S1x3072x2x128 x h (r.idx y) = _
  obtain ⟨p0, p1, p2, p3, e⟩ : ∃ (p0 : Fin 1) (p1 : Fin 3072) (p2 : Fin 2) (p3 : Fin 128), r.idx y = ix4 p0 p1 p2 p3 := ⟨_, _, _, _, eq_ix4 _⟩
  rw [e] at e1 e2 e3 ⊢
  change p1.val = n at e1
  change p2.val = u at e2
  change p3.val = d.val at e3
  obtain rfl : p3 = d := Fin.ext e3
  subst e1 e2
  pointwise
  exact rd_of _ _ _ _ _ (by dsimp only; omega)

/-- Two stores of alternate rows, read back. -/
theorem canon_pairs (w0 w1 : Vec Ideal S64x2x128 .bf16) (L : List (View.Piece (Elt Ideal) S128x2x128 .bf16)) (inb0) (inb1) (sp0) (sp1) (t : Fin 128) (u : Fin 2) (d : Fin 128) :
    View.canon (Val := Elt Ideal) (s := S128x2x128) (e := .bf16) ((⟨{ off := ![1, 0, 0], size := S64x2x128.size, stride := ![2, 1, 1], inb := inb1, stride_pos := sp1 }, w1⟩ : View.Piece (Elt Ideal) S128x2x128 .bf16)
      :: (⟨{ off := ![0, 0, 0], size := S64x2x128.size, stride := ![2, 1, 1], inb := inb0, stride_pos := sp0 }, w0⟩ : View.Piece (Elt Ideal) S128x2x128 .bf16) :: L) (ix3 t u d)
      = if t.val % 2 = 0 then w0 (ix3 (⟨t.val / 2, by omega⟩ : Fin 64) u d) else w1 (ix3 (⟨t.val / 2, by omega⟩ : Fin 64) u d) := by
  split
  · rename_i h
    rw [View.canon_cons_of_not_mem]
    · have e : ix3 t u d = ({ off := ![0, 0, 0], size := S64x2x128.size, stride := ![2, 1, 1], inb := inb0, stride_pos := sp0 } : Rect S128x2x128).emb (ix3 (⟨t.val / 2, by omega⟩ : Fin 64) u d) := by
        funext a
        match a with
        | ⟨0, _⟩ => exact Fin.ext (show t.val = 0 + 2 * (t.val / 2) by omega)
        | ⟨1, _⟩ => exact Fin.ext (show u.val = 0 + 1 * u.val by omega)
        | ⟨2, _⟩ => exact Fin.ext (show d.val = 0 + 1 * d.val by omega)
      rw [e]
      exact View.canon_cons_emb ({ off := ![0, 0, 0], size := S64x2x128.size, stride := ![2, 1, 1], inb := inb0, stride_pos := sp0 } : Rect S128x2x128) w0 L (ix3 (⟨t.val / 2, by omega⟩ : Fin 64) u d)
    · intro hm
      obtain ⟨x, hx⟩ := LoadRect.exists_idx_of_mem _ hm
      have h0 := congrArg (fun z : S128x2x128.Idx => (z 0).val) hx
      change 1 + 2 * (x 0).val = t.val at h0
      omega
  · rename_i h
    have e : ix3 t u d = ({ off := ![1, 0, 0], size := S64x2x128.size, stride := ![2, 1, 1], inb := inb1, stride_pos := sp1 } : Rect S128x2x128).emb (ix3 (⟨t.val / 2, by omega⟩ : Fin 64) u d) := by
      funext a
      match a with
      | ⟨0, _⟩ => exact Fin.ext (show t.val = 1 + 2 * (t.val / 2) by omega)
      | ⟨1, _⟩ => exact Fin.ext (show u.val = 0 + 1 * u.val by omega)
      | ⟨2, _⟩ => exact Fin.ext (show d.val = 0 + 1 * d.val by omega)
    rw [e]
    exact View.canon_cons_emb ({ off := ![1, 0, 0], size := S64x2x128.size, stride := ![2, 1, 1], inb := inb1, stride_pos := sp1 } : Rect S128x2x128) w1 _ (ix3 (⟨t.val / 2, by omega⟩ : Fin 64) u d)

/-- The pairs of rows of a tile of the output block. -/
def outPairs (A : Pack Ideal) (r : LoadRect S1x3072x2x128) : r.shape.Idx → EReal :=
  View.readAt (Elt Ideal) (A.arg9.reshape S1x3072x2x128 reshapes_S1x6144x128_S1x3072x2x128.1 reshapes_S1x6144x128_S1x3072x2x128.2 A.harg9.contiguous).view r (A.harg9.unread A.x8)

theorem tile_out (A : Pack Ideal) (g a b0 b1 : ℕ) (h0 : b0 = 512 * a + 2 * g) (h1 : b1 = 512 * a + 2 * g + 1) (i0) (i1) (L) (inb0) (inb1) (sp0) (sp1) (inb) (c : Fin 256) (d : Fin 128) :
    joinPairs (A.arg17.view.readCov (Val := Elt Ideal) ((⟨{ off := ![1, 0, 0], size := S64x2x128.size, stride := ![2, 1, 1], inb := inb1, stride_pos := sp1 }, repack (F := Ideal) (outPairs A ⟨![0, b1, 0, 0], S1x64x2x128.size, ![1, 8, 1, 1], i1⟩)⟩ : View.Piece (Elt Ideal) S128x2x128 .bf16)
      :: (⟨{ off := ![0, 0, 0], size := S64x2x128.size, stride := ![2, 1, 1], inb := inb0, stride_pos := sp0 }, repack (F := Ideal) (outPairs A ⟨![0, b0, 0, 0], S1x64x2x128.size, ![1, 8, 1, 1], i0⟩)⟩ : View.Piece (Elt Ideal) S128x2x128 .bf16) :: L)
      (Rect.unit (s := S128x2x128) ![0, 0, 0] S128x2x128.size inb).toLoadRect) (ix2 c d) = Of A (64 * a + c.val / 4) (4 * g + c.val % 4) d := by
  subst h0 h1
  rw [joinPairs_apply, View.readCov_eq_canon']
  have e : (Rect.unit (s := S128x2x128) ![0, 0, 0] S128x2x128.size inb).toLoadRect.idx (ix3 (⟨c.val / 2, by omega⟩ : Fin 128) (⟨c.val % 2, by omega⟩ : Fin 2) d) = ix3 (⟨c.val / 2, by omega⟩ : Fin 128) (⟨c.val % 2, by omega⟩ : Fin 2) d := by
    funext k
    match k with
    | ⟨0, _⟩ => exact Fin.ext (show 0 + 1 * (c.val / 2) = c.val / 2 by omega)
    | ⟨1, _⟩ => exact Fin.ext (show 0 + 1 * (c.val % 2) = c.val % 2 by omega)
    | ⟨2, _⟩ => exact Fin.ext (show 0 + 1 * d.val = d.val by omega)
  show View.canon _ _ = _
  rw [e, canon_pairs]
  split
  · rename_i h
    change c.val / 2 % 2 = 0 at h
    rw [repack_apply]
    refine (read_pairs A.arg9 A.harg9 A.x8 _ _ _ _ _ (512 * a + 2 * g + 8 * (c.val / 2 / 2)) (c.val % 2) d rfl ?_ ?_).trans ?_
    · show 0 + 1 * (c.val % 2) = _
      omega
    · show 0 + 1 * d.val = _
      omega
    · exact congrArg (fun n => rd (e := .bf16) A.x8 n d) (by omega)
  · rename_i h
    change ¬(c.val / 2 % 2 = 0) at h
    rw [repack_apply]
    refine (read_pairs A.arg9 A.harg9 A.x8 _ _ _ _ _ (512 * a + 2 * g + 1 + 8 * (c.val / 2 / 2)) (c.val % 2) d rfl ?_ ?_).trans ?_
    · show 0 + 1 * (c.val % 2) = _
      omega
    · show 0 + 1 * d.val = _
      omega
    · exact congrArg (fun n => rd (e := .bf16) A.x8 n d) (by omega)

/-- The products of a tile's rows of output and output gradient. -/
theorem tile_delta (A : Pack Ideal) (g a : ℕ) (x y : FVec Ideal S256x128 .bf16)
    (hx : ∀ (c : Fin 256) (d : Fin 128), x (ix2 c d) = Gf A (64 * a + c.val / 4) (4 * g + c.val % 4) d)
    (hy : ∀ (c : Fin 256) (d : Fin 128), y (ix2 c d) = Of A (64 * a + c.val / 4) (4 * g + c.val % 4) d) (c : Fin 256) :
    rowDots x y (ix2 0 c) = DLF A (64 * a + c.val / 4) (4 * g + c.val % 4) := by
  rw [rowDots_apply]
  exact Finset.sum_congr rfl fun d _ => congrArg₂ (· * ·) (hx c d) (hy c d)

/-- The keys of a group, scaled and transposed. -/
def scaledKeys {F : FTy → Type} [FloatOps F] (k : FVec F S384x128 .fp8e4m3) (s0 s1 s2 : F .f32) : FVec F S128x384 .bf16 :=
  transpose S128x384 [1, 0] (concatenate S384x128 0 [⟨S128x128, mulf (extractStridedSlice S128x128 ![0, 0] (extf .bf16 k bitsLt_fp8e4m3_bf16) slices_S384x128_o0_0_S128x128) (broadcast S128x128 (Scalar.truncf .bf16 bitsLt_bf16_f32 s0))⟩,
    ⟨S128x128, mulf (extractStridedSlice S128x128 ![128, 0] (extf .bf16 k bitsLt_fp8e4m3_bf16) slices_S384x128_o128_0_S128x128) (broadcast S128x128 (Scalar.truncf .bf16 bitsLt_bf16_f32 s1))⟩,
    ⟨S128x128, mulf (extractStridedSlice S128x128 ![256, 0] (extf .bf16 k bitsLt_fp8e4m3_bf16) slices_S384x128_o256_0_S128x128) (broadcast S128x128 (Scalar.truncf .bf16 bitsLt_bf16_f32 s2))⟩] concatenates_S128x128_S128x128_S128x128_S384x128_d0) transposes_S384x128_p1_0_S128x384

theorem scaledKeys_apply (k : FVec Ideal S384x128 .fp8e4m3) (s0 s1 s2 : EReal) (f : ℕ → EReal) (h0 : s0 = f 0) (h1 : s1 = f 1) (h2 : s2 = f 2) (d : Fin 128) (j : Fin 384) :
    scaledKeys (F := Ideal) k s0 s1 s2 (ix2 d j) = k (ix2 j d) * f (j.val / 128) := by
  subst h0 h1 h2
  pointwise [scaledKeys]
  split_ifs <;> first
    | (exfalso; rename_i h; exact h rfl)
    | exact congrArg₂ (· * ·) (congrArg (fun z : Fin 384 => k (ix2 z d)) (Fin.ext (by dsimp only; omega))) (congrArg f (by omega))
    | exact congrArg₂ (· * ·) rfl (congrArg f (by omega))

/-- A tile's gradient of the query, scaled and transposed back. -/
def scaledQ {F : FTy → Type} [FloatOps F] (x : FVec F S128x256 .f32) (s : FVec F S1x256 .f32) : FVec F S256x128 .bf16 :=
  transpose S256x128 [1, 0] (truncf .bf16 (mulf x (broadcastTo S128x256 s broadcasts_S1x256_S128x256)) bitsLt_bf16_f32) transposes_S128x256_p1_0_S256x128

theorem scaledQ_apply (x : FVec Ideal S128x256 .f32) (s : FVec Ideal S1x256 .f32) (c : Fin 256) (d : Fin 128) :
    scaledQ x s (ix2 c d) = x (ix2 d c) * s (ix2 0 c) := by
  pointwise [scaledQ]

/-- A sum over the keys of a tile is one over all keys, when the others add nothing. -/
theorem sum_keys (f : ℕ → EReal) (o R : ℕ) (ho : o + R ≤ 384) (h : ∀ j, j < 384 → ¬(o ≤ j ∧ j < o + R) → f j = 0) : ∑ r : Fin R, f (o + r.val) = ∑ j : Fin 384, f j.val := by
  rw [Fin.sum_univ_eq_sum_range (fun r => f (o + r)) R, Fin.sum_univ_eq_sum_range f 384]
  have e := Finset.sum_Ico_eq_sum_range f o (o + R)
  rw [Nat.add_sub_cancel_left] at e
  rw [← e]
  refine Finset.sum_subset (fun j hj => ?_) fun j hj hn => ?_
  · rw [Finset.mem_Ico] at hj
    rw [Finset.mem_range]
    omega
  · rw [Finset.mem_range] at hj
    rw [Finset.mem_Ico] at hn
    exact h j hj hn

end Cert.KernelIdeal.Hand
-- ==== Proof.Exact.Stores.lean ====
module

public import proofs.«01_k».proof.Proof.Exact.Rows

@[expose] public section

set_option maxRecDepth 16384

noncomputable section

namespace Cert.KernelIdeal.Hand

open Cert.KernelIdeal.Gen Idealize.ShloMosaic

/-! ## Stores, one after the other -/

/-- One more store of a row of stores, each of which leaves its part of `T`. -/
theorem store_step {k : _} {sp : _} {s : Shape} {e : EltTy} (v : View sig k sp s e) (T : s.Idx → Elt Ideal e) (nb : s.Idx → ℕ) (m : ℕ) (r : Rect s)
    (f : v.ty.Contents (Elt Ideal)) (w : r.shape.Idx → Elt Ideal e) (hin : ∀ y, nb y = m → ∃ x, r.emb x = y) (hw : ∀ x, w x = T (r.emb x))
    (h : ∀ y, nb y < m → v.read (Elt Ideal) f y = T y) (y : s.Idx) (hy : nb y < m + 1) :
    v.read (Elt Ideal) ((v.slice r).write (Elt Ideal) f w Finset.univ) y = T y := by
  by_cases hm : ∃ x, r.emb x = y
  · obtain ⟨x, rfl⟩ := hm
    rw [View.read_slice_write_emb r f w (Finset.mem_univ x), hw]
  · rw [View.read_slice_write_of_not_mem r f w Finset.univ]
    · exact h y (lt_of_le_of_ne (by omega) fun e => hm (hin y e))
    · intro hx
      obtain ⟨x, _, hx⟩ := Finset.mem_map.mp hx
      exact hm ⟨x, hx⟩

/-- Two heads of a key gradient as pairs of rows. -/
def pairTokens {F : FTy → Type} [FloatOps F] (lo hi : FVec F S384x128 .f32) : Vec F S1x384x2x128 .bf16 :=
  interleaveRows S1x384x2x128 (shapeCast S1x384x1x128 (truncf .bf16 lo bitsLt_bf16_f32) shapeCasts_S384x128_S1x384x1x128) (shapeCast S1x384x1x128 (truncf .bf16 hi bitsLt_bf16_f32) shapeCasts_S384x128_S1x384x1x128) bitcasts_S1x384x2x128_w16_S1x384x1x128_w32

theorem pairTokens_apply (lo hi : FVec Ideal S384x128 .f32) (t : Fin 384) (u : Fin 2) (d : Fin 128) :
    pairTokens (F := Ideal) lo hi (ix4 (0 : Fin 1) t u d) = if u.val = 0 then lo (ix2 t d) else hi (ix2 t d) := by
  pointwise [pairTokens]
  split_ifs <;> first | rfl | omega

theorem pairTokens_of (lo hi : FVec Ideal S384x128 .f32) (T : ℕ → ℕ → Fin 128 → EReal) (n : ℕ) (hlo : ∀ (t : Fin 384) (d : Fin 128), lo (ix2 t d) = T n t.val d) (hhi : ∀ (t : Fin 384) (d : Fin 128), hi (ix2 t d) = T (n + 1) t.val d)
    (t : Fin 384) (u : Fin 2) (d : Fin 128) : pairTokens (F := Ideal) lo hi (ix4 (0 : Fin 1) t u d) = T (n + u.val) t.val d := by
  rw [pairTokens_apply]
  split_ifs with h
  · rw [hlo, h, Nat.add_zero]
  · rw [hhi, show u.val = 1 by omega]

/-- Both stores of an output of keys leave the heads' rows. -/
theorem tokens_out (M : Memref sig .tc .vmem S1x1536x128 .bf16) (h) (h2) (h3) (f : M.view.ty.Contents (Elt Ideal)) (p0 p1 : Vec Ideal S1x384x2x128 .bf16) (inb0) (inb1) (sp0) (sp1) (T : ℕ → ℕ → Fin 128 → EReal)
    (e0 : ∀ (t : Fin 384) (u : Fin 2) (d : Fin 128), p0 (ix4 (0 : Fin 1) t u d) = T (0 + u.val) t.val d) (e1 : ∀ (t : Fin 384) (u : Fin 2) (d : Fin 128), p1 (ix4 (0 : Fin 1) t u d) = T (2 + u.val) t.val d) (r : Fin 1536) (d : Fin 128) :
    M.view.read (Elt Ideal) (View.write (Elt Ideal) ((M.reshape S1x768x2x128 h h2 h3).access { off := ![0, 1, 0, 0], size := S1x384x2x128.size, stride := ![1, 2, 1, 1], inb := inb1, stride_pos := sp1 })
      (View.write (Elt Ideal) ((M.reshape S1x768x2x128 h h2 h3).access { off := ![0, 0, 0, 0], size := S1x384x2x128.size, stride := ![1, 2, 1, 1], inb := inb0, stride_pos := sp0 }) f p0 Finset.univ) p1 Finset.univ) (ix3 (0 : Fin 1) r d)
      = T (r.val % 4) (r.val / 4) d := by
  have p : ∀ x : Vec Ideal S1x1536x128 .bf16, shapeCast S1x768x2x128 x h (ix4 (0 : Fin 1) (⟨r.val / 2, by omega⟩ : Fin 768) (⟨r.val % 2, by omega⟩ : Fin 2) d) = x (ix3 (0 : Fin 1) r d) := by
    intro x
    pointwise
  refine (p _).symm.trans ?_
  refine (store_step (M.reshape S1x768x2x128 h h2 h3).view (fun y => T (2 * ((y 1).val % 2) + (y 2).val) ((y 1).val / 2) (y 3)) (fun y => (y 1).val % 2) 1
    { off := ![0, 1, 0, 0], size := S1x384x2x128.size, stride := ![1, 2, 1, 1], inb := inb1, stride_pos := sp1 } _ p1 ?_ ?_
    (store_step (M.reshape S1x768x2x128 h h2 h3).view (fun y => T (2 * ((y 1).val % 2) + (y 2).val) ((y 1).val / 2) (y 3)) (fun y => (y 1).val % 2) 0
    { off := ![0, 0, 0, 0], size := S1x384x2x128.size, stride := ![1, 2, 1, 1], inb := inb0, stride_pos := sp0 } f p0 ?_ ?_ (fun y hy => absurd hy (by omega)))
    (ix4 (0 : Fin 1) (⟨r.val / 2, by omega⟩ : Fin 768) (⟨r.val % 2, by omega⟩ : Fin 2) d) (show r.val / 2 % 2 < 2 by omega)).trans ?_
  · intro y hy
    obtain ⟨y0, y1, y2, y3, rfl⟩ : ∃ (a : Fin 1) (b : Fin 768) (c : Fin 2) (e : Fin 128), y = ix4 a b c e := ⟨y 0, y 1, y 2, y 3, eq_ix4 y⟩
    change y1.val % 2 = 1 at hy
    refine ⟨ix4 (0 : Fin 1) (⟨y1.val / 2, by omega⟩ : Fin 384) y2 y3, ?_⟩
    funext a
    match a with
    | ⟨0, _⟩ => exact Fin.ext (show 0 + 1 * 0 = y0.val by omega)
    | ⟨1, _⟩ => exact Fin.ext (show 1 + 2 * (y1.val / 2) = y1.val by omega)
    | ⟨2, _⟩ => exact Fin.ext (show 0 + 1 * y2.val = y2.val by omega)
    | ⟨3, _⟩ => exact Fin.ext (show 0 + 1 * y3.val = y3.val by omega)
  · intro x
    obtain ⟨x0, x1, x2, x3, rfl⟩ : ∃ (a : Fin 1) (b : Fin 384) (c : Fin 2) (e : Fin 128), x = ix4 a b c e := ⟨x 0, x 1, x 2, x 3, eq_ix4 x⟩
    obtain rfl : x0 = 0 := Subsingleton.elim _ _
    rw [e1]
    show T (2 + x2.val) x1.val x3 = T (2 * ((1 + 2 * x1.val) % 2) + (0 + 1 * x2.val)) ((1 + 2 * x1.val) / 2) ⟨0 + 1 * x3.val, _⟩
    congr 1
    all_goals first | omega | exact Fin.ext (by dsimp only; omega)
  · intro y hy
    obtain ⟨y0, y1, y2, y3, rfl⟩ : ∃ (a : Fin 1) (b : Fin 768) (c : Fin 2) (e : Fin 128), y = ix4 a b c e := ⟨y 0, y 1, y 2, y 3, eq_ix4 y⟩
    change y1.val % 2 = 0 at hy
    refine ⟨ix4 (0 : Fin 1) (⟨y1.val / 2, by omega⟩ : Fin 384) y2 y3, ?_⟩
    funext a
    match a with
    | ⟨0, _⟩ => exact Fin.ext (show 0 + 1 * 0 = y0.val by omega)
    | ⟨1, _⟩ => exact Fin.ext (show 0 + 2 * (y1.val / 2) = y1.val by omega)
    | ⟨2, _⟩ => exact Fin.ext (show 0 + 1 * y2.val = y2.val by omega)
    | ⟨3, _⟩ => exact Fin.ext (show 0 + 1 * y3.val = y3.val by omega)
  · intro x
    obtain ⟨x0, x1, x2, x3, rfl⟩ : ∃ (a : Fin 1) (b : Fin 384) (c : Fin 2) (e : Fin 128), x = ix4 a b c e := ⟨x 0, x 1, x 2, x 3, eq_ix4 x⟩
    obtain rfl : x0 = 0 := Subsingleton.elim _ _
    rw [e0]
    show T (0 + x2.val) x1.val x3 = T (2 * ((0 + 2 * x1.val) % 2) + (0 + 1 * x2.val)) ((0 + 2 * x1.val) / 2) ⟨0 + 1 * x3.val, _⟩
    congr 1
    all_goals first | omega | exact Fin.ext (by dsimp only; omega)
  · show T (2 * (r.val / 2 % 2) + r.val % 2) (r.val / 2 / 2) d = _
    exact congrArg₂ (fun a b => T a b d) (by omega) (by omega)

/-- A plane of the scratch of two, read back: the first. -/
theorem plane_one (M : Memref sig .tc .vmem S2x384x128 .f32) (y : FVec Ideal S384x128 .f32) (L) (i1) (hc) (hd) (t : Fin 384) (d : Fin 128) :
    (shapeCast S384x128 (M.view.readCov (Val := Elt Ideal) ((⟨Rect.unit (s := S2x384x128) ![1, 0, 0] S1x384x128.size i1, shapeCast S1x384x128 y hc⟩ : View.Piece (Elt Ideal) S2x384x128 .f32) :: L)
      (Rect.unit (s := S2x384x128) ![1, 0, 0] S1x384x128.size i1).toLoadRect) hd : FVec Ideal S384x128 .f32) (ix2 t d) = y (ix2 t d) := by
  rw [View.readCov_eq_canon']
  have p : ∀ z : FVec Ideal S1x384x128 .f32, (shapeCast S384x128 z hd : FVec Ideal S384x128 .f32) (ix2 t d) = z (ix3 (0 : Fin 1) t d) := by
    intro z
    pointwise
  refine (p _).trans ?_
  refine (View.canon_cons_emb (Rect.unit (s := S2x384x128) ![1, 0, 0] S1x384x128.size i1) _ L (ix3 (0 : Fin 1) t d)).trans ?_
  pointwise

theorem plane_zero (M : Memref sig .tc .vmem S2x384x128 .f32) (x : FVec Ideal S384x128 .f32) (y : FVec Ideal S1x384x128 .f32) (L) (i0) (i1) (hc) (hd) (t : Fin 384) (d : Fin 128) :
    (shapeCast S384x128 (M.view.readCov (Val := Elt Ideal) ((⟨Rect.unit (s := S2x384x128) ![1, 0, 0] S1x384x128.size i1, y⟩ : View.Piece (Elt Ideal) S2x384x128 .f32)
      :: (⟨Rect.unit (s := S2x384x128) ![0, 0, 0] S1x384x128.size i0, shapeCast S1x384x128 x hc⟩ : View.Piece (Elt Ideal) S2x384x128 .f32) :: L)
      (Rect.unit (s := S2x384x128) ![0, 0, 0] S1x384x128.size i0).toLoadRect) hd : FVec Ideal S384x128 .f32) (ix2 t d) = x (ix2 t d) := by
  rw [View.readCov_eq_canon']
  have p : ∀ z : FVec Ideal S1x384x128 .f32, (shapeCast S384x128 z hd : FVec Ideal S384x128 .f32) (ix2 t d) = z (ix3 (0 : Fin 1) t d) := by
    intro z
    pointwise
  refine (p _).trans ?_
  show View.canon _ ((Rect.unit (s := S2x384x128) ![0, 0, 0] S1x384x128.size i0).emb (ix3 (0 : Fin 1) t d)) = _
  rw [View.canon_cons_of_not_mem]
  · refine (View.canon_cons_emb (Rect.unit (s := S2x384x128) ![0, 0, 0] S1x384x128.size i0) _ L (ix3 (0 : Fin 1) t d)).trans ?_
    pointwise
  · intro hm
    obtain ⟨x, hx⟩ := LoadRect.exists_idx_of_mem _ hm
    have h0 := congrArg (fun z : S2x384x128.Idx => (z 0).val) hx
    change 1 + 1 * (x 0).val = 0 + 1 * 0 at h0
    omega

/-- Six tiles of keys, one below the other. -/
def stackTiles {F : FTy → Type} (p0 p1 p2 p3 p4 p5 : FVec F S64x128 .f32) : FVec F S384x128 .f32 :=
  concatenate S384x128 0 [⟨S64x128, p0⟩, ⟨S64x128, p1⟩, ⟨S64x128, p2⟩, ⟨S64x128, p3⟩, ⟨S64x128, p4⟩, ⟨S64x128, p5⟩] concatenates_S64x128_S64x128_S64x128_S64x128_S64x128_S64x128_S384x128_d0

/-- A tile of the key gradient, scaled. -/
def scaledTile {F : FTy → Type} [FloatOps F] [Named F] (p : FVec F S64x128 .f32) (s : F .f32) : FVec F S64x128 .f32 :=
  mulf p (broadcast S64x128 (Scalar.mulf s (Named.named κ "sm_scale" 0x3DB504F3#32)))

theorem scaledTile_apply (p : FVec Ideal S64x128 .f32) (s : EReal) (r : Fin 64) (d : Fin 128) : scaledTile (F := Ideal) p s (ix2 r d) = p (ix2 r d) * (s * smE) := rfl

/-- A tile of the query gradient as pairs of rows. -/
def dqPairs {F : FTy → Type} (X : FVec F S256x128 .bf16) : Vec F S128x2x128 .bf16 :=
  interleaveRows S128x2x128 (shapeCast S128x1x128 (rowsOfParity 0 S128x128 X bitcasts_S256x128_w16_S128x128_w32 : FVec F S128x128 .bf16) shapeCasts_S128x128_S128x1x128)
    (shapeCast S128x1x128 (rowsOfParity 1 S128x128 X bitcasts_S256x128_w16_S128x128_w32 : FVec F S128x128 .bf16) shapeCasts_S128x128_S128x1x128) bitcasts_S128x2x128_w16_S128x1x128_w32

theorem dqPairs_apply (X : FVec Ideal S256x128 .bf16) (k : Fin 128) (u : Fin 2) (d : Fin 128) : dqPairs X (ix3 k u d) = X (ix2 (⟨2 * k.val + u.val, by omega⟩ : Fin 256) d) := by
  pointwise [dqPairs]
  split <;> exact congrArg (fun z : Fin 256 => X (ix2 z d)) (Fin.ext (by dsimp only; omega))

/-- Every other pair, stored under a leading axis. -/
def dqTile {F : FTy → Type} (R : Vec F S64x2x128 .bf16) : Vec F S1x64x2x128 .bf16 :=
  interleaveRows S1x64x2x128 (shapeCast S1x64x1x128 (shapeCast S64x128 (rowsOfParity 0 S64x1x128 R bitcasts_S64x2x128_w16_S64x1x128_w32) shapeCasts_S64x1x128_S64x128) shapeCasts_S64x128_S1x64x1x128)
    (shapeCast S1x64x1x128 (shapeCast S64x128 (rowsOfParity 1 S64x1x128 R bitcasts_S64x2x128_w16_S64x1x128_w32) shapeCasts_S64x1x128_S64x128) shapeCasts_S64x128_S1x64x1x128) bitcasts_S1x64x2x128_w16_S1x64x1x128_w32

theorem dqTile_apply (R : Vec Ideal S64x2x128 .bf16) (k : Fin 64) (u : Fin 2) (d : Fin 128) : dqTile R (ix4 (0 : Fin 1) k u d) = R (ix3 k u d) := by
  pointwise [dqTile]
  split
  · exact congrArg (fun z : Fin 2 => R (ix3 k z d)) (Fin.ext (show 0 = u.val by omega))
  · exact congrArg (fun z : Fin 2 => R (ix3 k z d)) (Fin.ext (show 1 = u.val by omega))

/-- Row `y` of the pairs of the query gradient. -/
def dqRow (A : Pack Ideal) (y : S1x3072x2x128.Idx) : EReal := DQ A ((y 1).val % 8 / 2) ((y 1).val / 8) (2 * ((y 1).val % 2) + (y 2).val) (y 3)
/-- The store that writes it. -/
def dqStore (y : S1x3072x2x128.Idx) : ℕ := 12 * ((y 1).val % 8 / 2) + 2 * ((y 1).val / 512) + (y 1).val % 2

/-- The pairs of the query gradient's block. -/
abbrev dqView (A : Pack Ideal) : View sig .tc .vmem S1x3072x2x128 .bf16 :=
  (A.arg11.reshape S1x3072x2x128 reshapes_S1x6144x128_S1x3072x2x128.1 reshapes_S1x6144x128_S1x3072x2x128.2 A.harg11.contiguous).view

/-- One more store of the query gradient. -/
theorem dq_store (A : Pack Ideal) (g a p b m : ℕ) (hb : b = 512 * a + 2 * g + p) (hm : m = 12 * g + 2 * a + p) (hg : g < 4) (ha : a < 6) (hp : p < 2) (inb) (sp) (X : FVec Ideal S256x128 .bf16)
    (hX : ∀ (c : Fin 256) (d : Fin 128), X (ix2 c d) = DQ A g (64 * a + c.val / 4) (c.val % 4) d) (L : List (View.Piece (Elt Ideal) S128x2x128 .bf16)) (i0) (i1) (f : (dqView A).ty.Contents (Elt Ideal))
    (h : ∀ y, dqStore y < m → (dqView A).read (Elt Ideal) f y = dqRow A y) (y : S1x3072x2x128.Idx) (hy : dqStore y < m + 1) :
    (dqView A).read (Elt Ideal) (((dqView A).slice { off := ![0, b, 0, 0], size := S1x64x2x128.size, stride := ![1, 8, 1, 1], inb := inb, stride_pos := sp }).write (Elt Ideal) f
      (dqTile (F := Ideal) (A.arg18.view.readCov (Val := Elt Ideal) ((⟨Rect.unit (s := S128x2x128) ![0, 0, 0] S128x2x128.size i0, dqPairs (F := Ideal) X⟩ : View.Piece (Elt Ideal) S128x2x128 .bf16) :: L)
        (⟨![p, 0, 0], S64x2x128.size, ![2, 1, 1], i1⟩ : LoadRect S128x2x128))) Finset.univ) y = dqRow A y := by
  subst hb hm
  refine store_step (dqView A) (dqRow A) dqStore (12 * g + 2 * a + p) _ f _ ?_ ?_ h y hy
  · intro y hy
    obtain ⟨y0, y1, y2, y3, rfl⟩ : ∃ (a : Fin 1) (b : Fin 3072) (c : Fin 2) (e : Fin 128), y = ix4 a b c e := ⟨y 0, y 1, y 2, y 3, eq_ix4 y⟩
    change 12 * (y1.val % 8 / 2) + 2 * (y1.val / 512) + y1.val % 2 = _ at hy
    refine ⟨ix4 (0 : Fin 1) (⟨y1.val % 512 / 8, by omega⟩ : Fin 64) y2 y3, ?_⟩
    funext k
    match k with
    | ⟨0, _⟩ => exact Fin.ext (show 0 + 1 * 0 = y0.val by omega)
    | ⟨1, _⟩ => exact Fin.ext (show 512 * a + 2 * g + p + 8 * (y1.val % 512 / 8) = y1.val by omega)
    | ⟨2, _⟩ => exact Fin.ext (show 0 + 1 * y2.val = y2.val by omega)
    | ⟨3, _⟩ => exact Fin.ext (show 0 + 1 * y3.val = y3.val by omega)
  · intro x
    obtain ⟨x0, x1, x2, x3, rfl⟩ : ∃ (a : Fin 1) (b : Fin 64) (c : Fin 2) (e : Fin 128), x = ix4 a b c e := ⟨x 0, x 1, x 2, x 3, eq_ix4 x⟩
    obtain rfl : x0 = 0 := Subsingleton.elim _ _
    refine (dqTile_apply _ x1 x2 x3).trans ?_
    rw [View.readCov_eq_canon']
    have e : (⟨![p, 0, 0], S64x2x128.size, ![2, 1, 1], i1⟩ : LoadRect S128x2x128).idx (ix3 x1 x2 x3) = (Rect.unit (s := S128x2x128) ![0, 0, 0] S128x2x128.size i0).emb (ix3 (⟨p + 2 * x1.val, by omega⟩ : Fin 128) x2 x3) := by
      funext k
      match k with
      | ⟨0, _⟩ => exact Fin.ext (show p + 2 * x1.val = 0 + 1 * (p + 2 * x1.val) by omega)
      | ⟨1, _⟩ => exact Fin.ext (show 0 + 1 * x2.val = 0 + 1 * x2.val by omega)
      | ⟨2, _⟩ => exact Fin.ext (show 0 + 1 * x3.val = 0 + 1 * x3.val by omega)
    show View.canon _ _ = _
    rw [e]
    refine (View.canon_cons_emb (Rect.unit (s := S128x2x128) ![0, 0, 0] S128x2x128.size i0) _ L (ix3 (⟨p + 2 * x1.val, by omega⟩ : Fin 128) x2 x3)).trans ?_
    rw [dqPairs_apply, hX]
    show DQ A g (64 * a + (2 * (p + 2 * x1.val) + x2.val) / 4) ((2 * (p + 2 * x1.val) + x2.val) % 4) x3 = DQ A ((512 * a + 2 * g + p + 8 * x1.val) % 8 / 2) ((512 * a + 2 * g + p + 8 * x1.val) / 8) (2 * ((512 * a + 2 * g + p + 8 * x1.val) % 2) + (0 + 1 * x2.val)) ⟨0 + 1 * x3.val, _⟩
    congr 1
    all_goals first | omega | exact Fin.ext (by dsimp only; omega)

/-- All stores of the query gradient leave its rows. -/
theorem dq_rows (A : Pack Ideal) (f : (dqView A).ty.Contents (Elt Ideal)) (h : ∀ y, dqStore y < 48 → (dqView A).read (Elt Ideal) f y = dqRow A y) (r : Fin 6144) (d : Fin 128) :
    A.arg11.view.read (Elt Ideal) f (ix3 (0 : Fin 1) r d) = DQ A (r.val % 16 / 4) (r.val / 16) (r.val % 4) d := by
  have p : ∀ x : Vec Ideal S1x6144x128 .bf16, shapeCast S1x3072x2x128 x reshapes_S1x6144x128_S1x3072x2x128.1 (ix4 (0 : Fin 1) (⟨r.val / 2, by omega⟩ : Fin 3072) (⟨r.val % 2, by omega⟩ : Fin 2) d) = x (ix3 (0 : Fin 1) r d) := by
    intro x
    pointwise
  refine (p _).symm.trans ?_
  refine (h (ix4 (0 : Fin 1) (⟨r.val / 2, by omega⟩ : Fin 3072) (⟨r.val % 2, by omega⟩ : Fin 2) d) (show 12 * (r.val / 2 % 8 / 2) + 2 * (r.val / 2 / 512) + r.val / 2 % 2 < 48 by omega)).trans ?_
  show DQ A (r.val / 2 % 8 / 2) (r.val / 2 / 8) (2 * (r.val / 2 % 2) + r.val % 2) d = _
  congr 1 <;> omega

end Cert.KernelIdeal.Hand
-- ==== Proof.Exact.Steps.lean ====
/- Steps of the unrolled body, stated once: loaded scales, cut and stacked tiles, sums over tiles. -/
module

public import proofs.«01_k».proof.Proof.Exact.Rows

@[expose] public section

set_option maxRecDepth 16384

noncomputable section

namespace Cert.KernelIdeal.Hand

open Cert.KernelIdeal.Gen Idealize.ShloMosaic

/-- The query scale at `off`. -/
abbrev qsc (A : Pack Ideal) {off : Fin 3 → ℕ} (inb : ∀ a, off a + S1x1x1.size a ≤ S6x3x16.size a) : Ideal .f32 := sca A.arg1 A.harg1 A.x0 off inb

/-- The output gradient's scale at `off`. -/
abbrev gsc (A : Pack Ideal) {off : Fin 3 → ℕ} (inb : ∀ a, off a + S1x1x1.size a ≤ S6x3x16.size a) : Ideal .f32 := sca A.arg4 A.harg4 A.x3 off inb

/-- A row of four heads' scales, each times the scale of the scores in base two. -/
abbrev headsTwo (s0 s1 s2 s3 : Ideal .f32) : FVec Ideal S1x256 .f32 :=
  heads256 (F := Ideal) (Scalar.mulf (F := Ideal) (φ := .f32) s0 (Named.named κ "sm_scale_log2e" 0x3E0293EE#32)) (Scalar.mulf (F := Ideal) (φ := .f32) s1 (Named.named κ "sm_scale_log2e" 0x3E0293EE#32))
    (Scalar.mulf (F := Ideal) (φ := .f32) s2 (Named.named κ "sm_scale_log2e" 0x3E0293EE#32)) (Scalar.mulf (F := Ideal) (φ := .f32) s3 (Named.named κ "sm_scale_log2e" 0x3E0293EE#32))

/-- A row of four heads' scales, each times the scale of the scores. -/
abbrev headsOne (s0 s1 s2 s3 : Ideal .f32) : FVec Ideal S1x256 .f32 :=
  heads256 (F := Ideal) (Scalar.mulf (F := Ideal) (φ := .f32) s0 (Named.named κ "sm_scale" 0x3DB504F3#32)) (Scalar.mulf (F := Ideal) (φ := .f32) s1 (Named.named κ "sm_scale" 0x3DB504F3#32))
    (Scalar.mulf (F := Ideal) (φ := .f32) s2 (Named.named κ "sm_scale" 0x3DB504F3#32)) (Scalar.mulf (F := Ideal) (φ := .f32) s3 (Named.named κ "sm_scale" 0x3DB504F3#32))

/-- Rows of four heads' products of two scales. -/
abbrev headsBoth (q0 q1 q2 q3 s0 s1 s2 s3 : Ideal .f32) :=
  heads16 (Scalar.mulf (F := Ideal) (φ := .f32) q0 s0) (Scalar.mulf (F := Ideal) (φ := .f32) q1 s1) (Scalar.mulf (F := Ideal) (φ := .f32) q2 s2) (Scalar.mulf (F := Ideal) (φ := .f32) q3 s3)

/-- One store of a tile's output rows: the word rows from `b` on, at the rows of parity `p`. -/
abbrev outPiece (A : Pack Ideal) (p b : ℕ) (inb : ∀ a, S64x2x128.size a = 0 ∨ (![p, 0, 0] : Fin 3 → ℕ) a + (![2, 1, 1] : Fin 3 → ℕ) a * (S64x2x128.size a - 1) < S128x2x128.size a)
    (inb2 : ∀ a, S1x64x2x128.size a = 0 ∨ (![0, b, 0, 0] : Fin 4 → ℕ) a + (![1, 8, 1, 1] : Fin 4 → ℕ) a * (S1x64x2x128.size a - 1) < S1x3072x2x128.size a) : View.Piece (Elt Ideal) S128x2x128 .bf16 :=
  ⟨{ off := ![p, 0, 0], size := S64x2x128.size, stride := ![2, 1, 1], inb := inb, stride_pos := by decide }, repack (F := Ideal) (outPairs A ⟨![0, b, 0, 0], S1x64x2x128.size, ![1, 8, 1, 1], inb2⟩)⟩

/-! ## Cuts and stacks -/

/-- A cut of 64 rows, entry by entry. -/
theorem cut_rows {N M : ℕ} {φ : FTy} (x : FVec Ideal ⟨2, ![N, M]⟩ φ) (o : ℕ) (hs : Shape.Slices ⟨2, ![N, M]⟩ ![o, 0] ⟨2, ![64, M]⟩) (r : Fin 64) (c : Fin M) :
    ∃ h : o + r.val < N, extractStridedSlice ⟨2, ![64, M]⟩ ![o, 0] x hs (ix2 r c) = x (ix2 (⟨o + r.val, h⟩ : Fin N) c) := by
  have hb : o + 64 ≤ N := hs.2 0
  refine ⟨by omega, congrArg x (funext fun a => ?_)⟩
  match a with
  | 0 => rfl
  | 1 => exact Fin.ext (Nat.zero_add c.val)

variable {A : Pack Ideal} {g a k o kt : ℕ}

theorem cutSF {N : ℕ} {x : FVec Ideal ⟨2, ![N, 256]⟩ .f32} {hs : Shape.Slices ⟨2, ![N, 256]⟩ ![o, 0] ⟨2, ![64, 256]⟩}
    (hx : ∀ (j : Fin N) (c : Fin 256), x (ix2 j c) = SF A g (64 * a + c.val / 4) (c.val % 4) (k + j.val)) (h : k + o = 64 * kt := by omega) (r : Fin 64) (c : Fin 256) :
    extractStridedSlice ⟨2, ![64, 256]⟩ ![o, 0] x hs (ix2 r c) = SF A g (64 * a + c.val / 4) (c.val % 4) (64 * kt + r.val) := by
  obtain ⟨_, e⟩ := cut_rows x o hs r c
  rw [e, hx, ← h, Nat.add_assoc]

theorem cutDPF {N : ℕ} {x : FVec Ideal ⟨2, ![N, 256]⟩ .f32} {hs : Shape.Slices ⟨2, ![N, 256]⟩ ![o, 0] ⟨2, ![64, 256]⟩}
    (hx : ∀ (j : Fin N) (c : Fin 256), x (ix2 j c) = DPF A g (64 * a + c.val / 4) (c.val % 4) (k + j.val)) (h : k + o = 64 * kt := by omega) (r : Fin 64) (c : Fin 256) :
    extractStridedSlice ⟨2, ![64, 256]⟩ ![o, 0] x hs (ix2 r c) = DPF A g (64 * a + c.val / 4) (c.val % 4) (64 * kt + r.val) := by
  obtain ⟨_, e⟩ := cut_rows x o hs r c
  rw [e, hx, ← h, Nat.add_assoc]

/-- A tile of weights, at its place in the stack. -/
theorem rowPF {p : S64x256.Idx → EReal} (hp : ∀ (r : Fin 64) (c : Fin 256), p (ix2 r c) = PF A g (64 * a + c.val / 4) (c.val % 4) (64 * kt + r.val)) (h : 64 * kt = k + o := by omega) (r : Fin 64) (c : Fin 256) :
    p (ix2 r c) = PF A g (64 * a + c.val / 4) (c.val % 4) (k + (o + r.val)) := by
  rw [hp, h, Nat.add_assoc]

/-- A tile of score gradients, at its place in the stack. -/
theorem rowGF {p : S64x256.Idx → EReal} (hp : ∀ (r : Fin 64) (c : Fin 256), p (ix2 r c) = GF A g (64 * a + c.val / 4) (c.val % 4) (64 * kt + r.val)) (h : 64 * kt = k + o := by omega) (r : Fin 64) (c : Fin 256) :
    p (ix2 r c) = GF A g (64 * a + c.val / 4) (c.val % 4) (k + (o + r.val)) := by
  rw [hp, h, Nat.add_assoc]

/-! ## Sums over query tiles -/

/-- `f lo + … + f (lo + n)`, from the left. -/
def tiles (f : ℕ → EReal) (lo : ℕ) : ℕ → EReal
  | 0 => f lo
  | n + 1 => tiles f lo n + f (lo + n + 1)

/-- Row `r` of key tile `kt`, summed over the query tiles `kt … kt + n`. -/
def sumT (f : ℕ → ℕ → Fin 128 → EReal) (kt n : ℕ) (r : Fin 64) (d : Fin 128) : EReal := tiles (fun a => f a (64 * kt + r.val) d) kt n

abbrev DVT (A : Pack Ideal) (g kt n : ℕ) (r : Fin 64) (d : Fin 128) : EReal := sumT (DVF A g) kt n r d
abbrev DKT (A : Pack Ideal) (g kt n : ℕ) (r : Fin 64) (d : Fin 128) : EReal := sumT (DKF A g) kt n r d

variable {f : ℕ → ℕ → Fin 128 → EReal} {n : ℕ} {r : Fin 64} {d : Fin 128}

/-- The first tile's part, uncut. -/
theorem one_tile {p : FVec Ideal S64x128 .f32} (hp : ∀ (j : Fin 64) (d : Fin 128), p (ix2 j d) = f kt (k + j.val) d) (h : k = 64 * kt := by omega) : p (ix2 r d) = sumT f kt 0 r d := by
  rw [hp, h]; rfl

/-- The first tile's part. -/
theorem first_tile {N : ℕ} {p : FVec Ideal ⟨2, ![N, 128]⟩ .f32} {hs : Shape.Slices ⟨2, ![N, 128]⟩ ![o, 0] ⟨2, ![64, 128]⟩}
    (hp : ∀ (j : Fin N) (d : Fin 128), p (ix2 j d) = f kt (k + j.val) d) (h : k + o = 64 * kt := by omega) :
    extractStridedSlice ⟨2, ![64, 128]⟩ ![o, 0] p hs (ix2 r d) = sumT f kt 0 r d := by
  obtain ⟨_, e⟩ := cut_rows p o hs r d
  rw [e, hp, ← Nat.add_assoc, h]; rfl

/-- One more tile's part, added. -/
theorem add_tile {N : ℕ} {x : FVec Ideal S64x128 .f32} {p : FVec Ideal ⟨2, ![N, 128]⟩ .f32} {hs : Shape.Slices ⟨2, ![N, 128]⟩ ![o, 0] ⟨2, ![64, 128]⟩}
    (hx : x (ix2 r d) = sumT f kt n r d) (hp : ∀ (j : Fin N) (d : Fin 128), p (ix2 j d) = f (kt + n + 1) (k + j.val) d) (h : k + o = 64 * kt := by omega) :
    addf (F := Ideal) (φ := .f32) x (extractStridedSlice S64x128 ![o, 0] p hs) (ix2 r d) = sumT f kt (n + 1) r d := by
  refine congrArg₂ (· + ·) hx ?_
  obtain ⟨_, e⟩ := cut_rows p o hs r d
  exact e.trans ((hp _ _).trans (congrArg (f (kt + n + 1) · d) (by dsimp only; omega)))

end Cert.KernelIdeal.Hand

end
-- ==== Proof.Exact.Weights0.lean ====
/- Head group 0: the weights and the value gradient's sums, tile by tile, by the lemmas of one tile. -/
module

public import proofs.«01_k».proof.Proof.Exact.Steps

@[expose] public section

set_option maxRecDepth 16384

noncomputable section

namespace Cert.KernelIdeal.Hand

open Cert.KernelIdeal.Gen Idealize.ShloMosaic
open bodyRun.sl

variable (A : Pack Ideal) (c : Fin 256) (d : Fin 128)

theorem kg_0 (j : Fin 384) (d : Fin 128) : v2715 A (ix2 j d) = Kf A j.val 0 d :=
  keysK A 0 inb_S4x384x128_S1x384x128_0_0_0 (by decide) j d

/-! ### Group 0, tokens from 0 -/

theorem qt_0_0 : v2768 A (ix2 c d) = Qf A (64 * 0 + c.val / 4) (4 * 0 + c.val % 4) d :=
  rowsQ A 0 0 0 0 inb_S1x6144x128_S1x1024x128_0_0_0 slices_S64x16x128_o0_0_0_S64x4x128 (by decide) (by decide) (by decide) c d

theorem dt_0_0 : v2773 A (ix2 c d) = Gf A (64 * 0 + c.val / 4) (4 * 0 + c.val % 4) d :=
  rowsG A 0 0 0 0 inb_S1x6144x128_S1x1024x128_0_0_0 slices_S64x16x128_o0_0_0_S64x4x128 (by decide) (by decide) (by decide) c d

theorem l2_0_0 : v2845 A (ix2 0 c) = Lf A (64 * 0 + c.val / 4) (4 * 0 + c.val % 4) * toBase2 :=
  lses A 0 0 0 inb_S4x1x1536_S1x1x256_0_0_0 (by decide) (by decide) (by decide) c

theorem doeff_0_0 : v2915 A (ix2 c d) = GEF A (64 * 0 + c.val / 4) (4 * 0 + c.val % 4) d := by
  rw [show (v2915 A) = scaleRows (extf .bf16 (v2773 A) bitsLt_fp8e5m2_bf16) (heads16 (gsc A (k0_off4_inb A.i)) (gsc A (k0_off5_inb A.i)) (gsc A (k0_off6_inb A.i)) (gsc A (k0_off7_inb A.i))) from rfl]
  exact tile_doeff A 0 0 0 rfl _ _ _ _ _ (dt_0_0 A) (g_sca A 0 0 _) (g_sca A 0 1 _) (g_sca A 0 2 _) (g_sca A 0 3 _) c d

def cqn_0_0 : FVec Ideal S1x256 .f32 :=
  headsTwo (qsc A (k0_off4_inb A.i)) (qsc A (k0_off5_inb A.i)) (qsc A (k0_off6_inb A.i)) (qsc A (k0_off7_inb A.i))

theorem cq_0_0 : cqn_0_0 A (ix2 0 c) = qsF A 0 (4 * 0 + c.val % 4) * smTwo :=
  tile_cq A 0 0 _ _ _ _ (q_sca A 0 0 _) (q_sca A 0 1 _) (q_sca A 0 2 _) (q_sca A 0 3 _) c

theorem s_0_0 (j : Fin 64) (c : Fin 256) : v2924 A (ix2 j c) = SF A 0 (64 * 0 + c.val / 4) (c.val % 4) (0 + j.val) := by
  rw [show (v2924 A) = matmul dot_S64x128_S256x128_S64x256_1_1_0_0_n_n none (extractStridedSlice S64x128 ![0, 0] (v2715 A) slices_S384x128_o0_0_S64x128) (v2768 A) (constant S64x256 .f32 0x00000000#32) from rfl]
  exact (score1 _ _ 0 _ (by decide) j c).trans (Finset.sum_congr rfl fun d _ => congrArg₂ (· * ·) (kg_0 A _ d) (qt_0_0 A c d))

def pn_0_0_0 : FVec Ideal S64x256 .f32 :=
  maskDiag (weights (v2924 A) (cqn_0_0 A) (v2719 A) (v2845 A))

theorem p_0_0_0 (r : Fin 64) (c : Fin 256) : pn_0_0_0 A (ix2 r c) = PF A 0 (64 * 0 + c.val / 4) (c.val % 4) (64 * 0 + r.val) :=
  tile_diag A 0 0 0 0 0 rfl rfl _ _ _ _ (fun r c => (s_0_0 A r c).trans (congrArg (SF A 0 _ _) (by omega))) (cq_0_0 A) (k_sca A 0 0 _) (l2_0_0 A) rfl r c

def pa_0_0 : FVec Ideal S64x256 .bf16 :=
  (truncf .bf16 (pn_0_0_0 A) bitsLt_bf16_f32)

theorem pall_0_0 (j : Fin 64) (c : Fin 256) : pa_0_0 A (ix2 j c) = PF A 0 (64 * 0 + c.val / 4) (c.val % 4) (0 + j.val) :=
  (p_0_0_0 A j c).trans (congrArg (PF A 0 _ _) (by omega))

theorem dvp_0_0 (j : Fin 64) (d : Fin 128) : v3005 A (ix2 j d) = DVF A 0 0 (0 + j.val) d := by
  rw [show (v3005 A) = matmul dot_S64x256_S256x128_S64x128_1_0_0_1_n_n none (pa_0_0 A) (v2915 A) (constant S64x128 .f32 0x00000000#32) from rfl]
  exact (over1 _ _ j d).trans (Finset.sum_congr rfl fun c _ => congrArg₂ (· * ·) (pall_0_0 A j c) (doeff_0_0 A c d))

/-! ### Group 0, tokens from 64 -/

theorem qt_0_1 : v3081 A (ix2 c d) = Qf A (64 * 1 + c.val / 4) (4 * 0 + c.val % 4) d :=
  rowsQ A 0 1 1024 0 inb_S1x6144x128_S1x1024x128_0_1024_0 slices_S64x16x128_o0_0_0_S64x4x128 (by decide) (by decide) (by decide) c d

theorem dt_0_1 : v3086 A (ix2 c d) = Gf A (64 * 1 + c.val / 4) (4 * 0 + c.val % 4) d :=
  rowsG A 0 1 1024 0 inb_S1x6144x128_S1x1024x128_0_1024_0 slices_S64x16x128_o0_0_0_S64x4x128 (by decide) (by decide) (by decide) c d

theorem l2_0_1 : v3158 A (ix2 0 c) = Lf A (64 * 1 + c.val / 4) (4 * 0 + c.val % 4) * toBase2 :=
  lses A 0 1 256 inb_S4x1x1536_S1x1x256_0_0_256 (by decide) (by decide) (by decide) c

theorem doeff_0_1 : v3228 A (ix2 c d) = GEF A (64 * 1 + c.val / 4) (4 * 0 + c.val % 4) d := by
  rw [show (v3228 A) = scaleRows (extf .bf16 (v3086 A) bitsLt_fp8e5m2_bf16) (heads16 (gsc A (k0_off4_inb A.i)) (gsc A (k0_off5_inb A.i)) (gsc A (k0_off6_inb A.i)) (gsc A (k0_off7_inb A.i))) from rfl]
  exact tile_doeff A 0 1 0 rfl _ _ _ _ _ (dt_0_1 A) (g_sca A 0 0 _) (g_sca A 0 1 _) (g_sca A 0 2 _) (g_sca A 0 3 _) c d

theorem cq_0_1 : v3273 A (ix2 0 c) = qsF A 0 (4 * 0 + c.val % 4) * smTwo := by
  rw [show (v3273 A) = headsTwo (qsc A (k0_off4_inb A.i)) (qsc A (k0_off5_inb A.i)) (qsc A (k0_off6_inb A.i)) (qsc A (k0_off7_inb A.i)) from rfl]
  exact tile_cq A 0 0 _ _ _ _ (q_sca A 0 0 _) (q_sca A 0 1 _) (q_sca A 0 2 _) (q_sca A 0 3 _) c

theorem s_0_1 (j : Fin 128) (c : Fin 256) : v3237 A (ix2 j c) = SF A 0 (64 * 1 + c.val / 4) (c.val % 4) (0 + j.val) := by
  rw [show (v3237 A) = matmul dot_S128x128_S256x128_S128x256_1_1_0_0_n_n none (extractStridedSlice S128x128 ![0, 0] (v2715 A) slices_S384x128_o0_0_S128x128) (v3081 A) (constant S128x256 .f32 0x00000000#32) from rfl]
  exact (score2 _ _ 0 _ (by decide) j c).trans (Finset.sum_congr rfl fun d _ => congrArg₂ (· * ·) (kg_0 A _ d) (qt_0_1 A c d))

theorem p_0_1_0 (r : Fin 64) (c : Fin 256) : v3281 A (ix2 r c) = PF A 0 (64 * 1 + c.val / 4) (c.val % 4) (64 * 0 + r.val) := by
  rw [show (v3281 A) = weights (extractStridedSlice S64x256 ![0, 0] (v3237 A) slices_S128x256_o0_0_S64x256) (v3273 A) (v2719 A) (v3158 A) from rfl]
  exact tile_full A 0 1 0 0 0 rfl rfl _ _ _ _ (cutSF (s_0_1 A)) (cq_0_1 A) (k_sca A 0 0 _) (l2_0_1 A) (by decide) (by decide) r c

def pn_0_1_1 : FVec Ideal S64x256 .f32 :=
  maskDiag (weights (extractStridedSlice S64x256 ![64, 0] (v3237 A) slices_S128x256_o64_0_S64x256) (v3273 A) (v2719 A) (v3158 A))

theorem p_0_1_1 (r : Fin 64) (c : Fin 256) : pn_0_1_1 A (ix2 r c) = PF A 0 (64 * 1 + c.val / 4) (c.val % 4) (64 * 1 + r.val) :=
  tile_diag A 0 1 1 0 0 rfl rfl _ _ _ _ (cutSF (s_0_1 A)) (cq_0_1 A) (k_sca A 0 0 _) (l2_0_1 A) rfl r c

def pa_0_1 : FVec Ideal S128x256 .bf16 :=
  concatenate S128x256 0 [⟨S64x256, (truncf .bf16 (v3281 A) bitsLt_bf16_f32)⟩, ⟨S64x256, (truncf .bf16 (pn_0_1_1 A) bitsLt_bf16_f32)⟩] concatenates_S64x256_S64x256_S128x256_d0

theorem pall_0_1 (j : Fin 128) (c : Fin 256) : pa_0_1 A (ix2 j c) = PF A 0 (64 * 1 + c.val / 4) (c.val % 4) (0 + j.val) :=
  join2 _ _ (fun j c => PF A 0 (64 * 1 + c.val / 4) (c.val % 4) (0 + j)) (rowPF (p_0_1_0 A)) (rowPF (p_0_1_1 A)) _ j c

def dvn_0_1 : FVec Ideal S128x128 .f32 :=
  matmul dot_S128x256_S256x128_S128x128_1_0_0_1_n_n none (pa_0_1 A) (v3228 A) (constant S128x128 .f32 0x00000000#32)

theorem dvp_0_1 (j : Fin 128) (d : Fin 128) : dvn_0_1 A (ix2 j d) = DVF A 0 1 (0 + j.val) d :=
  (over2 _ _ j d).trans (Finset.sum_congr rfl fun c _ => congrArg₂ (· * ·) (pall_0_1 A j c) (doeff_0_1 A c d))

/-! ### Group 0, tokens from 128 -/

theorem qt_0_2 : v3421 A (ix2 c d) = Qf A (64 * 2 + c.val / 4) (4 * 0 + c.val % 4) d :=
  rowsQ A 0 2 2048 0 inb_S1x6144x128_S1x1024x128_0_2048_0 slices_S64x16x128_o0_0_0_S64x4x128 (by decide) (by decide) (by decide) c d

theorem dt_0_2 : v3426 A (ix2 c d) = Gf A (64 * 2 + c.val / 4) (4 * 0 + c.val % 4) d :=
  rowsG A 0 2 2048 0 inb_S1x6144x128_S1x1024x128_0_2048_0 slices_S64x16x128_o0_0_0_S64x4x128 (by decide) (by decide) (by decide) c d

theorem l2_0_2 : v3498 A (ix2 0 c) = Lf A (64 * 2 + c.val / 4) (4 * 0 + c.val % 4) * toBase2 :=
  lses A 0 2 512 inb_S4x1x1536_S1x1x256_0_0_512 (by decide) (by decide) (by decide) c

theorem doeff_0_2 : v3568 A (ix2 c d) = GEF A (64 * 2 + c.val / 4) (4 * 0 + c.val % 4) d := by
  rw [show (v3568 A) = scaleRows (extf .bf16 (v3426 A) bitsLt_fp8e5m2_bf16) (heads16 (gsc A (k0_off8_inb A.i)) (gsc A (k0_off9_inb A.i)) (gsc A (k0_off10_inb A.i)) (gsc A (k0_off11_inb A.i))) from rfl]
  exact tile_doeff A 0 2 1 rfl _ _ _ _ _ (dt_0_2 A) (g_sca A 1 0 _) (g_sca A 1 1 _) (g_sca A 1 2 _) (g_sca A 1 3 _) c d

theorem cq_0_2 : v3613 A (ix2 0 c) = qsF A 1 (4 * 0 + c.val % 4) * smTwo := by
  rw [show (v3613 A) = headsTwo (qsc A (k0_off8_inb A.i)) (qsc A (k0_off9_inb A.i)) (qsc A (k0_off10_inb A.i)) (qsc A (k0_off11_inb A.i)) from rfl]
  exact tile_cq A 0 1 _ _ _ _ (q_sca A 1 0 _) (q_sca A 1 1 _) (q_sca A 1 2 _) (q_sca A 1 3 _) c

theorem s_0_2 (j : Fin 192) (c : Fin 256) : v3577 A (ix2 j c) = SF A 0 (64 * 2 + c.val / 4) (c.val % 4) (0 + j.val) := by
  rw [show (v3577 A) = matmul dot_S192x128_S256x128_S192x256_1_1_0_0_n_n none (extractStridedSlice S192x128 ![0, 0] (v2715 A) slices_S384x128_o0_0_S192x128) (v3421 A) (constant S192x256 .f32 0x00000000#32) from rfl]
  exact (score3 _ _ 0 _ (by decide) j c).trans (Finset.sum_congr rfl fun d _ => congrArg₂ (· * ·) (kg_0 A _ d) (qt_0_2 A c d))

theorem p_0_2_0 (r : Fin 64) (c : Fin 256) : v3621 A (ix2 r c) = PF A 0 (64 * 2 + c.val / 4) (c.val % 4) (64 * 0 + r.val) := by
  rw [show (v3621 A) = weights (extractStridedSlice S64x256 ![0, 0] (v3577 A) slices_S192x256_o0_0_S64x256) (v3613 A) (v2719 A) (v3498 A) from rfl]
  exact tile_full A 0 2 0 1 0 rfl rfl _ _ _ _ (cutSF (s_0_2 A)) (cq_0_2 A) (k_sca A 0 0 _) (l2_0_2 A) (by decide) (by decide) r c

theorem p_0_2_1 (r : Fin 64) (c : Fin 256) : v3638 A (ix2 r c) = PF A 0 (64 * 2 + c.val / 4) (c.val % 4) (64 * 1 + r.val) := by
  rw [show (v3638 A) = weights (extractStridedSlice S64x256 ![64, 0] (v3577 A) slices_S192x256_o64_0_S64x256) (v3613 A) (v2719 A) (v3498 A) from rfl]
  exact tile_full A 0 2 1 1 0 rfl rfl _ _ _ _ (cutSF (s_0_2 A)) (cq_0_2 A) (k_sca A 0 0 _) (l2_0_2 A) (by decide) (by decide) r c

theorem p_0_2_2 (r : Fin 64) (c : Fin 256) : v3684 A (ix2 r c) = PF A 0 (64 * 2 + c.val / 4) (c.val % 4) (64 * 2 + r.val) := by
  rw [show (v3684 A) = maskDiag (weights (extractStridedSlice S64x256 ![128, 0] (v3577 A) slices_S192x256_o128_0_S64x256) (v3613 A) (v2721 A) (v3498 A)) from rfl]
  exact tile_diag A 0 2 2 1 1 rfl rfl _ _ _ _ (cutSF (s_0_2 A)) (cq_0_2 A) (k_sca A 1 0 _) (l2_0_2 A) rfl r c

theorem pall_0_2 (j : Fin 192) (c : Fin 256) : v3694 A (ix2 j c) = PF A 0 (64 * 2 + c.val / 4) (c.val % 4) (0 + j.val) := by
  rw [show (v3694 A) = concatenate S192x256 0 [⟨S64x256, (truncf .bf16 (v3621 A) bitsLt_bf16_f32)⟩, ⟨S64x256, (truncf .bf16 (v3638 A) bitsLt_bf16_f32)⟩, ⟨S64x256, (truncf .bf16 (v3684 A) bitsLt_bf16_f32)⟩] concatenates_S64x256_S64x256_S64x256_S192x256_d0 from rfl]
  exact join3 _ _ _ (fun j c => PF A 0 (64 * 2 + c.val / 4) (c.val % 4) (0 + j)) (rowPF (p_0_2_0 A)) (rowPF (p_0_2_1 A)) (rowPF (p_0_2_2 A)) _ j c

theorem dvp_0_2 (j : Fin 192) (d : Fin 128) : v3696 A (ix2 j d) = DVF A 0 2 (0 + j.val) d := by
  rw [show (v3696 A) = matmul dot_S192x256_S256x128_S192x128_1_0_0_1_n_n none (v3694 A) (v3568 A) (constant S192x128 .f32 0x00000000#32) from rfl]
  exact (over3 _ _ j d).trans (Finset.sum_congr rfl fun c _ => congrArg₂ (· * ·) (pall_0_2 A j c) (doeff_0_2 A c d))

/-! ### Group 0, tokens from 192 -/

theorem qt_0_3 : v3782 A (ix2 c d) = Qf A (64 * 3 + c.val / 4) (4 * 0 + c.val % 4) d :=
  rowsQ A 0 3 3072 0 inb_S1x6144x128_S1x1024x128_0_3072_0 slices_S64x16x128_o0_0_0_S64x4x128 (by decide) (by decide) (by decide) c d

theorem dt_0_3 : v3787 A (ix2 c d) = Gf A (64 * 3 + c.val / 4) (4 * 0 + c.val % 4) d :=
  rowsG A 0 3 3072 0 inb_S1x6144x128_S1x1024x128_0_3072_0 slices_S64x16x128_o0_0_0_S64x4x128 (by decide) (by decide) (by decide) c d

theorem l2_0_3 : v3859 A (ix2 0 c) = Lf A (64 * 3 + c.val / 4) (4 * 0 + c.val % 4) * toBase2 :=
  lses A 0 3 768 inb_S4x1x1536_S1x1x256_0_0_768 (by decide) (by decide) (by decide) c

theorem doeff_0_3 : v3929 A (ix2 c d) = GEF A (64 * 3 + c.val / 4) (4 * 0 + c.val % 4) d := by
  rw [show (v3929 A) = scaleRows (extf .bf16 (v3787 A) bitsLt_fp8e5m2_bf16) (heads16 (gsc A (k0_off8_inb A.i)) (gsc A (k0_off9_inb A.i)) (gsc A (k0_off10_inb A.i)) (gsc A (k0_off11_inb A.i))) from rfl]
  exact tile_doeff A 0 3 1 rfl _ _ _ _ _ (dt_0_3 A) (g_sca A 1 0 _) (g_sca A 1 1 _) (g_sca A 1 2 _) (g_sca A 1 3 _) c d

theorem cq_0_3 : v3974 A (ix2 0 c) = qsF A 1 (4 * 0 + c.val % 4) * smTwo := by
  rw [show (v3974 A) = headsTwo (qsc A (k0_off8_inb A.i)) (qsc A (k0_off9_inb A.i)) (qsc A (k0_off10_inb A.i)) (qsc A (k0_off11_inb A.i)) from rfl]
  exact tile_cq A 0 1 _ _ _ _ (q_sca A 1 0 _) (q_sca A 1 1 _) (q_sca A 1 2 _) (q_sca A 1 3 _) c

theorem s_0_3 (j : Fin 256) (c : Fin 256) : v3938 A (ix2 j c) = SF A 0 (64 * 3 + c.val / 4) (c.val % 4) (0 + j.val) := by
  rw [show (v3938 A) = matmul dot_S256x128_S256x128_S256x256_1_1_0_0_n_n none (extractStridedSlice S256x128 ![0, 0] (v2715 A) slices_S384x128_o0_0_S256x128) (v3782 A) (constant S256x256 .f32 0x00000000#32) from rfl]
  exact (score4 _ _ 0 _ (by decide) j c).trans (Finset.sum_congr rfl fun d _ => congrArg₂ (· * ·) (kg_0 A _ d) (qt_0_3 A c d))

theorem p_0_3_0 (r : Fin 64) (c : Fin 256) : v3982 A (ix2 r c) = PF A 0 (64 * 3 + c.val / 4) (c.val % 4) (64 * 0 + r.val) := by
  rw [show (v3982 A) = weights (extractStridedSlice S64x256 ![0, 0] (v3938 A) slices_S256x256_o0_0_S64x256) (v3974 A) (v2719 A) (v3859 A) from rfl]
  exact tile_full A 0 3 0 1 0 rfl rfl _ _ _ _ (cutSF (s_0_3 A)) (cq_0_3 A) (k_sca A 0 0 _) (l2_0_3 A) (by decide) (by decide) r c

theorem p_0_3_1 (r : Fin 64) (c : Fin 256) : v3999 A (ix2 r c) = PF A 0 (64 * 3 + c.val / 4) (c.val % 4) (64 * 1 + r.val) := by
  rw [show (v3999 A) = weights (extractStridedSlice S64x256 ![64, 0] (v3938 A) slices_S256x256_o64_0_S64x256) (v3974 A) (v2719 A) (v3859 A) from rfl]
  exact tile_full A 0 3 1 1 0 rfl rfl _ _ _ _ (cutSF (s_0_3 A)) (cq_0_3 A) (k_sca A 0 0 _) (l2_0_3 A) (by decide) (by decide) r c

theorem p_0_3_2 (r : Fin 64) (c : Fin 256) : v4016 A (ix2 r c) = PF A 0 (64 * 3 + c.val / 4) (c.val % 4) (64 * 2 + r.val) := by
  rw [show (v4016 A) = weights (extractStridedSlice S64x256 ![128, 0] (v3938 A) slices_S256x256_o128_0_S64x256) (v3974 A) (v2721 A) (v3859 A) from rfl]
  exact tile_full A 0 3 2 1 1 rfl rfl _ _ _ _ (cutSF (s_0_3 A)) (cq_0_3 A) (k_sca A 1 0 _) (l2_0_3 A) (by decide) (by decide) r c

theorem p_0_3_3 (r : Fin 64) (c : Fin 256) : v4062 A (ix2 r c) = PF A 0 (64 * 3 + c.val / 4) (c.val % 4) (64 * 3 + r.val) := by
  rw [show (v4062 A) = maskDiag (weights (extractStridedSlice S64x256 ![192, 0] (v3938 A) slices_S256x256_o192_0_S64x256) (v3974 A) (v2721 A) (v3859 A)) from rfl]
  exact tile_diag A 0 3 3 1 1 rfl rfl _ _ _ _ (cutSF (s_0_3 A)) (cq_0_3 A) (k_sca A 1 0 _) (l2_0_3 A) rfl r c

theorem pall_0_3 (j : Fin 256) (c : Fin 256) : v4072 A (ix2 j c) = PF A 0 (64 * 3 + c.val / 4) (c.val % 4) (0 + j.val) := by
  rw [show (v4072 A) = concatenate S256x256 0 [⟨S64x256, (truncf .bf16 (v3982 A) bitsLt_bf16_f32)⟩, ⟨S64x256, (truncf .bf16 (v3999 A) bitsLt_bf16_f32)⟩, ⟨S64x256, (truncf .bf16 (v4016 A) bitsLt_bf16_f32)⟩, ⟨S64x256, (truncf .bf16 (v4062 A) bitsLt_bf16_f32)⟩] concatenates_S64x256_S64x256_S64x256_S64x256_S256x256_d0 from rfl]
  exact join4 _ _ _ _ (fun j c => PF A 0 (64 * 3 + c.val / 4) (c.val % 4) (0 + j)) (rowPF (p_0_3_0 A)) (rowPF (p_0_3_1 A)) (rowPF (p_0_3_2 A)) (rowPF (p_0_3_3 A)) _ j c

theorem dvp_0_3 (j : Fin 256) (d : Fin 128) : v4074 A (ix2 j d) = DVF A 0 3 (0 + j.val) d := by
  rw [show (v4074 A) = matmul dot_S256x256_S256x128_S256x128_1_0_0_1_n_n none (v4072 A) (v3929 A) (constant S256x128 .f32 0x00000000#32) from rfl]
  exact (over4 _ _ j d).trans (Finset.sum_congr rfl fun c _ => congrArg₂ (· * ·) (pall_0_3 A j c) (doeff_0_3 A c d))

/-! ### Group 0, tokens from 256 -/

theorem qt_0_4 : v4164 A (ix2 c d) = Qf A (64 * 4 + c.val / 4) (4 * 0 + c.val % 4) d :=
  rowsQ A 0 4 4096 0 inb_S1x6144x128_S1x1024x128_0_4096_0 slices_S64x16x128_o0_0_0_S64x4x128 (by decide) (by decide) (by decide) c d

theorem dt_0_4 : v4169 A (ix2 c d) = Gf A (64 * 4 + c.val / 4) (4 * 0 + c.val % 4) d :=
  rowsG A 0 4 4096 0 inb_S1x6144x128_S1x1024x128_0_4096_0 slices_S64x16x128_o0_0_0_S64x4x128 (by decide) (by decide) (by decide) c d

theorem l2_0_4 : v4241 A (ix2 0 c) = Lf A (64 * 4 + c.val / 4) (4 * 0 + c.val % 4) * toBase2 :=
  lses A 0 4 1024 inb_S4x1x1536_S1x1x256_0_0_1024 (by decide) (by decide) (by decide) c

theorem doeff_0_4 : v4311 A (ix2 c d) = GEF A (64 * 4 + c.val / 4) (4 * 0 + c.val % 4) d := by
  rw [show (v4311 A) = scaleRows (extf .bf16 (v4169 A) bitsLt_fp8e5m2_bf16) (heads16 (gsc A (k0_off12_inb A.i)) (gsc A (k0_off13_inb A.i)) (gsc A (k0_off14_inb A.i)) (gsc A (k0_off15_inb A.i))) from rfl]
  exact tile_doeff A 0 4 2 rfl _ _ _ _ _ (dt_0_4 A) (g_sca A 2 0 _) (g_sca A 2 1 _) (g_sca A 2 2 _) (g_sca A 2 3 _) c d

theorem cq_0_4 : v4356 A (ix2 0 c) = qsF A 2 (4 * 0 + c.val % 4) * smTwo := by
  rw [show (v4356 A) = headsTwo (qsc A (k0_off12_inb A.i)) (qsc A (k0_off13_inb A.i)) (qsc A (k0_off14_inb A.i)) (qsc A (k0_off15_inb A.i)) from rfl]
  exact tile_cq A 0 2 _ _ _ _ (q_sca A 2 0 _) (q_sca A 2 1 _) (q_sca A 2 2 _) (q_sca A 2 3 _) c

theorem s_0_4 (j : Fin 320) (c : Fin 256) : v4320 A (ix2 j c) = SF A 0 (64 * 4 + c.val / 4) (c.val % 4) (0 + j.val) := by
  rw [show (v4320 A) = matmul dot_S320x128_S256x128_S320x256_1_1_0_0_n_n none (extractStridedSlice S320x128 ![0, 0] (v2715 A) slices_S384x128_o0_0_S320x128) (v4164 A) (constant S320x256 .f32 0x00000000#32) from rfl]
  exact (score5 _ _ 0 _ (by decide) j c).trans (Finset.sum_congr rfl fun d _ => congrArg₂ (· * ·) (kg_0 A _ d) (qt_0_4 A c d))

theorem p_0_4_0 (r : Fin 64) (c : Fin 256) : v4393 A (ix2 r c) = PF A 0 (64 * 4 + c.val / 4) (c.val % 4) (64 * 0 + r.val) := by
  rw [show (v4393 A) = maskEdge (weights (extractStridedSlice S64x256 ![0, 0] (v4320 A) slices_S320x256_o0_0_S64x256) (v4356 A) (v2719 A) (v4241 A)) from rfl]
  exact tile_edge A 0 4 0 2 0 rfl rfl _ _ _ _ (cutSF (s_0_4 A)) (cq_0_4 A) (k_sca A 0 0 _) (l2_0_4 A) rfl r c

theorem p_0_4_1 (r : Fin 64) (c : Fin 256) : v4410 A (ix2 r c) = PF A 0 (64 * 4 + c.val / 4) (c.val % 4) (64 * 1 + r.val) := by
  rw [show (v4410 A) = weights (extractStridedSlice S64x256 ![64, 0] (v4320 A) slices_S320x256_o64_0_S64x256) (v4356 A) (v2719 A) (v4241 A) from rfl]
  exact tile_full A 0 4 1 2 0 rfl rfl _ _ _ _ (cutSF (s_0_4 A)) (cq_0_4 A) (k_sca A 0 0 _) (l2_0_4 A) (by decide) (by decide) r c

theorem p_0_4_2 (r : Fin 64) (c : Fin 256) : v4427 A (ix2 r c) = PF A 0 (64 * 4 + c.val / 4) (c.val % 4) (64 * 2 + r.val) := by
  rw [show (v4427 A) = weights (extractStridedSlice S64x256 ![128, 0] (v4320 A) slices_S320x256_o128_0_S64x256) (v4356 A) (v2721 A) (v4241 A) from rfl]
  exact tile_full A 0 4 2 2 1 rfl rfl _ _ _ _ (cutSF (s_0_4 A)) (cq_0_4 A) (k_sca A 1 0 _) (l2_0_4 A) (by decide) (by decide) r c

theorem p_0_4_3 (r : Fin 64) (c : Fin 256) : v4444 A (ix2 r c) = PF A 0 (64 * 4 + c.val / 4) (c.val % 4) (64 * 3 + r.val) := by
  rw [show (v4444 A) = weights (extractStridedSlice S64x256 ![192, 0] (v4320 A) slices_S320x256_o192_0_S64x256) (v4356 A) (v2721 A) (v4241 A) from rfl]
  exact tile_full A 0 4 3 2 1 rfl rfl _ _ _ _ (cutSF (s_0_4 A)) (cq_0_4 A) (k_sca A 1 0 _) (l2_0_4 A) (by decide) (by decide) r c

def pn_0_4_4 : FVec Ideal S64x256 .f32 :=
  maskDiag (weights (extractStridedSlice S64x256 ![256, 0] (v4320 A) slices_S320x256_o256_0_S64x256) (v4356 A) (v2723 A) (v4241 A))

theorem p_0_4_4 (r : Fin 64) (c : Fin 256) : pn_0_4_4 A (ix2 r c) = PF A 0 (64 * 4 + c.val / 4) (c.val % 4) (64 * 4 + r.val) :=
  tile_diag A 0 4 4 2 2 rfl rfl _ _ _ _ (cutSF (s_0_4 A)) (cq_0_4 A) (k_sca A 2 0 _) (l2_0_4 A) rfl r c

def pa_0_4 : FVec Ideal S320x256 .bf16 :=
  concatenate S320x256 0 [⟨S64x256, (truncf .bf16 (v4393 A) bitsLt_bf16_f32)⟩, ⟨S64x256, (truncf .bf16 (v4410 A) bitsLt_bf16_f32)⟩, ⟨S64x256, (truncf .bf16 (v4427 A) bitsLt_bf16_f32)⟩, ⟨S64x256, (truncf .bf16 (v4444 A) bitsLt_bf16_f32)⟩, ⟨S64x256, (truncf .bf16 (pn_0_4_4 A) bitsLt_bf16_f32)⟩] concatenates_S64x256_S64x256_S64x256_S64x256_S64x256_S320x256_d0

theorem pall_0_4 (j : Fin 320) (c : Fin 256) : pa_0_4 A (ix2 j c) = PF A 0 (64 * 4 + c.val / 4) (c.val % 4) (0 + j.val) :=
  join5 _ _ _ _ _ (fun j c => PF A 0 (64 * 4 + c.val / 4) (c.val % 4) (0 + j)) (rowPF (p_0_4_0 A)) (rowPF (p_0_4_1 A)) (rowPF (p_0_4_2 A)) (rowPF (p_0_4_3 A)) (rowPF (p_0_4_4 A)) _ j c

def dvn_0_4 : FVec Ideal S320x128 .f32 :=
  matmul dot_S320x256_S256x128_S320x128_1_0_0_1_n_n none (pa_0_4 A) (v4311 A) (constant S320x128 .f32 0x00000000#32)

theorem dvp_0_4 (j : Fin 320) (d : Fin 128) : dvn_0_4 A (ix2 j d) = DVF A 0 4 (0 + j.val) d :=
  (over5 _ _ j d).trans (Finset.sum_congr rfl fun c _ => congrArg₂ (· * ·) (pall_0_4 A j c) (doeff_0_4 A c d))

/-! ### Group 0, tokens from 320 -/

theorem qt_0_5 : v4596 A (ix2 c d) = Qf A (64 * 5 + c.val / 4) (4 * 0 + c.val % 4) d :=
  rowsQ A 0 5 5120 0 inb_S1x6144x128_S1x1024x128_0_5120_0 slices_S64x16x128_o0_0_0_S64x4x128 (by decide) (by decide) (by decide) c d

theorem dt_0_5 : v4601 A (ix2 c d) = Gf A (64 * 5 + c.val / 4) (4 * 0 + c.val % 4) d :=
  rowsG A 0 5 5120 0 inb_S1x6144x128_S1x1024x128_0_5120_0 slices_S64x16x128_o0_0_0_S64x4x128 (by decide) (by decide) (by decide) c d

theorem l2_0_5 : v4673 A (ix2 0 c) = Lf A (64 * 5 + c.val / 4) (4 * 0 + c.val % 4) * toBase2 :=
  lses A 0 5 1280 inb_S4x1x1536_S1x1x256_0_0_1280 (by decide) (by decide) (by decide) c

theorem doeff_0_5 : v4743 A (ix2 c d) = GEF A (64 * 5 + c.val / 4) (4 * 0 + c.val % 4) d := by
  rw [show (v4743 A) = scaleRows (extf .bf16 (v4601 A) bitsLt_fp8e5m2_bf16) (heads16 (gsc A (k0_off12_inb A.i)) (gsc A (k0_off13_inb A.i)) (gsc A (k0_off14_inb A.i)) (gsc A (k0_off15_inb A.i))) from rfl]
  exact tile_doeff A 0 5 2 rfl _ _ _ _ _ (dt_0_5 A) (g_sca A 2 0 _) (g_sca A 2 1 _) (g_sca A 2 2 _) (g_sca A 2 3 _) c d

theorem cq_0_5 : v4788 A (ix2 0 c) = qsF A 2 (4 * 0 + c.val % 4) * smTwo := by
  rw [show (v4788 A) = headsTwo (qsc A (k0_off12_inb A.i)) (qsc A (k0_off13_inb A.i)) (qsc A (k0_off14_inb A.i)) (qsc A (k0_off15_inb A.i)) from rfl]
  exact tile_cq A 0 2 _ _ _ _ (q_sca A 2 0 _) (q_sca A 2 1 _) (q_sca A 2 2 _) (q_sca A 2 3 _) c

theorem s_0_5 (j : Fin 320) (c : Fin 256) : v4752 A (ix2 j c) = SF A 0 (64 * 5 + c.val / 4) (c.val % 4) (64 + j.val) := by
  rw [show (v4752 A) = matmul dot_S320x128_S256x128_S320x256_1_1_0_0_n_n none (extractStridedSlice S320x128 ![64, 0] (v2715 A) slices_S384x128_o64_0_S320x128) (v4596 A) (constant S320x256 .f32 0x00000000#32) from rfl]
  exact (score5 _ _ 64 _ (by decide) j c).trans (Finset.sum_congr rfl fun d _ => congrArg₂ (· * ·) (kg_0 A _ d) (qt_0_5 A c d))

theorem p_0_5_1 (r : Fin 64) (c : Fin 256) : v4825 A (ix2 r c) = PF A 0 (64 * 5 + c.val / 4) (c.val % 4) (64 * 1 + r.val) := by
  rw [show (v4825 A) = maskEdge (weights (extractStridedSlice S64x256 ![0, 0] (v4752 A) slices_S320x256_o0_0_S64x256) (v4788 A) (v2719 A) (v4673 A)) from rfl]
  exact tile_edge A 0 5 1 2 0 rfl rfl _ _ _ _ (cutSF (s_0_5 A)) (cq_0_5 A) (k_sca A 0 0 _) (l2_0_5 A) rfl r c

theorem p_0_5_2 (r : Fin 64) (c : Fin 256) : v4842 A (ix2 r c) = PF A 0 (64 * 5 + c.val / 4) (c.val % 4) (64 * 2 + r.val) := by
  rw [show (v4842 A) = weights (extractStridedSlice S64x256 ![64, 0] (v4752 A) slices_S320x256_o64_0_S64x256) (v4788 A) (v2721 A) (v4673 A) from rfl]
  exact tile_full A 0 5 2 2 1 rfl rfl _ _ _ _ (cutSF (s_0_5 A)) (cq_0_5 A) (k_sca A 1 0 _) (l2_0_5 A) (by decide) (by decide) r c

theorem p_0_5_3 (r : Fin 64) (c : Fin 256) : v4859 A (ix2 r c) = PF A 0 (64 * 5 + c.val / 4) (c.val % 4) (64 * 3 + r.val) := by
  rw [show (v4859 A) = weights (extractStridedSlice S64x256 ![128, 0] (v4752 A) slices_S320x256_o128_0_S64x256) (v4788 A) (v2721 A) (v4673 A) from rfl]
  exact tile_full A 0 5 3 2 1 rfl rfl _ _ _ _ (cutSF (s_0_5 A)) (cq_0_5 A) (k_sca A 1 0 _) (l2_0_5 A) (by decide) (by decide) r c

theorem p_0_5_4 (r : Fin 64) (c : Fin 256) : v4876 A (ix2 r c) = PF A 0 (64 * 5 + c.val / 4) (c.val % 4) (64 * 4 + r.val) := by
  rw [show (v4876 A) = weights (extractStridedSlice S64x256 ![192, 0] (v4752 A) slices_S320x256_o192_0_S64x256) (v4788 A) (v2723 A) (v4673 A) from rfl]
  exact tile_full A 0 5 4 2 2 rfl rfl _ _ _ _ (cutSF (s_0_5 A)) (cq_0_5 A) (k_sca A 2 0 _) (l2_0_5 A) (by decide) (by decide) r c

theorem p_0_5_5 (r : Fin 64) (c : Fin 256) : v4922 A (ix2 r c) = PF A 0 (64 * 5 + c.val / 4) (c.val % 4) (64 * 5 + r.val) := by
  rw [show (v4922 A) = maskDiag (weights (extractStridedSlice S64x256 ![256, 0] (v4752 A) slices_S320x256_o256_0_S64x256) (v4788 A) (v2723 A) (v4673 A)) from rfl]
  exact tile_diag A 0 5 5 2 2 rfl rfl _ _ _ _ (cutSF (s_0_5 A)) (cq_0_5 A) (k_sca A 2 0 _) (l2_0_5 A) rfl r c

def pa_0_5 : FVec Ideal S320x256 .bf16 :=
  concatenate S320x256 0 [⟨S64x256, (truncf .bf16 (v4825 A) bitsLt_bf16_f32)⟩, ⟨S64x256, (truncf .bf16 (v4842 A) bitsLt_bf16_f32)⟩, ⟨S64x256, (truncf .bf16 (v4859 A) bitsLt_bf16_f32)⟩, ⟨S64x256, (truncf .bf16 (v4876 A) bitsLt_bf16_f32)⟩, ⟨S64x256, (truncf .bf16 (v4922 A) bitsLt_bf16_f32)⟩] concatenates_S64x256_S64x256_S64x256_S64x256_S64x256_S320x256_d0

theorem pall_0_5 (j : Fin 320) (c : Fin 256) : pa_0_5 A (ix2 j c) = PF A 0 (64 * 5 + c.val / 4) (c.val % 4) (64 + j.val) :=
  join5 _ _ _ _ _ (fun j c => PF A 0 (64 * 5 + c.val / 4) (c.val % 4) (64 + j)) (rowPF (p_0_5_1 A)) (rowPF (p_0_5_2 A)) (rowPF (p_0_5_3 A)) (rowPF (p_0_5_4 A)) (rowPF (p_0_5_5 A)) _ j c

def dvn_0_5 : FVec Ideal S320x128 .f32 :=
  matmul dot_S320x256_S256x128_S320x128_1_0_0_1_n_n none (pa_0_5 A) (v4743 A) (constant S320x128 .f32 0x00000000#32)

theorem dvp_0_5 (j : Fin 320) (d : Fin 128) : dvn_0_5 A (ix2 j d) = DVF A 0 5 (64 + j.val) d :=
  (over5 _ _ j d).trans (Finset.sum_congr rfl fun c _ => congrArg₂ (· * ·) (pall_0_5 A j c) (doeff_0_5 A c d))

theorem dvacc_0_0_0 (r : Fin 64) (d : Fin 128) : v3005 A (ix2 r d) = DVT A 0 0 0 r d :=
  one_tile (dvp_0_0 A)

theorem dvacc_0_0_1 (r : Fin 64) (d : Fin 128) : v3342 A (ix2 r d) = DVT A 0 0 1 r d := by
  rw [show (v3342 A) = addf (F := Ideal) (φ := .f32) (v3005 A) (extractStridedSlice S64x128 ![0, 0] (dvn_0_1 A) slices_S128x128_o0_0_S64x128) from rfl]
  exact add_tile (dvacc_0_0_0 A r d) (dvp_0_1 A)

theorem dvacc_0_0_2 (r : Fin 64) (d : Fin 128) : v3699 A (ix2 r d) = DVT A 0 0 2 r d := by
  rw [show (v3699 A) = addf (F := Ideal) (φ := .f32) (v3342 A) (extractStridedSlice S64x128 ![0, 0] (v3696 A) slices_S192x128_o0_0_S64x128) from rfl]
  exact add_tile (dvacc_0_0_1 A r d) (dvp_0_2 A)

theorem dvacc_0_0_3 (r : Fin 64) (d : Fin 128) : v4077 A (ix2 r d) = DVT A 0 0 3 r d := by
  rw [show (v4077 A) = addf (F := Ideal) (φ := .f32) (v3699 A) (extractStridedSlice S64x128 ![0, 0] (v4074 A) slices_S256x128_o0_0_S64x128) from rfl]
  exact add_tile (dvacc_0_0_2 A r d) (dvp_0_3 A)

theorem dvacc_0_0_4 (r : Fin 64) (d : Fin 128) : v4505 A (ix2 r d) = DVT A 0 0 4 r d := by
  rw [show (v4505 A) = addf (F := Ideal) (φ := .f32) (v4077 A) (extractStridedSlice S64x128 ![0, 0] (dvn_0_4 A) slices_S320x128_o0_0_S64x128) from rfl]
  exact add_tile (dvacc_0_0_3 A r d) (dvp_0_4 A)

theorem dvacc_0_1_1 (r : Fin 64) (d : Fin 128) : v3345 A (ix2 r d) = DVT A 0 1 0 r d := by
  rw [show (v3345 A) = (extractStridedSlice S64x128 ![64, 0] (dvn_0_1 A) slices_S128x128_o64_0_S64x128) from rfl]
  exact (first_tile (dvp_0_1 A))

theorem dvacc_0_1_2 (r : Fin 64) (d : Fin 128) : v3703 A (ix2 r d) = DVT A 0 1 1 r d := by
  rw [show (v3703 A) = addf (F := Ideal) (φ := .f32) (v3345 A) (extractStridedSlice S64x128 ![64, 0] (v3696 A) slices_S192x128_o64_0_S64x128) from rfl]
  exact add_tile (dvacc_0_1_1 A r d) (dvp_0_2 A)

theorem dvacc_0_1_3 (r : Fin 64) (d : Fin 128) : v4081 A (ix2 r d) = DVT A 0 1 2 r d := by
  rw [show (v4081 A) = addf (F := Ideal) (φ := .f32) (v3703 A) (extractStridedSlice S64x128 ![64, 0] (v4074 A) slices_S256x128_o64_0_S64x128) from rfl]
  exact add_tile (dvacc_0_1_2 A r d) (dvp_0_3 A)

theorem dvacc_0_1_4 (r : Fin 64) (d : Fin 128) : v4509 A (ix2 r d) = DVT A 0 1 3 r d := by
  rw [show (v4509 A) = addf (F := Ideal) (φ := .f32) (v4081 A) (extractStridedSlice S64x128 ![64, 0] (dvn_0_4 A) slices_S320x128_o64_0_S64x128) from rfl]
  exact add_tile (dvacc_0_1_3 A r d) (dvp_0_4 A)

theorem dvacc_0_1_5 (r : Fin 64) (d : Fin 128) : v4937 A (ix2 r d) = DVT A 0 1 4 r d := by
  rw [show (v4937 A) = addf (F := Ideal) (φ := .f32) (v4509 A) (extractStridedSlice S64x128 ![0, 0] (dvn_0_5 A) slices_S320x128_o0_0_S64x128) from rfl]
  exact add_tile (dvacc_0_1_4 A r d) (dvp_0_5 A)

theorem dvacc_0_2_2 (r : Fin 64) (d : Fin 128) : v3706 A (ix2 r d) = DVT A 0 2 0 r d := by
  rw [show (v3706 A) = (extractStridedSlice S64x128 ![128, 0] (v3696 A) slices_S192x128_o128_0_S64x128) from rfl]
  exact (first_tile (dvp_0_2 A))

theorem dvacc_0_2_3 (r : Fin 64) (d : Fin 128) : v4085 A (ix2 r d) = DVT A 0 2 1 r d := by
  rw [show (v4085 A) = addf (F := Ideal) (φ := .f32) (v3706 A) (extractStridedSlice S64x128 ![128, 0] (v4074 A) slices_S256x128_o128_0_S64x128) from rfl]
  exact add_tile (dvacc_0_2_2 A r d) (dvp_0_3 A)

theorem dvacc_0_2_4 (r : Fin 64) (d : Fin 128) : v4513 A (ix2 r d) = DVT A 0 2 2 r d := by
  rw [show (v4513 A) = addf (F := Ideal) (φ := .f32) (v4085 A) (extractStridedSlice S64x128 ![128, 0] (dvn_0_4 A) slices_S320x128_o128_0_S64x128) from rfl]
  exact add_tile (dvacc_0_2_3 A r d) (dvp_0_4 A)

theorem dvacc_0_2_5 (r : Fin 64) (d : Fin 128) : v4941 A (ix2 r d) = DVT A 0 2 3 r d := by
  rw [show (v4941 A) = addf (F := Ideal) (φ := .f32) (v4513 A) (extractStridedSlice S64x128 ![64, 0] (dvn_0_5 A) slices_S320x128_o64_0_S64x128) from rfl]
  exact add_tile (dvacc_0_2_4 A r d) (dvp_0_5 A)

theorem dvacc_0_3_3 (r : Fin 64) (d : Fin 128) : v4088 A (ix2 r d) = DVT A 0 3 0 r d := by
  rw [show (v4088 A) = (extractStridedSlice S64x128 ![192, 0] (v4074 A) slices_S256x128_o192_0_S64x128) from rfl]
  exact (first_tile (dvp_0_3 A))

theorem dvacc_0_3_4 (r : Fin 64) (d : Fin 128) : v4517 A (ix2 r d) = DVT A 0 3 1 r d := by
  rw [show (v4517 A) = addf (F := Ideal) (φ := .f32) (v4088 A) (extractStridedSlice S64x128 ![192, 0] (dvn_0_4 A) slices_S320x128_o192_0_S64x128) from rfl]
  exact add_tile (dvacc_0_3_3 A r d) (dvp_0_4 A)

theorem dvacc_0_3_5 (r : Fin 64) (d : Fin 128) : v4945 A (ix2 r d) = DVT A 0 3 2 r d := by
  rw [show (v4945 A) = addf (F := Ideal) (φ := .f32) (v4517 A) (extractStridedSlice S64x128 ![128, 0] (dvn_0_5 A) slices_S320x128_o128_0_S64x128) from rfl]
  exact add_tile (dvacc_0_3_4 A r d) (dvp_0_5 A)

theorem dvacc_0_4_4 (r : Fin 64) (d : Fin 128) : v4520 A (ix2 r d) = DVT A 0 4 0 r d := by
  rw [show (v4520 A) = (extractStridedSlice S64x128 ![256, 0] (dvn_0_4 A) slices_S320x128_o256_0_S64x128) from rfl]
  exact (first_tile (dvp_0_4 A))

theorem dvacc_0_4_5 (r : Fin 64) (d : Fin 128) : v4949 A (ix2 r d) = DVT A 0 4 1 r d := by
  rw [show (v4949 A) = addf (F := Ideal) (φ := .f32) (v4520 A) (extractStridedSlice S64x128 ![192, 0] (dvn_0_5 A) slices_S320x128_o192_0_S64x128) from rfl]
  exact add_tile (dvacc_0_4_4 A r d) (dvp_0_5 A)

theorem dvacc_0_5_5 (r : Fin 64) (d : Fin 128) : v4952 A (ix2 r d) = DVT A 0 5 0 r d := by
  rw [show (v4952 A) = (extractStridedSlice S64x128 ![256, 0] (dvn_0_5 A) slices_S320x128_o256_0_S64x128) from rfl]
  exact (first_tile (dvp_0_5 A))

end Cert.KernelIdeal.Hand
-- ==== Proof.Exact.Grads0.lean ====
/- Head group 0: the score gradients, the query gradient and the key gradient's sums, tile by tile, by the lemmas of one tile. -/
module

public import proofs.«01_k».proof.Proof.Exact.Weights0

@[expose] public section

set_option maxRecDepth 16384

noncomputable section

namespace Cert.KernelIdeal.Hand

open Cert.KernelIdeal.Gen Idealize.ShloMosaic
open bodyRun.sl

variable (A : Pack Ideal) (c : Fin 256) (d : Fin 128)

theorem vg_0 (j : Fin 384) (d : Fin 128) : v2717 A (ix2 j d) = Vf A j.val 0 d :=
  keysV A 0 inb_S4x384x128_S1x384x128_0_0_0 (by decide) j d

theorem keff_0 (d : Fin 128) (j : Fin 384) : v2747 A (ix2 d j) = KEF A j.val 0 d := by
  rw [show (v2747 A) = scaledKeys (F := Ideal) (v2715 A) (Scalar.mulf (F := Ideal) (φ := .f32) (v2719 A) (v2725 A)) (Scalar.mulf (F := Ideal) (φ := .f32) (v2721 A) (v2727 A)) (Scalar.mulf (F := Ideal) (φ := .f32) (v2723 A) (v2729 A)) from rfl]
  exact (scaledKeys_apply _ _ _ _ (fun b => ksF A b 0 * vsF A b 0) (congrArg₂ (· * ·) (k_sca A 0 0 _) (v_sca A 0 0 _)) (congrArg₂ (· * ·) (k_sca A 1 0 _) (v_sca A 1 0 _)) (congrArg₂ (· * ·) (k_sca A 2 0 _) (v_sca A 2 0 _)) d j).trans (congrArg (· * _) (kg_0 A j d))

/-! ### Group 0, tokens from 0 -/

theorem ob_0_0 : v2791 A (ix2 c d) = Of A (64 * 0 + c.val / 4) (4 * 0 + c.val % 4) d := by
  have e : v2791 A = joinPairs (A.arg17.view.readCov (Val := Elt Ideal) (outPiece A 1 1 inb_S128x2x128_S64x2x128_1_0_0_s_2_1_1 inb_S1x3072x2x128_S1x64x2x128_0_1_0_0_s_1_8_1_1
    :: outPiece A 0 0 inb_S128x2x128_S64x2x128_0_0_0_s_2_1_1 inb_S1x3072x2x128_S1x64x2x128_0_0_0_0_s_1_8_1_1 :: [])
    (Rect.unit (s := S128x2x128) ![0, 0, 0] S128x2x128.size inb_S128x2x128_S128x2x128_0_0_0).toLoadRect) := rfl
  rw [e]
  exact tile_out A 0 0 0 1 (by decide) (by decide) _ _ _ _ _ _ _ _ c d

theorem delta_0_0 : v2843 A (ix2 0 c) = DLF A (64 * 0 + c.val / 4) (4 * 0 + c.val % 4) := by
  rw [show (v2843 A) = rowDots (F := Ideal) (v2792 A) (v2791 A) from rfl]
  exact tile_delta A 0 0 _ _ (dt_0_0 A) (ob_0_0 A) c

theorem qeff_0_0 : v2922 A (ix2 c d) = QEF A (64 * 0 + c.val / 4) (4 * 0 + c.val % 4) d := by
  rw [show (v2922 A) = scaleRows (extf .bf16 (v2768 A) bitsLt_fp8e4m3_bf16) (headsBoth (qsc A (k0_off4_inb A.i)) (qsc A (k0_off5_inb A.i)) (qsc A (k0_off6_inb A.i)) (qsc A (k0_off7_inb A.i)) (gsc A (k0_off4_inb A.i)) (gsc A (k0_off5_inb A.i)) (gsc A (k0_off6_inb A.i)) (gsc A (k0_off7_inb A.i))) from rfl]
  exact tile_qeff A 0 0 0 rfl _ _ _ _ _ _ _ _ _ (qt_0_0 A) (q_sca A 0 0 _) (q_sca A 0 1 _) (q_sca A 0 2 _) (q_sca A 0 3 _) (g_sca A 0 0 _) (g_sca A 0 1 _) (g_sca A 0 2 _) (g_sca A 0 3 _) c d

theorem dp_0_0 (j : Fin 64) (c : Fin 256) : v2926 A (ix2 j c) = DPF A 0 (64 * 0 + c.val / 4) (c.val % 4) (0 + j.val) := by
  rw [show (v2926 A) = matmul dot_S64x128_S256x128_S64x256_1_1_0_0_n_n none (extractStridedSlice S64x128 ![0, 0] (v2717 A) slices_S384x128_o0_0_S64x128) (v2773 A) (constant S64x256 .f32 0x00000000#32) from rfl]
  exact (score1 _ _ 0 _ (by decide) j c).trans (Finset.sum_congr rfl fun d _ => congrArg₂ (· * ·) (vg_0 A _ d) (dt_0_0 A c d))

def dsn_0_0_0 : FVec Ideal S64x256 .f32 :=
  grads (pn_0_0_0 A) (v2926 A) (v2843 A) (v2725 A)

theorem ds_0_0_0 (r : Fin 64) (c : Fin 256) : dsn_0_0_0 A (ix2 r c) = GF A 0 (64 * 0 + c.val / 4) (c.val % 4) (64 * 0 + r.val) :=
  tile_grads A 0 0 0 0 rfl _ _ _ _ (p_0_0_0 A) (fun r c => (dp_0_0 A r c).trans (congrArg (DPF A 0 _ _) (by omega))) (delta_0_0 A) (v_sca A 0 0 _) r c

def da_0_0 : FVec Ideal S64x256 .bf16 :=
  (truncf .bf16 (dsn_0_0_0 A) bitsLt_bf16_f32)

theorem dsall_0_0 (j : Fin 64) (c : Fin 256) : da_0_0 A (ix2 j c) = GF A 0 (64 * 0 + c.val / 4) (c.val % 4) (0 + j.val) :=
  (ds_0_0_0 A j c).trans (congrArg (GF A 0 _ _) (by omega))

theorem dkp_0_0 (j : Fin 64) (d : Fin 128) : v3006 A (ix2 j d) = DKF A 0 0 (0 + j.val) d := by
  rw [show (v3006 A) = matmul dot_S64x256_S256x128_S64x128_1_0_0_1_n_n none (da_0_0 A) (v2922 A) (constant S64x128 .f32 0x00000000#32) from rfl]
  exact (over1 _ _ j d).trans (Finset.sum_congr rfl fun c _ => congrArg₂ (· * ·) (dsall_0_0 A j c) (qeff_0_0 A c d))

theorem dqm_0_0 (d : Fin 128) (c : Fin 256) : v3008 A (ix2 d c) = ∑ j : Fin 384, KEF A j.val 0 d * GF A 0 (64 * 0 + c.val / 4) (c.val % 4) j.val := by
  rw [show (v3008 A) = matmul dot_S128x64_S64x256_S128x256_1_0_0_1_n_n none (extractStridedSlice S128x64 ![0, 0] (v2747 A) slices_S128x384_o0_0_S128x64) (da_0_0 A) (constant S128x256 .f32 0x00000000#32) from rfl]
  exact (keys1 _ _ 0 _ (by decide) d c).trans ((Finset.sum_congr rfl fun j _ => congrArg₂ (· * ·) (keff_0 A d _) (dsall_0_0 A j c)).trans
    (sum_keys (fun j => KEF A j 0 d * GF A 0 (64 * 0 + c.val / 4) (c.val % 4) j) 0 64 (by decide) fun j hj hn => (congrArg (_ * ·) (GF_zero A 0 _ _ j (by omega))).trans (mul_zero _)))

theorem dqs_0_0 : v3042 A (ix2 0 c) = gsF A 0 (4 * 0 + c.val % 4) * smE := by
  rw [show (v3042 A) = headsOne (gsc A (k0_off4_inb A.i)) (gsc A (k0_off5_inb A.i)) (gsc A (k0_off6_inb A.i)) (gsc A (k0_off7_inb A.i)) from rfl]
  exact tile_dq A 0 0 _ _ _ _ (g_sca A 0 0 _) (g_sca A 0 1 _) (g_sca A 0 2 _) (g_sca A 0 3 _) c

theorem dqt_0_0 : v3046 A (ix2 c d) = DQ A 0 (64 * 0 + c.val / 4) (c.val % 4) d := by
  rw [show (v3046 A) = scaledQ (F := Ideal) (v3008 A) (v3042 A) from rfl]
  exact (scaledQ_apply _ _ c d).trans (congrArg₂ (· * ·) (dqm_0_0 A d c) ((dqs_0_0 A c).trans (congrArg (fun b => gsF A b (4 * 0 + c.val % 4) * smE) (by omega))))

/-! ### Group 0, tokens from 64 -/

theorem ob_0_1 : v3104 A (ix2 c d) = Of A (64 * 1 + c.val / 4) (4 * 0 + c.val % 4) d := by
  have e : v3104 A = joinPairs (A.arg17.view.readCov (Val := Elt Ideal) (outPiece A 1 513 inb_S128x2x128_S64x2x128_1_0_0_s_2_1_1 inb_S1x3072x2x128_S1x64x2x128_0_513_0_0_s_1_8_1_1
    :: outPiece A 0 512 inb_S128x2x128_S64x2x128_0_0_0_s_2_1_1 inb_S1x3072x2x128_S1x64x2x128_0_512_0_0_s_1_8_1_1 :: (HS3_2 A))
    (Rect.unit (s := S128x2x128) ![0, 0, 0] S128x2x128.size inb_S128x2x128_S128x2x128_0_0_0).toLoadRect) := rfl
  rw [e]
  exact tile_out A 0 1 512 513 (by decide) (by decide) _ _ _ _ _ _ _ _ c d

theorem delta_0_1 : v3156 A (ix2 0 c) = DLF A (64 * 1 + c.val / 4) (4 * 0 + c.val % 4) := by
  rw [show (v3156 A) = rowDots (F := Ideal) (v3105 A) (v3104 A) from rfl]
  exact tile_delta A 0 1 _ _ (dt_0_1 A) (ob_0_1 A) c

theorem qeff_0_1 : v3235 A (ix2 c d) = QEF A (64 * 1 + c.val / 4) (4 * 0 + c.val % 4) d := by
  rw [show (v3235 A) = scaleRows (extf .bf16 (v3081 A) bitsLt_fp8e4m3_bf16) (headsBoth (qsc A (k0_off4_inb A.i)) (qsc A (k0_off5_inb A.i)) (qsc A (k0_off6_inb A.i)) (qsc A (k0_off7_inb A.i)) (gsc A (k0_off4_inb A.i)) (gsc A (k0_off5_inb A.i)) (gsc A (k0_off6_inb A.i)) (gsc A (k0_off7_inb A.i))) from rfl]
  exact tile_qeff A 0 1 0 rfl _ _ _ _ _ _ _ _ _ (qt_0_1 A) (q_sca A 0 0 _) (q_sca A 0 1 _) (q_sca A 0 2 _) (q_sca A 0 3 _) (g_sca A 0 0 _) (g_sca A 0 1 _) (g_sca A 0 2 _) (g_sca A 0 3 _) c d

theorem dp_0_1 (j : Fin 128) (c : Fin 256) : v3239 A (ix2 j c) = DPF A 0 (64 * 1 + c.val / 4) (c.val % 4) (0 + j.val) := by
  rw [show (v3239 A) = matmul dot_S128x128_S256x128_S128x256_1_1_0_0_n_n none (extractStridedSlice S128x128 ![0, 0] (v2717 A) slices_S384x128_o0_0_S128x128) (v3086 A) (constant S128x256 .f32 0x00000000#32) from rfl]
  exact (score2 _ _ 0 _ (by decide) j c).trans (Finset.sum_congr rfl fun d _ => congrArg₂ (· * ·) (vg_0 A _ d) (dt_0_1 A c d))

theorem ds_0_1_0 (r : Fin 64) (c : Fin 256) : v3288 A (ix2 r c) = GF A 0 (64 * 1 + c.val / 4) (c.val % 4) (64 * 0 + r.val) := by
  rw [show (v3288 A) = grads (v3281 A) (extractStridedSlice S64x256 ![0, 0] (v3239 A) slices_S128x256_o0_0_S64x256) (v3156 A) (v2725 A) from rfl]
  exact tile_grads A 0 1 0 0 rfl _ _ _ _ (p_0_1_0 A) (cutDPF (dp_0_1 A)) (delta_0_1 A) (v_sca A 0 0 _) r c

def dsn_0_1_1 : FVec Ideal S64x256 .f32 :=
  grads (pn_0_1_1 A) (extractStridedSlice S64x256 ![64, 0] (v3239 A) slices_S128x256_o64_0_S64x256) (v3156 A) (v2725 A)

theorem ds_0_1_1 (r : Fin 64) (c : Fin 256) : dsn_0_1_1 A (ix2 r c) = GF A 0 (64 * 1 + c.val / 4) (c.val % 4) (64 * 1 + r.val) :=
  tile_grads A 0 1 1 0 rfl _ _ _ _ (p_0_1_1 A) (cutDPF (dp_0_1 A)) (delta_0_1 A) (v_sca A 0 0 _) r c

def da_0_1 : FVec Ideal S128x256 .bf16 :=
  concatenate S128x256 0 [⟨S64x256, (truncf .bf16 (v3288 A) bitsLt_bf16_f32)⟩, ⟨S64x256, (truncf .bf16 (dsn_0_1_1 A) bitsLt_bf16_f32)⟩] concatenates_S64x256_S64x256_S128x256_d0

theorem dsall_0_1 (j : Fin 128) (c : Fin 256) : da_0_1 A (ix2 j c) = GF A 0 (64 * 1 + c.val / 4) (c.val % 4) (0 + j.val) :=
  join2 _ _ (fun j c => GF A 0 (64 * 1 + c.val / 4) (c.val % 4) (0 + j)) (rowGF (ds_0_1_0 A)) (rowGF (ds_0_1_1 A)) _ j c

def dkn_0_1 : FVec Ideal S128x128 .f32 :=
  matmul dot_S128x256_S256x128_S128x128_1_0_0_1_n_n none (da_0_1 A) (v3235 A) (constant S128x128 .f32 0x00000000#32)

theorem dkp_0_1 (j : Fin 128) (d : Fin 128) : dkn_0_1 A (ix2 j d) = DKF A 0 1 (0 + j.val) d :=
  (over2 _ _ j d).trans (Finset.sum_congr rfl fun c _ => congrArg₂ (· * ·) (dsall_0_1 A j c) (qeff_0_1 A c d))

theorem dqm_0_1 (d : Fin 128) (c : Fin 256) : v3348 A (ix2 d c) = ∑ j : Fin 384, KEF A j.val 0 d * GF A 0 (64 * 1 + c.val / 4) (c.val % 4) j.val := by
  rw [show (v3348 A) = matmul dot_S128x128_S128x256_S128x256_1_0_0_1_n_n none (extractStridedSlice S128x128 ![0, 0] (v2747 A) slices_S128x384_o0_0_S128x128) (da_0_1 A) (constant S128x256 .f32 0x00000000#32) from rfl]
  exact (keys2 _ _ 0 _ (by decide) d c).trans ((Finset.sum_congr rfl fun j _ => congrArg₂ (· * ·) (keff_0 A d _) (dsall_0_1 A j c)).trans
    (sum_keys (fun j => KEF A j 0 d * GF A 0 (64 * 1 + c.val / 4) (c.val % 4) j) 0 128 (by decide) fun j hj hn => (congrArg (_ * ·) (GF_zero A 0 _ _ j (by omega))).trans (mul_zero _)))

theorem dqs_0_1 : v3382 A (ix2 0 c) = gsF A 0 (4 * 0 + c.val % 4) * smE := by
  rw [show (v3382 A) = headsOne (gsc A (k0_off4_inb A.i)) (gsc A (k0_off5_inb A.i)) (gsc A (k0_off6_inb A.i)) (gsc A (k0_off7_inb A.i)) from rfl]
  exact tile_dq A 0 0 _ _ _ _ (g_sca A 0 0 _) (g_sca A 0 1 _) (g_sca A 0 2 _) (g_sca A 0 3 _) c

theorem dqt_0_1 : v3386 A (ix2 c d) = DQ A 0 (64 * 1 + c.val / 4) (c.val % 4) d := by
  rw [show (v3386 A) = scaledQ (F := Ideal) (v3348 A) (v3382 A) from rfl]
  exact (scaledQ_apply _ _ c d).trans (congrArg₂ (· * ·) (dqm_0_1 A d c) ((dqs_0_1 A c).trans (congrArg (fun b => gsF A b (4 * 0 + c.val % 4) * smE) (by omega))))

/-! ### Group 0, tokens from 128 -/

theorem ob_0_2 : v3444 A (ix2 c d) = Of A (64 * 2 + c.val / 4) (4 * 0 + c.val % 4) d := by
  have e : v3444 A = joinPairs (A.arg17.view.readCov (Val := Elt Ideal) (outPiece A 1 1025 inb_S128x2x128_S64x2x128_1_0_0_s_2_1_1 inb_S1x3072x2x128_S1x64x2x128_0_1025_0_0_s_1_8_1_1
    :: outPiece A 0 1024 inb_S128x2x128_S64x2x128_0_0_0_s_2_1_1 inb_S1x3072x2x128_S1x64x2x128_0_1024_0_0_s_1_8_1_1 :: (HS3_4 A))
    (Rect.unit (s := S128x2x128) ![0, 0, 0] S128x2x128.size inb_S128x2x128_S128x2x128_0_0_0).toLoadRect) := rfl
  rw [e]
  exact tile_out A 0 2 1024 1025 (by decide) (by decide) _ _ _ _ _ _ _ _ c d

theorem delta_0_2 : v3496 A (ix2 0 c) = DLF A (64 * 2 + c.val / 4) (4 * 0 + c.val % 4) := by
  rw [show (v3496 A) = rowDots (F := Ideal) (v3445 A) (v3444 A) from rfl]
  exact tile_delta A 0 2 _ _ (dt_0_2 A) (ob_0_2 A) c

theorem qeff_0_2 : v3575 A (ix2 c d) = QEF A (64 * 2 + c.val / 4) (4 * 0 + c.val % 4) d := by
  rw [show (v3575 A) = scaleRows (extf .bf16 (v3421 A) bitsLt_fp8e4m3_bf16) (headsBoth (qsc A (k0_off8_inb A.i)) (qsc A (k0_off9_inb A.i)) (qsc A (k0_off10_inb A.i)) (qsc A (k0_off11_inb A.i)) (gsc A (k0_off8_inb A.i)) (gsc A (k0_off9_inb A.i)) (gsc A (k0_off10_inb A.i)) (gsc A (k0_off11_inb A.i))) from rfl]
  exact tile_qeff A 0 2 1 rfl _ _ _ _ _ _ _ _ _ (qt_0_2 A) (q_sca A 1 0 _) (q_sca A 1 1 _) (q_sca A 1 2 _) (q_sca A 1 3 _) (g_sca A 1 0 _) (g_sca A 1 1 _) (g_sca A 1 2 _) (g_sca A 1 3 _) c d

theorem dp_0_2 (j : Fin 192) (c : Fin 256) : v3579 A (ix2 j c) = DPF A 0 (64 * 2 + c.val / 4) (c.val % 4) (0 + j.val) := by
  rw [show (v3579 A) = matmul dot_S192x128_S256x128_S192x256_1_1_0_0_n_n none (extractStridedSlice S192x128 ![0, 0] (v2717 A) slices_S384x128_o0_0_S192x128) (v3426 A) (constant S192x256 .f32 0x00000000#32) from rfl]
  exact (score3 _ _ 0 _ (by decide) j c).trans (Finset.sum_congr rfl fun d _ => congrArg₂ (· * ·) (vg_0 A _ d) (dt_0_2 A c d))

theorem ds_0_2_0 (r : Fin 64) (c : Fin 256) : v3628 A (ix2 r c) = GF A 0 (64 * 2 + c.val / 4) (c.val % 4) (64 * 0 + r.val) := by
  rw [show (v3628 A) = grads (v3621 A) (extractStridedSlice S64x256 ![0, 0] (v3579 A) slices_S192x256_o0_0_S64x256) (v3496 A) (v2725 A) from rfl]
  exact tile_grads A 0 2 0 0 rfl _ _ _ _ (p_0_2_0 A) (cutDPF (dp_0_2 A)) (delta_0_2 A) (v_sca A 0 0 _) r c

theorem ds_0_2_1 (r : Fin 64) (c : Fin 256) : v3645 A (ix2 r c) = GF A 0 (64 * 2 + c.val / 4) (c.val % 4) (64 * 1 + r.val) := by
  rw [show (v3645 A) = grads (v3638 A) (extractStridedSlice S64x256 ![64, 0] (v3579 A) slices_S192x256_o64_0_S64x256) (v3496 A) (v2725 A) from rfl]
  exact tile_grads A 0 2 1 0 rfl _ _ _ _ (p_0_2_1 A) (cutDPF (dp_0_2 A)) (delta_0_2 A) (v_sca A 0 0 _) r c

theorem ds_0_2_2 (r : Fin 64) (c : Fin 256) : v3691 A (ix2 r c) = GF A 0 (64 * 2 + c.val / 4) (c.val % 4) (64 * 2 + r.val) := by
  rw [show (v3691 A) = grads (v3684 A) (extractStridedSlice S64x256 ![128, 0] (v3579 A) slices_S192x256_o128_0_S64x256) (v3496 A) (v2727 A) from rfl]
  exact tile_grads A 0 2 2 1 rfl _ _ _ _ (p_0_2_2 A) (cutDPF (dp_0_2 A)) (delta_0_2 A) (v_sca A 1 0 _) r c

theorem dsall_0_2 (j : Fin 192) (c : Fin 256) : v3695 A (ix2 j c) = GF A 0 (64 * 2 + c.val / 4) (c.val % 4) (0 + j.val) := by
  rw [show (v3695 A) = concatenate S192x256 0 [⟨S64x256, (truncf .bf16 (v3628 A) bitsLt_bf16_f32)⟩, ⟨S64x256, (truncf .bf16 (v3645 A) bitsLt_bf16_f32)⟩, ⟨S64x256, (truncf .bf16 (v3691 A) bitsLt_bf16_f32)⟩] concatenates_S64x256_S64x256_S64x256_S192x256_d0 from rfl]
  exact join3 _ _ _ (fun j c => GF A 0 (64 * 2 + c.val / 4) (c.val % 4) (0 + j)) (rowGF (ds_0_2_0 A)) (rowGF (ds_0_2_1 A)) (rowGF (ds_0_2_2 A)) _ j c

def dkn_0_2 : FVec Ideal S192x128 .f32 :=
  matmul dot_S192x256_S256x128_S192x128_1_0_0_1_n_n none (v3695 A) (v3575 A) (constant S192x128 .f32 0x00000000#32)

theorem dkp_0_2 (j : Fin 192) (d : Fin 128) : dkn_0_2 A (ix2 j d) = DKF A 0 2 (0 + j.val) d :=
  (over3 _ _ j d).trans (Finset.sum_congr rfl fun c _ => congrArg₂ (· * ·) (dsall_0_2 A j c) (qeff_0_2 A c d))

theorem dqm_0_2 (d : Fin 128) (c : Fin 256) : v3709 A (ix2 d c) = ∑ j : Fin 384, KEF A j.val 0 d * GF A 0 (64 * 2 + c.val / 4) (c.val % 4) j.val := by
  rw [show (v3709 A) = matmul dot_S128x192_S192x256_S128x256_1_0_0_1_n_n none (extractStridedSlice S128x192 ![0, 0] (v2747 A) slices_S128x384_o0_0_S128x192) (v3695 A) (constant S128x256 .f32 0x00000000#32) from rfl]
  exact (keys3 _ _ 0 _ (by decide) d c).trans ((Finset.sum_congr rfl fun j _ => congrArg₂ (· * ·) (keff_0 A d _) (dsall_0_2 A j c)).trans
    (sum_keys (fun j => KEF A j 0 d * GF A 0 (64 * 2 + c.val / 4) (c.val % 4) j) 0 192 (by decide) fun j hj hn => (congrArg (_ * ·) (GF_zero A 0 _ _ j (by omega))).trans (mul_zero _)))

theorem dqs_0_2 : v3743 A (ix2 0 c) = gsF A 1 (4 * 0 + c.val % 4) * smE := by
  rw [show (v3743 A) = headsOne (gsc A (k0_off8_inb A.i)) (gsc A (k0_off9_inb A.i)) (gsc A (k0_off10_inb A.i)) (gsc A (k0_off11_inb A.i)) from rfl]
  exact tile_dq A 0 1 _ _ _ _ (g_sca A 1 0 _) (g_sca A 1 1 _) (g_sca A 1 2 _) (g_sca A 1 3 _) c

theorem dqt_0_2 : v3747 A (ix2 c d) = DQ A 0 (64 * 2 + c.val / 4) (c.val % 4) d := by
  rw [show (v3747 A) = scaledQ (F := Ideal) (v3709 A) (v3743 A) from rfl]
  exact (scaledQ_apply _ _ c d).trans (congrArg₂ (· * ·) (dqm_0_2 A d c) ((dqs_0_2 A c).trans (congrArg (fun b => gsF A b (4 * 0 + c.val % 4) * smE) (by omega))))

/-! ### Group 0, tokens from 192 -/

theorem ob_0_3 : v3805 A (ix2 c d) = Of A (64 * 3 + c.val / 4) (4 * 0 + c.val % 4) d := by
  have e : v3805 A = joinPairs (A.arg17.view.readCov (Val := Elt Ideal) (outPiece A 1 1537 inb_S128x2x128_S64x2x128_1_0_0_s_2_1_1 inb_S1x3072x2x128_S1x64x2x128_0_1537_0_0_s_1_8_1_1
    :: outPiece A 0 1536 inb_S128x2x128_S64x2x128_0_0_0_s_2_1_1 inb_S1x3072x2x128_S1x64x2x128_0_1536_0_0_s_1_8_1_1 :: (HS3_6 A))
    (Rect.unit (s := S128x2x128) ![0, 0, 0] S128x2x128.size inb_S128x2x128_S128x2x128_0_0_0).toLoadRect) := rfl
  rw [e]
  exact tile_out A 0 3 1536 1537 (by decide) (by decide) _ _ _ _ _ _ _ _ c d

theorem delta_0_3 : v3857 A (ix2 0 c) = DLF A (64 * 3 + c.val / 4) (4 * 0 + c.val % 4) := by
  rw [show (v3857 A) = rowDots (F := Ideal) (v3806 A) (v3805 A) from rfl]
  exact tile_delta A 0 3 _ _ (dt_0_3 A) (ob_0_3 A) c

theorem qeff_0_3 : v3936 A (ix2 c d) = QEF A (64 * 3 + c.val / 4) (4 * 0 + c.val % 4) d := by
  rw [show (v3936 A) = scaleRows (extf .bf16 (v3782 A) bitsLt_fp8e4m3_bf16) (headsBoth (qsc A (k0_off8_inb A.i)) (qsc A (k0_off9_inb A.i)) (qsc A (k0_off10_inb A.i)) (qsc A (k0_off11_inb A.i)) (gsc A (k0_off8_inb A.i)) (gsc A (k0_off9_inb A.i)) (gsc A (k0_off10_inb A.i)) (gsc A (k0_off11_inb A.i))) from rfl]
  exact tile_qeff A 0 3 1 rfl _ _ _ _ _ _ _ _ _ (qt_0_3 A) (q_sca A 1 0 _) (q_sca A 1 1 _) (q_sca A 1 2 _) (q_sca A 1 3 _) (g_sca A 1 0 _) (g_sca A 1 1 _) (g_sca A 1 2 _) (g_sca A 1 3 _) c d

theorem dp_0_3 (j : Fin 256) (c : Fin 256) : v3940 A (ix2 j c) = DPF A 0 (64 * 3 + c.val / 4) (c.val % 4) (0 + j.val) := by
  rw [show (v3940 A) = matmul dot_S256x128_S256x128_S256x256_1_1_0_0_n_n none (extractStridedSlice S256x128 ![0, 0] (v2717 A) slices_S384x128_o0_0_S256x128) (v3787 A) (constant S256x256 .f32 0x00000000#32) from rfl]
  exact (score4 _ _ 0 _ (by decide) j c).trans (Finset.sum_congr rfl fun d _ => congrArg₂ (· * ·) (vg_0 A _ d) (dt_0_3 A c d))

theorem ds_0_3_0 (r : Fin 64) (c : Fin 256) : v3989 A (ix2 r c) = GF A 0 (64 * 3 + c.val / 4) (c.val % 4) (64 * 0 + r.val) := by
  rw [show (v3989 A) = grads (v3982 A) (extractStridedSlice S64x256 ![0, 0] (v3940 A) slices_S256x256_o0_0_S64x256) (v3857 A) (v2725 A) from rfl]
  exact tile_grads A 0 3 0 0 rfl _ _ _ _ (p_0_3_0 A) (cutDPF (dp_0_3 A)) (delta_0_3 A) (v_sca A 0 0 _) r c

theorem ds_0_3_1 (r : Fin 64) (c : Fin 256) : v4006 A (ix2 r c) = GF A 0 (64 * 3 + c.val / 4) (c.val % 4) (64 * 1 + r.val) := by
  rw [show (v4006 A) = grads (v3999 A) (extractStridedSlice S64x256 ![64, 0] (v3940 A) slices_S256x256_o64_0_S64x256) (v3857 A) (v2725 A) from rfl]
  exact tile_grads A 0 3 1 0 rfl _ _ _ _ (p_0_3_1 A) (cutDPF (dp_0_3 A)) (delta_0_3 A) (v_sca A 0 0 _) r c

theorem ds_0_3_2 (r : Fin 64) (c : Fin 256) : v4023 A (ix2 r c) = GF A 0 (64 * 3 + c.val / 4) (c.val % 4) (64 * 2 + r.val) := by
  rw [show (v4023 A) = grads (v4016 A) (extractStridedSlice S64x256 ![128, 0] (v3940 A) slices_S256x256_o128_0_S64x256) (v3857 A) (v2727 A) from rfl]
  exact tile_grads A 0 3 2 1 rfl _ _ _ _ (p_0_3_2 A) (cutDPF (dp_0_3 A)) (delta_0_3 A) (v_sca A 1 0 _) r c

theorem ds_0_3_3 (r : Fin 64) (c : Fin 256) : v4069 A (ix2 r c) = GF A 0 (64 * 3 + c.val / 4) (c.val % 4) (64 * 3 + r.val) := by
  rw [show (v4069 A) = grads (v4062 A) (extractStridedSlice S64x256 ![192, 0] (v3940 A) slices_S256x256_o192_0_S64x256) (v3857 A) (v2727 A) from rfl]
  exact tile_grads A 0 3 3 1 rfl _ _ _ _ (p_0_3_3 A) (cutDPF (dp_0_3 A)) (delta_0_3 A) (v_sca A 1 0 _) r c

theorem dsall_0_3 (j : Fin 256) (c : Fin 256) : v4073 A (ix2 j c) = GF A 0 (64 * 3 + c.val / 4) (c.val % 4) (0 + j.val) := by
  rw [show (v4073 A) = concatenate S256x256 0 [⟨S64x256, (truncf .bf16 (v3989 A) bitsLt_bf16_f32)⟩, ⟨S64x256, (truncf .bf16 (v4006 A) bitsLt_bf16_f32)⟩, ⟨S64x256, (truncf .bf16 (v4023 A) bitsLt_bf16_f32)⟩, ⟨S64x256, (truncf .bf16 (v4069 A) bitsLt_bf16_f32)⟩] concatenates_S64x256_S64x256_S64x256_S64x256_S256x256_d0 from rfl]
  exact join4 _ _ _ _ (fun j c => GF A 0 (64 * 3 + c.val / 4) (c.val % 4) (0 + j)) (rowGF (ds_0_3_0 A)) (rowGF (ds_0_3_1 A)) (rowGF (ds_0_3_2 A)) (rowGF (ds_0_3_3 A)) _ j c

theorem dkp_0_3 (j : Fin 256) (d : Fin 128) : v4075 A (ix2 j d) = DKF A 0 3 (0 + j.val) d := by
  rw [show (v4075 A) = matmul dot_S256x256_S256x128_S256x128_1_0_0_1_n_n none (v4073 A) (v3936 A) (constant S256x128 .f32 0x00000000#32) from rfl]
  exact (over4 _ _ j d).trans (Finset.sum_congr rfl fun c _ => congrArg₂ (· * ·) (dsall_0_3 A j c) (qeff_0_3 A c d))

def dqmn_0_3 : FVec Ideal S128x256 .f32 :=
  matmul dot_S128x256_S256x256_S128x256_1_0_0_1_n_n none (extractStridedSlice S128x256 ![0, 0] (v2747 A) slices_S128x384_o0_0_S128x256) (v4073 A) (constant S128x256 .f32 0x00000000#32)

theorem dqm_0_3 (d : Fin 128) (c : Fin 256) : dqmn_0_3 A (ix2 d c) = ∑ j : Fin 384, KEF A j.val 0 d * GF A 0 (64 * 3 + c.val / 4) (c.val % 4) j.val :=
  (keys4 _ _ 0 _ (by decide) d c).trans ((Finset.sum_congr rfl fun j _ => congrArg₂ (· * ·) (keff_0 A d _) (dsall_0_3 A j c)).trans
    (sum_keys (fun j => KEF A j 0 d * GF A 0 (64 * 3 + c.val / 4) (c.val % 4) j) 0 256 (by decide) fun j hj hn => (congrArg (_ * ·) (GF_zero A 0 _ _ j (by omega))).trans (mul_zero _)))

def dqsn_0_3 : FVec Ideal S1x256 .f32 :=
  headsOne (gsc A (k0_off8_inb A.i)) (gsc A (k0_off9_inb A.i)) (gsc A (k0_off10_inb A.i)) (gsc A (k0_off11_inb A.i))

theorem dqs_0_3 : dqsn_0_3 A (ix2 0 c) = gsF A 1 (4 * 0 + c.val % 4) * smE :=
  tile_dq A 0 1 _ _ _ _ (g_sca A 1 0 _) (g_sca A 1 1 _) (g_sca A 1 2 _) (g_sca A 1 3 _) c

def dqtn_0_3 : FVec Ideal S256x128 .bf16 :=
  scaledQ (F := Ideal) (dqmn_0_3 A) (dqsn_0_3 A)

theorem dqt_0_3 : dqtn_0_3 A (ix2 c d) = DQ A 0 (64 * 3 + c.val / 4) (c.val % 4) d :=
  (scaledQ_apply _ _ c d).trans (congrArg₂ (· * ·) (dqm_0_3 A d c) ((dqs_0_3 A c).trans (congrArg (fun b => gsF A b (4 * 0 + c.val % 4) * smE) (by omega))))

/-! ### Group 0, tokens from 256 -/

theorem ob_0_4 : v4187 A (ix2 c d) = Of A (64 * 4 + c.val / 4) (4 * 0 + c.val % 4) d := by
  have e : v4187 A = joinPairs (A.arg17.view.readCov (Val := Elt Ideal) (outPiece A 1 2049 inb_S128x2x128_S64x2x128_1_0_0_s_2_1_1 inb_S1x3072x2x128_S1x64x2x128_0_2049_0_0_s_1_8_1_1
    :: outPiece A 0 2048 inb_S128x2x128_S64x2x128_0_0_0_s_2_1_1 inb_S1x3072x2x128_S1x64x2x128_0_2048_0_0_s_1_8_1_1 :: (HS3_8 A))
    (Rect.unit (s := S128x2x128) ![0, 0, 0] S128x2x128.size inb_S128x2x128_S128x2x128_0_0_0).toLoadRect) := rfl
  rw [e]
  exact tile_out A 0 4 2048 2049 (by decide) (by decide) _ _ _ _ _ _ _ _ c d

theorem delta_0_4 : v4239 A (ix2 0 c) = DLF A (64 * 4 + c.val / 4) (4 * 0 + c.val % 4) := by
  rw [show (v4239 A) = rowDots (F := Ideal) (v4188 A) (v4187 A) from rfl]
  exact tile_delta A 0 4 _ _ (dt_0_4 A) (ob_0_4 A) c

theorem qeff_0_4 : v4318 A (ix2 c d) = QEF A (64 * 4 + c.val / 4) (4 * 0 + c.val % 4) d := by
  rw [show (v4318 A) = scaleRows (extf .bf16 (v4164 A) bitsLt_fp8e4m3_bf16) (headsBoth (qsc A (k0_off12_inb A.i)) (qsc A (k0_off13_inb A.i)) (qsc A (k0_off14_inb A.i)) (qsc A (k0_off15_inb A.i)) (gsc A (k0_off12_inb A.i)) (gsc A (k0_off13_inb A.i)) (gsc A (k0_off14_inb A.i)) (gsc A (k0_off15_inb A.i))) from rfl]
  exact tile_qeff A 0 4 2 rfl _ _ _ _ _ _ _ _ _ (qt_0_4 A) (q_sca A 2 0 _) (q_sca A 2 1 _) (q_sca A 2 2 _) (q_sca A 2 3 _) (g_sca A 2 0 _) (g_sca A 2 1 _) (g_sca A 2 2 _) (g_sca A 2 3 _) c d

theorem dp_0_4 (j : Fin 320) (c : Fin 256) : v4322 A (ix2 j c) = DPF A 0 (64 * 4 + c.val / 4) (c.val % 4) (0 + j.val) := by
  rw [show (v4322 A) = matmul dot_S320x128_S256x128_S320x256_1_1_0_0_n_n none (extractStridedSlice S320x128 ![0, 0] (v2717 A) slices_S384x128_o0_0_S320x128) (v4169 A) (constant S320x256 .f32 0x00000000#32) from rfl]
  exact (score5 _ _ 0 _ (by decide) j c).trans (Finset.sum_congr rfl fun d _ => congrArg₂ (· * ·) (vg_0 A _ d) (dt_0_4 A c d))

theorem ds_0_4_0 (r : Fin 64) (c : Fin 256) : v4400 A (ix2 r c) = GF A 0 (64 * 4 + c.val / 4) (c.val % 4) (64 * 0 + r.val) := by
  rw [show (v4400 A) = grads (v4393 A) (extractStridedSlice S64x256 ![0, 0] (v4322 A) slices_S320x256_o0_0_S64x256) (v4239 A) (v2725 A) from rfl]
  exact tile_grads A 0 4 0 0 rfl _ _ _ _ (p_0_4_0 A) (cutDPF (dp_0_4 A)) (delta_0_4 A) (v_sca A 0 0 _) r c

theorem ds_0_4_1 (r : Fin 64) (c : Fin 256) : v4417 A (ix2 r c) = GF A 0 (64 * 4 + c.val / 4) (c.val % 4) (64 * 1 + r.val) := by
  rw [show (v4417 A) = grads (v4410 A) (extractStridedSlice S64x256 ![64, 0] (v4322 A) slices_S320x256_o64_0_S64x256) (v4239 A) (v2725 A) from rfl]
  exact tile_grads A 0 4 1 0 rfl _ _ _ _ (p_0_4_1 A) (cutDPF (dp_0_4 A)) (delta_0_4 A) (v_sca A 0 0 _) r c

theorem ds_0_4_2 (r : Fin 64) (c : Fin 256) : v4434 A (ix2 r c) = GF A 0 (64 * 4 + c.val / 4) (c.val % 4) (64 * 2 + r.val) := by
  rw [show (v4434 A) = grads (v4427 A) (extractStridedSlice S64x256 ![128, 0] (v4322 A) slices_S320x256_o128_0_S64x256) (v4239 A) (v2727 A) from rfl]
  exact tile_grads A 0 4 2 1 rfl _ _ _ _ (p_0_4_2 A) (cutDPF (dp_0_4 A)) (delta_0_4 A) (v_sca A 1 0 _) r c

theorem ds_0_4_3 (r : Fin 64) (c : Fin 256) : v4451 A (ix2 r c) = GF A 0 (64 * 4 + c.val / 4) (c.val % 4) (64 * 3 + r.val) := by
  rw [show (v4451 A) = grads (v4444 A) (extractStridedSlice S64x256 ![192, 0] (v4322 A) slices_S320x256_o192_0_S64x256) (v4239 A) (v2727 A) from rfl]
  exact tile_grads A 0 4 3 1 rfl _ _ _ _ (p_0_4_3 A) (cutDPF (dp_0_4 A)) (delta_0_4 A) (v_sca A 1 0 _) r c

def dsn_0_4_4 : FVec Ideal S64x256 .f32 :=
  grads (pn_0_4_4 A) (extractStridedSlice S64x256 ![256, 0] (v4322 A) slices_S320x256_o256_0_S64x256) (v4239 A) (v2729 A)

theorem ds_0_4_4 (r : Fin 64) (c : Fin 256) : dsn_0_4_4 A (ix2 r c) = GF A 0 (64 * 4 + c.val / 4) (c.val % 4) (64 * 4 + r.val) :=
  tile_grads A 0 4 4 2 rfl _ _ _ _ (p_0_4_4 A) (cutDPF (dp_0_4 A)) (delta_0_4 A) (v_sca A 2 0 _) r c

def da_0_4 : FVec Ideal S320x256 .bf16 :=
  concatenate S320x256 0 [⟨S64x256, (truncf .bf16 (v4400 A) bitsLt_bf16_f32)⟩, ⟨S64x256, (truncf .bf16 (v4417 A) bitsLt_bf16_f32)⟩, ⟨S64x256, (truncf .bf16 (v4434 A) bitsLt_bf16_f32)⟩, ⟨S64x256, (truncf .bf16 (v4451 A) bitsLt_bf16_f32)⟩, ⟨S64x256, (truncf .bf16 (dsn_0_4_4 A) bitsLt_bf16_f32)⟩] concatenates_S64x256_S64x256_S64x256_S64x256_S64x256_S320x256_d0

theorem dsall_0_4 (j : Fin 320) (c : Fin 256) : da_0_4 A (ix2 j c) = GF A 0 (64 * 4 + c.val / 4) (c.val % 4) (0 + j.val) :=
  join5 _ _ _ _ _ (fun j c => GF A 0 (64 * 4 + c.val / 4) (c.val % 4) (0 + j)) (rowGF (ds_0_4_0 A)) (rowGF (ds_0_4_1 A)) (rowGF (ds_0_4_2 A)) (rowGF (ds_0_4_3 A)) (rowGF (ds_0_4_4 A)) _ j c

def dkn_0_4 : FVec Ideal S320x128 .f32 :=
  matmul dot_S320x256_S256x128_S320x128_1_0_0_1_n_n none (da_0_4 A) (v4318 A) (constant S320x128 .f32 0x00000000#32)

theorem dkp_0_4 (j : Fin 320) (d : Fin 128) : dkn_0_4 A (ix2 j d) = DKF A 0 4 (0 + j.val) d :=
  (over5 _ _ j d).trans (Finset.sum_congr rfl fun c _ => congrArg₂ (· * ·) (dsall_0_4 A j c) (qeff_0_4 A c d))

theorem dqm_0_4 (d : Fin 128) (c : Fin 256) : v4523 A (ix2 d c) = ∑ j : Fin 384, KEF A j.val 0 d * GF A 0 (64 * 4 + c.val / 4) (c.val % 4) j.val := by
  rw [show (v4523 A) = matmul dot_S128x320_S320x256_S128x256_1_0_0_1_n_n none (extractStridedSlice S128x320 ![0, 0] (v2747 A) slices_S128x384_o0_0_S128x320) (da_0_4 A) (constant S128x256 .f32 0x00000000#32) from rfl]
  exact (keys5 _ _ 0 _ (by decide) d c).trans ((Finset.sum_congr rfl fun j _ => congrArg₂ (· * ·) (keff_0 A d _) (dsall_0_4 A j c)).trans
    (sum_keys (fun j => KEF A j 0 d * GF A 0 (64 * 4 + c.val / 4) (c.val % 4) j) 0 320 (by decide) fun j hj hn => (congrArg (_ * ·) (GF_zero A 0 _ _ j (by omega))).trans (mul_zero _)))

theorem dqs_0_4 : v4557 A (ix2 0 c) = gsF A 2 (4 * 0 + c.val % 4) * smE := by
  rw [show (v4557 A) = headsOne (gsc A (k0_off12_inb A.i)) (gsc A (k0_off13_inb A.i)) (gsc A (k0_off14_inb A.i)) (gsc A (k0_off15_inb A.i)) from rfl]
  exact tile_dq A 0 2 _ _ _ _ (g_sca A 2 0 _) (g_sca A 2 1 _) (g_sca A 2 2 _) (g_sca A 2 3 _) c

theorem dqt_0_4 : v4561 A (ix2 c d) = DQ A 0 (64 * 4 + c.val / 4) (c.val % 4) d := by
  rw [show (v4561 A) = scaledQ (F := Ideal) (v4523 A) (v4557 A) from rfl]
  exact (scaledQ_apply _ _ c d).trans (congrArg₂ (· * ·) (dqm_0_4 A d c) ((dqs_0_4 A c).trans (congrArg (fun b => gsF A b (4 * 0 + c.val % 4) * smE) (by omega))))

/-! ### Group 0, tokens from 320 -/

theorem ob_0_5 : v4619 A (ix2 c d) = Of A (64 * 5 + c.val / 4) (4 * 0 + c.val % 4) d := by
  have e : v4619 A = joinPairs (A.arg17.view.readCov (Val := Elt Ideal) (outPiece A 1 2561 inb_S128x2x128_S64x2x128_1_0_0_s_2_1_1 inb_S1x3072x2x128_S1x64x2x128_0_2561_0_0_s_1_8_1_1
    :: outPiece A 0 2560 inb_S128x2x128_S64x2x128_0_0_0_s_2_1_1 inb_S1x3072x2x128_S1x64x2x128_0_2560_0_0_s_1_8_1_1 :: (HS3_10 A))
    (Rect.unit (s := S128x2x128) ![0, 0, 0] S128x2x128.size inb_S128x2x128_S128x2x128_0_0_0).toLoadRect) := rfl
  rw [e]
  exact tile_out A 0 5 2560 2561 (by decide) (by decide) _ _ _ _ _ _ _ _ c d

theorem delta_0_5 : v4671 A (ix2 0 c) = DLF A (64 * 5 + c.val / 4) (4 * 0 + c.val % 4) := by
  rw [show (v4671 A) = rowDots (F := Ideal) (v4620 A) (v4619 A) from rfl]
  exact tile_delta A 0 5 _ _ (dt_0_5 A) (ob_0_5 A) c

theorem qeff_0_5 : v4750 A (ix2 c d) = QEF A (64 * 5 + c.val / 4) (4 * 0 + c.val % 4) d := by
  rw [show (v4750 A) = scaleRows (extf .bf16 (v4596 A) bitsLt_fp8e4m3_bf16) (headsBoth (qsc A (k0_off12_inb A.i)) (qsc A (k0_off13_inb A.i)) (qsc A (k0_off14_inb A.i)) (qsc A (k0_off15_inb A.i)) (gsc A (k0_off12_inb A.i)) (gsc A (k0_off13_inb A.i)) (gsc A (k0_off14_inb A.i)) (gsc A (k0_off15_inb A.i))) from rfl]
  exact tile_qeff A 0 5 2 rfl _ _ _ _ _ _ _ _ _ (qt_0_5 A) (q_sca A 2 0 _) (q_sca A 2 1 _) (q_sca A 2 2 _) (q_sca A 2 3 _) (g_sca A 2 0 _) (g_sca A 2 1 _) (g_sca A 2 2 _) (g_sca A 2 3 _) c d

theorem dp_0_5 (j : Fin 320) (c : Fin 256) : v4754 A (ix2 j c) = DPF A 0 (64 * 5 + c.val / 4) (c.val % 4) (64 + j.val) := by
  rw [show (v4754 A) = matmul dot_S320x128_S256x128_S320x256_1_1_0_0_n_n none (extractStridedSlice S320x128 ![64, 0] (v2717 A) slices_S384x128_o64_0_S320x128) (v4601 A) (constant S320x256 .f32 0x00000000#32) from rfl]
  exact (score5 _ _ 64 _ (by decide) j c).trans (Finset.sum_congr rfl fun d _ => congrArg₂ (· * ·) (vg_0 A _ d) (dt_0_5 A c d))

theorem ds_0_5_1 (r : Fin 64) (c : Fin 256) : v4832 A (ix2 r c) = GF A 0 (64 * 5 + c.val / 4) (c.val % 4) (64 * 1 + r.val) := by
  rw [show (v4832 A) = grads (v4825 A) (extractStridedSlice S64x256 ![0, 0] (v4754 A) slices_S320x256_o0_0_S64x256) (v4671 A) (v2725 A) from rfl]
  exact tile_grads A 0 5 1 0 rfl _ _ _ _ (p_0_5_1 A) (cutDPF (dp_0_5 A)) (delta_0_5 A) (v_sca A 0 0 _) r c

theorem ds_0_5_2 (r : Fin 64) (c : Fin 256) : v4849 A (ix2 r c) = GF A 0 (64 * 5 + c.val / 4) (c.val % 4) (64 * 2 + r.val) := by
  rw [show (v4849 A) = grads (v4842 A) (extractStridedSlice S64x256 ![64, 0] (v4754 A) slices_S320x256_o64_0_S64x256) (v4671 A) (v2727 A) from rfl]
  exact tile_grads A 0 5 2 1 rfl _ _ _ _ (p_0_5_2 A) (cutDPF (dp_0_5 A)) (delta_0_5 A) (v_sca A 1 0 _) r c

theorem ds_0_5_3 (r : Fin 64) (c : Fin 256) : v4866 A (ix2 r c) = GF A 0 (64 * 5 + c.val / 4) (c.val % 4) (64 * 3 + r.val) := by
  rw [show (v4866 A) = grads (v4859 A) (extractStridedSlice S64x256 ![128, 0] (v4754 A) slices_S320x256_o128_0_S64x256) (v4671 A) (v2727 A) from rfl]
  exact tile_grads A 0 5 3 1 rfl _ _ _ _ (p_0_5_3 A) (cutDPF (dp_0_5 A)) (delta_0_5 A) (v_sca A 1 0 _) r c

theorem ds_0_5_4 (r : Fin 64) (c : Fin 256) : v4883 A (ix2 r c) = GF A 0 (64 * 5 + c.val / 4) (c.val % 4) (64 * 4 + r.val) := by
  rw [show (v4883 A) = grads (v4876 A) (extractStridedSlice S64x256 ![192, 0] (v4754 A) slices_S320x256_o192_0_S64x256) (v4671 A) (v2729 A) from rfl]
  exact tile_grads A 0 5 4 2 rfl _ _ _ _ (p_0_5_4 A) (cutDPF (dp_0_5 A)) (delta_0_5 A) (v_sca A 2 0 _) r c

def dsn_0_5_5 : FVec Ideal S64x256 .f32 :=
  grads (v4922 A) (extractStridedSlice S64x256 ![256, 0] (v4754 A) slices_S320x256_o256_0_S64x256) (v4671 A) (v2729 A)

theorem ds_0_5_5 (r : Fin 64) (c : Fin 256) : dsn_0_5_5 A (ix2 r c) = GF A 0 (64 * 5 + c.val / 4) (c.val % 4) (64 * 5 + r.val) :=
  tile_grads A 0 5 5 2 rfl _ _ _ _ (p_0_5_5 A) (cutDPF (dp_0_5 A)) (delta_0_5 A) (v_sca A 2 0 _) r c

def da_0_5 : FVec Ideal S320x256 .bf16 :=
  concatenate S320x256 0 [⟨S64x256, (truncf .bf16 (v4832 A) bitsLt_bf16_f32)⟩, ⟨S64x256, (truncf .bf16 (v4849 A) bitsLt_bf16_f32)⟩, ⟨S64x256, (truncf .bf16 (v4866 A) bitsLt_bf16_f32)⟩, ⟨S64x256, (truncf .bf16 (v4883 A) bitsLt_bf16_f32)⟩, ⟨S64x256, (truncf .bf16 (dsn_0_5_5 A) bitsLt_bf16_f32)⟩] concatenates_S64x256_S64x256_S64x256_S64x256_S64x256_S320x256_d0

theorem dsall_0_5 (j : Fin 320) (c : Fin 256) : da_0_5 A (ix2 j c) = GF A 0 (64 * 5 + c.val / 4) (c.val % 4) (64 + j.val) :=
  join5 _ _ _ _ _ (fun j c => GF A 0 (64 * 5 + c.val / 4) (c.val % 4) (64 + j)) (rowGF (ds_0_5_1 A)) (rowGF (ds_0_5_2 A)) (rowGF (ds_0_5_3 A)) (rowGF (ds_0_5_4 A)) (rowGF (ds_0_5_5 A)) _ j c

def dkn_0_5 : FVec Ideal S320x128 .f32 :=
  matmul dot_S320x256_S256x128_S320x128_1_0_0_1_n_n none (da_0_5 A) (v4750 A) (constant S320x128 .f32 0x00000000#32)

theorem dkp_0_5 (j : Fin 320) (d : Fin 128) : dkn_0_5 A (ix2 j d) = DKF A 0 5 (64 + j.val) d :=
  (over5 _ _ j d).trans (Finset.sum_congr rfl fun c _ => congrArg₂ (· * ·) (dsall_0_5 A j c) (qeff_0_5 A c d))

theorem dqm_0_5 (d : Fin 128) (c : Fin 256) : v4955 A (ix2 d c) = ∑ j : Fin 384, KEF A j.val 0 d * GF A 0 (64 * 5 + c.val / 4) (c.val % 4) j.val := by
  rw [show (v4955 A) = matmul dot_S128x320_S320x256_S128x256_1_0_0_1_n_n none (extractStridedSlice S128x320 ![0, 64] (v2747 A) slices_S128x384_o0_64_S128x320) (da_0_5 A) (constant S128x256 .f32 0x00000000#32) from rfl]
  exact (keys5 _ _ 64 _ (by decide) d c).trans ((Finset.sum_congr rfl fun j _ => congrArg₂ (· * ·) (keff_0 A d _) (dsall_0_5 A j c)).trans
    (sum_keys (fun j => KEF A j 0 d * GF A 0 (64 * 5 + c.val / 4) (c.val % 4) j) 64 320 (by decide) fun j hj hn => (congrArg (_ * ·) (GF_zero A 0 _ _ j (by omega))).trans (mul_zero _)))

theorem dqs_0_5 : v4989 A (ix2 0 c) = gsF A 2 (4 * 0 + c.val % 4) * smE := by
  rw [show (v4989 A) = headsOne (gsc A (k0_off12_inb A.i)) (gsc A (k0_off13_inb A.i)) (gsc A (k0_off14_inb A.i)) (gsc A (k0_off15_inb A.i)) from rfl]
  exact tile_dq A 0 2 _ _ _ _ (g_sca A 2 0 _) (g_sca A 2 1 _) (g_sca A 2 2 _) (g_sca A 2 3 _) c

theorem dqt_0_5 : v4993 A (ix2 c d) = DQ A 0 (64 * 5 + c.val / 4) (c.val % 4) d := by
  rw [show (v4993 A) = scaledQ (F := Ideal) (v4955 A) (v4989 A) from rfl]
  exact (scaledQ_apply _ _ c d).trans (congrArg₂ (· * ·) (dqm_0_5 A d c) ((dqs_0_5 A c).trans (congrArg (fun b => gsF A b (4 * 0 + c.val % 4) * smE) (by omega))))

theorem dkacc_0_0_0 (r : Fin 64) (d : Fin 128) : v3006 A (ix2 r d) = DKT A 0 0 0 r d :=
  one_tile (dkp_0_0 A)

theorem dkacc_0_0_1 (r : Fin 64) (d : Fin 128) : v3344 A (ix2 r d) = DKT A 0 0 1 r d := by
  rw [show (v3344 A) = addf (F := Ideal) (φ := .f32) (v3006 A) (extractStridedSlice S64x128 ![0, 0] (dkn_0_1 A) slices_S128x128_o0_0_S64x128) from rfl]
  exact add_tile (dkacc_0_0_0 A r d) (dkp_0_1 A)

theorem dkacc_0_0_2 (r : Fin 64) (d : Fin 128) : v3701 A (ix2 r d) = DKT A 0 0 2 r d := by
  rw [show (v3701 A) = addf (F := Ideal) (φ := .f32) (v3344 A) (extractStridedSlice S64x128 ![0, 0] (dkn_0_2 A) slices_S192x128_o0_0_S64x128) from rfl]
  exact add_tile (dkacc_0_0_1 A r d) (dkp_0_2 A)

theorem dkacc_0_0_3 (r : Fin 64) (d : Fin 128) : v4079 A (ix2 r d) = DKT A 0 0 3 r d := by
  rw [show (v4079 A) = addf (F := Ideal) (φ := .f32) (v3701 A) (extractStridedSlice S64x128 ![0, 0] (v4075 A) slices_S256x128_o0_0_S64x128) from rfl]
  exact add_tile (dkacc_0_0_2 A r d) (dkp_0_3 A)

theorem dkacc_0_0_4 (r : Fin 64) (d : Fin 128) : v4507 A (ix2 r d) = DKT A 0 0 4 r d := by
  rw [show (v4507 A) = addf (F := Ideal) (φ := .f32) (v4079 A) (extractStridedSlice S64x128 ![0, 0] (dkn_0_4 A) slices_S320x128_o0_0_S64x128) from rfl]
  exact add_tile (dkacc_0_0_3 A r d) (dkp_0_4 A)

theorem dkacc_0_1_1 (r : Fin 64) (d : Fin 128) : v3346 A (ix2 r d) = DKT A 0 1 0 r d := by
  rw [show (v3346 A) = (extractStridedSlice S64x128 ![64, 0] (dkn_0_1 A) slices_S128x128_o64_0_S64x128) from rfl]
  exact (first_tile (dkp_0_1 A))

theorem dkacc_0_1_2 (r : Fin 64) (d : Fin 128) : v3705 A (ix2 r d) = DKT A 0 1 1 r d := by
  rw [show (v3705 A) = addf (F := Ideal) (φ := .f32) (v3346 A) (extractStridedSlice S64x128 ![64, 0] (dkn_0_2 A) slices_S192x128_o64_0_S64x128) from rfl]
  exact add_tile (dkacc_0_1_1 A r d) (dkp_0_2 A)

theorem dkacc_0_1_3 (r : Fin 64) (d : Fin 128) : v4083 A (ix2 r d) = DKT A 0 1 2 r d := by
  rw [show (v4083 A) = addf (F := Ideal) (φ := .f32) (v3705 A) (extractStridedSlice S64x128 ![64, 0] (v4075 A) slices_S256x128_o64_0_S64x128) from rfl]
  exact add_tile (dkacc_0_1_2 A r d) (dkp_0_3 A)

theorem dkacc_0_1_4 (r : Fin 64) (d : Fin 128) : v4511 A (ix2 r d) = DKT A 0 1 3 r d := by
  rw [show (v4511 A) = addf (F := Ideal) (φ := .f32) (v4083 A) (extractStridedSlice S64x128 ![64, 0] (dkn_0_4 A) slices_S320x128_o64_0_S64x128) from rfl]
  exact add_tile (dkacc_0_1_3 A r d) (dkp_0_4 A)

theorem dkacc_0_1_5 (r : Fin 64) (d : Fin 128) : v4939 A (ix2 r d) = DKT A 0 1 4 r d := by
  rw [show (v4939 A) = addf (F := Ideal) (φ := .f32) (v4511 A) (extractStridedSlice S64x128 ![0, 0] (dkn_0_5 A) slices_S320x128_o0_0_S64x128) from rfl]
  exact add_tile (dkacc_0_1_4 A r d) (dkp_0_5 A)

theorem dkacc_0_2_2 (r : Fin 64) (d : Fin 128) : v3707 A (ix2 r d) = DKT A 0 2 0 r d := by
  rw [show (v3707 A) = (extractStridedSlice S64x128 ![128, 0] (dkn_0_2 A) slices_S192x128_o128_0_S64x128) from rfl]
  exact (first_tile (dkp_0_2 A))

theorem dkacc_0_2_3 (r : Fin 64) (d : Fin 128) : v4087 A (ix2 r d) = DKT A 0 2 1 r d := by
  rw [show (v4087 A) = addf (F := Ideal) (φ := .f32) (v3707 A) (extractStridedSlice S64x128 ![128, 0] (v4075 A) slices_S256x128_o128_0_S64x128) from rfl]
  exact add_tile (dkacc_0_2_2 A r d) (dkp_0_3 A)

theorem dkacc_0_2_4 (r : Fin 64) (d : Fin 128) : v4515 A (ix2 r d) = DKT A 0 2 2 r d := by
  rw [show (v4515 A) = addf (F := Ideal) (φ := .f32) (v4087 A) (extractStridedSlice S64x128 ![128, 0] (dkn_0_4 A) slices_S320x128_o128_0_S64x128) from rfl]
  exact add_tile (dkacc_0_2_3 A r d) (dkp_0_4 A)

theorem dkacc_0_2_5 (r : Fin 64) (d : Fin 128) : v4943 A (ix2 r d) = DKT A 0 2 3 r d := by
  rw [show (v4943 A) = addf (F := Ideal) (φ := .f32) (v4515 A) (extractStridedSlice S64x128 ![64, 0] (dkn_0_5 A) slices_S320x128_o64_0_S64x128) from rfl]
  exact add_tile (dkacc_0_2_4 A r d) (dkp_0_5 A)

theorem dkacc_0_3_3 (r : Fin 64) (d : Fin 128) : v4089 A (ix2 r d) = DKT A 0 3 0 r d := by
  rw [show (v4089 A) = (extractStridedSlice S64x128 ![192, 0] (v4075 A) slices_S256x128_o192_0_S64x128) from rfl]
  exact (first_tile (dkp_0_3 A))

theorem dkacc_0_3_4 (r : Fin 64) (d : Fin 128) : v4519 A (ix2 r d) = DKT A 0 3 1 r d := by
  rw [show (v4519 A) = addf (F := Ideal) (φ := .f32) (v4089 A) (extractStridedSlice S64x128 ![192, 0] (dkn_0_4 A) slices_S320x128_o192_0_S64x128) from rfl]
  exact add_tile (dkacc_0_3_3 A r d) (dkp_0_4 A)

theorem dkacc_0_3_5 (r : Fin 64) (d : Fin 128) : v4947 A (ix2 r d) = DKT A 0 3 2 r d := by
  rw [show (v4947 A) = addf (F := Ideal) (φ := .f32) (v4519 A) (extractStridedSlice S64x128 ![128, 0] (dkn_0_5 A) slices_S320x128_o128_0_S64x128) from rfl]
  exact add_tile (dkacc_0_3_4 A r d) (dkp_0_5 A)

theorem dkacc_0_4_4 (r : Fin 64) (d : Fin 128) : v4521 A (ix2 r d) = DKT A 0 4 0 r d := by
  rw [show (v4521 A) = (extractStridedSlice S64x128 ![256, 0] (dkn_0_4 A) slices_S320x128_o256_0_S64x128) from rfl]
  exact (first_tile (dkp_0_4 A))

theorem dkacc_0_4_5 (r : Fin 64) (d : Fin 128) : v4951 A (ix2 r d) = DKT A 0 4 1 r d := by
  rw [show (v4951 A) = addf (F := Ideal) (φ := .f32) (v4521 A) (extractStridedSlice S64x128 ![192, 0] (dkn_0_5 A) slices_S320x128_o192_0_S64x128) from rfl]
  exact add_tile (dkacc_0_4_4 A r d) (dkp_0_5 A)

theorem dkacc_0_5_5 (r : Fin 64) (d : Fin 128) : v4953 A (ix2 r d) = DKT A 0 5 0 r d := by
  rw [show (v4953 A) = (extractStridedSlice S64x128 ![256, 0] (dkn_0_5 A) slices_S320x128_o256_0_S64x128) from rfl]
  exact (first_tile (dkp_0_5 A))

end Cert.KernelIdeal.Hand
-- ==== Proof.Exact.Weights1.lean ====
/- Head group 1: the weights and the value gradient's sums, tile by tile, by the lemmas of one tile. -/
module

public import proofs.«01_k».proof.Proof.Exact.Steps

@[expose] public section

set_option maxRecDepth 16384

noncomputable section

namespace Cert.KernelIdeal.Hand

open Cert.KernelIdeal.Gen Idealize.ShloMosaic
open bodyRun.sl

variable (A : Pack Ideal) (c : Fin 256) (d : Fin 128)

theorem kg_1 (j : Fin 384) (d : Fin 128) : v5035 A (ix2 j d) = Kf A j.val 1 d :=
  keysK A 1 inb_S4x384x128_S1x384x128_1_0_0 (by decide) j d

/-! ### Group 1, tokens from 0 -/

theorem qt_1_0 : v5088 A (ix2 c d) = Qf A (64 * 0 + c.val / 4) (4 * 1 + c.val % 4) d :=
  rowsQ A 1 0 0 4 inb_S1x6144x128_S1x1024x128_0_0_0 slices_S64x16x128_o0_4_0_S64x4x128 (by decide) (by decide) (by decide) c d

theorem dt_1_0 : v5093 A (ix2 c d) = Gf A (64 * 0 + c.val / 4) (4 * 1 + c.val % 4) d :=
  rowsG A 1 0 0 4 inb_S1x6144x128_S1x1024x128_0_0_0 slices_S64x16x128_o0_4_0_S64x4x128 (by decide) (by decide) (by decide) c d

theorem l2_1_0 : v5165 A (ix2 0 c) = Lf A (64 * 0 + c.val / 4) (4 * 1 + c.val % 4) * toBase2 :=
  lses A 1 0 0 inb_S4x1x1536_S1x1x256_1_0_0 (by decide) (by decide) (by decide) c

theorem doeff_1_0 : v5235 A (ix2 c d) = GEF A (64 * 0 + c.val / 4) (4 * 1 + c.val % 4) d := by
  rw [show (v5235 A) = scaleRows (extf .bf16 (v5093 A) bitsLt_fp8e5m2_bf16) (heads16 (gsc A (k0_off19_inb A.i)) (gsc A (k0_off20_inb A.i)) (gsc A (k0_off21_inb A.i)) (gsc A (k0_off22_inb A.i))) from rfl]
  exact tile_doeff A 1 0 0 rfl _ _ _ _ _ (dt_1_0 A) (g_sca A 0 4 _) (g_sca A 0 5 _) (g_sca A 0 6 _) (g_sca A 0 7 _) c d

def cqn_1_0 : FVec Ideal S1x256 .f32 :=
  headsTwo (qsc A (k0_off19_inb A.i)) (qsc A (k0_off20_inb A.i)) (qsc A (k0_off21_inb A.i)) (qsc A (k0_off22_inb A.i))

theorem cq_1_0 : cqn_1_0 A (ix2 0 c) = qsF A 0 (4 * 1 + c.val % 4) * smTwo :=
  tile_cq A 1 0 _ _ _ _ (q_sca A 0 4 _) (q_sca A 0 5 _) (q_sca A 0 6 _) (q_sca A 0 7 _) c

theorem s_1_0 (j : Fin 64) (c : Fin 256) : v5244 A (ix2 j c) = SF A 1 (64 * 0 + c.val / 4) (c.val % 4) (0 + j.val) := by
  rw [show (v5244 A) = matmul dot_S64x128_S256x128_S64x256_1_1_0_0_n_n none (extractStridedSlice S64x128 ![0, 0] (v5035 A) slices_S384x128_o0_0_S64x128) (v5088 A) (constant S64x256 .f32 0x00000000#32) from rfl]
  exact (score1 _ _ 0 _ (by decide) j c).trans (Finset.sum_congr rfl fun d _ => congrArg₂ (· * ·) (kg_1 A _ d) (qt_1_0 A c d))

def pn_1_0_0 : FVec Ideal S64x256 .f32 :=
  maskDiag (weights (v5244 A) (cqn_1_0 A) (v5039 A) (v5165 A))

theorem p_1_0_0 (r : Fin 64) (c : Fin 256) : pn_1_0_0 A (ix2 r c) = PF A 1 (64 * 0 + c.val / 4) (c.val % 4) (64 * 0 + r.val) :=
  tile_diag A 1 0 0 0 0 rfl rfl _ _ _ _ (fun r c => (s_1_0 A r c).trans (congrArg (SF A 1 _ _) (by omega))) (cq_1_0 A) (k_sca A 0 1 _) (l2_1_0 A) rfl r c

def pa_1_0 : FVec Ideal S64x256 .bf16 :=
  (truncf .bf16 (pn_1_0_0 A) bitsLt_bf16_f32)

theorem pall_1_0 (j : Fin 64) (c : Fin 256) : pa_1_0 A (ix2 j c) = PF A 1 (64 * 0 + c.val / 4) (c.val % 4) (0 + j.val) :=
  (p_1_0_0 A j c).trans (congrArg (PF A 1 _ _) (by omega))

theorem dvp_1_0 (j : Fin 64) (d : Fin 128) : v5325 A (ix2 j d) = DVF A 1 0 (0 + j.val) d := by
  rw [show (v5325 A) = matmul dot_S64x256_S256x128_S64x128_1_0_0_1_n_n none (pa_1_0 A) (v5235 A) (constant S64x128 .f32 0x00000000#32) from rfl]
  exact (over1 _ _ j d).trans (Finset.sum_congr rfl fun c _ => congrArg₂ (· * ·) (pall_1_0 A j c) (doeff_1_0 A c d))

/-! ### Group 1, tokens from 64 -/

theorem qt_1_1 : v5401 A (ix2 c d) = Qf A (64 * 1 + c.val / 4) (4 * 1 + c.val % 4) d :=
  rowsQ A 1 1 1024 4 inb_S1x6144x128_S1x1024x128_0_1024_0 slices_S64x16x128_o0_4_0_S64x4x128 (by decide) (by decide) (by decide) c d

theorem dt_1_1 : v5406 A (ix2 c d) = Gf A (64 * 1 + c.val / 4) (4 * 1 + c.val % 4) d :=
  rowsG A 1 1 1024 4 inb_S1x6144x128_S1x1024x128_0_1024_0 slices_S64x16x128_o0_4_0_S64x4x128 (by decide) (by decide) (by decide) c d

theorem l2_1_1 : v5478 A (ix2 0 c) = Lf A (64 * 1 + c.val / 4) (4 * 1 + c.val % 4) * toBase2 :=
  lses A 1 1 256 inb_S4x1x1536_S1x1x256_1_0_256 (by decide) (by decide) (by decide) c

theorem doeff_1_1 : v5548 A (ix2 c d) = GEF A (64 * 1 + c.val / 4) (4 * 1 + c.val % 4) d := by
  rw [show (v5548 A) = scaleRows (extf .bf16 (v5406 A) bitsLt_fp8e5m2_bf16) (heads16 (gsc A (k0_off19_inb A.i)) (gsc A (k0_off20_inb A.i)) (gsc A (k0_off21_inb A.i)) (gsc A (k0_off22_inb A.i))) from rfl]
  exact tile_doeff A 1 1 0 rfl _ _ _ _ _ (dt_1_1 A) (g_sca A 0 4 _) (g_sca A 0 5 _) (g_sca A 0 6 _) (g_sca A 0 7 _) c d

theorem cq_1_1 : v5593 A (ix2 0 c) = qsF A 0 (4 * 1 + c.val % 4) * smTwo := by
  rw [show (v5593 A) = headsTwo (qsc A (k0_off19_inb A.i)) (qsc A (k0_off20_inb A.i)) (qsc A (k0_off21_inb A.i)) (qsc A (k0_off22_inb A.i)) from rfl]
  exact tile_cq A 1 0 _ _ _ _ (q_sca A 0 4 _) (q_sca A 0 5 _) (q_sca A 0 6 _) (q_sca A 0 7 _) c

theorem s_1_1 (j : Fin 128) (c : Fin 256) : v5557 A (ix2 j c) = SF A 1 (64 * 1 + c.val / 4) (c.val % 4) (0 + j.val) := by
  rw [show (v5557 A) = matmul dot_S128x128_S256x128_S128x256_1_1_0_0_n_n none (extractStridedSlice S128x128 ![0, 0] (v5035 A) slices_S384x128_o0_0_S128x128) (v5401 A) (constant S128x256 .f32 0x00000000#32) from rfl]
  exact (score2 _ _ 0 _ (by decide) j c).trans (Finset.sum_congr rfl fun d _ => congrArg₂ (· * ·) (kg_1 A _ d) (qt_1_1 A c d))

theorem p_1_1_0 (r : Fin 64) (c : Fin 256) : v5601 A (ix2 r c) = PF A 1 (64 * 1 + c.val / 4) (c.val % 4) (64 * 0 + r.val) := by
  rw [show (v5601 A) = weights (extractStridedSlice S64x256 ![0, 0] (v5557 A) slices_S128x256_o0_0_S64x256) (v5593 A) (v5039 A) (v5478 A) from rfl]
  exact tile_full A 1 1 0 0 0 rfl rfl _ _ _ _ (cutSF (s_1_1 A)) (cq_1_1 A) (k_sca A 0 1 _) (l2_1_1 A) (by decide) (by decide) r c

def pn_1_1_1 : FVec Ideal S64x256 .f32 :=
  maskDiag (weights (extractStridedSlice S64x256 ![64, 0] (v5557 A) slices_S128x256_o64_0_S64x256) (v5593 A) (v5039 A) (v5478 A))

theorem p_1_1_1 (r : Fin 64) (c : Fin 256) : pn_1_1_1 A (ix2 r c) = PF A 1 (64 * 1 + c.val / 4) (c.val % 4) (64 * 1 + r.val) :=
  tile_diag A 1 1 1 0 0 rfl rfl _ _ _ _ (cutSF (s_1_1 A)) (cq_1_1 A) (k_sca A 0 1 _) (l2_1_1 A) rfl r c

def pa_1_1 : FVec Ideal S128x256 .bf16 :=
  concatenate S128x256 0 [⟨S64x256, (truncf .bf16 (v5601 A) bitsLt_bf16_f32)⟩, ⟨S64x256, (truncf .bf16 (pn_1_1_1 A) bitsLt_bf16_f32)⟩] concatenates_S64x256_S64x256_S128x256_d0

theorem pall_1_1 (j : Fin 128) (c : Fin 256) : pa_1_1 A (ix2 j c) = PF A 1 (64 * 1 + c.val / 4) (c.val % 4) (0 + j.val) :=
  join2 _ _ (fun j c => PF A 1 (64 * 1 + c.val / 4) (c.val % 4) (0 + j)) (rowPF (p_1_1_0 A)) (rowPF (p_1_1_1 A)) _ j c

def dvn_1_1 : FVec Ideal S128x128 .f32 :=
  matmul dot_S128x256_S256x128_S128x128_1_0_0_1_n_n none (pa_1_1 A) (v5548 A) (constant S128x128 .f32 0x00000000#32)

theorem dvp_1_1 (j : Fin 128) (d : Fin 128) : dvn_1_1 A (ix2 j d) = DVF A 1 1 (0 + j.val) d :=
  (over2 _ _ j d).trans (Finset.sum_congr rfl fun c _ => congrArg₂ (· * ·) (pall_1_1 A j c) (doeff_1_1 A c d))

/-! ### Group 1, tokens from 128 -/

theorem qt_1_2 : v5741 A (ix2 c d) = Qf A (64 * 2 + c.val / 4) (4 * 1 + c.val % 4) d :=
  rowsQ A 1 2 2048 4 inb_S1x6144x128_S1x1024x128_0_2048_0 slices_S64x16x128_o0_4_0_S64x4x128 (by decide) (by decide) (by decide) c d

theorem dt_1_2 : v5746 A (ix2 c d) = Gf A (64 * 2 + c.val / 4) (4 * 1 + c.val % 4) d :=
  rowsG A 1 2 2048 4 inb_S1x6144x128_S1x1024x128_0_2048_0 slices_S64x16x128_o0_4_0_S64x4x128 (by decide) (by decide) (by decide) c d

theorem l2_1_2 : v5818 A (ix2 0 c) = Lf A (64 * 2 + c.val / 4) (4 * 1 + c.val % 4) * toBase2 :=
  lses A 1 2 512 inb_S4x1x1536_S1x1x256_1_0_512 (by decide) (by decide) (by decide) c

theorem doeff_1_2 : v5888 A (ix2 c d) = GEF A (64 * 2 + c.val / 4) (4 * 1 + c.val % 4) d := by
  rw [show (v5888 A) = scaleRows (extf .bf16 (v5746 A) bitsLt_fp8e5m2_bf16) (heads16 (gsc A (k0_off23_inb A.i)) (gsc A (k0_off24_inb A.i)) (gsc A (k0_off25_inb A.i)) (gsc A (k0_off26_inb A.i))) from rfl]
  exact tile_doeff A 1 2 1 rfl _ _ _ _ _ (dt_1_2 A) (g_sca A 1 4 _) (g_sca A 1 5 _) (g_sca A 1 6 _) (g_sca A 1 7 _) c d

theorem cq_1_2 : v5933 A (ix2 0 c) = qsF A 1 (4 * 1 + c.val % 4) * smTwo := by
  rw [show (v5933 A) = headsTwo (qsc A (k0_off23_inb A.i)) (qsc A (k0_off24_inb A.i)) (qsc A (k0_off25_inb A.i)) (qsc A (k0_off26_inb A.i)) from rfl]
  exact tile_cq A 1 1 _ _ _ _ (q_sca A 1 4 _) (q_sca A 1 5 _) (q_sca A 1 6 _) (q_sca A 1 7 _) c

theorem s_1_2 (j : Fin 192) (c : Fin 256) : v5897 A (ix2 j c) = SF A 1 (64 * 2 + c.val / 4) (c.val % 4) (0 + j.val) := by
  rw [show (v5897 A) = matmul dot_S192x128_S256x128_S192x256_1_1_0_0_n_n none (extractStridedSlice S192x128 ![0, 0] (v5035 A) slices_S384x128_o0_0_S192x128) (v5741 A) (constant S192x256 .f32 0x00000000#32) from rfl]
  exact (score3 _ _ 0 _ (by decide) j c).trans (Finset.sum_congr rfl fun d _ => congrArg₂ (· * ·) (kg_1 A _ d) (qt_1_2 A c d))

theorem p_1_2_0 (r : Fin 64) (c : Fin 256) : v5941 A (ix2 r c) = PF A 1 (64 * 2 + c.val / 4) (c.val % 4) (64 * 0 + r.val) := by
  rw [show (v5941 A) = weights (extractStridedSlice S64x256 ![0, 0] (v5897 A) slices_S192x256_o0_0_S64x256) (v5933 A) (v5039 A) (v5818 A) from rfl]
  exact tile_full A 1 2 0 1 0 rfl rfl _ _ _ _ (cutSF (s_1_2 A)) (cq_1_2 A) (k_sca A 0 1 _) (l2_1_2 A) (by decide) (by decide) r c

theorem p_1_2_1 (r : Fin 64) (c : Fin 256) : v5958 A (ix2 r c) = PF A 1 (64 * 2 + c.val / 4) (c.val % 4) (64 * 1 + r.val) := by
  rw [show (v5958 A) = weights (extractStridedSlice S64x256 ![64, 0] (v5897 A) slices_S192x256_o64_0_S64x256) (v5933 A) (v5039 A) (v5818 A) from rfl]
  exact tile_full A 1 2 1 1 0 rfl rfl _ _ _ _ (cutSF (s_1_2 A)) (cq_1_2 A) (k_sca A 0 1 _) (l2_1_2 A) (by decide) (by decide) r c

theorem p_1_2_2 (r : Fin 64) (c : Fin 256) : v6004 A (ix2 r c) = PF A 1 (64 * 2 + c.val / 4) (c.val % 4) (64 * 2 + r.val) := by
  rw [show (v6004 A) = maskDiag (weights (extractStridedSlice S64x256 ![128, 0] (v5897 A) slices_S192x256_o128_0_S64x256) (v5933 A) (v5041 A) (v5818 A)) from rfl]
  exact tile_diag A 1 2 2 1 1 rfl rfl _ _ _ _ (cutSF (s_1_2 A)) (cq_1_2 A) (k_sca A 1 1 _) (l2_1_2 A) rfl r c

theorem pall_1_2 (j : Fin 192) (c : Fin 256) : v6014 A (ix2 j c) = PF A 1 (64 * 2 + c.val / 4) (c.val % 4) (0 + j.val) := by
  rw [show (v6014 A) = concatenate S192x256 0 [⟨S64x256, (truncf .bf16 (v5941 A) bitsLt_bf16_f32)⟩, ⟨S64x256, (truncf .bf16 (v5958 A) bitsLt_bf16_f32)⟩, ⟨S64x256, (truncf .bf16 (v6004 A) bitsLt_bf16_f32)⟩] concatenates_S64x256_S64x256_S64x256_S192x256_d0 from rfl]
  exact join3 _ _ _ (fun j c => PF A 1 (64 * 2 + c.val / 4) (c.val % 4) (0 + j)) (rowPF (p_1_2_0 A)) (rowPF (p_1_2_1 A)) (rowPF (p_1_2_2 A)) _ j c

theorem dvp_1_2 (j : Fin 192) (d : Fin 128) : v6016 A (ix2 j d) = DVF A 1 2 (0 + j.val) d := by
  rw [show (v6016 A) = matmul dot_S192x256_S256x128_S192x128_1_0_0_1_n_n none (v6014 A) (v5888 A) (constant S192x128 .f32 0x00000000#32) from rfl]
  exact (over3 _ _ j d).trans (Finset.sum_congr rfl fun c _ => congrArg₂ (· * ·) (pall_1_2 A j c) (doeff_1_2 A c d))

/-! ### Group 1, tokens from 192 -/

theorem qt_1_3 : v6102 A (ix2 c d) = Qf A (64 * 3 + c.val / 4) (4 * 1 + c.val % 4) d :=
  rowsQ A 1 3 3072 4 inb_S1x6144x128_S1x1024x128_0_3072_0 slices_S64x16x128_o0_4_0_S64x4x128 (by decide) (by decide) (by decide) c d

theorem dt_1_3 : v6107 A (ix2 c d) = Gf A (64 * 3 + c.val / 4) (4 * 1 + c.val % 4) d :=
  rowsG A 1 3 3072 4 inb_S1x6144x128_S1x1024x128_0_3072_0 slices_S64x16x128_o0_4_0_S64x4x128 (by decide) (by decide) (by decide) c d

theorem l2_1_3 : v6179 A (ix2 0 c) = Lf A (64 * 3 + c.val / 4) (4 * 1 + c.val % 4) * toBase2 :=
  lses A 1 3 768 inb_S4x1x1536_S1x1x256_1_0_768 (by decide) (by decide) (by decide) c

theorem doeff_1_3 : v6249 A (ix2 c d) = GEF A (64 * 3 + c.val / 4) (4 * 1 + c.val % 4) d := by
  rw [show (v6249 A) = scaleRows (extf .bf16 (v6107 A) bitsLt_fp8e5m2_bf16) (heads16 (gsc A (k0_off23_inb A.i)) (gsc A (k0_off24_inb A.i)) (gsc A (k0_off25_inb A.i)) (gsc A (k0_off26_inb A.i))) from rfl]
  exact tile_doeff A 1 3 1 rfl _ _ _ _ _ (dt_1_3 A) (g_sca A 1 4 _) (g_sca A 1 5 _) (g_sca A 1 6 _) (g_sca A 1 7 _) c d

theorem cq_1_3 : v6294 A (ix2 0 c) = qsF A 1 (4 * 1 + c.val % 4) * smTwo := by
  rw [show (v6294 A) = headsTwo (qsc A (k0_off23_inb A.i)) (qsc A (k0_off24_inb A.i)) (qsc A (k0_off25_inb A.i)) (qsc A (k0_off26_inb A.i)) from rfl]
  exact tile_cq A 1 1 _ _ _ _ (q_sca A 1 4 _) (q_sca A 1 5 _) (q_sca A 1 6 _) (q_sca A 1 7 _) c

theorem s_1_3 (j : Fin 256) (c : Fin 256) : v6258 A (ix2 j c) = SF A 1 (64 * 3 + c.val / 4) (c.val % 4) (0 + j.val) := by
  rw [show (v6258 A) = matmul dot_S256x128_S256x128_S256x256_1_1_0_0_n_n none (extractStridedSlice S256x128 ![0, 0] (v5035 A) slices_S384x128_o0_0_S256x128) (v6102 A) (constant S256x256 .f32 0x00000000#32) from rfl]
  exact (score4 _ _ 0 _ (by decide) j c).trans (Finset.sum_congr rfl fun d _ => congrArg₂ (· * ·) (kg_1 A _ d) (qt_1_3 A c d))

theorem p_1_3_0 (r : Fin 64) (c : Fin 256) : v6302 A (ix2 r c) = PF A 1 (64 * 3 + c.val / 4) (c.val % 4) (64 * 0 + r.val) := by
  rw [show (v6302 A) = weights (extractStridedSlice S64x256 ![0, 0] (v6258 A) slices_S256x256_o0_0_S64x256) (v6294 A) (v5039 A) (v6179 A) from rfl]
  exact tile_full A 1 3 0 1 0 rfl rfl _ _ _ _ (cutSF (s_1_3 A)) (cq_1_3 A) (k_sca A 0 1 _) (l2_1_3 A) (by decide) (by decide) r c

theorem p_1_3_1 (r : Fin 64) (c : Fin 256) : v6319 A (ix2 r c) = PF A 1 (64 * 3 + c.val / 4) (c.val % 4) (64 * 1 + r.val) := by
  rw [show (v6319 A) = weights (extractStridedSlice S64x256 ![64, 0] (v6258 A) slices_S256x256_o64_0_S64x256) (v6294 A) (v5039 A) (v6179 A) from rfl]
  exact tile_full A 1 3 1 1 0 rfl rfl _ _ _ _ (cutSF (s_1_3 A)) (cq_1_3 A) (k_sca A 0 1 _) (l2_1_3 A) (by decide) (by decide) r c

theorem p_1_3_2 (r : Fin 64) (c : Fin 256) : v6336 A (ix2 r c) = PF A 1 (64 * 3 + c.val / 4) (c.val % 4) (64 * 2 + r.val) := by
  rw [show (v6336 A) = weights (extractStridedSlice S64x256 ![128, 0] (v6258 A) slices_S256x256_o128_0_S64x256) (v6294 A) (v5041 A) (v6179 A) from rfl]
  exact tile_full A 1 3 2 1 1 rfl rfl _ _ _ _ (cutSF (s_1_3 A)) (cq_1_3 A) (k_sca A 1 1 _) (l2_1_3 A) (by decide) (by decide) r c

theorem p_1_3_3 (r : Fin 64) (c : Fin 256) : v6382 A (ix2 r c) = PF A 1 (64 * 3 + c.val / 4) (c.val % 4) (64 * 3 + r.val) := by
  rw [show (v6382 A) = maskDiag (weights (extractStridedSlice S64x256 ![192, 0] (v6258 A) slices_S256x256_o192_0_S64x256) (v6294 A) (v5041 A) (v6179 A)) from rfl]
  exact tile_diag A 1 3 3 1 1 rfl rfl _ _ _ _ (cutSF (s_1_3 A)) (cq_1_3 A) (k_sca A 1 1 _) (l2_1_3 A) rfl r c

theorem pall_1_3 (j : Fin 256) (c : Fin 256) : v6392 A (ix2 j c) = PF A 1 (64 * 3 + c.val / 4) (c.val % 4) (0 + j.val) := by
  rw [show (v6392 A) = concatenate S256x256 0 [⟨S64x256, (truncf .bf16 (v6302 A) bitsLt_bf16_f32)⟩, ⟨S64x256, (truncf .bf16 (v6319 A) bitsLt_bf16_f32)⟩, ⟨S64x256, (truncf .bf16 (v6336 A) bitsLt_bf16_f32)⟩, ⟨S64x256, (truncf .bf16 (v6382 A) bitsLt_bf16_f32)⟩] concatenates_S64x256_S64x256_S64x256_S64x256_S256x256_d0 from rfl]
  exact join4 _ _ _ _ (fun j c => PF A 1 (64 * 3 + c.val / 4) (c.val % 4) (0 + j)) (rowPF (p_1_3_0 A)) (rowPF (p_1_3_1 A)) (rowPF (p_1_3_2 A)) (rowPF (p_1_3_3 A)) _ j c

theorem dvp_1_3 (j : Fin 256) (d : Fin 128) : v6394 A (ix2 j d) = DVF A 1 3 (0 + j.val) d := by
  rw [show (v6394 A) = matmul dot_S256x256_S256x128_S256x128_1_0_0_1_n_n none (v6392 A) (v6249 A) (constant S256x128 .f32 0x00000000#32) from rfl]
  exact (over4 _ _ j d).trans (Finset.sum_congr rfl fun c _ => congrArg₂ (· * ·) (pall_1_3 A j c) (doeff_1_3 A c d))

/-! ### Group 1, tokens from 256 -/

theorem qt_1_4 : v6484 A (ix2 c d) = Qf A (64 * 4 + c.val / 4) (4 * 1 + c.val % 4) d :=
  rowsQ A 1 4 4096 4 inb_S1x6144x128_S1x1024x128_0_4096_0 slices_S64x16x128_o0_4_0_S64x4x128 (by decide) (by decide) (by decide) c d

theorem dt_1_4 : v6489 A (ix2 c d) = Gf A (64 * 4 + c.val / 4) (4 * 1 + c.val % 4) d :=
  rowsG A 1 4 4096 4 inb_S1x6144x128_S1x1024x128_0_4096_0 slices_S64x16x128_o0_4_0_S64x4x128 (by decide) (by decide) (by decide) c d

theorem l2_1_4 : v6561 A (ix2 0 c) = Lf A (64 * 4 + c.val / 4) (4 * 1 + c.val % 4) * toBase2 :=
  lses A 1 4 1024 inb_S4x1x1536_S1x1x256_1_0_1024 (by decide) (by decide) (by decide) c

theorem doeff_1_4 : v6631 A (ix2 c d) = GEF A (64 * 4 + c.val / 4) (4 * 1 + c.val % 4) d := by
  rw [show (v6631 A) = scaleRows (extf .bf16 (v6489 A) bitsLt_fp8e5m2_bf16) (heads16 (gsc A (k0_off27_inb A.i)) (gsc A (k0_off28_inb A.i)) (gsc A (k0_off29_inb A.i)) (gsc A (k0_off30_inb A.i))) from rfl]
  exact tile_doeff A 1 4 2 rfl _ _ _ _ _ (dt_1_4 A) (g_sca A 2 4 _) (g_sca A 2 5 _) (g_sca A 2 6 _) (g_sca A 2 7 _) c d

theorem cq_1_4 : v6676 A (ix2 0 c) = qsF A 2 (4 * 1 + c.val % 4) * smTwo := by
  rw [show (v6676 A) = headsTwo (qsc A (k0_off27_inb A.i)) (qsc A (k0_off28_inb A.i)) (qsc A (k0_off29_inb A.i)) (qsc A (k0_off30_inb A.i)) from rfl]
  exact tile_cq A 1 2 _ _ _ _ (q_sca A 2 4 _) (q_sca A 2 5 _) (q_sca A 2 6 _) (q_sca A 2 7 _) c

theorem s_1_4 (j : Fin 320) (c : Fin 256) : v6640 A (ix2 j c) = SF A 1 (64 * 4 + c.val / 4) (c.val % 4) (0 + j.val) := by
  rw [show (v6640 A) = matmul dot_S320x128_S256x128_S320x256_1_1_0_0_n_n none (extractStridedSlice S320x128 ![0, 0] (v5035 A) slices_S384x128_o0_0_S320x128) (v6484 A) (constant S320x256 .f32 0x00000000#32) from rfl]
  exact (score5 _ _ 0 _ (by decide) j c).trans (Finset.sum_congr rfl fun d _ => congrArg₂ (· * ·) (kg_1 A _ d) (qt_1_4 A c d))

theorem p_1_4_0 (r : Fin 64) (c : Fin 256) : v6713 A (ix2 r c) = PF A 1 (64 * 4 + c.val / 4) (c.val % 4) (64 * 0 + r.val) := by
  rw [show (v6713 A) = maskEdge (weights (extractStridedSlice S64x256 ![0, 0] (v6640 A) slices_S320x256_o0_0_S64x256) (v6676 A) (v5039 A) (v6561 A)) from rfl]
  exact tile_edge A 1 4 0 2 0 rfl rfl _ _ _ _ (cutSF (s_1_4 A)) (cq_1_4 A) (k_sca A 0 1 _) (l2_1_4 A) rfl r c

theorem p_1_4_1 (r : Fin 64) (c : Fin 256) : v6730 A (ix2 r c) = PF A 1 (64 * 4 + c.val / 4) (c.val % 4) (64 * 1 + r.val) := by
  rw [show (v6730 A) = weights (extractStridedSlice S64x256 ![64, 0] (v6640 A) slices_S320x256_o64_0_S64x256) (v6676 A) (v5039 A) (v6561 A) from rfl]
  exact tile_full A 1 4 1 2 0 rfl rfl _ _ _ _ (cutSF (s_1_4 A)) (cq_1_4 A) (k_sca A 0 1 _) (l2_1_4 A) (by decide) (by decide) r c

theorem p_1_4_2 (r : Fin 64) (c : Fin 256) : v6747 A (ix2 r c) = PF A 1 (64 * 4 + c.val / 4) (c.val % 4) (64 * 2 + r.val) := by
  rw [show (v6747 A) = weights (extractStridedSlice S64x256 ![128, 0] (v6640 A) slices_S320x256_o128_0_S64x256) (v6676 A) (v5041 A) (v6561 A) from rfl]
  exact tile_full A 1 4 2 2 1 rfl rfl _ _ _ _ (cutSF (s_1_4 A)) (cq_1_4 A) (k_sca A 1 1 _) (l2_1_4 A) (by decide) (by decide) r c

theorem p_1_4_3 (r : Fin 64) (c : Fin 256) : v6764 A (ix2 r c) = PF A 1 (64 * 4 + c.val / 4) (c.val % 4) (64 * 3 + r.val) := by
  rw [show (v6764 A) = weights (extractStridedSlice S64x256 ![192, 0] (v6640 A) slices_S320x256_o192_0_S64x256) (v6676 A) (v5041 A) (v6561 A) from rfl]
  exact tile_full A 1 4 3 2 1 rfl rfl _ _ _ _ (cutSF (s_1_4 A)) (cq_1_4 A) (k_sca A 1 1 _) (l2_1_4 A) (by decide) (by decide) r c

def pn_1_4_4 : FVec Ideal S64x256 .f32 :=
  maskDiag (weights (extractStridedSlice S64x256 ![256, 0] (v6640 A) slices_S320x256_o256_0_S64x256) (v6676 A) (v5043 A) (v6561 A))

theorem p_1_4_4 (r : Fin 64) (c : Fin 256) : pn_1_4_4 A (ix2 r c) = PF A 1 (64 * 4 + c.val / 4) (c.val % 4) (64 * 4 + r.val) :=
  tile_diag A 1 4 4 2 2 rfl rfl _ _ _ _ (cutSF (s_1_4 A)) (cq_1_4 A) (k_sca A 2 1 _) (l2_1_4 A) rfl r c

def pa_1_4 : FVec Ideal S320x256 .bf16 :=
  concatenate S320x256 0 [⟨S64x256, (truncf .bf16 (v6713 A) bitsLt_bf16_f32)⟩, ⟨S64x256, (truncf .bf16 (v6730 A) bitsLt_bf16_f32)⟩, ⟨S64x256, (truncf .bf16 (v6747 A) bitsLt_bf16_f32)⟩, ⟨S64x256, (truncf .bf16 (v6764 A) bitsLt_bf16_f32)⟩, ⟨S64x256, (truncf .bf16 (pn_1_4_4 A) bitsLt_bf16_f32)⟩] concatenates_S64x256_S64x256_S64x256_S64x256_S64x256_S320x256_d0

theorem pall_1_4 (j : Fin 320) (c : Fin 256) : pa_1_4 A (ix2 j c) = PF A 1 (64 * 4 + c.val / 4) (c.val % 4) (0 + j.val) :=
  join5 _ _ _ _ _ (fun j c => PF A 1 (64 * 4 + c.val / 4) (c.val % 4) (0 + j)) (rowPF (p_1_4_0 A)) (rowPF (p_1_4_1 A)) (rowPF (p_1_4_2 A)) (rowPF (p_1_4_3 A)) (rowPF (p_1_4_4 A)) _ j c

def dvn_1_4 : FVec Ideal S320x128 .f32 :=
  matmul dot_S320x256_S256x128_S320x128_1_0_0_1_n_n none (pa_1_4 A) (v6631 A) (constant S320x128 .f32 0x00000000#32)

theorem dvp_1_4 (j : Fin 320) (d : Fin 128) : dvn_1_4 A (ix2 j d) = DVF A 1 4 (0 + j.val) d :=
  (over5 _ _ j d).trans (Finset.sum_congr rfl fun c _ => congrArg₂ (· * ·) (pall_1_4 A j c) (doeff_1_4 A c d))

/-! ### Group 1, tokens from 320 -/

theorem qt_1_5 : v6916 A (ix2 c d) = Qf A (64 * 5 + c.val / 4) (4 * 1 + c.val % 4) d :=
  rowsQ A 1 5 5120 4 inb_S1x6144x128_S1x1024x128_0_5120_0 slices_S64x16x128_o0_4_0_S64x4x128 (by decide) (by decide) (by decide) c d

theorem dt_1_5 : v6921 A (ix2 c d) = Gf A (64 * 5 + c.val / 4) (4 * 1 + c.val % 4) d :=
  rowsG A 1 5 5120 4 inb_S1x6144x128_S1x1024x128_0_5120_0 slices_S64x16x128_o0_4_0_S64x4x128 (by decide) (by decide) (by decide) c d

theorem l2_1_5 : v6993 A (ix2 0 c) = Lf A (64 * 5 + c.val / 4) (4 * 1 + c.val % 4) * toBase2 :=
  lses A 1 5 1280 inb_S4x1x1536_S1x1x256_1_0_1280 (by decide) (by decide) (by decide) c

theorem doeff_1_5 : v7063 A (ix2 c d) = GEF A (64 * 5 + c.val / 4) (4 * 1 + c.val % 4) d := by
  rw [show (v7063 A) = scaleRows (extf .bf16 (v6921 A) bitsLt_fp8e5m2_bf16) (heads16 (gsc A (k0_off27_inb A.i)) (gsc A (k0_off28_inb A.i)) (gsc A (k0_off29_inb A.i)) (gsc A (k0_off30_inb A.i))) from rfl]
  exact tile_doeff A 1 5 2 rfl _ _ _ _ _ (dt_1_5 A) (g_sca A 2 4 _) (g_sca A 2 5 _) (g_sca A 2 6 _) (g_sca A 2 7 _) c d

theorem cq_1_5 : v7108 A (ix2 0 c) = qsF A 2 (4 * 1 + c.val % 4) * smTwo := by
  rw [show (v7108 A) = headsTwo (qsc A (k0_off27_inb A.i)) (qsc A (k0_off28_inb A.i)) (qsc A (k0_off29_inb A.i)) (qsc A (k0_off30_inb A.i)) from rfl]
  exact tile_cq A 1 2 _ _ _ _ (q_sca A 2 4 _) (q_sca A 2 5 _) (q_sca A 2 6 _) (q_sca A 2 7 _) c

theorem s_1_5 (j : Fin 320) (c : Fin 256) : v7072 A (ix2 j c) = SF A 1 (64 * 5 + c.val / 4) (c.val % 4) (64 + j.val) := by
  rw [show (v7072 A) = matmul dot_S320x128_S256x128_S320x256_1_1_0_0_n_n none (extractStridedSlice S320x128 ![64, 0] (v5035 A) slices_S384x128_o64_0_S320x128) (v6916 A) (constant S320x256 .f32 0x00000000#32) from rfl]
  exact (score5 _ _ 64 _ (by decide) j c).trans (Finset.sum_congr rfl fun d _ => congrArg₂ (· * ·) (kg_1 A _ d) (qt_1_5 A c d))

theorem p_1_5_1 (r : Fin 64) (c : Fin 256) : v7145 A (ix2 r c) = PF A 1 (64 * 5 + c.val / 4) (c.val % 4) (64 * 1 + r.val) := by
  rw [show (v7145 A) = maskEdge (weights (extractStridedSlice S64x256 ![0, 0] (v7072 A) slices_S320x256_o0_0_S64x256) (v7108 A) (v5039 A) (v6993 A)) from rfl]
  exact tile_edge A 1 5 1 2 0 rfl rfl _ _ _ _ (cutSF (s_1_5 A)) (cq_1_5 A) (k_sca A 0 1 _) (l2_1_5 A) rfl r c

theorem p_1_5_2 (r : Fin 64) (c : Fin 256) : v7162 A (ix2 r c) = PF A 1 (64 * 5 + c.val / 4) (c.val % 4) (64 * 2 + r.val) := by
  rw [show (v7162 A) = weights (extractStridedSlice S64x256 ![64, 0] (v7072 A) slices_S320x256_o64_0_S64x256) (v7108 A) (v5041 A) (v6993 A) from rfl]
  exact tile_full A 1 5 2 2 1 rfl rfl _ _ _ _ (cutSF (s_1_5 A)) (cq_1_5 A) (k_sca A 1 1 _) (l2_1_5 A) (by decide) (by decide) r c

theorem p_1_5_3 (r : Fin 64) (c : Fin 256) : v7179 A (ix2 r c) = PF A 1 (64 * 5 + c.val / 4) (c.val % 4) (64 * 3 + r.val) := by
  rw [show (v7179 A) = weights (extractStridedSlice S64x256 ![128, 0] (v7072 A) slices_S320x256_o128_0_S64x256) (v7108 A) (v5041 A) (v6993 A) from rfl]
  exact tile_full A 1 5 3 2 1 rfl rfl _ _ _ _ (cutSF (s_1_5 A)) (cq_1_5 A) (k_sca A 1 1 _) (l2_1_5 A) (by decide) (by decide) r c

theorem p_1_5_4 (r : Fin 64) (c : Fin 256) : v7196 A (ix2 r c) = PF A 1 (64 * 5 + c.val / 4) (c.val % 4) (64 * 4 + r.val) := by
  rw [show (v7196 A) = weights (extractStridedSlice S64x256 ![192, 0] (v7072 A) slices_S320x256_o192_0_S64x256) (v7108 A) (v5043 A) (v6993 A) from rfl]
  exact tile_full A 1 5 4 2 2 rfl rfl _ _ _ _ (cutSF (s_1_5 A)) (cq_1_5 A) (k_sca A 2 1 _) (l2_1_5 A) (by decide) (by decide) r c

theorem p_1_5_5 (r : Fin 64) (c : Fin 256) : v7242 A (ix2 r c) = PF A 1 (64 * 5 + c.val / 4) (c.val % 4) (64 * 5 + r.val) := by
  rw [show (v7242 A) = maskDiag (weights (extractStridedSlice S64x256 ![256, 0] (v7072 A) slices_S320x256_o256_0_S64x256) (v7108 A) (v5043 A) (v6993 A)) from rfl]
  exact tile_diag A 1 5 5 2 2 rfl rfl _ _ _ _ (cutSF (s_1_5 A)) (cq_1_5 A) (k_sca A 2 1 _) (l2_1_5 A) rfl r c

def pa_1_5 : FVec Ideal S320x256 .bf16 :=
  concatenate S320x256 0 [⟨S64x256, (truncf .bf16 (v7145 A) bitsLt_bf16_f32)⟩, ⟨S64x256, (truncf .bf16 (v7162 A) bitsLt_bf16_f32)⟩, ⟨S64x256, (truncf .bf16 (v7179 A) bitsLt_bf16_f32)⟩, ⟨S64x256, (truncf .bf16 (v7196 A) bitsLt_bf16_f32)⟩, ⟨S64x256, (truncf .bf16 (v7242 A) bitsLt_bf16_f32)⟩] concatenates_S64x256_S64x256_S64x256_S64x256_S64x256_S320x256_d0

theorem pall_1_5 (j : Fin 320) (c : Fin 256) : pa_1_5 A (ix2 j c) = PF A 1 (64 * 5 + c.val / 4) (c.val % 4) (64 + j.val) :=
  join5 _ _ _ _ _ (fun j c => PF A 1 (64 * 5 + c.val / 4) (c.val % 4) (64 + j)) (rowPF (p_1_5_1 A)) (rowPF (p_1_5_2 A)) (rowPF (p_1_5_3 A)) (rowPF (p_1_5_4 A)) (rowPF (p_1_5_5 A)) _ j c

def dvn_1_5 : FVec Ideal S320x128 .f32 :=
  matmul dot_S320x256_S256x128_S320x128_1_0_0_1_n_n none (pa_1_5 A) (v7063 A) (constant S320x128 .f32 0x00000000#32)

theorem dvp_1_5 (j : Fin 320) (d : Fin 128) : dvn_1_5 A (ix2 j d) = DVF A 1 5 (64 + j.val) d :=
  (over5 _ _ j d).trans (Finset.sum_congr rfl fun c _ => congrArg₂ (· * ·) (pall_1_5 A j c) (doeff_1_5 A c d))

theorem dvacc_1_0_0 (r : Fin 64) (d : Fin 128) : v5325 A (ix2 r d) = DVT A 1 0 0 r d :=
  one_tile (dvp_1_0 A)

theorem dvacc_1_0_1 (r : Fin 64) (d : Fin 128) : v5662 A (ix2 r d) = DVT A 1 0 1 r d := by
  rw [show (v5662 A) = addf (F := Ideal) (φ := .f32) (v5325 A) (extractStridedSlice S64x128 ![0, 0] (dvn_1_1 A) slices_S128x128_o0_0_S64x128) from rfl]
  exact add_tile (dvacc_1_0_0 A r d) (dvp_1_1 A)

theorem dvacc_1_0_2 (r : Fin 64) (d : Fin 128) : v6019 A (ix2 r d) = DVT A 1 0 2 r d := by
  rw [show (v6019 A) = addf (F := Ideal) (φ := .f32) (v5662 A) (extractStridedSlice S64x128 ![0, 0] (v6016 A) slices_S192x128_o0_0_S64x128) from rfl]
  exact add_tile (dvacc_1_0_1 A r d) (dvp_1_2 A)

theorem dvacc_1_0_3 (r : Fin 64) (d : Fin 128) : v6397 A (ix2 r d) = DVT A 1 0 3 r d := by
  rw [show (v6397 A) = addf (F := Ideal) (φ := .f32) (v6019 A) (extractStridedSlice S64x128 ![0, 0] (v6394 A) slices_S256x128_o0_0_S64x128) from rfl]
  exact add_tile (dvacc_1_0_2 A r d) (dvp_1_3 A)

theorem dvacc_1_0_4 (r : Fin 64) (d : Fin 128) : v6825 A (ix2 r d) = DVT A 1 0 4 r d := by
  rw [show (v6825 A) = addf (F := Ideal) (φ := .f32) (v6397 A) (extractStridedSlice S64x128 ![0, 0] (dvn_1_4 A) slices_S320x128_o0_0_S64x128) from rfl]
  exact add_tile (dvacc_1_0_3 A r d) (dvp_1_4 A)

theorem dvacc_1_1_1 (r : Fin 64) (d : Fin 128) : v5665 A (ix2 r d) = DVT A 1 1 0 r d := by
  rw [show (v5665 A) = (extractStridedSlice S64x128 ![64, 0] (dvn_1_1 A) slices_S128x128_o64_0_S64x128) from rfl]
  exact (first_tile (dvp_1_1 A))

theorem dvacc_1_1_2 (r : Fin 64) (d : Fin 128) : v6023 A (ix2 r d) = DVT A 1 1 1 r d := by
  rw [show (v6023 A) = addf (F := Ideal) (φ := .f32) (v5665 A) (extractStridedSlice S64x128 ![64, 0] (v6016 A) slices_S192x128_o64_0_S64x128) from rfl]
  exact add_tile (dvacc_1_1_1 A r d) (dvp_1_2 A)

theorem dvacc_1_1_3 (r : Fin 64) (d : Fin 128) : v6401 A (ix2 r d) = DVT A 1 1 2 r d := by
  rw [show (v6401 A) = addf (F := Ideal) (φ := .f32) (v6023 A) (extractStridedSlice S64x128 ![64, 0] (v6394 A) slices_S256x128_o64_0_S64x128) from rfl]
  exact add_tile (dvacc_1_1_2 A r d) (dvp_1_3 A)

theorem dvacc_1_1_4 (r : Fin 64) (d : Fin 128) : v6829 A (ix2 r d) = DVT A 1 1 3 r d := by
  rw [show (v6829 A) = addf (F := Ideal) (φ := .f32) (v6401 A) (extractStridedSlice S64x128 ![64, 0] (dvn_1_4 A) slices_S320x128_o64_0_S64x128) from rfl]
  exact add_tile (dvacc_1_1_3 A r d) (dvp_1_4 A)

theorem dvacc_1_1_5 (r : Fin 64) (d : Fin 128) : v7257 A (ix2 r d) = DVT A 1 1 4 r d := by
  rw [show (v7257 A) = addf (F := Ideal) (φ := .f32) (v6829 A) (extractStridedSlice S64x128 ![0, 0] (dvn_1_5 A) slices_S320x128_o0_0_S64x128) from rfl]
  exact add_tile (dvacc_1_1_4 A r d) (dvp_1_5 A)

theorem dvacc_1_2_2 (r : Fin 64) (d : Fin 128) : v6026 A (ix2 r d) = DVT A 1 2 0 r d := by
  rw [show (v6026 A) = (extractStridedSlice S64x128 ![128, 0] (v6016 A) slices_S192x128_o128_0_S64x128) from rfl]
  exact (first_tile (dvp_1_2 A))

theorem dvacc_1_2_3 (r : Fin 64) (d : Fin 128) : v6405 A (ix2 r d) = DVT A 1 2 1 r d := by
  rw [show (v6405 A) = addf (F := Ideal) (φ := .f32) (v6026 A) (extractStridedSlice S64x128 ![128, 0] (v6394 A) slices_S256x128_o128_0_S64x128) from rfl]
  exact add_tile (dvacc_1_2_2 A r d) (dvp_1_3 A)

theorem dvacc_1_2_4 (r : Fin 64) (d : Fin 128) : v6833 A (ix2 r d) = DVT A 1 2 2 r d := by
  rw [show (v6833 A) = addf (F := Ideal) (φ := .f32) (v6405 A) (extractStridedSlice S64x128 ![128, 0] (dvn_1_4 A) slices_S320x128_o128_0_S64x128) from rfl]
  exact add_tile (dvacc_1_2_3 A r d) (dvp_1_4 A)

theorem dvacc_1_2_5 (r : Fin 64) (d : Fin 128) : v7261 A (ix2 r d) = DVT A 1 2 3 r d := by
  rw [show (v7261 A) = addf (F := Ideal) (φ := .f32) (v6833 A) (extractStridedSlice S64x128 ![64, 0] (dvn_1_5 A) slices_S320x128_o64_0_S64x128) from rfl]
  exact add_tile (dvacc_1_2_4 A r d) (dvp_1_5 A)

theorem dvacc_1_3_3 (r : Fin 64) (d : Fin 128) : v6408 A (ix2 r d) = DVT A 1 3 0 r d := by
  rw [show (v6408 A) = (extractStridedSlice S64x128 ![192, 0] (v6394 A) slices_S256x128_o192_0_S64x128) from rfl]
  exact (first_tile (dvp_1_3 A))

theorem dvacc_1_3_4 (r : Fin 64) (d : Fin 128) : v6837 A (ix2 r d) = DVT A 1 3 1 r d := by
  rw [show (v6837 A) = addf (F := Ideal) (φ := .f32) (v6408 A) (extractStridedSlice S64x128 ![192, 0] (dvn_1_4 A) slices_S320x128_o192_0_S64x128) from rfl]
  exact add_tile (dvacc_1_3_3 A r d) (dvp_1_4 A)

theorem dvacc_1_3_5 (r : Fin 64) (d : Fin 128) : v7265 A (ix2 r d) = DVT A 1 3 2 r d := by
  rw [show (v7265 A) = addf (F := Ideal) (φ := .f32) (v6837 A) (extractStridedSlice S64x128 ![128, 0] (dvn_1_5 A) slices_S320x128_o128_0_S64x128) from rfl]
  exact add_tile (dvacc_1_3_4 A r d) (dvp_1_5 A)

theorem dvacc_1_4_4 (r : Fin 64) (d : Fin 128) : v6840 A (ix2 r d) = DVT A 1 4 0 r d := by
  rw [show (v6840 A) = (extractStridedSlice S64x128 ![256, 0] (dvn_1_4 A) slices_S320x128_o256_0_S64x128) from rfl]
  exact (first_tile (dvp_1_4 A))

theorem dvacc_1_4_5 (r : Fin 64) (d : Fin 128) : v7269 A (ix2 r d) = DVT A 1 4 1 r d := by
  rw [show (v7269 A) = addf (F := Ideal) (φ := .f32) (v6840 A) (extractStridedSlice S64x128 ![192, 0] (dvn_1_5 A) slices_S320x128_o192_0_S64x128) from rfl]
  exact add_tile (dvacc_1_4_4 A r d) (dvp_1_5 A)

theorem dvacc_1_5_5 (r : Fin 64) (d : Fin 128) : v7272 A (ix2 r d) = DVT A 1 5 0 r d := by
  rw [show (v7272 A) = (extractStridedSlice S64x128 ![256, 0] (dvn_1_5 A) slices_S320x128_o256_0_S64x128) from rfl]
  exact (first_tile (dvp_1_5 A))

end Cert.KernelIdeal.Hand
-- ==== Proof.Exact.Grads1.lean ====
/- Head group 1: the score gradients, the query gradient and the key gradient's sums, tile by tile, by the lemmas of one tile. -/
module

public import proofs.«01_k».proof.Proof.Exact.Weights1

@[expose] public section

set_option maxRecDepth 16384

noncomputable section

namespace Cert.KernelIdeal.Hand

open Cert.KernelIdeal.Gen Idealize.ShloMosaic
open bodyRun.sl

variable (A : Pack Ideal) (c : Fin 256) (d : Fin 128)

theorem vg_1 (j : Fin 384) (d : Fin 128) : v5037 A (ix2 j d) = Vf A j.val 1 d :=
  keysV A 1 inb_S4x384x128_S1x384x128_1_0_0 (by decide) j d

theorem keff_1 (d : Fin 128) (j : Fin 384) : v5067 A (ix2 d j) = KEF A j.val 1 d := by
  rw [show (v5067 A) = scaledKeys (F := Ideal) (v5035 A) (Scalar.mulf (F := Ideal) (φ := .f32) (v5039 A) (v5045 A)) (Scalar.mulf (F := Ideal) (φ := .f32) (v5041 A) (v5047 A)) (Scalar.mulf (F := Ideal) (φ := .f32) (v5043 A) (v5049 A)) from rfl]
  exact (scaledKeys_apply _ _ _ _ (fun b => ksF A b 1 * vsF A b 1) (congrArg₂ (· * ·) (k_sca A 0 1 _) (v_sca A 0 1 _)) (congrArg₂ (· * ·) (k_sca A 1 1 _) (v_sca A 1 1 _)) (congrArg₂ (· * ·) (k_sca A 2 1 _) (v_sca A 2 1 _)) d j).trans (congrArg (· * _) (kg_1 A j d))

/-! ### Group 1, tokens from 0 -/

theorem ob_1_0 : v5111 A (ix2 c d) = Of A (64 * 0 + c.val / 4) (4 * 1 + c.val % 4) d := by
  have e : v5111 A = joinPairs (A.arg17.view.readCov (Val := Elt Ideal) (outPiece A 1 3 inb_S128x2x128_S64x2x128_1_0_0_s_2_1_1 inb_S1x3072x2x128_S1x64x2x128_0_3_0_0_s_1_8_1_1
    :: outPiece A 0 2 inb_S128x2x128_S64x2x128_0_0_0_s_2_1_1 inb_S1x3072x2x128_S1x64x2x128_0_2_0_0_s_1_8_1_1 :: (HS3_12 A))
    (Rect.unit (s := S128x2x128) ![0, 0, 0] S128x2x128.size inb_S128x2x128_S128x2x128_0_0_0).toLoadRect) := rfl
  rw [e]
  exact tile_out A 1 0 2 3 (by decide) (by decide) _ _ _ _ _ _ _ _ c d

theorem delta_1_0 : v5163 A (ix2 0 c) = DLF A (64 * 0 + c.val / 4) (4 * 1 + c.val % 4) := by
  rw [show (v5163 A) = rowDots (F := Ideal) (v5112 A) (v5111 A) from rfl]
  exact tile_delta A 1 0 _ _ (dt_1_0 A) (ob_1_0 A) c

theorem qeff_1_0 : v5242 A (ix2 c d) = QEF A (64 * 0 + c.val / 4) (4 * 1 + c.val % 4) d := by
  rw [show (v5242 A) = scaleRows (extf .bf16 (v5088 A) bitsLt_fp8e4m3_bf16) (headsBoth (qsc A (k0_off19_inb A.i)) (qsc A (k0_off20_inb A.i)) (qsc A (k0_off21_inb A.i)) (qsc A (k0_off22_inb A.i)) (gsc A (k0_off19_inb A.i)) (gsc A (k0_off20_inb A.i)) (gsc A (k0_off21_inb A.i)) (gsc A (k0_off22_inb A.i))) from rfl]
  exact tile_qeff A 1 0 0 rfl _ _ _ _ _ _ _ _ _ (qt_1_0 A) (q_sca A 0 4 _) (q_sca A 0 5 _) (q_sca A 0 6 _) (q_sca A 0 7 _) (g_sca A 0 4 _) (g_sca A 0 5 _) (g_sca A 0 6 _) (g_sca A 0 7 _) c d

theorem dp_1_0 (j : Fin 64) (c : Fin 256) : v5246 A (ix2 j c) = DPF A 1 (64 * 0 + c.val / 4) (c.val % 4) (0 + j.val) := by
  rw [show (v5246 A) = matmul dot_S64x128_S256x128_S64x256_1_1_0_0_n_n none (extractStridedSlice S64x128 ![0, 0] (v5037 A) slices_S384x128_o0_0_S64x128) (v5093 A) (constant S64x256 .f32 0x00000000#32) from rfl]
  exact (score1 _ _ 0 _ (by decide) j c).trans (Finset.sum_congr rfl fun d _ => congrArg₂ (· * ·) (vg_1 A _ d) (dt_1_0 A c d))

def dsn_1_0_0 : FVec Ideal S64x256 .f32 :=
  grads (pn_1_0_0 A) (v5246 A) (v5163 A) (v5045 A)

theorem ds_1_0_0 (r : Fin 64) (c : Fin 256) : dsn_1_0_0 A (ix2 r c) = GF A 1 (64 * 0 + c.val / 4) (c.val % 4) (64 * 0 + r.val) :=
  tile_grads A 1 0 0 0 rfl _ _ _ _ (p_1_0_0 A) (fun r c => (dp_1_0 A r c).trans (congrArg (DPF A 1 _ _) (by omega))) (delta_1_0 A) (v_sca A 0 1 _) r c

def da_1_0 : FVec Ideal S64x256 .bf16 :=
  (truncf .bf16 (dsn_1_0_0 A) bitsLt_bf16_f32)

theorem dsall_1_0 (j : Fin 64) (c : Fin 256) : da_1_0 A (ix2 j c) = GF A 1 (64 * 0 + c.val / 4) (c.val % 4) (0 + j.val) :=
  (ds_1_0_0 A j c).trans (congrArg (GF A 1 _ _) (by omega))

theorem dkp_1_0 (j : Fin 64) (d : Fin 128) : v5326 A (ix2 j d) = DKF A 1 0 (0 + j.val) d := by
  rw [show (v5326 A) = matmul dot_S64x256_S256x128_S64x128_1_0_0_1_n_n none (da_1_0 A) (v5242 A) (constant S64x128 .f32 0x00000000#32) from rfl]
  exact (over1 _ _ j d).trans (Finset.sum_congr rfl fun c _ => congrArg₂ (· * ·) (dsall_1_0 A j c) (qeff_1_0 A c d))

theorem dqm_1_0 (d : Fin 128) (c : Fin 256) : v5328 A (ix2 d c) = ∑ j : Fin 384, KEF A j.val 1 d * GF A 1 (64 * 0 + c.val / 4) (c.val % 4) j.val := by
  rw [show (v5328 A) = matmul dot_S128x64_S64x256_S128x256_1_0_0_1_n_n none (extractStridedSlice S128x64 ![0, 0] (v5067 A) slices_S128x384_o0_0_S128x64) (da_1_0 A) (constant S128x256 .f32 0x00000000#32) from rfl]
  exact (keys1 _ _ 0 _ (by decide) d c).trans ((Finset.sum_congr rfl fun j _ => congrArg₂ (· * ·) (keff_1 A d _) (dsall_1_0 A j c)).trans
    (sum_keys (fun j => KEF A j 1 d * GF A 1 (64 * 0 + c.val / 4) (c.val % 4) j) 0 64 (by decide) fun j hj hn => (congrArg (_ * ·) (GF_zero A 1 _ _ j (by omega))).trans (mul_zero _)))

theorem dqs_1_0 : v5362 A (ix2 0 c) = gsF A 0 (4 * 1 + c.val % 4) * smE := by
  rw [show (v5362 A) = headsOne (gsc A (k0_off19_inb A.i)) (gsc A (k0_off20_inb A.i)) (gsc A (k0_off21_inb A.i)) (gsc A (k0_off22_inb A.i)) from rfl]
  exact tile_dq A 1 0 _ _ _ _ (g_sca A 0 4 _) (g_sca A 0 5 _) (g_sca A 0 6 _) (g_sca A 0 7 _) c

theorem dqt_1_0 : v5366 A (ix2 c d) = DQ A 1 (64 * 0 + c.val / 4) (c.val % 4) d := by
  rw [show (v5366 A) = scaledQ (F := Ideal) (v5328 A) (v5362 A) from rfl]
  exact (scaledQ_apply _ _ c d).trans (congrArg₂ (· * ·) (dqm_1_0 A d c) ((dqs_1_0 A c).trans (congrArg (fun b => gsF A b (4 * 1 + c.val % 4) * smE) (by omega))))

/-! ### Group 1, tokens from 64 -/

theorem ob_1_1 : v5424 A (ix2 c d) = Of A (64 * 1 + c.val / 4) (4 * 1 + c.val % 4) d := by
  have e : v5424 A = joinPairs (A.arg17.view.readCov (Val := Elt Ideal) (outPiece A 1 515 inb_S128x2x128_S64x2x128_1_0_0_s_2_1_1 inb_S1x3072x2x128_S1x64x2x128_0_515_0_0_s_1_8_1_1
    :: outPiece A 0 514 inb_S128x2x128_S64x2x128_0_0_0_s_2_1_1 inb_S1x3072x2x128_S1x64x2x128_0_514_0_0_s_1_8_1_1 :: (HS3_14 A))
    (Rect.unit (s := S128x2x128) ![0, 0, 0] S128x2x128.size inb_S128x2x128_S128x2x128_0_0_0).toLoadRect) := rfl
  rw [e]
  exact tile_out A 1 1 514 515 (by decide) (by decide) _ _ _ _ _ _ _ _ c d

theorem delta_1_1 : v5476 A (ix2 0 c) = DLF A (64 * 1 + c.val / 4) (4 * 1 + c.val % 4) := by
  rw [show (v5476 A) = rowDots (F := Ideal) (v5425 A) (v5424 A) from rfl]
  exact tile_delta A 1 1 _ _ (dt_1_1 A) (ob_1_1 A) c

theorem qeff_1_1 : v5555 A (ix2 c d) = QEF A (64 * 1 + c.val / 4) (4 * 1 + c.val % 4) d := by
  rw [show (v5555 A) = scaleRows (extf .bf16 (v5401 A) bitsLt_fp8e4m3_bf16) (headsBoth (qsc A (k0_off19_inb A.i)) (qsc A (k0_off20_inb A.i)) (qsc A (k0_off21_inb A.i)) (qsc A (k0_off22_inb A.i)) (gsc A (k0_off19_inb A.i)) (gsc A (k0_off20_inb A.i)) (gsc A (k0_off21_inb A.i)) (gsc A (k0_off22_inb A.i))) from rfl]
  exact tile_qeff A 1 1 0 rfl _ _ _ _ _ _ _ _ _ (qt_1_1 A) (q_sca A 0 4 _) (q_sca A 0 5 _) (q_sca A 0 6 _) (q_sca A 0 7 _) (g_sca A 0 4 _) (g_sca A 0 5 _) (g_sca A 0 6 _) (g_sca A 0 7 _) c d

theorem dp_1_1 (j : Fin 128) (c : Fin 256) : v5559 A (ix2 j c) = DPF A 1 (64 * 1 + c.val / 4) (c.val % 4) (0 + j.val) := by
  rw [show (v5559 A) = matmul dot_S128x128_S256x128_S128x256_1_1_0_0_n_n none (extractStridedSlice S128x128 ![0, 0] (v5037 A) slices_S384x128_o0_0_S128x128) (v5406 A) (constant S128x256 .f32 0x00000000#32) from rfl]
  exact (score2 _ _ 0 _ (by decide) j c).trans (Finset.sum_congr rfl fun d _ => congrArg₂ (· * ·) (vg_1 A _ d) (dt_1_1 A c d))

theorem ds_1_1_0 (r : Fin 64) (c : Fin 256) : v5608 A (ix2 r c) = GF A 1 (64 * 1 + c.val / 4) (c.val % 4) (64 * 0 + r.val) := by
  rw [show (v5608 A) = grads (v5601 A) (extractStridedSlice S64x256 ![0, 0] (v5559 A) slices_S128x256_o0_0_S64x256) (v5476 A) (v5045 A) from rfl]
  exact tile_grads A 1 1 0 0 rfl _ _ _ _ (p_1_1_0 A) (cutDPF (dp_1_1 A)) (delta_1_1 A) (v_sca A 0 1 _) r c

def dsn_1_1_1 : FVec Ideal S64x256 .f32 :=
  grads (pn_1_1_1 A) (extractStridedSlice S64x256 ![64, 0] (v5559 A) slices_S128x256_o64_0_S64x256) (v5476 A) (v5045 A)

theorem ds_1_1_1 (r : Fin 64) (c : Fin 256) : dsn_1_1_1 A (ix2 r c) = GF A 1 (64 * 1 + c.val / 4) (c.val % 4) (64 * 1 + r.val) :=
  tile_grads A 1 1 1 0 rfl _ _ _ _ (p_1_1_1 A) (cutDPF (dp_1_1 A)) (delta_1_1 A) (v_sca A 0 1 _) r c

def da_1_1 : FVec Ideal S128x256 .bf16 :=
  concatenate S128x256 0 [⟨S64x256, (truncf .bf16 (v5608 A) bitsLt_bf16_f32)⟩, ⟨S64x256, (truncf .bf16 (dsn_1_1_1 A) bitsLt_bf16_f32)⟩] concatenates_S64x256_S64x256_S128x256_d0

theorem dsall_1_1 (j : Fin 128) (c : Fin 256) : da_1_1 A (ix2 j c) = GF A 1 (64 * 1 + c.val / 4) (c.val % 4) (0 + j.val) :=
  join2 _ _ (fun j c => GF A 1 (64 * 1 + c.val / 4) (c.val % 4) (0 + j)) (rowGF (ds_1_1_0 A)) (rowGF (ds_1_1_1 A)) _ j c

def dkn_1_1 : FVec Ideal S128x128 .f32 :=
  matmul dot_S128x256_S256x128_S128x128_1_0_0_1_n_n none (da_1_1 A) (v5555 A) (constant S128x128 .f32 0x00000000#32)

theorem dkp_1_1 (j : Fin 128) (d : Fin 128) : dkn_1_1 A (ix2 j d) = DKF A 1 1 (0 + j.val) d :=
  (over2 _ _ j d).trans (Finset.sum_congr rfl fun c _ => congrArg₂ (· * ·) (dsall_1_1 A j c) (qeff_1_1 A c d))

theorem dqm_1_1 (d : Fin 128) (c : Fin 256) : v5668 A (ix2 d c) = ∑ j : Fin 384, KEF A j.val 1 d * GF A 1 (64 * 1 + c.val / 4) (c.val % 4) j.val := by
  rw [show (v5668 A) = matmul dot_S128x128_S128x256_S128x256_1_0_0_1_n_n none (extractStridedSlice S128x128 ![0, 0] (v5067 A) slices_S128x384_o0_0_S128x128) (da_1_1 A) (constant S128x256 .f32 0x00000000#32) from rfl]
  exact (keys2 _ _ 0 _ (by decide) d c).trans ((Finset.sum_congr rfl fun j _ => congrArg₂ (· * ·) (keff_1 A d _) (dsall_1_1 A j c)).trans
    (sum_keys (fun j => KEF A j 1 d * GF A 1 (64 * 1 + c.val / 4) (c.val % 4) j) 0 128 (by decide) fun j hj hn => (congrArg (_ * ·) (GF_zero A 1 _ _ j (by omega))).trans (mul_zero _)))

theorem dqs_1_1 : v5702 A (ix2 0 c) = gsF A 0 (4 * 1 + c.val % 4) * smE := by
  rw [show (v5702 A) = headsOne (gsc A (k0_off19_inb A.i)) (gsc A (k0_off20_inb A.i)) (gsc A (k0_off21_inb A.i)) (gsc A (k0_off22_inb A.i)) from rfl]
  exact tile_dq A 1 0 _ _ _ _ (g_sca A 0 4 _) (g_sca A 0 5 _) (g_sca A 0 6 _) (g_sca A 0 7 _) c

theorem dqt_1_1 : v5706 A (ix2 c d) = DQ A 1 (64 * 1 + c.val / 4) (c.val % 4) d := by
  rw [show (v5706 A) = scaledQ (F := Ideal) (v5668 A) (v5702 A) from rfl]
  exact (scaledQ_apply _ _ c d).trans (congrArg₂ (· * ·) (dqm_1_1 A d c) ((dqs_1_1 A c).trans (congrArg (fun b => gsF A b (4 * 1 + c.val % 4) * smE) (by omega))))

/-! ### Group 1, tokens from 128 -/

theorem ob_1_2 : v5764 A (ix2 c d) = Of A (64 * 2 + c.val / 4) (4 * 1 + c.val % 4) d := by
  have e : v5764 A = joinPairs (A.arg17.view.readCov (Val := Elt Ideal) (outPiece A 1 1027 inb_S128x2x128_S64x2x128_1_0_0_s_2_1_1 inb_S1x3072x2x128_S1x64x2x128_0_1027_0_0_s_1_8_1_1
    :: outPiece A 0 1026 inb_S128x2x128_S64x2x128_0_0_0_s_2_1_1 inb_S1x3072x2x128_S1x64x2x128_0_1026_0_0_s_1_8_1_1 :: (HS3_16 A))
    (Rect.unit (s := S128x2x128) ![0, 0, 0] S128x2x128.size inb_S128x2x128_S128x2x128_0_0_0).toLoadRect) := rfl
  rw [e]
  exact tile_out A 1 2 1026 1027 (by decide) (by decide) _ _ _ _ _ _ _ _ c d

theorem delta_1_2 : v5816 A (ix2 0 c) = DLF A (64 * 2 + c.val / 4) (4 * 1 + c.val % 4) := by
  rw [show (v5816 A) = rowDots (F := Ideal) (v5765 A) (v5764 A) from rfl]
  exact tile_delta A 1 2 _ _ (dt_1_2 A) (ob_1_2 A) c

theorem qeff_1_2 : v5895 A (ix2 c d) = QEF A (64 * 2 + c.val / 4) (4 * 1 + c.val % 4) d := by
  rw [show (v5895 A) = scaleRows (extf .bf16 (v5741 A) bitsLt_fp8e4m3_bf16) (headsBoth (qsc A (k0_off23_inb A.i)) (qsc A (k0_off24_inb A.i)) (qsc A (k0_off25_inb A.i)) (qsc A (k0_off26_inb A.i)) (gsc A (k0_off23_inb A.i)) (gsc A (k0_off24_inb A.i)) (gsc A (k0_off25_inb A.i)) (gsc A (k0_off26_inb A.i))) from rfl]
  exact tile_qeff A 1 2 1 rfl _ _ _ _ _ _ _ _ _ (qt_1_2 A) (q_sca A 1 4 _) (q_sca A 1 5 _) (q_sca A 1 6 _) (q_sca A 1 7 _) (g_sca A 1 4 _) (g_sca A 1 5 _) (g_sca A 1 6 _) (g_sca A 1 7 _) c d

theorem dp_1_2 (j : Fin 192) (c : Fin 256) : v5899 A (ix2 j c) = DPF A 1 (64 * 2 + c.val / 4) (c.val % 4) (0 + j.val) := by
  rw [show (v5899 A) = matmul dot_S192x128_S256x128_S192x256_1_1_0_0_n_n none (extractStridedSlice S192x128 ![0, 0] (v5037 A) slices_S384x128_o0_0_S192x128) (v5746 A) (constant S192x256 .f32 0x00000000#32) from rfl]
  exact (score3 _ _ 0 _ (by decide) j c).trans (Finset.sum_congr rfl fun d _ => congrArg₂ (· * ·) (vg_1 A _ d) (dt_1_2 A c d))

theorem ds_1_2_0 (r : Fin 64) (c : Fin 256) : v5948 A (ix2 r c) = GF A 1 (64 * 2 + c.val / 4) (c.val % 4) (64 * 0 + r.val) := by
  rw [show (v5948 A) = grads (v5941 A) (extractStridedSlice S64x256 ![0, 0] (v5899 A) slices_S192x256_o0_0_S64x256) (v5816 A) (v5045 A) from rfl]
  exact tile_grads A 1 2 0 0 rfl _ _ _ _ (p_1_2_0 A) (cutDPF (dp_1_2 A)) (delta_1_2 A) (v_sca A 0 1 _) r c

theorem ds_1_2_1 (r : Fin 64) (c : Fin 256) : v5965 A (ix2 r c) = GF A 1 (64 * 2 + c.val / 4) (c.val % 4) (64 * 1 + r.val) := by
  rw [show (v5965 A) = grads (v5958 A) (extractStridedSlice S64x256 ![64, 0] (v5899 A) slices_S192x256_o64_0_S64x256) (v5816 A) (v5045 A) from rfl]
  exact tile_grads A 1 2 1 0 rfl _ _ _ _ (p_1_2_1 A) (cutDPF (dp_1_2 A)) (delta_1_2 A) (v_sca A 0 1 _) r c

theorem ds_1_2_2 (r : Fin 64) (c : Fin 256) : v6011 A (ix2 r c) = GF A 1 (64 * 2 + c.val / 4) (c.val % 4) (64 * 2 + r.val) := by
  rw [show (v6011 A) = grads (v6004 A) (extractStridedSlice S64x256 ![128, 0] (v5899 A) slices_S192x256_o128_0_S64x256) (v5816 A) (v5047 A) from rfl]
  exact tile_grads A 1 2 2 1 rfl _ _ _ _ (p_1_2_2 A) (cutDPF (dp_1_2 A)) (delta_1_2 A) (v_sca A 1 1 _) r c

theorem dsall_1_2 (j : Fin 192) (c : Fin 256) : v6015 A (ix2 j c) = GF A 1 (64 * 2 + c.val / 4) (c.val % 4) (0 + j.val) := by
  rw [show (v6015 A) = concatenate S192x256 0 [⟨S64x256, (truncf .bf16 (v5948 A) bitsLt_bf16_f32)⟩, ⟨S64x256, (truncf .bf16 (v5965 A) bitsLt_bf16_f32)⟩, ⟨S64x256, (truncf .bf16 (v6011 A) bitsLt_bf16_f32)⟩] concatenates_S64x256_S64x256_S64x256_S192x256_d0 from rfl]
  exact join3 _ _ _ (fun j c => GF A 1 (64 * 2 + c.val / 4) (c.val % 4) (0 + j)) (rowGF (ds_1_2_0 A)) (rowGF (ds_1_2_1 A)) (rowGF (ds_1_2_2 A)) _ j c

def dkn_1_2 : FVec Ideal S192x128 .f32 :=
  matmul dot_S192x256_S256x128_S192x128_1_0_0_1_n_n none (v6015 A) (v5895 A) (constant S192x128 .f32 0x00000000#32)

theorem dkp_1_2 (j : Fin 192) (d : Fin 128) : dkn_1_2 A (ix2 j d) = DKF A 1 2 (0 + j.val) d :=
  (over3 _ _ j d).trans (Finset.sum_congr rfl fun c _ => congrArg₂ (· * ·) (dsall_1_2 A j c) (qeff_1_2 A c d))

theorem dqm_1_2 (d : Fin 128) (c : Fin 256) : v6029 A (ix2 d c) = ∑ j : Fin 384, KEF A j.val 1 d * GF A 1 (64 * 2 + c.val / 4) (c.val % 4) j.val := by
  rw [show (v6029 A) = matmul dot_S128x192_S192x256_S128x256_1_0_0_1_n_n none (extractStridedSlice S128x192 ![0, 0] (v5067 A) slices_S128x384_o0_0_S128x192) (v6015 A) (constant S128x256 .f32 0x00000000#32) from rfl]
  exact (keys3 _ _ 0 _ (by decide) d c).trans ((Finset.sum_congr rfl fun j _ => congrArg₂ (· * ·) (keff_1 A d _) (dsall_1_2 A j c)).trans
    (sum_keys (fun j => KEF A j 1 d * GF A 1 (64 * 2 + c.val / 4) (c.val % 4) j) 0 192 (by decide) fun j hj hn => (congrArg (_ * ·) (GF_zero A 1 _ _ j (by omega))).trans (mul_zero _)))

theorem dqs_1_2 : v6063 A (ix2 0 c) = gsF A 1 (4 * 1 + c.val % 4) * smE := by
  rw [show (v6063 A) = headsOne (gsc A (k0_off23_inb A.i)) (gsc A (k0_off24_inb A.i)) (gsc A (k0_off25_inb A.i)) (gsc A (k0_off26_inb A.i)) from rfl]
  exact tile_dq A 1 1 _ _ _ _ (g_sca A 1 4 _) (g_sca A 1 5 _) (g_sca A 1 6 _) (g_sca A 1 7 _) c

theorem dqt_1_2 : v6067 A (ix2 c d) = DQ A 1 (64 * 2 + c.val / 4) (c.val % 4) d := by
  rw [show (v6067 A) = scaledQ (F := Ideal) (v6029 A) (v6063 A) from rfl]
  exact (scaledQ_apply _ _ c d).trans (congrArg₂ (· * ·) (dqm_1_2 A d c) ((dqs_1_2 A c).trans (congrArg (fun b => gsF A b (4 * 1 + c.val % 4) * smE) (by omega))))

/-! ### Group 1, tokens from 192 -/

theorem ob_1_3 : v6125 A (ix2 c d) = Of A (64 * 3 + c.val / 4) (4 * 1 + c.val % 4) d := by
  have e : v6125 A = joinPairs (A.arg17.view.readCov (Val := Elt Ideal) (outPiece A 1 1539 inb_S128x2x128_S64x2x128_1_0_0_s_2_1_1 inb_S1x3072x2x128_S1x64x2x128_0_1539_0_0_s_1_8_1_1
    :: outPiece A 0 1538 inb_S128x2x128_S64x2x128_0_0_0_s_2_1_1 inb_S1x3072x2x128_S1x64x2x128_0_1538_0_0_s_1_8_1_1 :: (HS3_18 A))
    (Rect.unit (s := S128x2x128) ![0, 0, 0] S128x2x128.size inb_S128x2x128_S128x2x128_0_0_0).toLoadRect) := rfl
  rw [e]
  exact tile_out A 1 3 1538 1539 (by decide) (by decide) _ _ _ _ _ _ _ _ c d

theorem delta_1_3 : v6177 A (ix2 0 c) = DLF A (64 * 3 + c.val / 4) (4 * 1 + c.val % 4) := by
  rw [show (v6177 A) = rowDots (F := Ideal) (v6126 A) (v6125 A) from rfl]
  exact tile_delta A 1 3 _ _ (dt_1_3 A) (ob_1_3 A) c

theorem qeff_1_3 : v6256 A (ix2 c d) = QEF A (64 * 3 + c.val / 4) (4 * 1 + c.val % 4) d := by
  rw [show (v6256 A) = scaleRows (extf .bf16 (v6102 A) bitsLt_fp8e4m3_bf16) (headsBoth (qsc A (k0_off23_inb A.i)) (qsc A (k0_off24_inb A.i)) (qsc A (k0_off25_inb A.i)) (qsc A (k0_off26_inb A.i)) (gsc A (k0_off23_inb A.i)) (gsc A (k0_off24_inb A.i)) (gsc A (k0_off25_inb A.i)) (gsc A (k0_off26_inb A.i))) from rfl]
  exact tile_qeff A 1 3 1 rfl _ _ _ _ _ _ _ _ _ (qt_1_3 A) (q_sca A 1 4 _) (q_sca A 1 5 _) (q_sca A 1 6 _) (q_sca A 1 7 _) (g_sca A 1 4 _) (g_sca A 1 5 _) (g_sca A 1 6 _) (g_sca A 1 7 _) c d

theorem dp_1_3 (j : Fin 256) (c : Fin 256) : v6260 A (ix2 j c) = DPF A 1 (64 * 3 + c.val / 4) (c.val % 4) (0 + j.val) := by
  rw [show (v6260 A) = matmul dot_S256x128_S256x128_S256x256_1_1_0_0_n_n none (extractStridedSlice S256x128 ![0, 0] (v5037 A) slices_S384x128_o0_0_S256x128) (v6107 A) (constant S256x256 .f32 0x00000000#32) from rfl]
  exact (score4 _ _ 0 _ (by decide) j c).trans (Finset.sum_congr rfl fun d _ => congrArg₂ (· * ·) (vg_1 A _ d) (dt_1_3 A c d))

theorem ds_1_3_0 (r : Fin 64) (c : Fin 256) : v6309 A (ix2 r c) = GF A 1 (64 * 3 + c.val / 4) (c.val % 4) (64 * 0 + r.val) := by
  rw [show (v6309 A) = grads (v6302 A) (extractStridedSlice S64x256 ![0, 0] (v6260 A) slices_S256x256_o0_0_S64x256) (v6177 A) (v5045 A) from rfl]
  exact tile_grads A 1 3 0 0 rfl _ _ _ _ (p_1_3_0 A) (cutDPF (dp_1_3 A)) (delta_1_3 A) (v_sca A 0 1 _) r c

theorem ds_1_3_1 (r : Fin 64) (c : Fin 256) : v6326 A (ix2 r c) = GF A 1 (64 * 3 + c.val / 4) (c.val % 4) (64 * 1 + r.val) := by
  rw [show (v6326 A) = grads (v6319 A) (extractStridedSlice S64x256 ![64, 0] (v6260 A) slices_S256x256_o64_0_S64x256) (v6177 A) (v5045 A) from rfl]
  exact tile_grads A 1 3 1 0 rfl _ _ _ _ (p_1_3_1 A) (cutDPF (dp_1_3 A)) (delta_1_3 A) (v_sca A 0 1 _) r c

theorem ds_1_3_2 (r : Fin 64) (c : Fin 256) : v6343 A (ix2 r c) = GF A 1 (64 * 3 + c.val / 4) (c.val % 4) (64 * 2 + r.val) := by
  rw [show (v6343 A) = grads (v6336 A) (extractStridedSlice S64x256 ![128, 0] (v6260 A) slices_S256x256_o128_0_S64x256) (v6177 A) (v5047 A) from rfl]
  exact tile_grads A 1 3 2 1 rfl _ _ _ _ (p_1_3_2 A) (cutDPF (dp_1_3 A)) (delta_1_3 A) (v_sca A 1 1 _) r c

theorem ds_1_3_3 (r : Fin 64) (c : Fin 256) : v6389 A (ix2 r c) = GF A 1 (64 * 3 + c.val / 4) (c.val % 4) (64 * 3 + r.val) := by
  rw [show (v6389 A) = grads (v6382 A) (extractStridedSlice S64x256 ![192, 0] (v6260 A) slices_S256x256_o192_0_S64x256) (v6177 A) (v5047 A) from rfl]
  exact tile_grads A 1 3 3 1 rfl _ _ _ _ (p_1_3_3 A) (cutDPF (dp_1_3 A)) (delta_1_3 A) (v_sca A 1 1 _) r c

theorem dsall_1_3 (j : Fin 256) (c : Fin 256) : v6393 A (ix2 j c) = GF A 1 (64 * 3 + c.val / 4) (c.val % 4) (0 + j.val) := by
  rw [show (v6393 A) = concatenate S256x256 0 [⟨S64x256, (truncf .bf16 (v6309 A) bitsLt_bf16_f32)⟩, ⟨S64x256, (truncf .bf16 (v6326 A) bitsLt_bf16_f32)⟩, ⟨S64x256, (truncf .bf16 (v6343 A) bitsLt_bf16_f32)⟩, ⟨S64x256, (truncf .bf16 (v6389 A) bitsLt_bf16_f32)⟩] concatenates_S64x256_S64x256_S64x256_S64x256_S256x256_d0 from rfl]
  exact join4 _ _ _ _ (fun j c => GF A 1 (64 * 3 + c.val / 4) (c.val % 4) (0 + j)) (rowGF (ds_1_3_0 A)) (rowGF (ds_1_3_1 A)) (rowGF (ds_1_3_2 A)) (rowGF (ds_1_3_3 A)) _ j c

theorem dkp_1_3 (j : Fin 256) (d : Fin 128) : v6395 A (ix2 j d) = DKF A 1 3 (0 + j.val) d := by
  rw [show (v6395 A) = matmul dot_S256x256_S256x128_S256x128_1_0_0_1_n_n none (v6393 A) (v6256 A) (constant S256x128 .f32 0x00000000#32) from rfl]
  exact (over4 _ _ j d).trans (Finset.sum_congr rfl fun c _ => congrArg₂ (· * ·) (dsall_1_3 A j c) (qeff_1_3 A c d))

def dqmn_1_3 : FVec Ideal S128x256 .f32 :=
  matmul dot_S128x256_S256x256_S128x256_1_0_0_1_n_n none (extractStridedSlice S128x256 ![0, 0] (v5067 A) slices_S128x384_o0_0_S128x256) (v6393 A) (constant S128x256 .f32 0x00000000#32)

theorem dqm_1_3 (d : Fin 128) (c : Fin 256) : dqmn_1_3 A (ix2 d c) = ∑ j : Fin 384, KEF A j.val 1 d * GF A 1 (64 * 3 + c.val / 4) (c.val % 4) j.val :=
  (keys4 _ _ 0 _ (by decide) d c).trans ((Finset.sum_congr rfl fun j _ => congrArg₂ (· * ·) (keff_1 A d _) (dsall_1_3 A j c)).trans
    (sum_keys (fun j => KEF A j 1 d * GF A 1 (64 * 3 + c.val / 4) (c.val % 4) j) 0 256 (by decide) fun j hj hn => (congrArg (_ * ·) (GF_zero A 1 _ _ j (by omega))).trans (mul_zero _)))

def dqsn_1_3 : FVec Ideal S1x256 .f32 :=
  headsOne (gsc A (k0_off23_inb A.i)) (gsc A (k0_off24_inb A.i)) (gsc A (k0_off25_inb A.i)) (gsc A (k0_off26_inb A.i))

theorem dqs_1_3 : dqsn_1_3 A (ix2 0 c) = gsF A 1 (4 * 1 + c.val % 4) * smE :=
  tile_dq A 1 1 _ _ _ _ (g_sca A 1 4 _) (g_sca A 1 5 _) (g_sca A 1 6 _) (g_sca A 1 7 _) c

def dqtn_1_3 : FVec Ideal S256x128 .bf16 :=
  scaledQ (F := Ideal) (dqmn_1_3 A) (dqsn_1_3 A)

theorem dqt_1_3 : dqtn_1_3 A (ix2 c d) = DQ A 1 (64 * 3 + c.val / 4) (c.val % 4) d :=
  (scaledQ_apply _ _ c d).trans (congrArg₂ (· * ·) (dqm_1_3 A d c) ((dqs_1_3 A c).trans (congrArg (fun b => gsF A b (4 * 1 + c.val % 4) * smE) (by omega))))

/-! ### Group 1, tokens from 256 -/

theorem ob_1_4 : v6507 A (ix2 c d) = Of A (64 * 4 + c.val / 4) (4 * 1 + c.val % 4) d := by
  have e : v6507 A = joinPairs (A.arg17.view.readCov (Val := Elt Ideal) (outPiece A 1 2051 inb_S128x2x128_S64x2x128_1_0_0_s_2_1_1 inb_S1x3072x2x128_S1x64x2x128_0_2051_0_0_s_1_8_1_1
    :: outPiece A 0 2050 inb_S128x2x128_S64x2x128_0_0_0_s_2_1_1 inb_S1x3072x2x128_S1x64x2x128_0_2050_0_0_s_1_8_1_1 :: (HS3_20 A))
    (Rect.unit (s := S128x2x128) ![0, 0, 0] S128x2x128.size inb_S128x2x128_S128x2x128_0_0_0).toLoadRect) := rfl
  rw [e]
  exact tile_out A 1 4 2050 2051 (by decide) (by decide) _ _ _ _ _ _ _ _ c d

theorem delta_1_4 : v6559 A (ix2 0 c) = DLF A (64 * 4 + c.val / 4) (4 * 1 + c.val % 4) := by
  rw [show (v6559 A) = rowDots (F := Ideal) (v6508 A) (v6507 A) from rfl]
  exact tile_delta A 1 4 _ _ (dt_1_4 A) (ob_1_4 A) c

theorem qeff_1_4 : v6638 A (ix2 c d) = QEF A (64 * 4 + c.val / 4) (4 * 1 + c.val % 4) d := by
  rw [show (v6638 A) = scaleRows (extf .bf16 (v6484 A) bitsLt_fp8e4m3_bf16) (headsBoth (qsc A (k0_off27_inb A.i)) (qsc A (k0_off28_inb A.i)) (qsc A (k0_off29_inb A.i)) (qsc A (k0_off30_inb A.i)) (gsc A (k0_off27_inb A.i)) (gsc A (k0_off28_inb A.i)) (gsc A (k0_off29_inb A.i)) (gsc A (k0_off30_inb A.i))) from rfl]
  exact tile_qeff A 1 4 2 rfl _ _ _ _ _ _ _ _ _ (qt_1_4 A) (q_sca A 2 4 _) (q_sca A 2 5 _) (q_sca A 2 6 _) (q_sca A 2 7 _) (g_sca A 2 4 _) (g_sca A 2 5 _) (g_sca A 2 6 _) (g_sca A 2 7 _) c d

theorem dp_1_4 (j : Fin 320) (c : Fin 256) : v6642 A (ix2 j c) = DPF A 1 (64 * 4 + c.val / 4) (c.val % 4) (0 + j.val) := by
  rw [show (v6642 A) = matmul dot_S320x128_S256x128_S320x256_1_1_0_0_n_n none (extractStridedSlice S320x128 ![0, 0] (v5037 A) slices_S384x128_o0_0_S320x128) (v6489 A) (constant S320x256 .f32 0x00000000#32) from rfl]
  exact (score5 _ _ 0 _ (by decide) j c).trans (Finset.sum_congr rfl fun d _ => congrArg₂ (· * ·) (vg_1 A _ d) (dt_1_4 A c d))

theorem ds_1_4_0 (r : Fin 64) (c : Fin 256) : v6720 A (ix2 r c) = GF A 1 (64 * 4 + c.val / 4) (c.val % 4) (64 * 0 + r.val) := by
  rw [show (v6720 A) = grads (v6713 A) (extractStridedSlice S64x256 ![0, 0] (v6642 A) slices_S320x256_o0_0_S64x256) (v6559 A) (v5045 A) from rfl]
  exact tile_grads A 1 4 0 0 rfl _ _ _ _ (p_1_4_0 A) (cutDPF (dp_1_4 A)) (delta_1_4 A) (v_sca A 0 1 _) r c

theorem ds_1_4_1 (r : Fin 64) (c : Fin 256) : v6737 A (ix2 r c) = GF A 1 (64 * 4 + c.val / 4) (c.val % 4) (64 * 1 + r.val) := by
  rw [show (v6737 A) = grads (v6730 A) (extractStridedSlice S64x256 ![64, 0] (v6642 A) slices_S320x256_o64_0_S64x256) (v6559 A) (v5045 A) from rfl]
  exact tile_grads A 1 4 1 0 rfl _ _ _ _ (p_1_4_1 A) (cutDPF (dp_1_4 A)) (delta_1_4 A) (v_sca A 0 1 _) r c

theorem ds_1_4_2 (r : Fin 64) (c : Fin 256) : v6754 A (ix2 r c) = GF A 1 (64 * 4 + c.val / 4) (c.val % 4) (64 * 2 + r.val) := by
  rw [show (v6754 A) = grads (v6747 A) (extractStridedSlice S64x256 ![128, 0] (v6642 A) slices_S320x256_o128_0_S64x256) (v6559 A) (v5047 A) from rfl]
  exact tile_grads A 1 4 2 1 rfl _ _ _ _ (p_1_4_2 A) (cutDPF (dp_1_4 A)) (delta_1_4 A) (v_sca A 1 1 _) r c

theorem ds_1_4_3 (r : Fin 64) (c : Fin 256) : v6771 A (ix2 r c) = GF A 1 (64 * 4 + c.val / 4) (c.val % 4) (64 * 3 + r.val) := by
  rw [show (v6771 A) = grads (v6764 A) (extractStridedSlice S64x256 ![192, 0] (v6642 A) slices_S320x256_o192_0_S64x256) (v6559 A) (v5047 A) from rfl]
  exact tile_grads A 1 4 3 1 rfl _ _ _ _ (p_1_4_3 A) (cutDPF (dp_1_4 A)) (delta_1_4 A) (v_sca A 1 1 _) r c

def dsn_1_4_4 : FVec Ideal S64x256 .f32 :=
  grads (pn_1_4_4 A) (extractStridedSlice S64x256 ![256, 0] (v6642 A) slices_S320x256_o256_0_S64x256) (v6559 A) (v5049 A)

theorem ds_1_4_4 (r : Fin 64) (c : Fin 256) : dsn_1_4_4 A (ix2 r c) = GF A 1 (64 * 4 + c.val / 4) (c.val % 4) (64 * 4 + r.val) :=
  tile_grads A 1 4 4 2 rfl _ _ _ _ (p_1_4_4 A) (cutDPF (dp_1_4 A)) (delta_1_4 A) (v_sca A 2 1 _) r c

def da_1_4 : FVec Ideal S320x256 .bf16 :=
  concatenate S320x256 0 [⟨S64x256, (truncf .bf16 (v6720 A) bitsLt_bf16_f32)⟩, ⟨S64x256, (truncf .bf16 (v6737 A) bitsLt_bf16_f32)⟩, ⟨S64x256, (truncf .bf16 (v6754 A) bitsLt_bf16_f32)⟩, ⟨S64x256, (truncf .bf16 (v6771 A) bitsLt_bf16_f32)⟩, ⟨S64x256, (truncf .bf16 (dsn_1_4_4 A) bitsLt_bf16_f32)⟩] concatenates_S64x256_S64x256_S64x256_S64x256_S64x256_S320x256_d0

theorem dsall_1_4 (j : Fin 320) (c : Fin 256) : da_1_4 A (ix2 j c) = GF A 1 (64 * 4 + c.val / 4) (c.val % 4) (0 + j.val) :=
  join5 _ _ _ _ _ (fun j c => GF A 1 (64 * 4 + c.val / 4) (c.val % 4) (0 + j)) (rowGF (ds_1_4_0 A)) (rowGF (ds_1_4_1 A)) (rowGF (ds_1_4_2 A)) (rowGF (ds_1_4_3 A)) (rowGF (ds_1_4_4 A)) _ j c

def dkn_1_4 : FVec Ideal S320x128 .f32 :=
  matmul dot_S320x256_S256x128_S320x128_1_0_0_1_n_n none (da_1_4 A) (v6638 A) (constant S320x128 .f32 0x00000000#32)

theorem dkp_1_4 (j : Fin 320) (d : Fin 128) : dkn_1_4 A (ix2 j d) = DKF A 1 4 (0 + j.val) d :=
  (over5 _ _ j d).trans (Finset.sum_congr rfl fun c _ => congrArg₂ (· * ·) (dsall_1_4 A j c) (qeff_1_4 A c d))

theorem dqm_1_4 (d : Fin 128) (c : Fin 256) : v6843 A (ix2 d c) = ∑ j : Fin 384, KEF A j.val 1 d * GF A 1 (64 * 4 + c.val / 4) (c.val % 4) j.val := by
  rw [show (v6843 A) = matmul dot_S128x320_S320x256_S128x256_1_0_0_1_n_n none (extractStridedSlice S128x320 ![0, 0] (v5067 A) slices_S128x384_o0_0_S128x320) (da_1_4 A) (constant S128x256 .f32 0x00000000#32) from rfl]
  exact (keys5 _ _ 0 _ (by decide) d c).trans ((Finset.sum_congr rfl fun j _ => congrArg₂ (· * ·) (keff_1 A d _) (dsall_1_4 A j c)).trans
    (sum_keys (fun j => KEF A j 1 d * GF A 1 (64 * 4 + c.val / 4) (c.val % 4) j) 0 320 (by decide) fun j hj hn => (congrArg (_ * ·) (GF_zero A 1 _ _ j (by omega))).trans (mul_zero _)))

theorem dqs_1_4 : v6877 A (ix2 0 c) = gsF A 2 (4 * 1 + c.val % 4) * smE := by
  rw [show (v6877 A) = headsOne (gsc A (k0_off27_inb A.i)) (gsc A (k0_off28_inb A.i)) (gsc A (k0_off29_inb A.i)) (gsc A (k0_off30_inb A.i)) from rfl]
  exact tile_dq A 1 2 _ _ _ _ (g_sca A 2 4 _) (g_sca A 2 5 _) (g_sca A 2 6 _) (g_sca A 2 7 _) c

theorem dqt_1_4 : v6881 A (ix2 c d) = DQ A 1 (64 * 4 + c.val / 4) (c.val % 4) d := by
  rw [show (v6881 A) = scaledQ (F := Ideal) (v6843 A) (v6877 A) from rfl]
  exact (scaledQ_apply _ _ c d).trans (congrArg₂ (· * ·) (dqm_1_4 A d c) ((dqs_1_4 A c).trans (congrArg (fun b => gsF A b (4 * 1 + c.val % 4) * smE) (by omega))))

/-! ### Group 1, tokens from 320 -/

theorem ob_1_5 : v6939 A (ix2 c d) = Of A (64 * 5 + c.val / 4) (4 * 1 + c.val % 4) d := by
  have e : v6939 A = joinPairs (A.arg17.view.readCov (Val := Elt Ideal) (outPiece A 1 2563 inb_S128x2x128_S64x2x128_1_0_0_s_2_1_1 inb_S1x3072x2x128_S1x64x2x128_0_2563_0_0_s_1_8_1_1
    :: outPiece A 0 2562 inb_S128x2x128_S64x2x128_0_0_0_s_2_1_1 inb_S1x3072x2x128_S1x64x2x128_0_2562_0_0_s_1_8_1_1 :: (HS3_22 A))
    (Rect.unit (s := S128x2x128) ![0, 0, 0] S128x2x128.size inb_S128x2x128_S128x2x128_0_0_0).toLoadRect) := rfl
  rw [e]
  exact tile_out A 1 5 2562 2563 (by decide) (by decide) _ _ _ _ _ _ _ _ c d

theorem delta_1_5 : v6991 A (ix2 0 c) = DLF A (64 * 5 + c.val / 4) (4 * 1 + c.val % 4) := by
  rw [show (v6991 A) = rowDots (F := Ideal) (v6940 A) (v6939 A) from rfl]
  exact tile_delta A 1 5 _ _ (dt_1_5 A) (ob_1_5 A) c

theorem qeff_1_5 : v7070 A (ix2 c d) = QEF A (64 * 5 + c.val / 4) (4 * 1 + c.val % 4) d := by
  rw [show (v7070 A) = scaleRows (extf .bf16 (v6916 A) bitsLt_fp8e4m3_bf16) (headsBoth (qsc A (k0_off27_inb A.i)) (qsc A (k0_off28_inb A.i)) (qsc A (k0_off29_inb A.i)) (qsc A (k0_off30_inb A.i)) (gsc A (k0_off27_inb A.i)) (gsc A (k0_off28_inb A.i)) (gsc A (k0_off29_inb A.i)) (gsc A (k0_off30_inb A.i))) from rfl]
  exact tile_qeff A 1 5 2 rfl _ _ _ _ _ _ _ _ _ (qt_1_5 A) (q_sca A 2 4 _) (q_sca A 2 5 _) (q_sca A 2 6 _) (q_sca A 2 7 _) (g_sca A 2 4 _) (g_sca A 2 5 _) (g_sca A 2 6 _) (g_sca A 2 7 _) c d

theorem dp_1_5 (j : Fin 320) (c : Fin 256) : v7074 A (ix2 j c) = DPF A 1 (64 * 5 + c.val / 4) (c.val % 4) (64 + j.val) := by
  rw [show (v7074 A) = matmul dot_S320x128_S256x128_S320x256_1_1_0_0_n_n none (extractStridedSlice S320x128 ![64, 0] (v5037 A) slices_S384x128_o64_0_S320x128) (v6921 A) (constant S320x256 .f32 0x00000000#32) from rfl]
  exact (score5 _ _ 64 _ (by decide) j c).trans (Finset.sum_congr rfl fun d _ => congrArg₂ (· * ·) (vg_1 A _ d) (dt_1_5 A c d))

theorem ds_1_5_1 (r : Fin 64) (c : Fin 256) : v7152 A (ix2 r c) = GF A 1 (64 * 5 + c.val / 4) (c.val % 4) (64 * 1 + r.val) := by
  rw [show (v7152 A) = grads (v7145 A) (extractStridedSlice S64x256 ![0, 0] (v7074 A) slices_S320x256_o0_0_S64x256) (v6991 A) (v5045 A) from rfl]
  exact tile_grads A 1 5 1 0 rfl _ _ _ _ (p_1_5_1 A) (cutDPF (dp_1_5 A)) (delta_1_5 A) (v_sca A 0 1 _) r c

theorem ds_1_5_2 (r : Fin 64) (c : Fin 256) : v7169 A (ix2 r c) = GF A 1 (64 * 5 + c.val / 4) (c.val % 4) (64 * 2 + r.val) := by
  rw [show (v7169 A) = grads (v7162 A) (extractStridedSlice S64x256 ![64, 0] (v7074 A) slices_S320x256_o64_0_S64x256) (v6991 A) (v5047 A) from rfl]
  exact tile_grads A 1 5 2 1 rfl _ _ _ _ (p_1_5_2 A) (cutDPF (dp_1_5 A)) (delta_1_5 A) (v_sca A 1 1 _) r c

theorem ds_1_5_3 (r : Fin 64) (c : Fin 256) : v7186 A (ix2 r c) = GF A 1 (64 * 5 + c.val / 4) (c.val % 4) (64 * 3 + r.val) := by
  rw [show (v7186 A) = grads (v7179 A) (extractStridedSlice S64x256 ![128, 0] (v7074 A) slices_S320x256_o128_0_S64x256) (v6991 A) (v5047 A) from rfl]
  exact tile_grads A 1 5 3 1 rfl _ _ _ _ (p_1_5_3 A) (cutDPF (dp_1_5 A)) (delta_1_5 A) (v_sca A 1 1 _) r c

theorem ds_1_5_4 (r : Fin 64) (c : Fin 256) : v7203 A (ix2 r c) = GF A 1 (64 * 5 + c.val / 4) (c.val % 4) (64 * 4 + r.val) := by
  rw [show (v7203 A) = grads (v7196 A) (extractStridedSlice S64x256 ![192, 0] (v7074 A) slices_S320x256_o192_0_S64x256) (v6991 A) (v5049 A) from rfl]
  exact tile_grads A 1 5 4 2 rfl _ _ _ _ (p_1_5_4 A) (cutDPF (dp_1_5 A)) (delta_1_5 A) (v_sca A 2 1 _) r c

def dsn_1_5_5 : FVec Ideal S64x256 .f32 :=
  grads (v7242 A) (extractStridedSlice S64x256 ![256, 0] (v7074 A) slices_S320x256_o256_0_S64x256) (v6991 A) (v5049 A)

theorem ds_1_5_5 (r : Fin 64) (c : Fin 256) : dsn_1_5_5 A (ix2 r c) = GF A 1 (64 * 5 + c.val / 4) (c.val % 4) (64 * 5 + r.val) :=
  tile_grads A 1 5 5 2 rfl _ _ _ _ (p_1_5_5 A) (cutDPF (dp_1_5 A)) (delta_1_5 A) (v_sca A 2 1 _) r c

def da_1_5 : FVec Ideal S320x256 .bf16 :=
  concatenate S320x256 0 [⟨S64x256, (truncf .bf16 (v7152 A) bitsLt_bf16_f32)⟩, ⟨S64x256, (truncf .bf16 (v7169 A) bitsLt_bf16_f32)⟩, ⟨S64x256, (truncf .bf16 (v7186 A) bitsLt_bf16_f32)⟩, ⟨S64x256, (truncf .bf16 (v7203 A) bitsLt_bf16_f32)⟩, ⟨S64x256, (truncf .bf16 (dsn_1_5_5 A) bitsLt_bf16_f32)⟩] concatenates_S64x256_S64x256_S64x256_S64x256_S64x256_S320x256_d0

theorem dsall_1_5 (j : Fin 320) (c : Fin 256) : da_1_5 A (ix2 j c) = GF A 1 (64 * 5 + c.val / 4) (c.val % 4) (64 + j.val) :=
  join5 _ _ _ _ _ (fun j c => GF A 1 (64 * 5 + c.val / 4) (c.val % 4) (64 + j)) (rowGF (ds_1_5_1 A)) (rowGF (ds_1_5_2 A)) (rowGF (ds_1_5_3 A)) (rowGF (ds_1_5_4 A)) (rowGF (ds_1_5_5 A)) _ j c

def dkn_1_5 : FVec Ideal S320x128 .f32 :=
  matmul dot_S320x256_S256x128_S320x128_1_0_0_1_n_n none (da_1_5 A) (v7070 A) (constant S320x128 .f32 0x00000000#32)

theorem dkp_1_5 (j : Fin 320) (d : Fin 128) : dkn_1_5 A (ix2 j d) = DKF A 1 5 (64 + j.val) d :=
  (over5 _ _ j d).trans (Finset.sum_congr rfl fun c _ => congrArg₂ (· * ·) (dsall_1_5 A j c) (qeff_1_5 A c d))

theorem dqm_1_5 (d : Fin 128) (c : Fin 256) : v7275 A (ix2 d c) = ∑ j : Fin 384, KEF A j.val 1 d * GF A 1 (64 * 5 + c.val / 4) (c.val % 4) j.val := by
  rw [show (v7275 A) = matmul dot_S128x320_S320x256_S128x256_1_0_0_1_n_n none (extractStridedSlice S128x320 ![0, 64] (v5067 A) slices_S128x384_o0_64_S128x320) (da_1_5 A) (constant S128x256 .f32 0x00000000#32) from rfl]
  exact (keys5 _ _ 64 _ (by decide) d c).trans ((Finset.sum_congr rfl fun j _ => congrArg₂ (· * ·) (keff_1 A d _) (dsall_1_5 A j c)).trans
    (sum_keys (fun j => KEF A j 1 d * GF A 1 (64 * 5 + c.val / 4) (c.val % 4) j) 64 320 (by decide) fun j hj hn => (congrArg (_ * ·) (GF_zero A 1 _ _ j (by omega))).trans (mul_zero _)))

theorem dqs_1_5 : v7309 A (ix2 0 c) = gsF A 2 (4 * 1 + c.val % 4) * smE := by
  rw [show (v7309 A) = headsOne (gsc A (k0_off27_inb A.i)) (gsc A (k0_off28_inb A.i)) (gsc A (k0_off29_inb A.i)) (gsc A (k0_off30_inb A.i)) from rfl]
  exact tile_dq A 1 2 _ _ _ _ (g_sca A 2 4 _) (g_sca A 2 5 _) (g_sca A 2 6 _) (g_sca A 2 7 _) c

theorem dqt_1_5 : v7313 A (ix2 c d) = DQ A 1 (64 * 5 + c.val / 4) (c.val % 4) d := by
  rw [show (v7313 A) = scaledQ (F := Ideal) (v7275 A) (v7309 A) from rfl]
  exact (scaledQ_apply _ _ c d).trans (congrArg₂ (· * ·) (dqm_1_5 A d c) ((dqs_1_5 A c).trans (congrArg (fun b => gsF A b (4 * 1 + c.val % 4) * smE) (by omega))))

theorem dkacc_1_0_0 (r : Fin 64) (d : Fin 128) : v5326 A (ix2 r d) = DKT A 1 0 0 r d :=
  one_tile (dkp_1_0 A)

theorem dkacc_1_0_1 (r : Fin 64) (d : Fin 128) : v5664 A (ix2 r d) = DKT A 1 0 1 r d := by
  rw [show (v5664 A) = addf (F := Ideal) (φ := .f32) (v5326 A) (extractStridedSlice S64x128 ![0, 0] (dkn_1_1 A) slices_S128x128_o0_0_S64x128) from rfl]
  exact add_tile (dkacc_1_0_0 A r d) (dkp_1_1 A)

theorem dkacc_1_0_2 (r : Fin 64) (d : Fin 128) : v6021 A (ix2 r d) = DKT A 1 0 2 r d := by
  rw [show (v6021 A) = addf (F := Ideal) (φ := .f32) (v5664 A) (extractStridedSlice S64x128 ![0, 0] (dkn_1_2 A) slices_S192x128_o0_0_S64x128) from rfl]
  exact add_tile (dkacc_1_0_1 A r d) (dkp_1_2 A)

theorem dkacc_1_0_3 (r : Fin 64) (d : Fin 128) : v6399 A (ix2 r d) = DKT A 1 0 3 r d := by
  rw [show (v6399 A) = addf (F := Ideal) (φ := .f32) (v6021 A) (extractStridedSlice S64x128 ![0, 0] (v6395 A) slices_S256x128_o0_0_S64x128) from rfl]
  exact add_tile (dkacc_1_0_2 A r d) (dkp_1_3 A)

theorem dkacc_1_0_4 (r : Fin 64) (d : Fin 128) : v6827 A (ix2 r d) = DKT A 1 0 4 r d := by
  rw [show (v6827 A) = addf (F := Ideal) (φ := .f32) (v6399 A) (extractStridedSlice S64x128 ![0, 0] (dkn_1_4 A) slices_S320x128_o0_0_S64x128) from rfl]
  exact add_tile (dkacc_1_0_3 A r d) (dkp_1_4 A)

theorem dkacc_1_1_1 (r : Fin 64) (d : Fin 128) : v5666 A (ix2 r d) = DKT A 1 1 0 r d := by
  rw [show (v5666 A) = (extractStridedSlice S64x128 ![64, 0] (dkn_1_1 A) slices_S128x128_o64_0_S64x128) from rfl]
  exact (first_tile (dkp_1_1 A))

theorem dkacc_1_1_2 (r : Fin 64) (d : Fin 128) : v6025 A (ix2 r d) = DKT A 1 1 1 r d := by
  rw [show (v6025 A) = addf (F := Ideal) (φ := .f32) (v5666 A) (extractStridedSlice S64x128 ![64, 0] (dkn_1_2 A) slices_S192x128_o64_0_S64x128) from rfl]
  exact add_tile (dkacc_1_1_1 A r d) (dkp_1_2 A)

theorem dkacc_1_1_3 (r : Fin 64) (d : Fin 128) : v6403 A (ix2 r d) = DKT A 1 1 2 r d := by
  rw [show (v6403 A) = addf (F := Ideal) (φ := .f32) (v6025 A) (extractStridedSlice S64x128 ![64, 0] (v6395 A) slices_S256x128_o64_0_S64x128) from rfl]
  exact add_tile (dkacc_1_1_2 A r d) (dkp_1_3 A)

theorem dkacc_1_1_4 (r : Fin 64) (d : Fin 128) : v6831 A (ix2 r d) = DKT A 1 1 3 r d := by
  rw [show (v6831 A) = addf (F := Ideal) (φ := .f32) (v6403 A) (extractStridedSlice S64x128 ![64, 0] (dkn_1_4 A) slices_S320x128_o64_0_S64x128) from rfl]
  exact add_tile (dkacc_1_1_3 A r d) (dkp_1_4 A)

theorem dkacc_1_1_5 (r : Fin 64) (d : Fin 128) : v7259 A (ix2 r d) = DKT A 1 1 4 r d := by
  rw [show (v7259 A) = addf (F := Ideal) (φ := .f32) (v6831 A) (extractStridedSlice S64x128 ![0, 0] (dkn_1_5 A) slices_S320x128_o0_0_S64x128) from rfl]
  exact add_tile (dkacc_1_1_4 A r d) (dkp_1_5 A)

theorem dkacc_1_2_2 (r : Fin 64) (d : Fin 128) : v6027 A (ix2 r d) = DKT A 1 2 0 r d := by
  rw [show (v6027 A) = (extractStridedSlice S64x128 ![128, 0] (dkn_1_2 A) slices_S192x128_o128_0_S64x128) from rfl]
  exact (first_tile (dkp_1_2 A))

theorem dkacc_1_2_3 (r : Fin 64) (d : Fin 128) : v6407 A (ix2 r d) = DKT A 1 2 1 r d := by
  rw [show (v6407 A) = addf (F := Ideal) (φ := .f32) (v6027 A) (extractStridedSlice S64x128 ![128, 0] (v6395 A) slices_S256x128_o128_0_S64x128) from rfl]
  exact add_tile (dkacc_1_2_2 A r d) (dkp_1_3 A)

theorem dkacc_1_2_4 (r : Fin 64) (d : Fin 128) : v6835 A (ix2 r d) = DKT A 1 2 2 r d := by
  rw [show (v6835 A) = addf (F := Ideal) (φ := .f32) (v6407 A) (extractStridedSlice S64x128 ![128, 0] (dkn_1_4 A) slices_S320x128_o128_0_S64x128) from rfl]
  exact add_tile (dkacc_1_2_3 A r d) (dkp_1_4 A)

theorem dkacc_1_2_5 (r : Fin 64) (d : Fin 128) : v7263 A (ix2 r d) = DKT A 1 2 3 r d := by
  rw [show (v7263 A) = addf (F := Ideal) (φ := .f32) (v6835 A) (extractStridedSlice S64x128 ![64, 0] (dkn_1_5 A) slices_S320x128_o64_0_S64x128) from rfl]
  exact add_tile (dkacc_1_2_4 A r d) (dkp_1_5 A)

theorem dkacc_1_3_3 (r : Fin 64) (d : Fin 128) : v6409 A (ix2 r d) = DKT A 1 3 0 r d := by
  rw [show (v6409 A) = (extractStridedSlice S64x128 ![192, 0] (v6395 A) slices_S256x128_o192_0_S64x128) from rfl]
  exact (first_tile (dkp_1_3 A))

theorem dkacc_1_3_4 (r : Fin 64) (d : Fin 128) : v6839 A (ix2 r d) = DKT A 1 3 1 r d := by
  rw [show (v6839 A) = addf (F := Ideal) (φ := .f32) (v6409 A) (extractStridedSlice S64x128 ![192, 0] (dkn_1_4 A) slices_S320x128_o192_0_S64x128) from rfl]
  exact add_tile (dkacc_1_3_3 A r d) (dkp_1_4 A)

theorem dkacc_1_3_5 (r : Fin 64) (d : Fin 128) : v7267 A (ix2 r d) = DKT A 1 3 2 r d := by
  rw [show (v7267 A) = addf (F := Ideal) (φ := .f32) (v6839 A) (extractStridedSlice S64x128 ![128, 0] (dkn_1_5 A) slices_S320x128_o128_0_S64x128) from rfl]
  exact add_tile (dkacc_1_3_4 A r d) (dkp_1_5 A)

theorem dkacc_1_4_4 (r : Fin 64) (d : Fin 128) : v6841 A (ix2 r d) = DKT A 1 4 0 r d := by
  rw [show (v6841 A) = (extractStridedSlice S64x128 ![256, 0] (dkn_1_4 A) slices_S320x128_o256_0_S64x128) from rfl]
  exact (first_tile (dkp_1_4 A))

theorem dkacc_1_4_5 (r : Fin 64) (d : Fin 128) : v7271 A (ix2 r d) = DKT A 1 4 1 r d := by
  rw [show (v7271 A) = addf (F := Ideal) (φ := .f32) (v6841 A) (extractStridedSlice S64x128 ![192, 0] (dkn_1_5 A) slices_S320x128_o192_0_S64x128) from rfl]
  exact add_tile (dkacc_1_4_4 A r d) (dkp_1_5 A)

theorem dkacc_1_5_5 (r : Fin 64) (d : Fin 128) : v7273 A (ix2 r d) = DKT A 1 5 0 r d := by
  rw [show (v7273 A) = (extractStridedSlice S64x128 ![256, 0] (dkn_1_5 A) slices_S320x128_o256_0_S64x128) from rfl]
  exact (first_tile (dkp_1_5 A))

end Cert.KernelIdeal.Hand
-- ==== Proof.Exact.Weights2.lean ====
/- Head group 2: the weights and the value gradient's sums, tile by tile, by the lemmas of one tile. -/
module

public import proofs.«01_k».proof.Proof.Exact.Steps

@[expose] public section

set_option maxRecDepth 16384

noncomputable section

namespace Cert.KernelIdeal.Hand

open Cert.KernelIdeal.Gen Idealize.ShloMosaic
open bodyRun.sl

variable (A : Pack Ideal) (c : Fin 256) (d : Fin 128)

theorem kg_2 (j : Fin 384) (d : Fin 128) : v7363 A (ix2 j d) = Kf A j.val 2 d :=
  keysK A 2 inb_S4x384x128_S1x384x128_2_0_0 (by decide) j d

/-! ### Group 2, tokens from 0 -/

theorem qt_2_0 : v7416 A (ix2 c d) = Qf A (64 * 0 + c.val / 4) (4 * 2 + c.val % 4) d :=
  rowsQ A 2 0 0 8 inb_S1x6144x128_S1x1024x128_0_0_0 slices_S64x16x128_o0_8_0_S64x4x128 (by decide) (by decide) (by decide) c d

theorem dt_2_0 : v7421 A (ix2 c d) = Gf A (64 * 0 + c.val / 4) (4 * 2 + c.val % 4) d :=
  rowsG A 2 0 0 8 inb_S1x6144x128_S1x1024x128_0_0_0 slices_S64x16x128_o0_8_0_S64x4x128 (by decide) (by decide) (by decide) c d

theorem l2_2_0 : v7493 A (ix2 0 c) = Lf A (64 * 0 + c.val / 4) (4 * 2 + c.val % 4) * toBase2 :=
  lses A 2 0 0 inb_S4x1x1536_S1x1x256_2_0_0 (by decide) (by decide) (by decide) c

theorem doeff_2_0 : v7563 A (ix2 c d) = GEF A (64 * 0 + c.val / 4) (4 * 2 + c.val % 4) d := by
  rw [show (v7563 A) = scaleRows (extf .bf16 (v7421 A) bitsLt_fp8e5m2_bf16) (heads16 (gsc A (k0_off34_inb A.i)) (gsc A (k0_off35_inb A.i)) (gsc A (k0_off36_inb A.i)) (gsc A (k0_off37_inb A.i))) from rfl]
  exact tile_doeff A 2 0 0 rfl _ _ _ _ _ (dt_2_0 A) (g_sca A 0 8 _) (g_sca A 0 9 _) (g_sca A 0 10 _) (g_sca A 0 11 _) c d

theorem cq_2_0 : v7608 A (ix2 0 c) = qsF A 0 (4 * 2 + c.val % 4) * smTwo := by
  rw [show (v7608 A) = headsTwo (qsc A (k0_off34_inb A.i)) (qsc A (k0_off35_inb A.i)) (qsc A (k0_off36_inb A.i)) (qsc A (k0_off37_inb A.i)) from rfl]
  exact tile_cq A 2 0 _ _ _ _ (q_sca A 0 8 _) (q_sca A 0 9 _) (q_sca A 0 10 _) (q_sca A 0 11 _) c

theorem s_2_0 (j : Fin 64) (c : Fin 256) : v7572 A (ix2 j c) = SF A 2 (64 * 0 + c.val / 4) (c.val % 4) (0 + j.val) := by
  rw [show (v7572 A) = matmul dot_S64x128_S256x128_S64x256_1_1_0_0_n_n none (extractStridedSlice S64x128 ![0, 0] (v7363 A) slices_S384x128_o0_0_S64x128) (v7416 A) (constant S64x256 .f32 0x00000000#32) from rfl]
  exact (score1 _ _ 0 _ (by decide) j c).trans (Finset.sum_congr rfl fun d _ => congrArg₂ (· * ·) (kg_2 A _ d) (qt_2_0 A c d))

theorem p_2_0_0 (r : Fin 64) (c : Fin 256) : v7644 A (ix2 r c) = PF A 2 (64 * 0 + c.val / 4) (c.val % 4) (64 * 0 + r.val) := by
  rw [show (v7644 A) = maskDiag (weights (v7572 A) (v7608 A) (v7367 A) (v7493 A)) from rfl]
  exact tile_diag A 2 0 0 0 0 rfl rfl _ _ _ _ (fun r c => (s_2_0 A r c).trans (congrArg (SF A 2 _ _) (by omega))) (cq_2_0 A) (k_sca A 0 2 _) (l2_2_0 A) rfl r c

theorem pall_2_0 (j : Fin 64) (c : Fin 256) : v7651 A (ix2 j c) = PF A 2 (64 * 0 + c.val / 4) (c.val % 4) (0 + j.val) := by
  rw [show (v7651 A) = (truncf .bf16 (v7644 A) bitsLt_bf16_f32) from rfl]
  exact (p_2_0_0 A j c).trans (congrArg (PF A 2 _ _) (by omega))

theorem dvp_2_0 (j : Fin 64) (d : Fin 128) : v7653 A (ix2 j d) = DVF A 2 0 (0 + j.val) d := by
  rw [show (v7653 A) = matmul dot_S64x256_S256x128_S64x128_1_0_0_1_n_n none (v7651 A) (v7563 A) (constant S64x128 .f32 0x00000000#32) from rfl]
  exact (over1 _ _ j d).trans (Finset.sum_congr rfl fun c _ => congrArg₂ (· * ·) (pall_2_0 A j c) (doeff_2_0 A c d))

/-! ### Group 2, tokens from 64 -/

theorem qt_2_1 : v7729 A (ix2 c d) = Qf A (64 * 1 + c.val / 4) (4 * 2 + c.val % 4) d :=
  rowsQ A 2 1 1024 8 inb_S1x6144x128_S1x1024x128_0_1024_0 slices_S64x16x128_o0_8_0_S64x4x128 (by decide) (by decide) (by decide) c d

theorem dt_2_1 : v7734 A (ix2 c d) = Gf A (64 * 1 + c.val / 4) (4 * 2 + c.val % 4) d :=
  rowsG A 2 1 1024 8 inb_S1x6144x128_S1x1024x128_0_1024_0 slices_S64x16x128_o0_8_0_S64x4x128 (by decide) (by decide) (by decide) c d

theorem l2_2_1 : v7806 A (ix2 0 c) = Lf A (64 * 1 + c.val / 4) (4 * 2 + c.val % 4) * toBase2 :=
  lses A 2 1 256 inb_S4x1x1536_S1x1x256_2_0_256 (by decide) (by decide) (by decide) c

theorem doeff_2_1 : v7876 A (ix2 c d) = GEF A (64 * 1 + c.val / 4) (4 * 2 + c.val % 4) d := by
  rw [show (v7876 A) = scaleRows (extf .bf16 (v7734 A) bitsLt_fp8e5m2_bf16) (heads16 (gsc A (k0_off34_inb A.i)) (gsc A (k0_off35_inb A.i)) (gsc A (k0_off36_inb A.i)) (gsc A (k0_off37_inb A.i))) from rfl]
  exact tile_doeff A 2 1 0 rfl _ _ _ _ _ (dt_2_1 A) (g_sca A 0 8 _) (g_sca A 0 9 _) (g_sca A 0 10 _) (g_sca A 0 11 _) c d

theorem cq_2_1 : v7921 A (ix2 0 c) = qsF A 0 (4 * 2 + c.val % 4) * smTwo := by
  rw [show (v7921 A) = headsTwo (qsc A (k0_off34_inb A.i)) (qsc A (k0_off35_inb A.i)) (qsc A (k0_off36_inb A.i)) (qsc A (k0_off37_inb A.i)) from rfl]
  exact tile_cq A 2 0 _ _ _ _ (q_sca A 0 8 _) (q_sca A 0 9 _) (q_sca A 0 10 _) (q_sca A 0 11 _) c

theorem s_2_1 (j : Fin 128) (c : Fin 256) : v7885 A (ix2 j c) = SF A 2 (64 * 1 + c.val / 4) (c.val % 4) (0 + j.val) := by
  rw [show (v7885 A) = matmul dot_S128x128_S256x128_S128x256_1_1_0_0_n_n none (extractStridedSlice S128x128 ![0, 0] (v7363 A) slices_S384x128_o0_0_S128x128) (v7729 A) (constant S128x256 .f32 0x00000000#32) from rfl]
  exact (score2 _ _ 0 _ (by decide) j c).trans (Finset.sum_congr rfl fun d _ => congrArg₂ (· * ·) (kg_2 A _ d) (qt_2_1 A c d))

def pn_2_1_0 : FVec Ideal S64x256 .f32 :=
  weights (extractStridedSlice S64x256 ![0, 0] (v7885 A) slices_S128x256_o0_0_S64x256) (v7921 A) (v7367 A) (v7806 A)

theorem p_2_1_0 (r : Fin 64) (c : Fin 256) : pn_2_1_0 A (ix2 r c) = PF A 2 (64 * 1 + c.val / 4) (c.val % 4) (64 * 0 + r.val) :=
  tile_full A 2 1 0 0 0 rfl rfl _ _ _ _ (cutSF (s_2_1 A)) (cq_2_1 A) (k_sca A 0 2 _) (l2_2_1 A) (by decide) (by decide) r c

theorem p_2_1_1 (r : Fin 64) (c : Fin 256) : v7975 A (ix2 r c) = PF A 2 (64 * 1 + c.val / 4) (c.val % 4) (64 * 1 + r.val) := by
  rw [show (v7975 A) = maskDiag (weights (extractStridedSlice S64x256 ![64, 0] (v7885 A) slices_S128x256_o64_0_S64x256) (v7921 A) (v7367 A) (v7806 A)) from rfl]
  exact tile_diag A 2 1 1 0 0 rfl rfl _ _ _ _ (cutSF (s_2_1 A)) (cq_2_1 A) (k_sca A 0 2 _) (l2_2_1 A) rfl r c

theorem pall_2_1 (j : Fin 128) (c : Fin 256) : v7985 A (ix2 j c) = PF A 2 (64 * 1 + c.val / 4) (c.val % 4) (0 + j.val) := by
  rw [show (v7985 A) = concatenate S128x256 0 [⟨S64x256, (truncf .bf16 (pn_2_1_0 A) bitsLt_bf16_f32)⟩, ⟨S64x256, (truncf .bf16 (v7975 A) bitsLt_bf16_f32)⟩] concatenates_S64x256_S64x256_S128x256_d0 from rfl]
  exact join2 _ _ (fun j c => PF A 2 (64 * 1 + c.val / 4) (c.val % 4) (0 + j)) (rowPF (p_2_1_0 A)) (rowPF (p_2_1_1 A)) _ j c

theorem dvp_2_1 (j : Fin 128) (d : Fin 128) : v7987 A (ix2 j d) = DVF A 2 1 (0 + j.val) d := by
  rw [show (v7987 A) = matmul dot_S128x256_S256x128_S128x128_1_0_0_1_n_n none (v7985 A) (v7876 A) (constant S128x128 .f32 0x00000000#32) from rfl]
  exact (over2 _ _ j d).trans (Finset.sum_congr rfl fun c _ => congrArg₂ (· * ·) (pall_2_1 A j c) (doeff_2_1 A c d))

/-! ### Group 2, tokens from 128 -/

theorem qt_2_2 : v8069 A (ix2 c d) = Qf A (64 * 2 + c.val / 4) (4 * 2 + c.val % 4) d :=
  rowsQ A 2 2 2048 8 inb_S1x6144x128_S1x1024x128_0_2048_0 slices_S64x16x128_o0_8_0_S64x4x128 (by decide) (by decide) (by decide) c d

theorem dt_2_2 : v8074 A (ix2 c d) = Gf A (64 * 2 + c.val / 4) (4 * 2 + c.val % 4) d :=
  rowsG A 2 2 2048 8 inb_S1x6144x128_S1x1024x128_0_2048_0 slices_S64x16x128_o0_8_0_S64x4x128 (by decide) (by decide) (by decide) c d

theorem l2_2_2 : v8146 A (ix2 0 c) = Lf A (64 * 2 + c.val / 4) (4 * 2 + c.val % 4) * toBase2 :=
  lses A 2 2 512 inb_S4x1x1536_S1x1x256_2_0_512 (by decide) (by decide) (by decide) c

theorem doeff_2_2 : v8216 A (ix2 c d) = GEF A (64 * 2 + c.val / 4) (4 * 2 + c.val % 4) d := by
  rw [show (v8216 A) = scaleRows (extf .bf16 (v8074 A) bitsLt_fp8e5m2_bf16) (heads16 (gsc A (k0_off38_inb A.i)) (gsc A (k0_off39_inb A.i)) (gsc A (k0_off40_inb A.i)) (gsc A (k0_off41_inb A.i))) from rfl]
  exact tile_doeff A 2 2 1 rfl _ _ _ _ _ (dt_2_2 A) (g_sca A 1 8 _) (g_sca A 1 9 _) (g_sca A 1 10 _) (g_sca A 1 11 _) c d

theorem cq_2_2 : v8261 A (ix2 0 c) = qsF A 1 (4 * 2 + c.val % 4) * smTwo := by
  rw [show (v8261 A) = headsTwo (qsc A (k0_off38_inb A.i)) (qsc A (k0_off39_inb A.i)) (qsc A (k0_off40_inb A.i)) (qsc A (k0_off41_inb A.i)) from rfl]
  exact tile_cq A 2 1 _ _ _ _ (q_sca A 1 8 _) (q_sca A 1 9 _) (q_sca A 1 10 _) (q_sca A 1 11 _) c

theorem s_2_2 (j : Fin 192) (c : Fin 256) : v8225 A (ix2 j c) = SF A 2 (64 * 2 + c.val / 4) (c.val % 4) (0 + j.val) := by
  rw [show (v8225 A) = matmul dot_S192x128_S256x128_S192x256_1_1_0_0_n_n none (extractStridedSlice S192x128 ![0, 0] (v7363 A) slices_S384x128_o0_0_S192x128) (v8069 A) (constant S192x256 .f32 0x00000000#32) from rfl]
  exact (score3 _ _ 0 _ (by decide) j c).trans (Finset.sum_congr rfl fun d _ => congrArg₂ (· * ·) (kg_2 A _ d) (qt_2_2 A c d))

theorem p_2_2_0 (r : Fin 64) (c : Fin 256) : v8269 A (ix2 r c) = PF A 2 (64 * 2 + c.val / 4) (c.val % 4) (64 * 0 + r.val) := by
  rw [show (v8269 A) = weights (extractStridedSlice S64x256 ![0, 0] (v8225 A) slices_S192x256_o0_0_S64x256) (v8261 A) (v7367 A) (v8146 A) from rfl]
  exact tile_full A 2 2 0 1 0 rfl rfl _ _ _ _ (cutSF (s_2_2 A)) (cq_2_2 A) (k_sca A 0 2 _) (l2_2_2 A) (by decide) (by decide) r c

theorem p_2_2_1 (r : Fin 64) (c : Fin 256) : v8286 A (ix2 r c) = PF A 2 (64 * 2 + c.val / 4) (c.val % 4) (64 * 1 + r.val) := by
  rw [show (v8286 A) = weights (extractStridedSlice S64x256 ![64, 0] (v8225 A) slices_S192x256_o64_0_S64x256) (v8261 A) (v7367 A) (v8146 A) from rfl]
  exact tile_full A 2 2 1 1 0 rfl rfl _ _ _ _ (cutSF (s_2_2 A)) (cq_2_2 A) (k_sca A 0 2 _) (l2_2_2 A) (by decide) (by decide) r c

def pn_2_2_2 : FVec Ideal S64x256 .f32 :=
  maskDiag (weights (extractStridedSlice S64x256 ![128, 0] (v8225 A) slices_S192x256_o128_0_S64x256) (v8261 A) (v7369 A) (v8146 A))

theorem p_2_2_2 (r : Fin 64) (c : Fin 256) : pn_2_2_2 A (ix2 r c) = PF A 2 (64 * 2 + c.val / 4) (c.val % 4) (64 * 2 + r.val) :=
  tile_diag A 2 2 2 1 1 rfl rfl _ _ _ _ (cutSF (s_2_2 A)) (cq_2_2 A) (k_sca A 1 2 _) (l2_2_2 A) rfl r c

def pa_2_2 : FVec Ideal S192x256 .bf16 :=
  concatenate S192x256 0 [⟨S64x256, (truncf .bf16 (v8269 A) bitsLt_bf16_f32)⟩, ⟨S64x256, (truncf .bf16 (v8286 A) bitsLt_bf16_f32)⟩, ⟨S64x256, (truncf .bf16 (pn_2_2_2 A) bitsLt_bf16_f32)⟩] concatenates_S64x256_S64x256_S64x256_S192x256_d0

theorem pall_2_2 (j : Fin 192) (c : Fin 256) : pa_2_2 A (ix2 j c) = PF A 2 (64 * 2 + c.val / 4) (c.val % 4) (0 + j.val) :=
  join3 _ _ _ (fun j c => PF A 2 (64 * 2 + c.val / 4) (c.val % 4) (0 + j)) (rowPF (p_2_2_0 A)) (rowPF (p_2_2_1 A)) (rowPF (p_2_2_2 A)) _ j c

def dvn_2_2 : FVec Ideal S192x128 .f32 :=
  matmul dot_S192x256_S256x128_S192x128_1_0_0_1_n_n none (pa_2_2 A) (v8216 A) (constant S192x128 .f32 0x00000000#32)

theorem dvp_2_2 (j : Fin 192) (d : Fin 128) : dvn_2_2 A (ix2 j d) = DVF A 2 2 (0 + j.val) d :=
  (over3 _ _ j d).trans (Finset.sum_congr rfl fun c _ => congrArg₂ (· * ·) (pall_2_2 A j c) (doeff_2_2 A c d))

/-! ### Group 2, tokens from 192 -/

theorem qt_2_3 : v8430 A (ix2 c d) = Qf A (64 * 3 + c.val / 4) (4 * 2 + c.val % 4) d :=
  rowsQ A 2 3 3072 8 inb_S1x6144x128_S1x1024x128_0_3072_0 slices_S64x16x128_o0_8_0_S64x4x128 (by decide) (by decide) (by decide) c d

theorem dt_2_3 : v8435 A (ix2 c d) = Gf A (64 * 3 + c.val / 4) (4 * 2 + c.val % 4) d :=
  rowsG A 2 3 3072 8 inb_S1x6144x128_S1x1024x128_0_3072_0 slices_S64x16x128_o0_8_0_S64x4x128 (by decide) (by decide) (by decide) c d

theorem l2_2_3 : v8507 A (ix2 0 c) = Lf A (64 * 3 + c.val / 4) (4 * 2 + c.val % 4) * toBase2 :=
  lses A 2 3 768 inb_S4x1x1536_S1x1x256_2_0_768 (by decide) (by decide) (by decide) c

theorem doeff_2_3 : v8577 A (ix2 c d) = GEF A (64 * 3 + c.val / 4) (4 * 2 + c.val % 4) d := by
  rw [show (v8577 A) = scaleRows (extf .bf16 (v8435 A) bitsLt_fp8e5m2_bf16) (heads16 (gsc A (k0_off38_inb A.i)) (gsc A (k0_off39_inb A.i)) (gsc A (k0_off40_inb A.i)) (gsc A (k0_off41_inb A.i))) from rfl]
  exact tile_doeff A 2 3 1 rfl _ _ _ _ _ (dt_2_3 A) (g_sca A 1 8 _) (g_sca A 1 9 _) (g_sca A 1 10 _) (g_sca A 1 11 _) c d

theorem cq_2_3 : v8622 A (ix2 0 c) = qsF A 1 (4 * 2 + c.val % 4) * smTwo := by
  rw [show (v8622 A) = headsTwo (qsc A (k0_off38_inb A.i)) (qsc A (k0_off39_inb A.i)) (qsc A (k0_off40_inb A.i)) (qsc A (k0_off41_inb A.i)) from rfl]
  exact tile_cq A 2 1 _ _ _ _ (q_sca A 1 8 _) (q_sca A 1 9 _) (q_sca A 1 10 _) (q_sca A 1 11 _) c

theorem s_2_3 (j : Fin 256) (c : Fin 256) : v8586 A (ix2 j c) = SF A 2 (64 * 3 + c.val / 4) (c.val % 4) (0 + j.val) := by
  rw [show (v8586 A) = matmul dot_S256x128_S256x128_S256x256_1_1_0_0_n_n none (extractStridedSlice S256x128 ![0, 0] (v7363 A) slices_S384x128_o0_0_S256x128) (v8430 A) (constant S256x256 .f32 0x00000000#32) from rfl]
  exact (score4 _ _ 0 _ (by decide) j c).trans (Finset.sum_congr rfl fun d _ => congrArg₂ (· * ·) (kg_2 A _ d) (qt_2_3 A c d))

theorem p_2_3_0 (r : Fin 64) (c : Fin 256) : v8630 A (ix2 r c) = PF A 2 (64 * 3 + c.val / 4) (c.val % 4) (64 * 0 + r.val) := by
  rw [show (v8630 A) = weights (extractStridedSlice S64x256 ![0, 0] (v8586 A) slices_S256x256_o0_0_S64x256) (v8622 A) (v7367 A) (v8507 A) from rfl]
  exact tile_full A 2 3 0 1 0 rfl rfl _ _ _ _ (cutSF (s_2_3 A)) (cq_2_3 A) (k_sca A 0 2 _) (l2_2_3 A) (by decide) (by decide) r c

theorem p_2_3_1 (r : Fin 64) (c : Fin 256) : v8647 A (ix2 r c) = PF A 2 (64 * 3 + c.val / 4) (c.val % 4) (64 * 1 + r.val) := by
  rw [show (v8647 A) = weights (extractStridedSlice S64x256 ![64, 0] (v8586 A) slices_S256x256_o64_0_S64x256) (v8622 A) (v7367 A) (v8507 A) from rfl]
  exact tile_full A 2 3 1 1 0 rfl rfl _ _ _ _ (cutSF (s_2_3 A)) (cq_2_3 A) (k_sca A 0 2 _) (l2_2_3 A) (by decide) (by decide) r c

theorem p_2_3_2 (r : Fin 64) (c : Fin 256) : v8664 A (ix2 r c) = PF A 2 (64 * 3 + c.val / 4) (c.val % 4) (64 * 2 + r.val) := by
  rw [show (v8664 A) = weights (extractStridedSlice S64x256 ![128, 0] (v8586 A) slices_S256x256_o128_0_S64x256) (v8622 A) (v7369 A) (v8507 A) from rfl]
  exact tile_full A 2 3 2 1 1 rfl rfl _ _ _ _ (cutSF (s_2_3 A)) (cq_2_3 A) (k_sca A 1 2 _) (l2_2_3 A) (by decide) (by decide) r c

theorem p_2_3_3 (r : Fin 64) (c : Fin 256) : v8710 A (ix2 r c) = PF A 2 (64 * 3 + c.val / 4) (c.val % 4) (64 * 3 + r.val) := by
  rw [show (v8710 A) = maskDiag (weights (extractStridedSlice S64x256 ![192, 0] (v8586 A) slices_S256x256_o192_0_S64x256) (v8622 A) (v7369 A) (v8507 A)) from rfl]
  exact tile_diag A 2 3 3 1 1 rfl rfl _ _ _ _ (cutSF (s_2_3 A)) (cq_2_3 A) (k_sca A 1 2 _) (l2_2_3 A) rfl r c

def pa_2_3 : FVec Ideal S256x256 .bf16 :=
  concatenate S256x256 0 [⟨S64x256, (truncf .bf16 (v8630 A) bitsLt_bf16_f32)⟩, ⟨S64x256, (truncf .bf16 (v8647 A) bitsLt_bf16_f32)⟩, ⟨S64x256, (truncf .bf16 (v8664 A) bitsLt_bf16_f32)⟩, ⟨S64x256, (truncf .bf16 (v8710 A) bitsLt_bf16_f32)⟩] concatenates_S64x256_S64x256_S64x256_S64x256_S256x256_d0

theorem pall_2_3 (j : Fin 256) (c : Fin 256) : pa_2_3 A (ix2 j c) = PF A 2 (64 * 3 + c.val / 4) (c.val % 4) (0 + j.val) :=
  join4 _ _ _ _ (fun j c => PF A 2 (64 * 3 + c.val / 4) (c.val % 4) (0 + j)) (rowPF (p_2_3_0 A)) (rowPF (p_2_3_1 A)) (rowPF (p_2_3_2 A)) (rowPF (p_2_3_3 A)) _ j c

def dvn_2_3 : FVec Ideal S256x128 .f32 :=
  matmul dot_S256x256_S256x128_S256x128_1_0_0_1_n_n none (pa_2_3 A) (v8577 A) (constant S256x128 .f32 0x00000000#32)

theorem dvp_2_3 (j : Fin 256) (d : Fin 128) : dvn_2_3 A (ix2 j d) = DVF A 2 3 (0 + j.val) d :=
  (over4 _ _ j d).trans (Finset.sum_congr rfl fun c _ => congrArg₂ (· * ·) (pall_2_3 A j c) (doeff_2_3 A c d))

/-! ### Group 2, tokens from 256 -/

theorem qt_2_4 : v8812 A (ix2 c d) = Qf A (64 * 4 + c.val / 4) (4 * 2 + c.val % 4) d :=
  rowsQ A 2 4 4096 8 inb_S1x6144x128_S1x1024x128_0_4096_0 slices_S64x16x128_o0_8_0_S64x4x128 (by decide) (by decide) (by decide) c d

theorem dt_2_4 : v8817 A (ix2 c d) = Gf A (64 * 4 + c.val / 4) (4 * 2 + c.val % 4) d :=
  rowsG A 2 4 4096 8 inb_S1x6144x128_S1x1024x128_0_4096_0 slices_S64x16x128_o0_8_0_S64x4x128 (by decide) (by decide) (by decide) c d

theorem l2_2_4 : v8889 A (ix2 0 c) = Lf A (64 * 4 + c.val / 4) (4 * 2 + c.val % 4) * toBase2 :=
  lses A 2 4 1024 inb_S4x1x1536_S1x1x256_2_0_1024 (by decide) (by decide) (by decide) c

theorem doeff_2_4 : v8959 A (ix2 c d) = GEF A (64 * 4 + c.val / 4) (4 * 2 + c.val % 4) d := by
  rw [show (v8959 A) = scaleRows (extf .bf16 (v8817 A) bitsLt_fp8e5m2_bf16) (heads16 (gsc A (k0_off42_inb A.i)) (gsc A (k0_off43_inb A.i)) (gsc A (k0_off44_inb A.i)) (gsc A (k0_off45_inb A.i))) from rfl]
  exact tile_doeff A 2 4 2 rfl _ _ _ _ _ (dt_2_4 A) (g_sca A 2 8 _) (g_sca A 2 9 _) (g_sca A 2 10 _) (g_sca A 2 11 _) c d

theorem cq_2_4 : v9004 A (ix2 0 c) = qsF A 2 (4 * 2 + c.val % 4) * smTwo := by
  rw [show (v9004 A) = headsTwo (qsc A (k0_off42_inb A.i)) (qsc A (k0_off43_inb A.i)) (qsc A (k0_off44_inb A.i)) (qsc A (k0_off45_inb A.i)) from rfl]
  exact tile_cq A 2 2 _ _ _ _ (q_sca A 2 8 _) (q_sca A 2 9 _) (q_sca A 2 10 _) (q_sca A 2 11 _) c

theorem s_2_4 (j : Fin 320) (c : Fin 256) : v8968 A (ix2 j c) = SF A 2 (64 * 4 + c.val / 4) (c.val % 4) (0 + j.val) := by
  rw [show (v8968 A) = matmul dot_S320x128_S256x128_S320x256_1_1_0_0_n_n none (extractStridedSlice S320x128 ![0, 0] (v7363 A) slices_S384x128_o0_0_S320x128) (v8812 A) (constant S320x256 .f32 0x00000000#32) from rfl]
  exact (score5 _ _ 0 _ (by decide) j c).trans (Finset.sum_congr rfl fun d _ => congrArg₂ (· * ·) (kg_2 A _ d) (qt_2_4 A c d))

theorem p_2_4_0 (r : Fin 64) (c : Fin 256) : v9041 A (ix2 r c) = PF A 2 (64 * 4 + c.val / 4) (c.val % 4) (64 * 0 + r.val) := by
  rw [show (v9041 A) = maskEdge (weights (extractStridedSlice S64x256 ![0, 0] (v8968 A) slices_S320x256_o0_0_S64x256) (v9004 A) (v7367 A) (v8889 A)) from rfl]
  exact tile_edge A 2 4 0 2 0 rfl rfl _ _ _ _ (cutSF (s_2_4 A)) (cq_2_4 A) (k_sca A 0 2 _) (l2_2_4 A) rfl r c

theorem p_2_4_1 (r : Fin 64) (c : Fin 256) : v9058 A (ix2 r c) = PF A 2 (64 * 4 + c.val / 4) (c.val % 4) (64 * 1 + r.val) := by
  rw [show (v9058 A) = weights (extractStridedSlice S64x256 ![64, 0] (v8968 A) slices_S320x256_o64_0_S64x256) (v9004 A) (v7367 A) (v8889 A) from rfl]
  exact tile_full A 2 4 1 2 0 rfl rfl _ _ _ _ (cutSF (s_2_4 A)) (cq_2_4 A) (k_sca A 0 2 _) (l2_2_4 A) (by decide) (by decide) r c

theorem p_2_4_2 (r : Fin 64) (c : Fin 256) : v9075 A (ix2 r c) = PF A 2 (64 * 4 + c.val / 4) (c.val % 4) (64 * 2 + r.val) := by
  rw [show (v9075 A) = weights (extractStridedSlice S64x256 ![128, 0] (v8968 A) slices_S320x256_o128_0_S64x256) (v9004 A) (v7369 A) (v8889 A) from rfl]
  exact tile_full A 2 4 2 2 1 rfl rfl _ _ _ _ (cutSF (s_2_4 A)) (cq_2_4 A) (k_sca A 1 2 _) (l2_2_4 A) (by decide) (by decide) r c

theorem p_2_4_3 (r : Fin 64) (c : Fin 256) : v9092 A (ix2 r c) = PF A 2 (64 * 4 + c.val / 4) (c.val % 4) (64 * 3 + r.val) := by
  rw [show (v9092 A) = weights (extractStridedSlice S64x256 ![192, 0] (v8968 A) slices_S320x256_o192_0_S64x256) (v9004 A) (v7369 A) (v8889 A) from rfl]
  exact tile_full A 2 4 3 2 1 rfl rfl _ _ _ _ (cutSF (s_2_4 A)) (cq_2_4 A) (k_sca A 1 2 _) (l2_2_4 A) (by decide) (by decide) r c

theorem p_2_4_4 (r : Fin 64) (c : Fin 256) : v9138 A (ix2 r c) = PF A 2 (64 * 4 + c.val / 4) (c.val % 4) (64 * 4 + r.val) := by
  rw [show (v9138 A) = maskDiag (weights (extractStridedSlice S64x256 ![256, 0] (v8968 A) slices_S320x256_o256_0_S64x256) (v9004 A) (v7371 A) (v8889 A)) from rfl]
  exact tile_diag A 2 4 4 2 2 rfl rfl _ _ _ _ (cutSF (s_2_4 A)) (cq_2_4 A) (k_sca A 2 2 _) (l2_2_4 A) rfl r c

theorem pall_2_4 (j : Fin 320) (c : Fin 256) : v9148 A (ix2 j c) = PF A 2 (64 * 4 + c.val / 4) (c.val % 4) (0 + j.val) := by
  rw [show (v9148 A) = concatenate S320x256 0 [⟨S64x256, (truncf .bf16 (v9041 A) bitsLt_bf16_f32)⟩, ⟨S64x256, (truncf .bf16 (v9058 A) bitsLt_bf16_f32)⟩, ⟨S64x256, (truncf .bf16 (v9075 A) bitsLt_bf16_f32)⟩, ⟨S64x256, (truncf .bf16 (v9092 A) bitsLt_bf16_f32)⟩, ⟨S64x256, (truncf .bf16 (v9138 A) bitsLt_bf16_f32)⟩] concatenates_S64x256_S64x256_S64x256_S64x256_S64x256_S320x256_d0 from rfl]
  exact join5 _ _ _ _ _ (fun j c => PF A 2 (64 * 4 + c.val / 4) (c.val % 4) (0 + j)) (rowPF (p_2_4_0 A)) (rowPF (p_2_4_1 A)) (rowPF (p_2_4_2 A)) (rowPF (p_2_4_3 A)) (rowPF (p_2_4_4 A)) _ j c

theorem dvp_2_4 (j : Fin 320) (d : Fin 128) : v9150 A (ix2 j d) = DVF A 2 4 (0 + j.val) d := by
  rw [show (v9150 A) = matmul dot_S320x256_S256x128_S320x128_1_0_0_1_n_n none (v9148 A) (v8959 A) (constant S320x128 .f32 0x00000000#32) from rfl]
  exact (over5 _ _ j d).trans (Finset.sum_congr rfl fun c _ => congrArg₂ (· * ·) (pall_2_4 A j c) (doeff_2_4 A c d))

/-! ### Group 2, tokens from 320 -/

theorem qt_2_5 : v9244 A (ix2 c d) = Qf A (64 * 5 + c.val / 4) (4 * 2 + c.val % 4) d :=
  rowsQ A 2 5 5120 8 inb_S1x6144x128_S1x1024x128_0_5120_0 slices_S64x16x128_o0_8_0_S64x4x128 (by decide) (by decide) (by decide) c d

theorem dt_2_5 : v9249 A (ix2 c d) = Gf A (64 * 5 + c.val / 4) (4 * 2 + c.val % 4) d :=
  rowsG A 2 5 5120 8 inb_S1x6144x128_S1x1024x128_0_5120_0 slices_S64x16x128_o0_8_0_S64x4x128 (by decide) (by decide) (by decide) c d

theorem l2_2_5 : v9321 A (ix2 0 c) = Lf A (64 * 5 + c.val / 4) (4 * 2 + c.val % 4) * toBase2 :=
  lses A 2 5 1280 inb_S4x1x1536_S1x1x256_2_0_1280 (by decide) (by decide) (by decide) c

theorem doeff_2_5 : v9391 A (ix2 c d) = GEF A (64 * 5 + c.val / 4) (4 * 2 + c.val % 4) d := by
  rw [show (v9391 A) = scaleRows (extf .bf16 (v9249 A) bitsLt_fp8e5m2_bf16) (heads16 (gsc A (k0_off42_inb A.i)) (gsc A (k0_off43_inb A.i)) (gsc A (k0_off44_inb A.i)) (gsc A (k0_off45_inb A.i))) from rfl]
  exact tile_doeff A 2 5 2 rfl _ _ _ _ _ (dt_2_5 A) (g_sca A 2 8 _) (g_sca A 2 9 _) (g_sca A 2 10 _) (g_sca A 2 11 _) c d

theorem cq_2_5 : v9436 A (ix2 0 c) = qsF A 2 (4 * 2 + c.val % 4) * smTwo := by
  rw [show (v9436 A) = headsTwo (qsc A (k0_off42_inb A.i)) (qsc A (k0_off43_inb A.i)) (qsc A (k0_off44_inb A.i)) (qsc A (k0_off45_inb A.i)) from rfl]
  exact tile_cq A 2 2 _ _ _ _ (q_sca A 2 8 _) (q_sca A 2 9 _) (q_sca A 2 10 _) (q_sca A 2 11 _) c

theorem s_2_5 (j : Fin 320) (c : Fin 256) : v9400 A (ix2 j c) = SF A 2 (64 * 5 + c.val / 4) (c.val % 4) (64 + j.val) := by
  rw [show (v9400 A) = matmul dot_S320x128_S256x128_S320x256_1_1_0_0_n_n none (extractStridedSlice S320x128 ![64, 0] (v7363 A) slices_S384x128_o64_0_S320x128) (v9244 A) (constant S320x256 .f32 0x00000000#32) from rfl]
  exact (score5 _ _ 64 _ (by decide) j c).trans (Finset.sum_congr rfl fun d _ => congrArg₂ (· * ·) (kg_2 A _ d) (qt_2_5 A c d))

theorem p_2_5_1 (r : Fin 64) (c : Fin 256) : v9473 A (ix2 r c) = PF A 2 (64 * 5 + c.val / 4) (c.val % 4) (64 * 1 + r.val) := by
  rw [show (v9473 A) = maskEdge (weights (extractStridedSlice S64x256 ![0, 0] (v9400 A) slices_S320x256_o0_0_S64x256) (v9436 A) (v7367 A) (v9321 A)) from rfl]
  exact tile_edge A 2 5 1 2 0 rfl rfl _ _ _ _ (cutSF (s_2_5 A)) (cq_2_5 A) (k_sca A 0 2 _) (l2_2_5 A) rfl r c

theorem p_2_5_2 (r : Fin 64) (c : Fin 256) : v9490 A (ix2 r c) = PF A 2 (64 * 5 + c.val / 4) (c.val % 4) (64 * 2 + r.val) := by
  rw [show (v9490 A) = weights (extractStridedSlice S64x256 ![64, 0] (v9400 A) slices_S320x256_o64_0_S64x256) (v9436 A) (v7369 A) (v9321 A) from rfl]
  exact tile_full A 2 5 2 2 1 rfl rfl _ _ _ _ (cutSF (s_2_5 A)) (cq_2_5 A) (k_sca A 1 2 _) (l2_2_5 A) (by decide) (by decide) r c

theorem p_2_5_3 (r : Fin 64) (c : Fin 256) : v9507 A (ix2 r c) = PF A 2 (64 * 5 + c.val / 4) (c.val % 4) (64 * 3 + r.val) := by
  rw [show (v9507 A) = weights (extractStridedSlice S64x256 ![128, 0] (v9400 A) slices_S320x256_o128_0_S64x256) (v9436 A) (v7369 A) (v9321 A) from rfl]
  exact tile_full A 2 5 3 2 1 rfl rfl _ _ _ _ (cutSF (s_2_5 A)) (cq_2_5 A) (k_sca A 1 2 _) (l2_2_5 A) (by decide) (by decide) r c

theorem p_2_5_4 (r : Fin 64) (c : Fin 256) : v9524 A (ix2 r c) = PF A 2 (64 * 5 + c.val / 4) (c.val % 4) (64 * 4 + r.val) := by
  rw [show (v9524 A) = weights (extractStridedSlice S64x256 ![192, 0] (v9400 A) slices_S320x256_o192_0_S64x256) (v9436 A) (v7371 A) (v9321 A) from rfl]
  exact tile_full A 2 5 4 2 2 rfl rfl _ _ _ _ (cutSF (s_2_5 A)) (cq_2_5 A) (k_sca A 2 2 _) (l2_2_5 A) (by decide) (by decide) r c

def pn_2_5_5 : FVec Ideal S64x256 .f32 :=
  maskDiag (weights (extractStridedSlice S64x256 ![256, 0] (v9400 A) slices_S320x256_o256_0_S64x256) (v9436 A) (v7371 A) (v9321 A))

theorem p_2_5_5 (r : Fin 64) (c : Fin 256) : pn_2_5_5 A (ix2 r c) = PF A 2 (64 * 5 + c.val / 4) (c.val % 4) (64 * 5 + r.val) :=
  tile_diag A 2 5 5 2 2 rfl rfl _ _ _ _ (cutSF (s_2_5 A)) (cq_2_5 A) (k_sca A 2 2 _) (l2_2_5 A) rfl r c

def pa_2_5 : FVec Ideal S320x256 .bf16 :=
  concatenate S320x256 0 [⟨S64x256, (truncf .bf16 (v9473 A) bitsLt_bf16_f32)⟩, ⟨S64x256, (truncf .bf16 (v9490 A) bitsLt_bf16_f32)⟩, ⟨S64x256, (truncf .bf16 (v9507 A) bitsLt_bf16_f32)⟩, ⟨S64x256, (truncf .bf16 (v9524 A) bitsLt_bf16_f32)⟩, ⟨S64x256, (truncf .bf16 (pn_2_5_5 A) bitsLt_bf16_f32)⟩] concatenates_S64x256_S64x256_S64x256_S64x256_S64x256_S320x256_d0

theorem pall_2_5 (j : Fin 320) (c : Fin 256) : pa_2_5 A (ix2 j c) = PF A 2 (64 * 5 + c.val / 4) (c.val % 4) (64 + j.val) :=
  join5 _ _ _ _ _ (fun j c => PF A 2 (64 * 5 + c.val / 4) (c.val % 4) (64 + j)) (rowPF (p_2_5_1 A)) (rowPF (p_2_5_2 A)) (rowPF (p_2_5_3 A)) (rowPF (p_2_5_4 A)) (rowPF (p_2_5_5 A)) _ j c

def dvn_2_5 : FVec Ideal S320x128 .f32 :=
  matmul dot_S320x256_S256x128_S320x128_1_0_0_1_n_n none (pa_2_5 A) (v9391 A) (constant S320x128 .f32 0x00000000#32)

theorem dvp_2_5 (j : Fin 320) (d : Fin 128) : dvn_2_5 A (ix2 j d) = DVF A 2 5 (64 + j.val) d :=
  (over5 _ _ j d).trans (Finset.sum_congr rfl fun c _ => congrArg₂ (· * ·) (pall_2_5 A j c) (doeff_2_5 A c d))

theorem dvacc_2_0_0 (r : Fin 64) (d : Fin 128) : v7653 A (ix2 r d) = DVT A 2 0 0 r d :=
  one_tile (dvp_2_0 A)

theorem dvacc_2_0_1 (r : Fin 64) (d : Fin 128) : v7990 A (ix2 r d) = DVT A 2 0 1 r d := by
  rw [show (v7990 A) = addf (F := Ideal) (φ := .f32) (v7653 A) (extractStridedSlice S64x128 ![0, 0] (v7987 A) slices_S128x128_o0_0_S64x128) from rfl]
  exact add_tile (dvacc_2_0_0 A r d) (dvp_2_1 A)

theorem dvacc_2_0_2 (r : Fin 64) (d : Fin 128) : v8347 A (ix2 r d) = DVT A 2 0 2 r d := by
  rw [show (v8347 A) = addf (F := Ideal) (φ := .f32) (v7990 A) (extractStridedSlice S64x128 ![0, 0] (dvn_2_2 A) slices_S192x128_o0_0_S64x128) from rfl]
  exact add_tile (dvacc_2_0_1 A r d) (dvp_2_2 A)

theorem dvacc_2_0_3 (r : Fin 64) (d : Fin 128) : v8725 A (ix2 r d) = DVT A 2 0 3 r d := by
  rw [show (v8725 A) = addf (F := Ideal) (φ := .f32) (v8347 A) (extractStridedSlice S64x128 ![0, 0] (dvn_2_3 A) slices_S256x128_o0_0_S64x128) from rfl]
  exact add_tile (dvacc_2_0_2 A r d) (dvp_2_3 A)

theorem dvacc_2_0_4 (r : Fin 64) (d : Fin 128) : v9153 A (ix2 r d) = DVT A 2 0 4 r d := by
  rw [show (v9153 A) = addf (F := Ideal) (φ := .f32) (v8725 A) (extractStridedSlice S64x128 ![0, 0] (v9150 A) slices_S320x128_o0_0_S64x128) from rfl]
  exact add_tile (dvacc_2_0_3 A r d) (dvp_2_4 A)

theorem dvacc_2_1_1 (r : Fin 64) (d : Fin 128) : v7993 A (ix2 r d) = DVT A 2 1 0 r d := by
  rw [show (v7993 A) = (extractStridedSlice S64x128 ![64, 0] (v7987 A) slices_S128x128_o64_0_S64x128) from rfl]
  exact (first_tile (dvp_2_1 A))

theorem dvacc_2_1_2 (r : Fin 64) (d : Fin 128) : v8351 A (ix2 r d) = DVT A 2 1 1 r d := by
  rw [show (v8351 A) = addf (F := Ideal) (φ := .f32) (v7993 A) (extractStridedSlice S64x128 ![64, 0] (dvn_2_2 A) slices_S192x128_o64_0_S64x128) from rfl]
  exact add_tile (dvacc_2_1_1 A r d) (dvp_2_2 A)

theorem dvacc_2_1_3 (r : Fin 64) (d : Fin 128) : v8729 A (ix2 r d) = DVT A 2 1 2 r d := by
  rw [show (v8729 A) = addf (F := Ideal) (φ := .f32) (v8351 A) (extractStridedSlice S64x128 ![64, 0] (dvn_2_3 A) slices_S256x128_o64_0_S64x128) from rfl]
  exact add_tile (dvacc_2_1_2 A r d) (dvp_2_3 A)

theorem dvacc_2_1_4 (r : Fin 64) (d : Fin 128) : v9157 A (ix2 r d) = DVT A 2 1 3 r d := by
  rw [show (v9157 A) = addf (F := Ideal) (φ := .f32) (v8729 A) (extractStridedSlice S64x128 ![64, 0] (v9150 A) slices_S320x128_o64_0_S64x128) from rfl]
  exact add_tile (dvacc_2_1_3 A r d) (dvp_2_4 A)

theorem dvacc_2_1_5 (r : Fin 64) (d : Fin 128) : v9585 A (ix2 r d) = DVT A 2 1 4 r d := by
  rw [show (v9585 A) = addf (F := Ideal) (φ := .f32) (v9157 A) (extractStridedSlice S64x128 ![0, 0] (dvn_2_5 A) slices_S320x128_o0_0_S64x128) from rfl]
  exact add_tile (dvacc_2_1_4 A r d) (dvp_2_5 A)

theorem dvacc_2_2_2 (r : Fin 64) (d : Fin 128) : v8354 A (ix2 r d) = DVT A 2 2 0 r d := by
  rw [show (v8354 A) = (extractStridedSlice S64x128 ![128, 0] (dvn_2_2 A) slices_S192x128_o128_0_S64x128) from rfl]
  exact (first_tile (dvp_2_2 A))

theorem dvacc_2_2_3 (r : Fin 64) (d : Fin 128) : v8733 A (ix2 r d) = DVT A 2 2 1 r d := by
  rw [show (v8733 A) = addf (F := Ideal) (φ := .f32) (v8354 A) (extractStridedSlice S64x128 ![128, 0] (dvn_2_3 A) slices_S256x128_o128_0_S64x128) from rfl]
  exact add_tile (dvacc_2_2_2 A r d) (dvp_2_3 A)

theorem dvacc_2_2_4 (r : Fin 64) (d : Fin 128) : v9161 A (ix2 r d) = DVT A 2 2 2 r d := by
  rw [show (v9161 A) = addf (F := Ideal) (φ := .f32) (v8733 A) (extractStridedSlice S64x128 ![128, 0] (v9150 A) slices_S320x128_o128_0_S64x128) from rfl]
  exact add_tile (dvacc_2_2_3 A r d) (dvp_2_4 A)

theorem dvacc_2_2_5 (r : Fin 64) (d : Fin 128) : v9589 A (ix2 r d) = DVT A 2 2 3 r d := by
  rw [show (v9589 A) = addf (F := Ideal) (φ := .f32) (v9161 A) (extractStridedSlice S64x128 ![64, 0] (dvn_2_5 A) slices_S320x128_o64_0_S64x128) from rfl]
  exact add_tile (dvacc_2_2_4 A r d) (dvp_2_5 A)

theorem dvacc_2_3_3 (r : Fin 64) (d : Fin 128) : v8736 A (ix2 r d) = DVT A 2 3 0 r d := by
  rw [show (v8736 A) = (extractStridedSlice S64x128 ![192, 0] (dvn_2_3 A) slices_S256x128_o192_0_S64x128) from rfl]
  exact (first_tile (dvp_2_3 A))

theorem dvacc_2_3_4 (r : Fin 64) (d : Fin 128) : v9165 A (ix2 r d) = DVT A 2 3 1 r d := by
  rw [show (v9165 A) = addf (F := Ideal) (φ := .f32) (v8736 A) (extractStridedSlice S64x128 ![192, 0] (v9150 A) slices_S320x128_o192_0_S64x128) from rfl]
  exact add_tile (dvacc_2_3_3 A r d) (dvp_2_4 A)

theorem dvacc_2_3_5 (r : Fin 64) (d : Fin 128) : v9593 A (ix2 r d) = DVT A 2 3 2 r d := by
  rw [show (v9593 A) = addf (F := Ideal) (φ := .f32) (v9165 A) (extractStridedSlice S64x128 ![128, 0] (dvn_2_5 A) slices_S320x128_o128_0_S64x128) from rfl]
  exact add_tile (dvacc_2_3_4 A r d) (dvp_2_5 A)

theorem dvacc_2_4_4 (r : Fin 64) (d : Fin 128) : v9168 A (ix2 r d) = DVT A 2 4 0 r d := by
  rw [show (v9168 A) = (extractStridedSlice S64x128 ![256, 0] (v9150 A) slices_S320x128_o256_0_S64x128) from rfl]
  exact (first_tile (dvp_2_4 A))

theorem dvacc_2_4_5 (r : Fin 64) (d : Fin 128) : v9597 A (ix2 r d) = DVT A 2 4 1 r d := by
  rw [show (v9597 A) = addf (F := Ideal) (φ := .f32) (v9168 A) (extractStridedSlice S64x128 ![192, 0] (dvn_2_5 A) slices_S320x128_o192_0_S64x128) from rfl]
  exact add_tile (dvacc_2_4_4 A r d) (dvp_2_5 A)

theorem dvacc_2_5_5 (r : Fin 64) (d : Fin 128) : v9600 A (ix2 r d) = DVT A 2 5 0 r d := by
  rw [show (v9600 A) = (extractStridedSlice S64x128 ![256, 0] (dvn_2_5 A) slices_S320x128_o256_0_S64x128) from rfl]
  exact (first_tile (dvp_2_5 A))

end Cert.KernelIdeal.Hand
-- ==== Proof.Exact.Grads2.lean ====
/- Head group 2: the score gradients, the query gradient and the key gradient's sums, tile by tile, by the lemmas of one tile. -/
module

public import proofs.«01_k».proof.Proof.Exact.Weights2

@[expose] public section

set_option maxRecDepth 16384

noncomputable section

namespace Cert.KernelIdeal.Hand

open Cert.KernelIdeal.Gen Idealize.ShloMosaic
open bodyRun.sl

variable (A : Pack Ideal) (c : Fin 256) (d : Fin 128)

theorem vg_2 (j : Fin 384) (d : Fin 128) : v7365 A (ix2 j d) = Vf A j.val 2 d :=
  keysV A 2 inb_S4x384x128_S1x384x128_2_0_0 (by decide) j d

theorem keff_2 (d : Fin 128) (j : Fin 384) : v7395 A (ix2 d j) = KEF A j.val 2 d := by
  rw [show (v7395 A) = scaledKeys (F := Ideal) (v7363 A) (Scalar.mulf (F := Ideal) (φ := .f32) (v7367 A) (v7373 A)) (Scalar.mulf (F := Ideal) (φ := .f32) (v7369 A) (v7375 A)) (Scalar.mulf (F := Ideal) (φ := .f32) (v7371 A) (v7377 A)) from rfl]
  exact (scaledKeys_apply _ _ _ _ (fun b => ksF A b 2 * vsF A b 2) (congrArg₂ (· * ·) (k_sca A 0 2 _) (v_sca A 0 2 _)) (congrArg₂ (· * ·) (k_sca A 1 2 _) (v_sca A 1 2 _)) (congrArg₂ (· * ·) (k_sca A 2 2 _) (v_sca A 2 2 _)) d j).trans (congrArg (· * _) (kg_2 A j d))

/-! ### Group 2, tokens from 0 -/

theorem ob_2_0 : v7439 A (ix2 c d) = Of A (64 * 0 + c.val / 4) (4 * 2 + c.val % 4) d := by
  have e : v7439 A = joinPairs (A.arg17.view.readCov (Val := Elt Ideal) (outPiece A 1 5 inb_S128x2x128_S64x2x128_1_0_0_s_2_1_1 inb_S1x3072x2x128_S1x64x2x128_0_5_0_0_s_1_8_1_1
    :: outPiece A 0 4 inb_S128x2x128_S64x2x128_0_0_0_s_2_1_1 inb_S1x3072x2x128_S1x64x2x128_0_4_0_0_s_1_8_1_1 :: (HS3_24 A))
    (Rect.unit (s := S128x2x128) ![0, 0, 0] S128x2x128.size inb_S128x2x128_S128x2x128_0_0_0).toLoadRect) := rfl
  rw [e]
  exact tile_out A 2 0 4 5 (by decide) (by decide) _ _ _ _ _ _ _ _ c d

theorem delta_2_0 : v7491 A (ix2 0 c) = DLF A (64 * 0 + c.val / 4) (4 * 2 + c.val % 4) := by
  rw [show (v7491 A) = rowDots (F := Ideal) (v7440 A) (v7439 A) from rfl]
  exact tile_delta A 2 0 _ _ (dt_2_0 A) (ob_2_0 A) c

theorem qeff_2_0 : v7570 A (ix2 c d) = QEF A (64 * 0 + c.val / 4) (4 * 2 + c.val % 4) d := by
  rw [show (v7570 A) = scaleRows (extf .bf16 (v7416 A) bitsLt_fp8e4m3_bf16) (headsBoth (qsc A (k0_off34_inb A.i)) (qsc A (k0_off35_inb A.i)) (qsc A (k0_off36_inb A.i)) (qsc A (k0_off37_inb A.i)) (gsc A (k0_off34_inb A.i)) (gsc A (k0_off35_inb A.i)) (gsc A (k0_off36_inb A.i)) (gsc A (k0_off37_inb A.i))) from rfl]
  exact tile_qeff A 2 0 0 rfl _ _ _ _ _ _ _ _ _ (qt_2_0 A) (q_sca A 0 8 _) (q_sca A 0 9 _) (q_sca A 0 10 _) (q_sca A 0 11 _) (g_sca A 0 8 _) (g_sca A 0 9 _) (g_sca A 0 10 _) (g_sca A 0 11 _) c d

theorem dp_2_0 (j : Fin 64) (c : Fin 256) : v7574 A (ix2 j c) = DPF A 2 (64 * 0 + c.val / 4) (c.val % 4) (0 + j.val) := by
  rw [show (v7574 A) = matmul dot_S64x128_S256x128_S64x256_1_1_0_0_n_n none (extractStridedSlice S64x128 ![0, 0] (v7365 A) slices_S384x128_o0_0_S64x128) (v7421 A) (constant S64x256 .f32 0x00000000#32) from rfl]
  exact (score1 _ _ 0 _ (by decide) j c).trans (Finset.sum_congr rfl fun d _ => congrArg₂ (· * ·) (vg_2 A _ d) (dt_2_0 A c d))

theorem ds_2_0_0 (r : Fin 64) (c : Fin 256) : v7650 A (ix2 r c) = GF A 2 (64 * 0 + c.val / 4) (c.val % 4) (64 * 0 + r.val) := by
  rw [show (v7650 A) = grads (v7644 A) (v7574 A) (v7491 A) (v7373 A) from rfl]
  exact tile_grads A 2 0 0 0 rfl _ _ _ _ (p_2_0_0 A) (fun r c => (dp_2_0 A r c).trans (congrArg (DPF A 2 _ _) (by omega))) (delta_2_0 A) (v_sca A 0 2 _) r c

theorem dsall_2_0 (j : Fin 64) (c : Fin 256) : v7652 A (ix2 j c) = GF A 2 (64 * 0 + c.val / 4) (c.val % 4) (0 + j.val) := by
  rw [show (v7652 A) = (truncf .bf16 (v7650 A) bitsLt_bf16_f32) from rfl]
  exact (ds_2_0_0 A j c).trans (congrArg (GF A 2 _ _) (by omega))

theorem dkp_2_0 (j : Fin 64) (d : Fin 128) : v7654 A (ix2 j d) = DKF A 2 0 (0 + j.val) d := by
  rw [show (v7654 A) = matmul dot_S64x256_S256x128_S64x128_1_0_0_1_n_n none (v7652 A) (v7570 A) (constant S64x128 .f32 0x00000000#32) from rfl]
  exact (over1 _ _ j d).trans (Finset.sum_congr rfl fun c _ => congrArg₂ (· * ·) (dsall_2_0 A j c) (qeff_2_0 A c d))

def dqmn_2_0 : FVec Ideal S128x256 .f32 :=
  matmul dot_S128x64_S64x256_S128x256_1_0_0_1_n_n none (extractStridedSlice S128x64 ![0, 0] (v7395 A) slices_S128x384_o0_0_S128x64) (v7652 A) (constant S128x256 .f32 0x00000000#32)

theorem dqm_2_0 (d : Fin 128) (c : Fin 256) : dqmn_2_0 A (ix2 d c) = ∑ j : Fin 384, KEF A j.val 2 d * GF A 2 (64 * 0 + c.val / 4) (c.val % 4) j.val :=
  (keys1 _ _ 0 _ (by decide) d c).trans ((Finset.sum_congr rfl fun j _ => congrArg₂ (· * ·) (keff_2 A d _) (dsall_2_0 A j c)).trans
    (sum_keys (fun j => KEF A j 2 d * GF A 2 (64 * 0 + c.val / 4) (c.val % 4) j) 0 64 (by decide) fun j hj hn => (congrArg (_ * ·) (GF_zero A 2 _ _ j (by omega))).trans (mul_zero _)))

def dqsn_2_0 : FVec Ideal S1x256 .f32 :=
  headsOne (gsc A (k0_off34_inb A.i)) (gsc A (k0_off35_inb A.i)) (gsc A (k0_off36_inb A.i)) (gsc A (k0_off37_inb A.i))

theorem dqs_2_0 : dqsn_2_0 A (ix2 0 c) = gsF A 0 (4 * 2 + c.val % 4) * smE :=
  tile_dq A 2 0 _ _ _ _ (g_sca A 0 8 _) (g_sca A 0 9 _) (g_sca A 0 10 _) (g_sca A 0 11 _) c

def dqtn_2_0 : FVec Ideal S256x128 .bf16 :=
  scaledQ (F := Ideal) (dqmn_2_0 A) (dqsn_2_0 A)

theorem dqt_2_0 : dqtn_2_0 A (ix2 c d) = DQ A 2 (64 * 0 + c.val / 4) (c.val % 4) d :=
  (scaledQ_apply _ _ c d).trans (congrArg₂ (· * ·) (dqm_2_0 A d c) ((dqs_2_0 A c).trans (congrArg (fun b => gsF A b (4 * 2 + c.val % 4) * smE) (by omega))))

/-! ### Group 2, tokens from 64 -/

theorem ob_2_1 : v7752 A (ix2 c d) = Of A (64 * 1 + c.val / 4) (4 * 2 + c.val % 4) d := by
  have e : v7752 A = joinPairs (A.arg17.view.readCov (Val := Elt Ideal) (outPiece A 1 517 inb_S128x2x128_S64x2x128_1_0_0_s_2_1_1 inb_S1x3072x2x128_S1x64x2x128_0_517_0_0_s_1_8_1_1
    :: outPiece A 0 516 inb_S128x2x128_S64x2x128_0_0_0_s_2_1_1 inb_S1x3072x2x128_S1x64x2x128_0_516_0_0_s_1_8_1_1 :: (HS3_26 A))
    (Rect.unit (s := S128x2x128) ![0, 0, 0] S128x2x128.size inb_S128x2x128_S128x2x128_0_0_0).toLoadRect) := rfl
  rw [e]
  exact tile_out A 2 1 516 517 (by decide) (by decide) _ _ _ _ _ _ _ _ c d

theorem delta_2_1 : v7804 A (ix2 0 c) = DLF A (64 * 1 + c.val / 4) (4 * 2 + c.val % 4) := by
  rw [show (v7804 A) = rowDots (F := Ideal) (v7753 A) (v7752 A) from rfl]
  exact tile_delta A 2 1 _ _ (dt_2_1 A) (ob_2_1 A) c

theorem qeff_2_1 : v7883 A (ix2 c d) = QEF A (64 * 1 + c.val / 4) (4 * 2 + c.val % 4) d := by
  rw [show (v7883 A) = scaleRows (extf .bf16 (v7729 A) bitsLt_fp8e4m3_bf16) (headsBoth (qsc A (k0_off34_inb A.i)) (qsc A (k0_off35_inb A.i)) (qsc A (k0_off36_inb A.i)) (qsc A (k0_off37_inb A.i)) (gsc A (k0_off34_inb A.i)) (gsc A (k0_off35_inb A.i)) (gsc A (k0_off36_inb A.i)) (gsc A (k0_off37_inb A.i))) from rfl]
  exact tile_qeff A 2 1 0 rfl _ _ _ _ _ _ _ _ _ (qt_2_1 A) (q_sca A 0 8 _) (q_sca A 0 9 _) (q_sca A 0 10 _) (q_sca A 0 11 _) (g_sca A 0 8 _) (g_sca A 0 9 _) (g_sca A 0 10 _) (g_sca A 0 11 _) c d

theorem dp_2_1 (j : Fin 128) (c : Fin 256) : v7887 A (ix2 j c) = DPF A 2 (64 * 1 + c.val / 4) (c.val % 4) (0 + j.val) := by
  rw [show (v7887 A) = matmul dot_S128x128_S256x128_S128x256_1_1_0_0_n_n none (extractStridedSlice S128x128 ![0, 0] (v7365 A) slices_S384x128_o0_0_S128x128) (v7734 A) (constant S128x256 .f32 0x00000000#32) from rfl]
  exact (score2 _ _ 0 _ (by decide) j c).trans (Finset.sum_congr rfl fun d _ => congrArg₂ (· * ·) (vg_2 A _ d) (dt_2_1 A c d))

def dsn_2_1_0 : FVec Ideal S64x256 .f32 :=
  grads (pn_2_1_0 A) (extractStridedSlice S64x256 ![0, 0] (v7887 A) slices_S128x256_o0_0_S64x256) (v7804 A) (v7373 A)

theorem ds_2_1_0 (r : Fin 64) (c : Fin 256) : dsn_2_1_0 A (ix2 r c) = GF A 2 (64 * 1 + c.val / 4) (c.val % 4) (64 * 0 + r.val) :=
  tile_grads A 2 1 0 0 rfl _ _ _ _ (p_2_1_0 A) (cutDPF (dp_2_1 A)) (delta_2_1 A) (v_sca A 0 2 _) r c

theorem ds_2_1_1 (r : Fin 64) (c : Fin 256) : v7982 A (ix2 r c) = GF A 2 (64 * 1 + c.val / 4) (c.val % 4) (64 * 1 + r.val) := by
  rw [show (v7982 A) = grads (v7975 A) (extractStridedSlice S64x256 ![64, 0] (v7887 A) slices_S128x256_o64_0_S64x256) (v7804 A) (v7373 A) from rfl]
  exact tile_grads A 2 1 1 0 rfl _ _ _ _ (p_2_1_1 A) (cutDPF (dp_2_1 A)) (delta_2_1 A) (v_sca A 0 2 _) r c

theorem dsall_2_1 (j : Fin 128) (c : Fin 256) : v7986 A (ix2 j c) = GF A 2 (64 * 1 + c.val / 4) (c.val % 4) (0 + j.val) := by
  rw [show (v7986 A) = concatenate S128x256 0 [⟨S64x256, (truncf .bf16 (dsn_2_1_0 A) bitsLt_bf16_f32)⟩, ⟨S64x256, (truncf .bf16 (v7982 A) bitsLt_bf16_f32)⟩] concatenates_S64x256_S64x256_S128x256_d0 from rfl]
  exact join2 _ _ (fun j c => GF A 2 (64 * 1 + c.val / 4) (c.val % 4) (0 + j)) (rowGF (ds_2_1_0 A)) (rowGF (ds_2_1_1 A)) _ j c

theorem dkp_2_1 (j : Fin 128) (d : Fin 128) : v7988 A (ix2 j d) = DKF A 2 1 (0 + j.val) d := by
  rw [show (v7988 A) = matmul dot_S128x256_S256x128_S128x128_1_0_0_1_n_n none (v7986 A) (v7883 A) (constant S128x128 .f32 0x00000000#32) from rfl]
  exact (over2 _ _ j d).trans (Finset.sum_congr rfl fun c _ => congrArg₂ (· * ·) (dsall_2_1 A j c) (qeff_2_1 A c d))

def dqmn_2_1 : FVec Ideal S128x256 .f32 :=
  matmul dot_S128x128_S128x256_S128x256_1_0_0_1_n_n none (extractStridedSlice S128x128 ![0, 0] (v7395 A) slices_S128x384_o0_0_S128x128) (v7986 A) (constant S128x256 .f32 0x00000000#32)

theorem dqm_2_1 (d : Fin 128) (c : Fin 256) : dqmn_2_1 A (ix2 d c) = ∑ j : Fin 384, KEF A j.val 2 d * GF A 2 (64 * 1 + c.val / 4) (c.val % 4) j.val :=
  (keys2 _ _ 0 _ (by decide) d c).trans ((Finset.sum_congr rfl fun j _ => congrArg₂ (· * ·) (keff_2 A d _) (dsall_2_1 A j c)).trans
    (sum_keys (fun j => KEF A j 2 d * GF A 2 (64 * 1 + c.val / 4) (c.val % 4) j) 0 128 (by decide) fun j hj hn => (congrArg (_ * ·) (GF_zero A 2 _ _ j (by omega))).trans (mul_zero _)))

def dqsn_2_1 : FVec Ideal S1x256 .f32 :=
  headsOne (gsc A (k0_off34_inb A.i)) (gsc A (k0_off35_inb A.i)) (gsc A (k0_off36_inb A.i)) (gsc A (k0_off37_inb A.i))

theorem dqs_2_1 : dqsn_2_1 A (ix2 0 c) = gsF A 0 (4 * 2 + c.val % 4) * smE :=
  tile_dq A 2 0 _ _ _ _ (g_sca A 0 8 _) (g_sca A 0 9 _) (g_sca A 0 10 _) (g_sca A 0 11 _) c

theorem dqt_2_1 : v8034 A (ix2 c d) = DQ A 2 (64 * 1 + c.val / 4) (c.val % 4) d := by
  rw [show (v8034 A) = scaledQ (F := Ideal) (dqmn_2_1 A) (dqsn_2_1 A) from rfl]
  exact (scaledQ_apply _ _ c d).trans (congrArg₂ (· * ·) (dqm_2_1 A d c) ((dqs_2_1 A c).trans (congrArg (fun b => gsF A b (4 * 2 + c.val % 4) * smE) (by omega))))

/-! ### Group 2, tokens from 128 -/

theorem ob_2_2 : v8092 A (ix2 c d) = Of A (64 * 2 + c.val / 4) (4 * 2 + c.val % 4) d := by
  have e : v8092 A = joinPairs (A.arg17.view.readCov (Val := Elt Ideal) (outPiece A 1 1029 inb_S128x2x128_S64x2x128_1_0_0_s_2_1_1 inb_S1x3072x2x128_S1x64x2x128_0_1029_0_0_s_1_8_1_1
    :: outPiece A 0 1028 inb_S128x2x128_S64x2x128_0_0_0_s_2_1_1 inb_S1x3072x2x128_S1x64x2x128_0_1028_0_0_s_1_8_1_1 :: (HS3_28 A))
    (Rect.unit (s := S128x2x128) ![0, 0, 0] S128x2x128.size inb_S128x2x128_S128x2x128_0_0_0).toLoadRect) := rfl
  rw [e]
  exact tile_out A 2 2 1028 1029 (by decide) (by decide) _ _ _ _ _ _ _ _ c d

theorem delta_2_2 : v8144 A (ix2 0 c) = DLF A (64 * 2 + c.val / 4) (4 * 2 + c.val % 4) := by
  rw [show (v8144 A) = rowDots (F := Ideal) (v8093 A) (v8092 A) from rfl]
  exact tile_delta A 2 2 _ _ (dt_2_2 A) (ob_2_2 A) c

theorem qeff_2_2 : v8223 A (ix2 c d) = QEF A (64 * 2 + c.val / 4) (4 * 2 + c.val % 4) d := by
  rw [show (v8223 A) = scaleRows (extf .bf16 (v8069 A) bitsLt_fp8e4m3_bf16) (headsBoth (qsc A (k0_off38_inb A.i)) (qsc A (k0_off39_inb A.i)) (qsc A (k0_off40_inb A.i)) (qsc A (k0_off41_inb A.i)) (gsc A (k0_off38_inb A.i)) (gsc A (k0_off39_inb A.i)) (gsc A (k0_off40_inb A.i)) (gsc A (k0_off41_inb A.i))) from rfl]
  exact tile_qeff A 2 2 1 rfl _ _ _ _ _ _ _ _ _ (qt_2_2 A) (q_sca A 1 8 _) (q_sca A 1 9 _) (q_sca A 1 10 _) (q_sca A 1 11 _) (g_sca A 1 8 _) (g_sca A 1 9 _) (g_sca A 1 10 _) (g_sca A 1 11 _) c d

theorem dp_2_2 (j : Fin 192) (c : Fin 256) : v8227 A (ix2 j c) = DPF A 2 (64 * 2 + c.val / 4) (c.val % 4) (0 + j.val) := by
  rw [show (v8227 A) = matmul dot_S192x128_S256x128_S192x256_1_1_0_0_n_n none (extractStridedSlice S192x128 ![0, 0] (v7365 A) slices_S384x128_o0_0_S192x128) (v8074 A) (constant S192x256 .f32 0x00000000#32) from rfl]
  exact (score3 _ _ 0 _ (by decide) j c).trans (Finset.sum_congr rfl fun d _ => congrArg₂ (· * ·) (vg_2 A _ d) (dt_2_2 A c d))

theorem ds_2_2_0 (r : Fin 64) (c : Fin 256) : v8276 A (ix2 r c) = GF A 2 (64 * 2 + c.val / 4) (c.val % 4) (64 * 0 + r.val) := by
  rw [show (v8276 A) = grads (v8269 A) (extractStridedSlice S64x256 ![0, 0] (v8227 A) slices_S192x256_o0_0_S64x256) (v8144 A) (v7373 A) from rfl]
  exact tile_grads A 2 2 0 0 rfl _ _ _ _ (p_2_2_0 A) (cutDPF (dp_2_2 A)) (delta_2_2 A) (v_sca A 0 2 _) r c

theorem ds_2_2_1 (r : Fin 64) (c : Fin 256) : v8293 A (ix2 r c) = GF A 2 (64 * 2 + c.val / 4) (c.val % 4) (64 * 1 + r.val) := by
  rw [show (v8293 A) = grads (v8286 A) (extractStridedSlice S64x256 ![64, 0] (v8227 A) slices_S192x256_o64_0_S64x256) (v8144 A) (v7373 A) from rfl]
  exact tile_grads A 2 2 1 0 rfl _ _ _ _ (p_2_2_1 A) (cutDPF (dp_2_2 A)) (delta_2_2 A) (v_sca A 0 2 _) r c

def dsn_2_2_2 : FVec Ideal S64x256 .f32 :=
  grads (pn_2_2_2 A) (extractStridedSlice S64x256 ![128, 0] (v8227 A) slices_S192x256_o128_0_S64x256) (v8144 A) (v7375 A)

theorem ds_2_2_2 (r : Fin 64) (c : Fin 256) : dsn_2_2_2 A (ix2 r c) = GF A 2 (64 * 2 + c.val / 4) (c.val % 4) (64 * 2 + r.val) :=
  tile_grads A 2 2 2 1 rfl _ _ _ _ (p_2_2_2 A) (cutDPF (dp_2_2 A)) (delta_2_2 A) (v_sca A 1 2 _) r c

def da_2_2 : FVec Ideal S192x256 .bf16 :=
  concatenate S192x256 0 [⟨S64x256, (truncf .bf16 (v8276 A) bitsLt_bf16_f32)⟩, ⟨S64x256, (truncf .bf16 (v8293 A) bitsLt_bf16_f32)⟩, ⟨S64x256, (truncf .bf16 (dsn_2_2_2 A) bitsLt_bf16_f32)⟩] concatenates_S64x256_S64x256_S64x256_S192x256_d0

theorem dsall_2_2 (j : Fin 192) (c : Fin 256) : da_2_2 A (ix2 j c) = GF A 2 (64 * 2 + c.val / 4) (c.val % 4) (0 + j.val) :=
  join3 _ _ _ (fun j c => GF A 2 (64 * 2 + c.val / 4) (c.val % 4) (0 + j)) (rowGF (ds_2_2_0 A)) (rowGF (ds_2_2_1 A)) (rowGF (ds_2_2_2 A)) _ j c

def dkn_2_2 : FVec Ideal S192x128 .f32 :=
  matmul dot_S192x256_S256x128_S192x128_1_0_0_1_n_n none (da_2_2 A) (v8223 A) (constant S192x128 .f32 0x00000000#32)

theorem dkp_2_2 (j : Fin 192) (d : Fin 128) : dkn_2_2 A (ix2 j d) = DKF A 2 2 (0 + j.val) d :=
  (over3 _ _ j d).trans (Finset.sum_congr rfl fun c _ => congrArg₂ (· * ·) (dsall_2_2 A j c) (qeff_2_2 A c d))

theorem dqm_2_2 (d : Fin 128) (c : Fin 256) : v8357 A (ix2 d c) = ∑ j : Fin 384, KEF A j.val 2 d * GF A 2 (64 * 2 + c.val / 4) (c.val % 4) j.val := by
  rw [show (v8357 A) = matmul dot_S128x192_S192x256_S128x256_1_0_0_1_n_n none (extractStridedSlice S128x192 ![0, 0] (v7395 A) slices_S128x384_o0_0_S128x192) (da_2_2 A) (constant S128x256 .f32 0x00000000#32) from rfl]
  exact (keys3 _ _ 0 _ (by decide) d c).trans ((Finset.sum_congr rfl fun j _ => congrArg₂ (· * ·) (keff_2 A d _) (dsall_2_2 A j c)).trans
    (sum_keys (fun j => KEF A j 2 d * GF A 2 (64 * 2 + c.val / 4) (c.val % 4) j) 0 192 (by decide) fun j hj hn => (congrArg (_ * ·) (GF_zero A 2 _ _ j (by omega))).trans (mul_zero _)))

theorem dqs_2_2 : v8391 A (ix2 0 c) = gsF A 1 (4 * 2 + c.val % 4) * smE := by
  rw [show (v8391 A) = headsOne (gsc A (k0_off38_inb A.i)) (gsc A (k0_off39_inb A.i)) (gsc A (k0_off40_inb A.i)) (gsc A (k0_off41_inb A.i)) from rfl]
  exact tile_dq A 2 1 _ _ _ _ (g_sca A 1 8 _) (g_sca A 1 9 _) (g_sca A 1 10 _) (g_sca A 1 11 _) c

theorem dqt_2_2 : v8395 A (ix2 c d) = DQ A 2 (64 * 2 + c.val / 4) (c.val % 4) d := by
  rw [show (v8395 A) = scaledQ (F := Ideal) (v8357 A) (v8391 A) from rfl]
  exact (scaledQ_apply _ _ c d).trans (congrArg₂ (· * ·) (dqm_2_2 A d c) ((dqs_2_2 A c).trans (congrArg (fun b => gsF A b (4 * 2 + c.val % 4) * smE) (by omega))))

/-! ### Group 2, tokens from 192 -/

theorem ob_2_3 : v8453 A (ix2 c d) = Of A (64 * 3 + c.val / 4) (4 * 2 + c.val % 4) d := by
  have e : v8453 A = joinPairs (A.arg17.view.readCov (Val := Elt Ideal) (outPiece A 1 1541 inb_S128x2x128_S64x2x128_1_0_0_s_2_1_1 inb_S1x3072x2x128_S1x64x2x128_0_1541_0_0_s_1_8_1_1
    :: outPiece A 0 1540 inb_S128x2x128_S64x2x128_0_0_0_s_2_1_1 inb_S1x3072x2x128_S1x64x2x128_0_1540_0_0_s_1_8_1_1 :: (HS3_30 A))
    (Rect.unit (s := S128x2x128) ![0, 0, 0] S128x2x128.size inb_S128x2x128_S128x2x128_0_0_0).toLoadRect) := rfl
  rw [e]
  exact tile_out A 2 3 1540 1541 (by decide) (by decide) _ _ _ _ _ _ _ _ c d

theorem delta_2_3 : v8505 A (ix2 0 c) = DLF A (64 * 3 + c.val / 4) (4 * 2 + c.val % 4) := by
  rw [show (v8505 A) = rowDots (F := Ideal) (v8454 A) (v8453 A) from rfl]
  exact tile_delta A 2 3 _ _ (dt_2_3 A) (ob_2_3 A) c

theorem qeff_2_3 : v8584 A (ix2 c d) = QEF A (64 * 3 + c.val / 4) (4 * 2 + c.val % 4) d := by
  rw [show (v8584 A) = scaleRows (extf .bf16 (v8430 A) bitsLt_fp8e4m3_bf16) (headsBoth (qsc A (k0_off38_inb A.i)) (qsc A (k0_off39_inb A.i)) (qsc A (k0_off40_inb A.i)) (qsc A (k0_off41_inb A.i)) (gsc A (k0_off38_inb A.i)) (gsc A (k0_off39_inb A.i)) (gsc A (k0_off40_inb A.i)) (gsc A (k0_off41_inb A.i))) from rfl]
  exact tile_qeff A 2 3 1 rfl _ _ _ _ _ _ _ _ _ (qt_2_3 A) (q_sca A 1 8 _) (q_sca A 1 9 _) (q_sca A 1 10 _) (q_sca A 1 11 _) (g_sca A 1 8 _) (g_sca A 1 9 _) (g_sca A 1 10 _) (g_sca A 1 11 _) c d

theorem dp_2_3 (j : Fin 256) (c : Fin 256) : v8588 A (ix2 j c) = DPF A 2 (64 * 3 + c.val / 4) (c.val % 4) (0 + j.val) := by
  rw [show (v8588 A) = matmul dot_S256x128_S256x128_S256x256_1_1_0_0_n_n none (extractStridedSlice S256x128 ![0, 0] (v7365 A) slices_S384x128_o0_0_S256x128) (v8435 A) (constant S256x256 .f32 0x00000000#32) from rfl]
  exact (score4 _ _ 0 _ (by decide) j c).trans (Finset.sum_congr rfl fun d _ => congrArg₂ (· * ·) (vg_2 A _ d) (dt_2_3 A c d))

theorem ds_2_3_0 (r : Fin 64) (c : Fin 256) : v8637 A (ix2 r c) = GF A 2 (64 * 3 + c.val / 4) (c.val % 4) (64 * 0 + r.val) := by
  rw [show (v8637 A) = grads (v8630 A) (extractStridedSlice S64x256 ![0, 0] (v8588 A) slices_S256x256_o0_0_S64x256) (v8505 A) (v7373 A) from rfl]
  exact tile_grads A 2 3 0 0 rfl _ _ _ _ (p_2_3_0 A) (cutDPF (dp_2_3 A)) (delta_2_3 A) (v_sca A 0 2 _) r c

theorem ds_2_3_1 (r : Fin 64) (c : Fin 256) : v8654 A (ix2 r c) = GF A 2 (64 * 3 + c.val / 4) (c.val % 4) (64 * 1 + r.val) := by
  rw [show (v8654 A) = grads (v8647 A) (extractStridedSlice S64x256 ![64, 0] (v8588 A) slices_S256x256_o64_0_S64x256) (v8505 A) (v7373 A) from rfl]
  exact tile_grads A 2 3 1 0 rfl _ _ _ _ (p_2_3_1 A) (cutDPF (dp_2_3 A)) (delta_2_3 A) (v_sca A 0 2 _) r c

theorem ds_2_3_2 (r : Fin 64) (c : Fin 256) : v8671 A (ix2 r c) = GF A 2 (64 * 3 + c.val / 4) (c.val % 4) (64 * 2 + r.val) := by
  rw [show (v8671 A) = grads (v8664 A) (extractStridedSlice S64x256 ![128, 0] (v8588 A) slices_S256x256_o128_0_S64x256) (v8505 A) (v7375 A) from rfl]
  exact tile_grads A 2 3 2 1 rfl _ _ _ _ (p_2_3_2 A) (cutDPF (dp_2_3 A)) (delta_2_3 A) (v_sca A 1 2 _) r c

theorem ds_2_3_3 (r : Fin 64) (c : Fin 256) : v8717 A (ix2 r c) = GF A 2 (64 * 3 + c.val / 4) (c.val % 4) (64 * 3 + r.val) := by
  rw [show (v8717 A) = grads (v8710 A) (extractStridedSlice S64x256 ![192, 0] (v8588 A) slices_S256x256_o192_0_S64x256) (v8505 A) (v7375 A) from rfl]
  exact tile_grads A 2 3 3 1 rfl _ _ _ _ (p_2_3_3 A) (cutDPF (dp_2_3 A)) (delta_2_3 A) (v_sca A 1 2 _) r c

def da_2_3 : FVec Ideal S256x256 .bf16 :=
  concatenate S256x256 0 [⟨S64x256, (truncf .bf16 (v8637 A) bitsLt_bf16_f32)⟩, ⟨S64x256, (truncf .bf16 (v8654 A) bitsLt_bf16_f32)⟩, ⟨S64x256, (truncf .bf16 (v8671 A) bitsLt_bf16_f32)⟩, ⟨S64x256, (truncf .bf16 (v8717 A) bitsLt_bf16_f32)⟩] concatenates_S64x256_S64x256_S64x256_S64x256_S256x256_d0

theorem dsall_2_3 (j : Fin 256) (c : Fin 256) : da_2_3 A (ix2 j c) = GF A 2 (64 * 3 + c.val / 4) (c.val % 4) (0 + j.val) :=
  join4 _ _ _ _ (fun j c => GF A 2 (64 * 3 + c.val / 4) (c.val % 4) (0 + j)) (rowGF (ds_2_3_0 A)) (rowGF (ds_2_3_1 A)) (rowGF (ds_2_3_2 A)) (rowGF (ds_2_3_3 A)) _ j c

def dkn_2_3 : FVec Ideal S256x128 .f32 :=
  matmul dot_S256x256_S256x128_S256x128_1_0_0_1_n_n none (da_2_3 A) (v8584 A) (constant S256x128 .f32 0x00000000#32)

theorem dkp_2_3 (j : Fin 256) (d : Fin 128) : dkn_2_3 A (ix2 j d) = DKF A 2 3 (0 + j.val) d :=
  (over4 _ _ j d).trans (Finset.sum_congr rfl fun c _ => congrArg₂ (· * ·) (dsall_2_3 A j c) (qeff_2_3 A c d))

theorem dqm_2_3 (d : Fin 128) (c : Fin 256) : v8739 A (ix2 d c) = ∑ j : Fin 384, KEF A j.val 2 d * GF A 2 (64 * 3 + c.val / 4) (c.val % 4) j.val := by
  rw [show (v8739 A) = matmul dot_S128x256_S256x256_S128x256_1_0_0_1_n_n none (extractStridedSlice S128x256 ![0, 0] (v7395 A) slices_S128x384_o0_0_S128x256) (da_2_3 A) (constant S128x256 .f32 0x00000000#32) from rfl]
  exact (keys4 _ _ 0 _ (by decide) d c).trans ((Finset.sum_congr rfl fun j _ => congrArg₂ (· * ·) (keff_2 A d _) (dsall_2_3 A j c)).trans
    (sum_keys (fun j => KEF A j 2 d * GF A 2 (64 * 3 + c.val / 4) (c.val % 4) j) 0 256 (by decide) fun j hj hn => (congrArg (_ * ·) (GF_zero A 2 _ _ j (by omega))).trans (mul_zero _)))

theorem dqs_2_3 : v8773 A (ix2 0 c) = gsF A 1 (4 * 2 + c.val % 4) * smE := by
  rw [show (v8773 A) = headsOne (gsc A (k0_off38_inb A.i)) (gsc A (k0_off39_inb A.i)) (gsc A (k0_off40_inb A.i)) (gsc A (k0_off41_inb A.i)) from rfl]
  exact tile_dq A 2 1 _ _ _ _ (g_sca A 1 8 _) (g_sca A 1 9 _) (g_sca A 1 10 _) (g_sca A 1 11 _) c

theorem dqt_2_3 : v8777 A (ix2 c d) = DQ A 2 (64 * 3 + c.val / 4) (c.val % 4) d := by
  rw [show (v8777 A) = scaledQ (F := Ideal) (v8739 A) (v8773 A) from rfl]
  exact (scaledQ_apply _ _ c d).trans (congrArg₂ (· * ·) (dqm_2_3 A d c) ((dqs_2_3 A c).trans (congrArg (fun b => gsF A b (4 * 2 + c.val % 4) * smE) (by omega))))

/-! ### Group 2, tokens from 256 -/

theorem ob_2_4 : v8835 A (ix2 c d) = Of A (64 * 4 + c.val / 4) (4 * 2 + c.val % 4) d := by
  have e : v8835 A = joinPairs (A.arg17.view.readCov (Val := Elt Ideal) (outPiece A 1 2053 inb_S128x2x128_S64x2x128_1_0_0_s_2_1_1 inb_S1x3072x2x128_S1x64x2x128_0_2053_0_0_s_1_8_1_1
    :: outPiece A 0 2052 inb_S128x2x128_S64x2x128_0_0_0_s_2_1_1 inb_S1x3072x2x128_S1x64x2x128_0_2052_0_0_s_1_8_1_1 :: (HS3_32 A))
    (Rect.unit (s := S128x2x128) ![0, 0, 0] S128x2x128.size inb_S128x2x128_S128x2x128_0_0_0).toLoadRect) := rfl
  rw [e]
  exact tile_out A 2 4 2052 2053 (by decide) (by decide) _ _ _ _ _ _ _ _ c d

theorem delta_2_4 : v8887 A (ix2 0 c) = DLF A (64 * 4 + c.val / 4) (4 * 2 + c.val % 4) := by
  rw [show (v8887 A) = rowDots (F := Ideal) (v8836 A) (v8835 A) from rfl]
  exact tile_delta A 2 4 _ _ (dt_2_4 A) (ob_2_4 A) c

theorem qeff_2_4 : v8966 A (ix2 c d) = QEF A (64 * 4 + c.val / 4) (4 * 2 + c.val % 4) d := by
  rw [show (v8966 A) = scaleRows (extf .bf16 (v8812 A) bitsLt_fp8e4m3_bf16) (headsBoth (qsc A (k0_off42_inb A.i)) (qsc A (k0_off43_inb A.i)) (qsc A (k0_off44_inb A.i)) (qsc A (k0_off45_inb A.i)) (gsc A (k0_off42_inb A.i)) (gsc A (k0_off43_inb A.i)) (gsc A (k0_off44_inb A.i)) (gsc A (k0_off45_inb A.i))) from rfl]
  exact tile_qeff A 2 4 2 rfl _ _ _ _ _ _ _ _ _ (qt_2_4 A) (q_sca A 2 8 _) (q_sca A 2 9 _) (q_sca A 2 10 _) (q_sca A 2 11 _) (g_sca A 2 8 _) (g_sca A 2 9 _) (g_sca A 2 10 _) (g_sca A 2 11 _) c d

theorem dp_2_4 (j : Fin 320) (c : Fin 256) : v8970 A (ix2 j c) = DPF A 2 (64 * 4 + c.val / 4) (c.val % 4) (0 + j.val) := by
  rw [show (v8970 A) = matmul dot_S320x128_S256x128_S320x256_1_1_0_0_n_n none (extractStridedSlice S320x128 ![0, 0] (v7365 A) slices_S384x128_o0_0_S320x128) (v8817 A) (constant S320x256 .f32 0x00000000#32) from rfl]
  exact (score5 _ _ 0 _ (by decide) j c).trans (Finset.sum_congr rfl fun d _ => congrArg₂ (· * ·) (vg_2 A _ d) (dt_2_4 A c d))

theorem ds_2_4_0 (r : Fin 64) (c : Fin 256) : v9048 A (ix2 r c) = GF A 2 (64 * 4 + c.val / 4) (c.val % 4) (64 * 0 + r.val) := by
  rw [show (v9048 A) = grads (v9041 A) (extractStridedSlice S64x256 ![0, 0] (v8970 A) slices_S320x256_o0_0_S64x256) (v8887 A) (v7373 A) from rfl]
  exact tile_grads A 2 4 0 0 rfl _ _ _ _ (p_2_4_0 A) (cutDPF (dp_2_4 A)) (delta_2_4 A) (v_sca A 0 2 _) r c

theorem ds_2_4_1 (r : Fin 64) (c : Fin 256) : v9065 A (ix2 r c) = GF A 2 (64 * 4 + c.val / 4) (c.val % 4) (64 * 1 + r.val) := by
  rw [show (v9065 A) = grads (v9058 A) (extractStridedSlice S64x256 ![64, 0] (v8970 A) slices_S320x256_o64_0_S64x256) (v8887 A) (v7373 A) from rfl]
  exact tile_grads A 2 4 1 0 rfl _ _ _ _ (p_2_4_1 A) (cutDPF (dp_2_4 A)) (delta_2_4 A) (v_sca A 0 2 _) r c

theorem ds_2_4_2 (r : Fin 64) (c : Fin 256) : v9082 A (ix2 r c) = GF A 2 (64 * 4 + c.val / 4) (c.val % 4) (64 * 2 + r.val) := by
  rw [show (v9082 A) = grads (v9075 A) (extractStridedSlice S64x256 ![128, 0] (v8970 A) slices_S320x256_o128_0_S64x256) (v8887 A) (v7375 A) from rfl]
  exact tile_grads A 2 4 2 1 rfl _ _ _ _ (p_2_4_2 A) (cutDPF (dp_2_4 A)) (delta_2_4 A) (v_sca A 1 2 _) r c

theorem ds_2_4_3 (r : Fin 64) (c : Fin 256) : v9099 A (ix2 r c) = GF A 2 (64 * 4 + c.val / 4) (c.val % 4) (64 * 3 + r.val) := by
  rw [show (v9099 A) = grads (v9092 A) (extractStridedSlice S64x256 ![192, 0] (v8970 A) slices_S320x256_o192_0_S64x256) (v8887 A) (v7375 A) from rfl]
  exact tile_grads A 2 4 3 1 rfl _ _ _ _ (p_2_4_3 A) (cutDPF (dp_2_4 A)) (delta_2_4 A) (v_sca A 1 2 _) r c

theorem ds_2_4_4 (r : Fin 64) (c : Fin 256) : v9145 A (ix2 r c) = GF A 2 (64 * 4 + c.val / 4) (c.val % 4) (64 * 4 + r.val) := by
  rw [show (v9145 A) = grads (v9138 A) (extractStridedSlice S64x256 ![256, 0] (v8970 A) slices_S320x256_o256_0_S64x256) (v8887 A) (v7377 A) from rfl]
  exact tile_grads A 2 4 4 2 rfl _ _ _ _ (p_2_4_4 A) (cutDPF (dp_2_4 A)) (delta_2_4 A) (v_sca A 2 2 _) r c

theorem dsall_2_4 (j : Fin 320) (c : Fin 256) : v9149 A (ix2 j c) = GF A 2 (64 * 4 + c.val / 4) (c.val % 4) (0 + j.val) := by
  rw [show (v9149 A) = concatenate S320x256 0 [⟨S64x256, (truncf .bf16 (v9048 A) bitsLt_bf16_f32)⟩, ⟨S64x256, (truncf .bf16 (v9065 A) bitsLt_bf16_f32)⟩, ⟨S64x256, (truncf .bf16 (v9082 A) bitsLt_bf16_f32)⟩, ⟨S64x256, (truncf .bf16 (v9099 A) bitsLt_bf16_f32)⟩, ⟨S64x256, (truncf .bf16 (v9145 A) bitsLt_bf16_f32)⟩] concatenates_S64x256_S64x256_S64x256_S64x256_S64x256_S320x256_d0 from rfl]
  exact join5 _ _ _ _ _ (fun j c => GF A 2 (64 * 4 + c.val / 4) (c.val % 4) (0 + j)) (rowGF (ds_2_4_0 A)) (rowGF (ds_2_4_1 A)) (rowGF (ds_2_4_2 A)) (rowGF (ds_2_4_3 A)) (rowGF (ds_2_4_4 A)) _ j c

theorem dkp_2_4 (j : Fin 320) (d : Fin 128) : v9151 A (ix2 j d) = DKF A 2 4 (0 + j.val) d := by
  rw [show (v9151 A) = matmul dot_S320x256_S256x128_S320x128_1_0_0_1_n_n none (v9149 A) (v8966 A) (constant S320x128 .f32 0x00000000#32) from rfl]
  exact (over5 _ _ j d).trans (Finset.sum_congr rfl fun c _ => congrArg₂ (· * ·) (dsall_2_4 A j c) (qeff_2_4 A c d))

def dqmn_2_4 : FVec Ideal S128x256 .f32 :=
  matmul dot_S128x320_S320x256_S128x256_1_0_0_1_n_n none (extractStridedSlice S128x320 ![0, 0] (v7395 A) slices_S128x384_o0_0_S128x320) (v9149 A) (constant S128x256 .f32 0x00000000#32)

theorem dqm_2_4 (d : Fin 128) (c : Fin 256) : dqmn_2_4 A (ix2 d c) = ∑ j : Fin 384, KEF A j.val 2 d * GF A 2 (64 * 4 + c.val / 4) (c.val % 4) j.val :=
  (keys5 _ _ 0 _ (by decide) d c).trans ((Finset.sum_congr rfl fun j _ => congrArg₂ (· * ·) (keff_2 A d _) (dsall_2_4 A j c)).trans
    (sum_keys (fun j => KEF A j 2 d * GF A 2 (64 * 4 + c.val / 4) (c.val % 4) j) 0 320 (by decide) fun j hj hn => (congrArg (_ * ·) (GF_zero A 2 _ _ j (by omega))).trans (mul_zero _)))

def dqsn_2_4 : FVec Ideal S1x256 .f32 :=
  headsOne (gsc A (k0_off42_inb A.i)) (gsc A (k0_off43_inb A.i)) (gsc A (k0_off44_inb A.i)) (gsc A (k0_off45_inb A.i))

theorem dqs_2_4 : dqsn_2_4 A (ix2 0 c) = gsF A 2 (4 * 2 + c.val % 4) * smE :=
  tile_dq A 2 2 _ _ _ _ (g_sca A 2 8 _) (g_sca A 2 9 _) (g_sca A 2 10 _) (g_sca A 2 11 _) c

theorem dqt_2_4 : v9209 A (ix2 c d) = DQ A 2 (64 * 4 + c.val / 4) (c.val % 4) d := by
  rw [show (v9209 A) = scaledQ (F := Ideal) (dqmn_2_4 A) (dqsn_2_4 A) from rfl]
  exact (scaledQ_apply _ _ c d).trans (congrArg₂ (· * ·) (dqm_2_4 A d c) ((dqs_2_4 A c).trans (congrArg (fun b => gsF A b (4 * 2 + c.val % 4) * smE) (by omega))))

/-! ### Group 2, tokens from 320 -/

theorem ob_2_5 : v9267 A (ix2 c d) = Of A (64 * 5 + c.val / 4) (4 * 2 + c.val % 4) d := by
  have e : v9267 A = joinPairs (A.arg17.view.readCov (Val := Elt Ideal) (outPiece A 1 2565 inb_S128x2x128_S64x2x128_1_0_0_s_2_1_1 inb_S1x3072x2x128_S1x64x2x128_0_2565_0_0_s_1_8_1_1
    :: outPiece A 0 2564 inb_S128x2x128_S64x2x128_0_0_0_s_2_1_1 inb_S1x3072x2x128_S1x64x2x128_0_2564_0_0_s_1_8_1_1 :: (HS3_34 A))
    (Rect.unit (s := S128x2x128) ![0, 0, 0] S128x2x128.size inb_S128x2x128_S128x2x128_0_0_0).toLoadRect) := rfl
  rw [e]
  exact tile_out A 2 5 2564 2565 (by decide) (by decide) _ _ _ _ _ _ _ _ c d

theorem delta_2_5 : v9319 A (ix2 0 c) = DLF A (64 * 5 + c.val / 4) (4 * 2 + c.val % 4) := by
  rw [show (v9319 A) = rowDots (F := Ideal) (v9268 A) (v9267 A) from rfl]
  exact tile_delta A 2 5 _ _ (dt_2_5 A) (ob_2_5 A) c

theorem qeff_2_5 : v9398 A (ix2 c d) = QEF A (64 * 5 + c.val / 4) (4 * 2 + c.val % 4) d := by
  rw [show (v9398 A) = scaleRows (extf .bf16 (v9244 A) bitsLt_fp8e4m3_bf16) (headsBoth (qsc A (k0_off42_inb A.i)) (qsc A (k0_off43_inb A.i)) (qsc A (k0_off44_inb A.i)) (qsc A (k0_off45_inb A.i)) (gsc A (k0_off42_inb A.i)) (gsc A (k0_off43_inb A.i)) (gsc A (k0_off44_inb A.i)) (gsc A (k0_off45_inb A.i))) from rfl]
  exact tile_qeff A 2 5 2 rfl _ _ _ _ _ _ _ _ _ (qt_2_5 A) (q_sca A 2 8 _) (q_sca A 2 9 _) (q_sca A 2 10 _) (q_sca A 2 11 _) (g_sca A 2 8 _) (g_sca A 2 9 _) (g_sca A 2 10 _) (g_sca A 2 11 _) c d

theorem dp_2_5 (j : Fin 320) (c : Fin 256) : v9402 A (ix2 j c) = DPF A 2 (64 * 5 + c.val / 4) (c.val % 4) (64 + j.val) := by
  rw [show (v9402 A) = matmul dot_S320x128_S256x128_S320x256_1_1_0_0_n_n none (extractStridedSlice S320x128 ![64, 0] (v7365 A) slices_S384x128_o64_0_S320x128) (v9249 A) (constant S320x256 .f32 0x00000000#32) from rfl]
  exact (score5 _ _ 64 _ (by decide) j c).trans (Finset.sum_congr rfl fun d _ => congrArg₂ (· * ·) (vg_2 A _ d) (dt_2_5 A c d))

theorem ds_2_5_1 (r : Fin 64) (c : Fin 256) : v9480 A (ix2 r c) = GF A 2 (64 * 5 + c.val / 4) (c.val % 4) (64 * 1 + r.val) := by
  rw [show (v9480 A) = grads (v9473 A) (extractStridedSlice S64x256 ![0, 0] (v9402 A) slices_S320x256_o0_0_S64x256) (v9319 A) (v7373 A) from rfl]
  exact tile_grads A 2 5 1 0 rfl _ _ _ _ (p_2_5_1 A) (cutDPF (dp_2_5 A)) (delta_2_5 A) (v_sca A 0 2 _) r c

theorem ds_2_5_2 (r : Fin 64) (c : Fin 256) : v9497 A (ix2 r c) = GF A 2 (64 * 5 + c.val / 4) (c.val % 4) (64 * 2 + r.val) := by
  rw [show (v9497 A) = grads (v9490 A) (extractStridedSlice S64x256 ![64, 0] (v9402 A) slices_S320x256_o64_0_S64x256) (v9319 A) (v7375 A) from rfl]
  exact tile_grads A 2 5 2 1 rfl _ _ _ _ (p_2_5_2 A) (cutDPF (dp_2_5 A)) (delta_2_5 A) (v_sca A 1 2 _) r c

theorem ds_2_5_3 (r : Fin 64) (c : Fin 256) : v9514 A (ix2 r c) = GF A 2 (64 * 5 + c.val / 4) (c.val % 4) (64 * 3 + r.val) := by
  rw [show (v9514 A) = grads (v9507 A) (extractStridedSlice S64x256 ![128, 0] (v9402 A) slices_S320x256_o128_0_S64x256) (v9319 A) (v7375 A) from rfl]
  exact tile_grads A 2 5 3 1 rfl _ _ _ _ (p_2_5_3 A) (cutDPF (dp_2_5 A)) (delta_2_5 A) (v_sca A 1 2 _) r c

theorem ds_2_5_4 (r : Fin 64) (c : Fin 256) : v9531 A (ix2 r c) = GF A 2 (64 * 5 + c.val / 4) (c.val % 4) (64 * 4 + r.val) := by
  rw [show (v9531 A) = grads (v9524 A) (extractStridedSlice S64x256 ![192, 0] (v9402 A) slices_S320x256_o192_0_S64x256) (v9319 A) (v7377 A) from rfl]
  exact tile_grads A 2 5 4 2 rfl _ _ _ _ (p_2_5_4 A) (cutDPF (dp_2_5 A)) (delta_2_5 A) (v_sca A 2 2 _) r c

def dsn_2_5_5 : FVec Ideal S64x256 .f32 :=
  grads (pn_2_5_5 A) (extractStridedSlice S64x256 ![256, 0] (v9402 A) slices_S320x256_o256_0_S64x256) (v9319 A) (v7377 A)

theorem ds_2_5_5 (r : Fin 64) (c : Fin 256) : dsn_2_5_5 A (ix2 r c) = GF A 2 (64 * 5 + c.val / 4) (c.val % 4) (64 * 5 + r.val) :=
  tile_grads A 2 5 5 2 rfl _ _ _ _ (p_2_5_5 A) (cutDPF (dp_2_5 A)) (delta_2_5 A) (v_sca A 2 2 _) r c

def da_2_5 : FVec Ideal S320x256 .bf16 :=
  concatenate S320x256 0 [⟨S64x256, (truncf .bf16 (v9480 A) bitsLt_bf16_f32)⟩, ⟨S64x256, (truncf .bf16 (v9497 A) bitsLt_bf16_f32)⟩, ⟨S64x256, (truncf .bf16 (v9514 A) bitsLt_bf16_f32)⟩, ⟨S64x256, (truncf .bf16 (v9531 A) bitsLt_bf16_f32)⟩, ⟨S64x256, (truncf .bf16 (dsn_2_5_5 A) bitsLt_bf16_f32)⟩] concatenates_S64x256_S64x256_S64x256_S64x256_S64x256_S320x256_d0

theorem dsall_2_5 (j : Fin 320) (c : Fin 256) : da_2_5 A (ix2 j c) = GF A 2 (64 * 5 + c.val / 4) (c.val % 4) (64 + j.val) :=
  join5 _ _ _ _ _ (fun j c => GF A 2 (64 * 5 + c.val / 4) (c.val % 4) (64 + j)) (rowGF (ds_2_5_1 A)) (rowGF (ds_2_5_2 A)) (rowGF (ds_2_5_3 A)) (rowGF (ds_2_5_4 A)) (rowGF (ds_2_5_5 A)) _ j c

def dkn_2_5 : FVec Ideal S320x128 .f32 :=
  matmul dot_S320x256_S256x128_S320x128_1_0_0_1_n_n none (da_2_5 A) (v9398 A) (constant S320x128 .f32 0x00000000#32)

theorem dkp_2_5 (j : Fin 320) (d : Fin 128) : dkn_2_5 A (ix2 j d) = DKF A 2 5 (64 + j.val) d :=
  (over5 _ _ j d).trans (Finset.sum_congr rfl fun c _ => congrArg₂ (· * ·) (dsall_2_5 A j c) (qeff_2_5 A c d))

theorem dqm_2_5 (d : Fin 128) (c : Fin 256) : v9603 A (ix2 d c) = ∑ j : Fin 384, KEF A j.val 2 d * GF A 2 (64 * 5 + c.val / 4) (c.val % 4) j.val := by
  rw [show (v9603 A) = matmul dot_S128x320_S320x256_S128x256_1_0_0_1_n_n none (extractStridedSlice S128x320 ![0, 64] (v7395 A) slices_S128x384_o0_64_S128x320) (da_2_5 A) (constant S128x256 .f32 0x00000000#32) from rfl]
  exact (keys5 _ _ 64 _ (by decide) d c).trans ((Finset.sum_congr rfl fun j _ => congrArg₂ (· * ·) (keff_2 A d _) (dsall_2_5 A j c)).trans
    (sum_keys (fun j => KEF A j 2 d * GF A 2 (64 * 5 + c.val / 4) (c.val % 4) j) 64 320 (by decide) fun j hj hn => (congrArg (_ * ·) (GF_zero A 2 _ _ j (by omega))).trans (mul_zero _)))

def dqsn_2_5 : FVec Ideal S1x256 .f32 :=
  headsOne (gsc A (k0_off42_inb A.i)) (gsc A (k0_off43_inb A.i)) (gsc A (k0_off44_inb A.i)) (gsc A (k0_off45_inb A.i))

theorem dqs_2_5 : dqsn_2_5 A (ix2 0 c) = gsF A 2 (4 * 2 + c.val % 4) * smE :=
  tile_dq A 2 2 _ _ _ _ (g_sca A 2 8 _) (g_sca A 2 9 _) (g_sca A 2 10 _) (g_sca A 2 11 _) c

def dqtn_2_5 : FVec Ideal S256x128 .bf16 :=
  scaledQ (F := Ideal) (v9603 A) (dqsn_2_5 A)

theorem dqt_2_5 : dqtn_2_5 A (ix2 c d) = DQ A 2 (64 * 5 + c.val / 4) (c.val % 4) d :=
  (scaledQ_apply _ _ c d).trans (congrArg₂ (· * ·) (dqm_2_5 A d c) ((dqs_2_5 A c).trans (congrArg (fun b => gsF A b (4 * 2 + c.val % 4) * smE) (by omega))))

theorem dkacc_2_0_0 (r : Fin 64) (d : Fin 128) : v7654 A (ix2 r d) = DKT A 2 0 0 r d :=
  one_tile (dkp_2_0 A)

theorem dkacc_2_0_1 (r : Fin 64) (d : Fin 128) : v7992 A (ix2 r d) = DKT A 2 0 1 r d := by
  rw [show (v7992 A) = addf (F := Ideal) (φ := .f32) (v7654 A) (extractStridedSlice S64x128 ![0, 0] (v7988 A) slices_S128x128_o0_0_S64x128) from rfl]
  exact add_tile (dkacc_2_0_0 A r d) (dkp_2_1 A)

theorem dkacc_2_0_2 (r : Fin 64) (d : Fin 128) : v8349 A (ix2 r d) = DKT A 2 0 2 r d := by
  rw [show (v8349 A) = addf (F := Ideal) (φ := .f32) (v7992 A) (extractStridedSlice S64x128 ![0, 0] (dkn_2_2 A) slices_S192x128_o0_0_S64x128) from rfl]
  exact add_tile (dkacc_2_0_1 A r d) (dkp_2_2 A)

theorem dkacc_2_0_3 (r : Fin 64) (d : Fin 128) : v8727 A (ix2 r d) = DKT A 2 0 3 r d := by
  rw [show (v8727 A) = addf (F := Ideal) (φ := .f32) (v8349 A) (extractStridedSlice S64x128 ![0, 0] (dkn_2_3 A) slices_S256x128_o0_0_S64x128) from rfl]
  exact add_tile (dkacc_2_0_2 A r d) (dkp_2_3 A)

theorem dkacc_2_0_4 (r : Fin 64) (d : Fin 128) : v9155 A (ix2 r d) = DKT A 2 0 4 r d := by
  rw [show (v9155 A) = addf (F := Ideal) (φ := .f32) (v8727 A) (extractStridedSlice S64x128 ![0, 0] (v9151 A) slices_S320x128_o0_0_S64x128) from rfl]
  exact add_tile (dkacc_2_0_3 A r d) (dkp_2_4 A)

theorem dkacc_2_1_1 (r : Fin 64) (d : Fin 128) : v7994 A (ix2 r d) = DKT A 2 1 0 r d := by
  rw [show (v7994 A) = (extractStridedSlice S64x128 ![64, 0] (v7988 A) slices_S128x128_o64_0_S64x128) from rfl]
  exact (first_tile (dkp_2_1 A))

theorem dkacc_2_1_2 (r : Fin 64) (d : Fin 128) : v8353 A (ix2 r d) = DKT A 2 1 1 r d := by
  rw [show (v8353 A) = addf (F := Ideal) (φ := .f32) (v7994 A) (extractStridedSlice S64x128 ![64, 0] (dkn_2_2 A) slices_S192x128_o64_0_S64x128) from rfl]
  exact add_tile (dkacc_2_1_1 A r d) (dkp_2_2 A)

theorem dkacc_2_1_3 (r : Fin 64) (d : Fin 128) : v8731 A (ix2 r d) = DKT A 2 1 2 r d := by
  rw [show (v8731 A) = addf (F := Ideal) (φ := .f32) (v8353 A) (extractStridedSlice S64x128 ![64, 0] (dkn_2_3 A) slices_S256x128_o64_0_S64x128) from rfl]
  exact add_tile (dkacc_2_1_2 A r d) (dkp_2_3 A)

theorem dkacc_2_1_4 (r : Fin 64) (d : Fin 128) : v9159 A (ix2 r d) = DKT A 2 1 3 r d := by
  rw [show (v9159 A) = addf (F := Ideal) (φ := .f32) (v8731 A) (extractStridedSlice S64x128 ![64, 0] (v9151 A) slices_S320x128_o64_0_S64x128) from rfl]
  exact add_tile (dkacc_2_1_3 A r d) (dkp_2_4 A)

theorem dkacc_2_1_5 (r : Fin 64) (d : Fin 128) : v9587 A (ix2 r d) = DKT A 2 1 4 r d := by
  rw [show (v9587 A) = addf (F := Ideal) (φ := .f32) (v9159 A) (extractStridedSlice S64x128 ![0, 0] (dkn_2_5 A) slices_S320x128_o0_0_S64x128) from rfl]
  exact add_tile (dkacc_2_1_4 A r d) (dkp_2_5 A)

theorem dkacc_2_2_2 (r : Fin 64) (d : Fin 128) : v8355 A (ix2 r d) = DKT A 2 2 0 r d := by
  rw [show (v8355 A) = (extractStridedSlice S64x128 ![128, 0] (dkn_2_2 A) slices_S192x128_o128_0_S64x128) from rfl]
  exact (first_tile (dkp_2_2 A))

theorem dkacc_2_2_3 (r : Fin 64) (d : Fin 128) : v8735 A (ix2 r d) = DKT A 2 2 1 r d := by
  rw [show (v8735 A) = addf (F := Ideal) (φ := .f32) (v8355 A) (extractStridedSlice S64x128 ![128, 0] (dkn_2_3 A) slices_S256x128_o128_0_S64x128) from rfl]
  exact add_tile (dkacc_2_2_2 A r d) (dkp_2_3 A)

theorem dkacc_2_2_4 (r : Fin 64) (d : Fin 128) : v9163 A (ix2 r d) = DKT A 2 2 2 r d := by
  rw [show (v9163 A) = addf (F := Ideal) (φ := .f32) (v8735 A) (extractStridedSlice S64x128 ![128, 0] (v9151 A) slices_S320x128_o128_0_S64x128) from rfl]
  exact add_tile (dkacc_2_2_3 A r d) (dkp_2_4 A)

theorem dkacc_2_2_5 (r : Fin 64) (d : Fin 128) : v9591 A (ix2 r d) = DKT A 2 2 3 r d := by
  rw [show (v9591 A) = addf (F := Ideal) (φ := .f32) (v9163 A) (extractStridedSlice S64x128 ![64, 0] (dkn_2_5 A) slices_S320x128_o64_0_S64x128) from rfl]
  exact add_tile (dkacc_2_2_4 A r d) (dkp_2_5 A)

theorem dkacc_2_3_3 (r : Fin 64) (d : Fin 128) : v8737 A (ix2 r d) = DKT A 2 3 0 r d := by
  rw [show (v8737 A) = (extractStridedSlice S64x128 ![192, 0] (dkn_2_3 A) slices_S256x128_o192_0_S64x128) from rfl]
  exact (first_tile (dkp_2_3 A))

theorem dkacc_2_3_4 (r : Fin 64) (d : Fin 128) : v9167 A (ix2 r d) = DKT A 2 3 1 r d := by
  rw [show (v9167 A) = addf (F := Ideal) (φ := .f32) (v8737 A) (extractStridedSlice S64x128 ![192, 0] (v9151 A) slices_S320x128_o192_0_S64x128) from rfl]
  exact add_tile (dkacc_2_3_3 A r d) (dkp_2_4 A)

theorem dkacc_2_3_5 (r : Fin 64) (d : Fin 128) : v9595 A (ix2 r d) = DKT A 2 3 2 r d := by
  rw [show (v9595 A) = addf (F := Ideal) (φ := .f32) (v9167 A) (extractStridedSlice S64x128 ![128, 0] (dkn_2_5 A) slices_S320x128_o128_0_S64x128) from rfl]
  exact add_tile (dkacc_2_3_4 A r d) (dkp_2_5 A)

theorem dkacc_2_4_4 (r : Fin 64) (d : Fin 128) : v9169 A (ix2 r d) = DKT A 2 4 0 r d := by
  rw [show (v9169 A) = (extractStridedSlice S64x128 ![256, 0] (v9151 A) slices_S320x128_o256_0_S64x128) from rfl]
  exact (first_tile (dkp_2_4 A))

theorem dkacc_2_4_5 (r : Fin 64) (d : Fin 128) : v9599 A (ix2 r d) = DKT A 2 4 1 r d := by
  rw [show (v9599 A) = addf (F := Ideal) (φ := .f32) (v9169 A) (extractStridedSlice S64x128 ![192, 0] (dkn_2_5 A) slices_S320x128_o192_0_S64x128) from rfl]
  exact add_tile (dkacc_2_4_4 A r d) (dkp_2_5 A)

theorem dkacc_2_5_5 (r : Fin 64) (d : Fin 128) : v9601 A (ix2 r d) = DKT A 2 5 0 r d := by
  rw [show (v9601 A) = (extractStridedSlice S64x128 ![256, 0] (dkn_2_5 A) slices_S320x128_o256_0_S64x128) from rfl]
  exact (first_tile (dkp_2_5 A))

end Cert.KernelIdeal.Hand
-- ==== Proof.Exact.Weights3.lean ====
/- Head group 3: the weights and the value gradient's sums, tile by tile, by the lemmas of one tile. -/
module

public import proofs.«01_k».proof.Proof.Exact.Steps

@[expose] public section

set_option maxRecDepth 16384

noncomputable section

namespace Cert.KernelIdeal.Hand

open Cert.KernelIdeal.Gen Idealize.ShloMosaic
open bodyRun.sl

variable (A : Pack Ideal) (c : Fin 256) (d : Fin 128)

theorem kg_3 (j : Fin 384) (d : Fin 128) : v9683 A (ix2 j d) = Kf A j.val 3 d :=
  keysK A 3 inb_S4x384x128_S1x384x128_3_0_0 (by decide) j d

/-! ### Group 3, tokens from 0 -/

theorem qt_3_0 : v9736 A (ix2 c d) = Qf A (64 * 0 + c.val / 4) (4 * 3 + c.val % 4) d :=
  rowsQ A 3 0 0 12 inb_S1x6144x128_S1x1024x128_0_0_0 slices_S64x16x128_o0_12_0_S64x4x128 (by decide) (by decide) (by decide) c d

theorem dt_3_0 : v9741 A (ix2 c d) = Gf A (64 * 0 + c.val / 4) (4 * 3 + c.val % 4) d :=
  rowsG A 3 0 0 12 inb_S1x6144x128_S1x1024x128_0_0_0 slices_S64x16x128_o0_12_0_S64x4x128 (by decide) (by decide) (by decide) c d

theorem l2_3_0 : v9813 A (ix2 0 c) = Lf A (64 * 0 + c.val / 4) (4 * 3 + c.val % 4) * toBase2 :=
  lses A 3 0 0 inb_S4x1x1536_S1x1x256_3_0_0 (by decide) (by decide) (by decide) c

theorem doeff_3_0 : v9883 A (ix2 c d) = GEF A (64 * 0 + c.val / 4) (4 * 3 + c.val % 4) d := by
  rw [show (v9883 A) = scaleRows (extf .bf16 (v9741 A) bitsLt_fp8e5m2_bf16) (heads16 (gsc A (k0_off49_inb A.i)) (gsc A (k0_off50_inb A.i)) (gsc A (k0_off51_inb A.i)) (gsc A (k0_off52_inb A.i))) from rfl]
  exact tile_doeff A 3 0 0 rfl _ _ _ _ _ (dt_3_0 A) (g_sca A 0 12 _) (g_sca A 0 13 _) (g_sca A 0 14 _) (g_sca A 0 15 _) c d

theorem cq_3_0 : v9928 A (ix2 0 c) = qsF A 0 (4 * 3 + c.val % 4) * smTwo := by
  rw [show (v9928 A) = headsTwo (qsc A (k0_off49_inb A.i)) (qsc A (k0_off50_inb A.i)) (qsc A (k0_off51_inb A.i)) (qsc A (k0_off52_inb A.i)) from rfl]
  exact tile_cq A 3 0 _ _ _ _ (q_sca A 0 12 _) (q_sca A 0 13 _) (q_sca A 0 14 _) (q_sca A 0 15 _) c

theorem s_3_0 (j : Fin 64) (c : Fin 256) : v9892 A (ix2 j c) = SF A 3 (64 * 0 + c.val / 4) (c.val % 4) (0 + j.val) := by
  rw [show (v9892 A) = matmul dot_S64x128_S256x128_S64x256_1_1_0_0_n_n none (extractStridedSlice S64x128 ![0, 0] (v9683 A) slices_S384x128_o0_0_S64x128) (v9736 A) (constant S64x256 .f32 0x00000000#32) from rfl]
  exact (score1 _ _ 0 _ (by decide) j c).trans (Finset.sum_congr rfl fun d _ => congrArg₂ (· * ·) (kg_3 A _ d) (qt_3_0 A c d))

theorem p_3_0_0 (r : Fin 64) (c : Fin 256) : v9964 A (ix2 r c) = PF A 3 (64 * 0 + c.val / 4) (c.val % 4) (64 * 0 + r.val) := by
  rw [show (v9964 A) = maskDiag (weights (v9892 A) (v9928 A) (v9687 A) (v9813 A)) from rfl]
  exact tile_diag A 3 0 0 0 0 rfl rfl _ _ _ _ (fun r c => (s_3_0 A r c).trans (congrArg (SF A 3 _ _) (by omega))) (cq_3_0 A) (k_sca A 0 3 _) (l2_3_0 A) rfl r c

theorem pall_3_0 (j : Fin 64) (c : Fin 256) : v9971 A (ix2 j c) = PF A 3 (64 * 0 + c.val / 4) (c.val % 4) (0 + j.val) := by
  rw [show (v9971 A) = (truncf .bf16 (v9964 A) bitsLt_bf16_f32) from rfl]
  exact (p_3_0_0 A j c).trans (congrArg (PF A 3 _ _) (by omega))

theorem dvp_3_0 (j : Fin 64) (d : Fin 128) : v9973 A (ix2 j d) = DVF A 3 0 (0 + j.val) d := by
  rw [show (v9973 A) = matmul dot_S64x256_S256x128_S64x128_1_0_0_1_n_n none (v9971 A) (v9883 A) (constant S64x128 .f32 0x00000000#32) from rfl]
  exact (over1 _ _ j d).trans (Finset.sum_congr rfl fun c _ => congrArg₂ (· * ·) (pall_3_0 A j c) (doeff_3_0 A c d))

/-! ### Group 3, tokens from 64 -/

theorem qt_3_1 : v10049 A (ix2 c d) = Qf A (64 * 1 + c.val / 4) (4 * 3 + c.val % 4) d :=
  rowsQ A 3 1 1024 12 inb_S1x6144x128_S1x1024x128_0_1024_0 slices_S64x16x128_o0_12_0_S64x4x128 (by decide) (by decide) (by decide) c d

theorem dt_3_1 : v10054 A (ix2 c d) = Gf A (64 * 1 + c.val / 4) (4 * 3 + c.val % 4) d :=
  rowsG A 3 1 1024 12 inb_S1x6144x128_S1x1024x128_0_1024_0 slices_S64x16x128_o0_12_0_S64x4x128 (by decide) (by decide) (by decide) c d

theorem l2_3_1 : v10126 A (ix2 0 c) = Lf A (64 * 1 + c.val / 4) (4 * 3 + c.val % 4) * toBase2 :=
  lses A 3 1 256 inb_S4x1x1536_S1x1x256_3_0_256 (by decide) (by decide) (by decide) c

theorem doeff_3_1 : v10196 A (ix2 c d) = GEF A (64 * 1 + c.val / 4) (4 * 3 + c.val % 4) d := by
  rw [show (v10196 A) = scaleRows (extf .bf16 (v10054 A) bitsLt_fp8e5m2_bf16) (heads16 (gsc A (k0_off49_inb A.i)) (gsc A (k0_off50_inb A.i)) (gsc A (k0_off51_inb A.i)) (gsc A (k0_off52_inb A.i))) from rfl]
  exact tile_doeff A 3 1 0 rfl _ _ _ _ _ (dt_3_1 A) (g_sca A 0 12 _) (g_sca A 0 13 _) (g_sca A 0 14 _) (g_sca A 0 15 _) c d

theorem cq_3_1 : v10241 A (ix2 0 c) = qsF A 0 (4 * 3 + c.val % 4) * smTwo := by
  rw [show (v10241 A) = headsTwo (qsc A (k0_off49_inb A.i)) (qsc A (k0_off50_inb A.i)) (qsc A (k0_off51_inb A.i)) (qsc A (k0_off52_inb A.i)) from rfl]
  exact tile_cq A 3 0 _ _ _ _ (q_sca A 0 12 _) (q_sca A 0 13 _) (q_sca A 0 14 _) (q_sca A 0 15 _) c

theorem s_3_1 (j : Fin 128) (c : Fin 256) : v10205 A (ix2 j c) = SF A 3 (64 * 1 + c.val / 4) (c.val % 4) (0 + j.val) := by
  rw [show (v10205 A) = matmul dot_S128x128_S256x128_S128x256_1_1_0_0_n_n none (extractStridedSlice S128x128 ![0, 0] (v9683 A) slices_S384x128_o0_0_S128x128) (v10049 A) (constant S128x256 .f32 0x00000000#32) from rfl]
  exact (score2 _ _ 0 _ (by decide) j c).trans (Finset.sum_congr rfl fun d _ => congrArg₂ (· * ·) (kg_3 A _ d) (qt_3_1 A c d))

def pn_3_1_0 : FVec Ideal S64x256 .f32 :=
  weights (extractStridedSlice S64x256 ![0, 0] (v10205 A) slices_S128x256_o0_0_S64x256) (v10241 A) (v9687 A) (v10126 A)

theorem p_3_1_0 (r : Fin 64) (c : Fin 256) : pn_3_1_0 A (ix2 r c) = PF A 3 (64 * 1 + c.val / 4) (c.val % 4) (64 * 0 + r.val) :=
  tile_full A 3 1 0 0 0 rfl rfl _ _ _ _ (cutSF (s_3_1 A)) (cq_3_1 A) (k_sca A 0 3 _) (l2_3_1 A) (by decide) (by decide) r c

theorem p_3_1_1 (r : Fin 64) (c : Fin 256) : v10295 A (ix2 r c) = PF A 3 (64 * 1 + c.val / 4) (c.val % 4) (64 * 1 + r.val) := by
  rw [show (v10295 A) = maskDiag (weights (extractStridedSlice S64x256 ![64, 0] (v10205 A) slices_S128x256_o64_0_S64x256) (v10241 A) (v9687 A) (v10126 A)) from rfl]
  exact tile_diag A 3 1 1 0 0 rfl rfl _ _ _ _ (cutSF (s_3_1 A)) (cq_3_1 A) (k_sca A 0 3 _) (l2_3_1 A) rfl r c

theorem pall_3_1 (j : Fin 128) (c : Fin 256) : v10305 A (ix2 j c) = PF A 3 (64 * 1 + c.val / 4) (c.val % 4) (0 + j.val) := by
  rw [show (v10305 A) = concatenate S128x256 0 [⟨S64x256, (truncf .bf16 (pn_3_1_0 A) bitsLt_bf16_f32)⟩, ⟨S64x256, (truncf .bf16 (v10295 A) bitsLt_bf16_f32)⟩] concatenates_S64x256_S64x256_S128x256_d0 from rfl]
  exact join2 _ _ (fun j c => PF A 3 (64 * 1 + c.val / 4) (c.val % 4) (0 + j)) (rowPF (p_3_1_0 A)) (rowPF (p_3_1_1 A)) _ j c

theorem dvp_3_1 (j : Fin 128) (d : Fin 128) : v10307 A (ix2 j d) = DVF A 3 1 (0 + j.val) d := by
  rw [show (v10307 A) = matmul dot_S128x256_S256x128_S128x128_1_0_0_1_n_n none (v10305 A) (v10196 A) (constant S128x128 .f32 0x00000000#32) from rfl]
  exact (over2 _ _ j d).trans (Finset.sum_congr rfl fun c _ => congrArg₂ (· * ·) (pall_3_1 A j c) (doeff_3_1 A c d))

/-! ### Group 3, tokens from 128 -/

theorem qt_3_2 : v10389 A (ix2 c d) = Qf A (64 * 2 + c.val / 4) (4 * 3 + c.val % 4) d :=
  rowsQ A 3 2 2048 12 inb_S1x6144x128_S1x1024x128_0_2048_0 slices_S64x16x128_o0_12_0_S64x4x128 (by decide) (by decide) (by decide) c d

theorem dt_3_2 : v10394 A (ix2 c d) = Gf A (64 * 2 + c.val / 4) (4 * 3 + c.val % 4) d :=
  rowsG A 3 2 2048 12 inb_S1x6144x128_S1x1024x128_0_2048_0 slices_S64x16x128_o0_12_0_S64x4x128 (by decide) (by decide) (by decide) c d

theorem l2_3_2 : v10466 A (ix2 0 c) = Lf A (64 * 2 + c.val / 4) (4 * 3 + c.val % 4) * toBase2 :=
  lses A 3 2 512 inb_S4x1x1536_S1x1x256_3_0_512 (by decide) (by decide) (by decide) c

theorem doeff_3_2 : v10536 A (ix2 c d) = GEF A (64 * 2 + c.val / 4) (4 * 3 + c.val % 4) d := by
  rw [show (v10536 A) = scaleRows (extf .bf16 (v10394 A) bitsLt_fp8e5m2_bf16) (heads16 (gsc A (k0_off53_inb A.i)) (gsc A (k0_off54_inb A.i)) (gsc A (k0_off55_inb A.i)) (gsc A (k0_off56_inb A.i))) from rfl]
  exact tile_doeff A 3 2 1 rfl _ _ _ _ _ (dt_3_2 A) (g_sca A 1 12 _) (g_sca A 1 13 _) (g_sca A 1 14 _) (g_sca A 1 15 _) c d

theorem cq_3_2 : v10581 A (ix2 0 c) = qsF A 1 (4 * 3 + c.val % 4) * smTwo := by
  rw [show (v10581 A) = headsTwo (qsc A (k0_off53_inb A.i)) (qsc A (k0_off54_inb A.i)) (qsc A (k0_off55_inb A.i)) (qsc A (k0_off56_inb A.i)) from rfl]
  exact tile_cq A 3 1 _ _ _ _ (q_sca A 1 12 _) (q_sca A 1 13 _) (q_sca A 1 14 _) (q_sca A 1 15 _) c

theorem s_3_2 (j : Fin 192) (c : Fin 256) : v10545 A (ix2 j c) = SF A 3 (64 * 2 + c.val / 4) (c.val % 4) (0 + j.val) := by
  rw [show (v10545 A) = matmul dot_S192x128_S256x128_S192x256_1_1_0_0_n_n none (extractStridedSlice S192x128 ![0, 0] (v9683 A) slices_S384x128_o0_0_S192x128) (v10389 A) (constant S192x256 .f32 0x00000000#32) from rfl]
  exact (score3 _ _ 0 _ (by decide) j c).trans (Finset.sum_congr rfl fun d _ => congrArg₂ (· * ·) (kg_3 A _ d) (qt_3_2 A c d))

theorem p_3_2_0 (r : Fin 64) (c : Fin 256) : v10589 A (ix2 r c) = PF A 3 (64 * 2 + c.val / 4) (c.val % 4) (64 * 0 + r.val) := by
  rw [show (v10589 A) = weights (extractStridedSlice S64x256 ![0, 0] (v10545 A) slices_S192x256_o0_0_S64x256) (v10581 A) (v9687 A) (v10466 A) from rfl]
  exact tile_full A 3 2 0 1 0 rfl rfl _ _ _ _ (cutSF (s_3_2 A)) (cq_3_2 A) (k_sca A 0 3 _) (l2_3_2 A) (by decide) (by decide) r c

theorem p_3_2_1 (r : Fin 64) (c : Fin 256) : v10606 A (ix2 r c) = PF A 3 (64 * 2 + c.val / 4) (c.val % 4) (64 * 1 + r.val) := by
  rw [show (v10606 A) = weights (extractStridedSlice S64x256 ![64, 0] (v10545 A) slices_S192x256_o64_0_S64x256) (v10581 A) (v9687 A) (v10466 A) from rfl]
  exact tile_full A 3 2 1 1 0 rfl rfl _ _ _ _ (cutSF (s_3_2 A)) (cq_3_2 A) (k_sca A 0 3 _) (l2_3_2 A) (by decide) (by decide) r c

def pn_3_2_2 : FVec Ideal S64x256 .f32 :=
  maskDiag (weights (extractStridedSlice S64x256 ![128, 0] (v10545 A) slices_S192x256_o128_0_S64x256) (v10581 A) (v9689 A) (v10466 A))

theorem p_3_2_2 (r : Fin 64) (c : Fin 256) : pn_3_2_2 A (ix2 r c) = PF A 3 (64 * 2 + c.val / 4) (c.val % 4) (64 * 2 + r.val) :=
  tile_diag A 3 2 2 1 1 rfl rfl _ _ _ _ (cutSF (s_3_2 A)) (cq_3_2 A) (k_sca A 1 3 _) (l2_3_2 A) rfl r c

def pa_3_2 : FVec Ideal S192x256 .bf16 :=
  concatenate S192x256 0 [⟨S64x256, (truncf .bf16 (v10589 A) bitsLt_bf16_f32)⟩, ⟨S64x256, (truncf .bf16 (v10606 A) bitsLt_bf16_f32)⟩, ⟨S64x256, (truncf .bf16 (pn_3_2_2 A) bitsLt_bf16_f32)⟩] concatenates_S64x256_S64x256_S64x256_S192x256_d0

theorem pall_3_2 (j : Fin 192) (c : Fin 256) : pa_3_2 A (ix2 j c) = PF A 3 (64 * 2 + c.val / 4) (c.val % 4) (0 + j.val) :=
  join3 _ _ _ (fun j c => PF A 3 (64 * 2 + c.val / 4) (c.val % 4) (0 + j)) (rowPF (p_3_2_0 A)) (rowPF (p_3_2_1 A)) (rowPF (p_3_2_2 A)) _ j c

def dvn_3_2 : FVec Ideal S192x128 .f32 :=
  matmul dot_S192x256_S256x128_S192x128_1_0_0_1_n_n none (pa_3_2 A) (v10536 A) (constant S192x128 .f32 0x00000000#32)

theorem dvp_3_2 (j : Fin 192) (d : Fin 128) : dvn_3_2 A (ix2 j d) = DVF A 3 2 (0 + j.val) d :=
  (over3 _ _ j d).trans (Finset.sum_congr rfl fun c _ => congrArg₂ (· * ·) (pall_3_2 A j c) (doeff_3_2 A c d))

/-! ### Group 3, tokens from 192 -/

theorem qt_3_3 : v10750 A (ix2 c d) = Qf A (64 * 3 + c.val / 4) (4 * 3 + c.val % 4) d :=
  rowsQ A 3 3 3072 12 inb_S1x6144x128_S1x1024x128_0_3072_0 slices_S64x16x128_o0_12_0_S64x4x128 (by decide) (by decide) (by decide) c d

theorem dt_3_3 : v10755 A (ix2 c d) = Gf A (64 * 3 + c.val / 4) (4 * 3 + c.val % 4) d :=
  rowsG A 3 3 3072 12 inb_S1x6144x128_S1x1024x128_0_3072_0 slices_S64x16x128_o0_12_0_S64x4x128 (by decide) (by decide) (by decide) c d

theorem l2_3_3 : v10827 A (ix2 0 c) = Lf A (64 * 3 + c.val / 4) (4 * 3 + c.val % 4) * toBase2 :=
  lses A 3 3 768 inb_S4x1x1536_S1x1x256_3_0_768 (by decide) (by decide) (by decide) c

theorem doeff_3_3 : v10897 A (ix2 c d) = GEF A (64 * 3 + c.val / 4) (4 * 3 + c.val % 4) d := by
  rw [show (v10897 A) = scaleRows (extf .bf16 (v10755 A) bitsLt_fp8e5m2_bf16) (heads16 (gsc A (k0_off53_inb A.i)) (gsc A (k0_off54_inb A.i)) (gsc A (k0_off55_inb A.i)) (gsc A (k0_off56_inb A.i))) from rfl]
  exact tile_doeff A 3 3 1 rfl _ _ _ _ _ (dt_3_3 A) (g_sca A 1 12 _) (g_sca A 1 13 _) (g_sca A 1 14 _) (g_sca A 1 15 _) c d

theorem cq_3_3 : v10942 A (ix2 0 c) = qsF A 1 (4 * 3 + c.val % 4) * smTwo := by
  rw [show (v10942 A) = headsTwo (qsc A (k0_off53_inb A.i)) (qsc A (k0_off54_inb A.i)) (qsc A (k0_off55_inb A.i)) (qsc A (k0_off56_inb A.i)) from rfl]
  exact tile_cq A 3 1 _ _ _ _ (q_sca A 1 12 _) (q_sca A 1 13 _) (q_sca A 1 14 _) (q_sca A 1 15 _) c

theorem s_3_3 (j : Fin 256) (c : Fin 256) : v10906 A (ix2 j c) = SF A 3 (64 * 3 + c.val / 4) (c.val % 4) (0 + j.val) := by
  rw [show (v10906 A) = matmul dot_S256x128_S256x128_S256x256_1_1_0_0_n_n none (extractStridedSlice S256x128 ![0, 0] (v9683 A) slices_S384x128_o0_0_S256x128) (v10750 A) (constant S256x256 .f32 0x00000000#32) from rfl]
  exact (score4 _ _ 0 _ (by decide) j c).trans (Finset.sum_congr rfl fun d _ => congrArg₂ (· * ·) (kg_3 A _ d) (qt_3_3 A c d))

theorem p_3_3_0 (r : Fin 64) (c : Fin 256) : v10950 A (ix2 r c) = PF A 3 (64 * 3 + c.val / 4) (c.val % 4) (64 * 0 + r.val) := by
  rw [show (v10950 A) = weights (extractStridedSlice S64x256 ![0, 0] (v10906 A) slices_S256x256_o0_0_S64x256) (v10942 A) (v9687 A) (v10827 A) from rfl]
  exact tile_full A 3 3 0 1 0 rfl rfl _ _ _ _ (cutSF (s_3_3 A)) (cq_3_3 A) (k_sca A 0 3 _) (l2_3_3 A) (by decide) (by decide) r c

theorem p_3_3_1 (r : Fin 64) (c : Fin 256) : v10967 A (ix2 r c) = PF A 3 (64 * 3 + c.val / 4) (c.val % 4) (64 * 1 + r.val) := by
  rw [show (v10967 A) = weights (extractStridedSlice S64x256 ![64, 0] (v10906 A) slices_S256x256_o64_0_S64x256) (v10942 A) (v9687 A) (v10827 A) from rfl]
  exact tile_full A 3 3 1 1 0 rfl rfl _ _ _ _ (cutSF (s_3_3 A)) (cq_3_3 A) (k_sca A 0 3 _) (l2_3_3 A) (by decide) (by decide) r c

theorem p_3_3_2 (r : Fin 64) (c : Fin 256) : v10984 A (ix2 r c) = PF A 3 (64 * 3 + c.val / 4) (c.val % 4) (64 * 2 + r.val) := by
  rw [show (v10984 A) = weights (extractStridedSlice S64x256 ![128, 0] (v10906 A) slices_S256x256_o128_0_S64x256) (v10942 A) (v9689 A) (v10827 A) from rfl]
  exact tile_full A 3 3 2 1 1 rfl rfl _ _ _ _ (cutSF (s_3_3 A)) (cq_3_3 A) (k_sca A 1 3 _) (l2_3_3 A) (by decide) (by decide) r c

theorem p_3_3_3 (r : Fin 64) (c : Fin 256) : v11030 A (ix2 r c) = PF A 3 (64 * 3 + c.val / 4) (c.val % 4) (64 * 3 + r.val) := by
  rw [show (v11030 A) = maskDiag (weights (extractStridedSlice S64x256 ![192, 0] (v10906 A) slices_S256x256_o192_0_S64x256) (v10942 A) (v9689 A) (v10827 A)) from rfl]
  exact tile_diag A 3 3 3 1 1 rfl rfl _ _ _ _ (cutSF (s_3_3 A)) (cq_3_3 A) (k_sca A 1 3 _) (l2_3_3 A) rfl r c

def pa_3_3 : FVec Ideal S256x256 .bf16 :=
  concatenate S256x256 0 [⟨S64x256, (truncf .bf16 (v10950 A) bitsLt_bf16_f32)⟩, ⟨S64x256, (truncf .bf16 (v10967 A) bitsLt_bf16_f32)⟩, ⟨S64x256, (truncf .bf16 (v10984 A) bitsLt_bf16_f32)⟩, ⟨S64x256, (truncf .bf16 (v11030 A) bitsLt_bf16_f32)⟩] concatenates_S64x256_S64x256_S64x256_S64x256_S256x256_d0

theorem pall_3_3 (j : Fin 256) (c : Fin 256) : pa_3_3 A (ix2 j c) = PF A 3 (64 * 3 + c.val / 4) (c.val % 4) (0 + j.val) :=
  join4 _ _ _ _ (fun j c => PF A 3 (64 * 3 + c.val / 4) (c.val % 4) (0 + j)) (rowPF (p_3_3_0 A)) (rowPF (p_3_3_1 A)) (rowPF (p_3_3_2 A)) (rowPF (p_3_3_3 A)) _ j c

def dvn_3_3 : FVec Ideal S256x128 .f32 :=
  matmul dot_S256x256_S256x128_S256x128_1_0_0_1_n_n none (pa_3_3 A) (v10897 A) (constant S256x128 .f32 0x00000000#32)

theorem dvp_3_3 (j : Fin 256) (d : Fin 128) : dvn_3_3 A (ix2 j d) = DVF A 3 3 (0 + j.val) d :=
  (over4 _ _ j d).trans (Finset.sum_congr rfl fun c _ => congrArg₂ (· * ·) (pall_3_3 A j c) (doeff_3_3 A c d))

/-! ### Group 3, tokens from 256 -/

theorem qt_3_4 : v11132 A (ix2 c d) = Qf A (64 * 4 + c.val / 4) (4 * 3 + c.val % 4) d :=
  rowsQ A 3 4 4096 12 inb_S1x6144x128_S1x1024x128_0_4096_0 slices_S64x16x128_o0_12_0_S64x4x128 (by decide) (by decide) (by decide) c d

theorem dt_3_4 : v11137 A (ix2 c d) = Gf A (64 * 4 + c.val / 4) (4 * 3 + c.val % 4) d :=
  rowsG A 3 4 4096 12 inb_S1x6144x128_S1x1024x128_0_4096_0 slices_S64x16x128_o0_12_0_S64x4x128 (by decide) (by decide) (by decide) c d

theorem l2_3_4 : v11209 A (ix2 0 c) = Lf A (64 * 4 + c.val / 4) (4 * 3 + c.val % 4) * toBase2 :=
  lses A 3 4 1024 inb_S4x1x1536_S1x1x256_3_0_1024 (by decide) (by decide) (by decide) c

theorem doeff_3_4 : v11279 A (ix2 c d) = GEF A (64 * 4 + c.val / 4) (4 * 3 + c.val % 4) d := by
  rw [show (v11279 A) = scaleRows (extf .bf16 (v11137 A) bitsLt_fp8e5m2_bf16) (heads16 (gsc A (k0_off57_inb A.i)) (gsc A (k0_off58_inb A.i)) (gsc A (k0_off59_inb A.i)) (gsc A (k0_off60_inb A.i))) from rfl]
  exact tile_doeff A 3 4 2 rfl _ _ _ _ _ (dt_3_4 A) (g_sca A 2 12 _) (g_sca A 2 13 _) (g_sca A 2 14 _) (g_sca A 2 15 _) c d

theorem cq_3_4 : v11324 A (ix2 0 c) = qsF A 2 (4 * 3 + c.val % 4) * smTwo := by
  rw [show (v11324 A) = headsTwo (qsc A (k0_off57_inb A.i)) (qsc A (k0_off58_inb A.i)) (qsc A (k0_off59_inb A.i)) (qsc A (k0_off60_inb A.i)) from rfl]
  exact tile_cq A 3 2 _ _ _ _ (q_sca A 2 12 _) (q_sca A 2 13 _) (q_sca A 2 14 _) (q_sca A 2 15 _) c

theorem s_3_4 (j : Fin 320) (c : Fin 256) : v11288 A (ix2 j c) = SF A 3 (64 * 4 + c.val / 4) (c.val % 4) (0 + j.val) := by
  rw [show (v11288 A) = matmul dot_S320x128_S256x128_S320x256_1_1_0_0_n_n none (extractStridedSlice S320x128 ![0, 0] (v9683 A) slices_S384x128_o0_0_S320x128) (v11132 A) (constant S320x256 .f32 0x00000000#32) from rfl]
  exact (score5 _ _ 0 _ (by decide) j c).trans (Finset.sum_congr rfl fun d _ => congrArg₂ (· * ·) (kg_3 A _ d) (qt_3_4 A c d))

theorem p_3_4_0 (r : Fin 64) (c : Fin 256) : v11361 A (ix2 r c) = PF A 3 (64 * 4 + c.val / 4) (c.val % 4) (64 * 0 + r.val) := by
  rw [show (v11361 A) = maskEdge (weights (extractStridedSlice S64x256 ![0, 0] (v11288 A) slices_S320x256_o0_0_S64x256) (v11324 A) (v9687 A) (v11209 A)) from rfl]
  exact tile_edge A 3 4 0 2 0 rfl rfl _ _ _ _ (cutSF (s_3_4 A)) (cq_3_4 A) (k_sca A 0 3 _) (l2_3_4 A) rfl r c

theorem p_3_4_1 (r : Fin 64) (c : Fin 256) : v11378 A (ix2 r c) = PF A 3 (64 * 4 + c.val / 4) (c.val % 4) (64 * 1 + r.val) := by
  rw [show (v11378 A) = weights (extractStridedSlice S64x256 ![64, 0] (v11288 A) slices_S320x256_o64_0_S64x256) (v11324 A) (v9687 A) (v11209 A) from rfl]
  exact tile_full A 3 4 1 2 0 rfl rfl _ _ _ _ (cutSF (s_3_4 A)) (cq_3_4 A) (k_sca A 0 3 _) (l2_3_4 A) (by decide) (by decide) r c

theorem p_3_4_2 (r : Fin 64) (c : Fin 256) : v11395 A (ix2 r c) = PF A 3 (64 * 4 + c.val / 4) (c.val % 4) (64 * 2 + r.val) := by
  rw [show (v11395 A) = weights (extractStridedSlice S64x256 ![128, 0] (v11288 A) slices_S320x256_o128_0_S64x256) (v11324 A) (v9689 A) (v11209 A) from rfl]
  exact tile_full A 3 4 2 2 1 rfl rfl _ _ _ _ (cutSF (s_3_4 A)) (cq_3_4 A) (k_sca A 1 3 _) (l2_3_4 A) (by decide) (by decide) r c

theorem p_3_4_3 (r : Fin 64) (c : Fin 256) : v11412 A (ix2 r c) = PF A 3 (64 * 4 + c.val / 4) (c.val % 4) (64 * 3 + r.val) := by
  rw [show (v11412 A) = weights (extractStridedSlice S64x256 ![192, 0] (v11288 A) slices_S320x256_o192_0_S64x256) (v11324 A) (v9689 A) (v11209 A) from rfl]
  exact tile_full A 3 4 3 2 1 rfl rfl _ _ _ _ (cutSF (s_3_4 A)) (cq_3_4 A) (k_sca A 1 3 _) (l2_3_4 A) (by decide) (by decide) r c

theorem p_3_4_4 (r : Fin 64) (c : Fin 256) : v11458 A (ix2 r c) = PF A 3 (64 * 4 + c.val / 4) (c.val % 4) (64 * 4 + r.val) := by
  rw [show (v11458 A) = maskDiag (weights (extractStridedSlice S64x256 ![256, 0] (v11288 A) slices_S320x256_o256_0_S64x256) (v11324 A) (v9691 A) (v11209 A)) from rfl]
  exact tile_diag A 3 4 4 2 2 rfl rfl _ _ _ _ (cutSF (s_3_4 A)) (cq_3_4 A) (k_sca A 2 3 _) (l2_3_4 A) rfl r c

theorem pall_3_4 (j : Fin 320) (c : Fin 256) : v11468 A (ix2 j c) = PF A 3 (64 * 4 + c.val / 4) (c.val % 4) (0 + j.val) := by
  rw [show (v11468 A) = concatenate S320x256 0 [⟨S64x256, (truncf .bf16 (v11361 A) bitsLt_bf16_f32)⟩, ⟨S64x256, (truncf .bf16 (v11378 A) bitsLt_bf16_f32)⟩, ⟨S64x256, (truncf .bf16 (v11395 A) bitsLt_bf16_f32)⟩, ⟨S64x256, (truncf .bf16 (v11412 A) bitsLt_bf16_f32)⟩, ⟨S64x256, (truncf .bf16 (v11458 A) bitsLt_bf16_f32)⟩] concatenates_S64x256_S64x256_S64x256_S64x256_S64x256_S320x256_d0 from rfl]
  exact join5 _ _ _ _ _ (fun j c => PF A 3 (64 * 4 + c.val / 4) (c.val % 4) (0 + j)) (rowPF (p_3_4_0 A)) (rowPF (p_3_4_1 A)) (rowPF (p_3_4_2 A)) (rowPF (p_3_4_3 A)) (rowPF (p_3_4_4 A)) _ j c

theorem dvp_3_4 (j : Fin 320) (d : Fin 128) : v11470 A (ix2 j d) = DVF A 3 4 (0 + j.val) d := by
  rw [show (v11470 A) = matmul dot_S320x256_S256x128_S320x128_1_0_0_1_n_n none (v11468 A) (v11279 A) (constant S320x128 .f32 0x00000000#32) from rfl]
  exact (over5 _ _ j d).trans (Finset.sum_congr rfl fun c _ => congrArg₂ (· * ·) (pall_3_4 A j c) (doeff_3_4 A c d))

/-! ### Group 3, tokens from 320 -/

theorem qt_3_5 : v11564 A (ix2 c d) = Qf A (64 * 5 + c.val / 4) (4 * 3 + c.val % 4) d :=
  rowsQ A 3 5 5120 12 inb_S1x6144x128_S1x1024x128_0_5120_0 slices_S64x16x128_o0_12_0_S64x4x128 (by decide) (by decide) (by decide) c d

theorem dt_3_5 : v11569 A (ix2 c d) = Gf A (64 * 5 + c.val / 4) (4 * 3 + c.val % 4) d :=
  rowsG A 3 5 5120 12 inb_S1x6144x128_S1x1024x128_0_5120_0 slices_S64x16x128_o0_12_0_S64x4x128 (by decide) (by decide) (by decide) c d

theorem l2_3_5 : v11641 A (ix2 0 c) = Lf A (64 * 5 + c.val / 4) (4 * 3 + c.val % 4) * toBase2 :=
  lses A 3 5 1280 inb_S4x1x1536_S1x1x256_3_0_1280 (by decide) (by decide) (by decide) c

theorem doeff_3_5 : v11711 A (ix2 c d) = GEF A (64 * 5 + c.val / 4) (4 * 3 + c.val % 4) d := by
  rw [show (v11711 A) = scaleRows (extf .bf16 (v11569 A) bitsLt_fp8e5m2_bf16) (heads16 (gsc A (k0_off57_inb A.i)) (gsc A (k0_off58_inb A.i)) (gsc A (k0_off59_inb A.i)) (gsc A (k0_off60_inb A.i))) from rfl]
  exact tile_doeff A 3 5 2 rfl _ _ _ _ _ (dt_3_5 A) (g_sca A 2 12 _) (g_sca A 2 13 _) (g_sca A 2 14 _) (g_sca A 2 15 _) c d

theorem cq_3_5 : v11756 A (ix2 0 c) = qsF A 2 (4 * 3 + c.val % 4) * smTwo := by
  rw [show (v11756 A) = headsTwo (qsc A (k0_off57_inb A.i)) (qsc A (k0_off58_inb A.i)) (qsc A (k0_off59_inb A.i)) (qsc A (k0_off60_inb A.i)) from rfl]
  exact tile_cq A 3 2 _ _ _ _ (q_sca A 2 12 _) (q_sca A 2 13 _) (q_sca A 2 14 _) (q_sca A 2 15 _) c

theorem s_3_5 (j : Fin 320) (c : Fin 256) : v11720 A (ix2 j c) = SF A 3 (64 * 5 + c.val / 4) (c.val % 4) (64 + j.val) := by
  rw [show (v11720 A) = matmul dot_S320x128_S256x128_S320x256_1_1_0_0_n_n none (extractStridedSlice S320x128 ![64, 0] (v9683 A) slices_S384x128_o64_0_S320x128) (v11564 A) (constant S320x256 .f32 0x00000000#32) from rfl]
  exact (score5 _ _ 64 _ (by decide) j c).trans (Finset.sum_congr rfl fun d _ => congrArg₂ (· * ·) (kg_3 A _ d) (qt_3_5 A c d))

theorem p_3_5_1 (r : Fin 64) (c : Fin 256) : v11793 A (ix2 r c) = PF A 3 (64 * 5 + c.val / 4) (c.val % 4) (64 * 1 + r.val) := by
  rw [show (v11793 A) = maskEdge (weights (extractStridedSlice S64x256 ![0, 0] (v11720 A) slices_S320x256_o0_0_S64x256) (v11756 A) (v9687 A) (v11641 A)) from rfl]
  exact tile_edge A 3 5 1 2 0 rfl rfl _ _ _ _ (cutSF (s_3_5 A)) (cq_3_5 A) (k_sca A 0 3 _) (l2_3_5 A) rfl r c

theorem p_3_5_2 (r : Fin 64) (c : Fin 256) : v11810 A (ix2 r c) = PF A 3 (64 * 5 + c.val / 4) (c.val % 4) (64 * 2 + r.val) := by
  rw [show (v11810 A) = weights (extractStridedSlice S64x256 ![64, 0] (v11720 A) slices_S320x256_o64_0_S64x256) (v11756 A) (v9689 A) (v11641 A) from rfl]
  exact tile_full A 3 5 2 2 1 rfl rfl _ _ _ _ (cutSF (s_3_5 A)) (cq_3_5 A) (k_sca A 1 3 _) (l2_3_5 A) (by decide) (by decide) r c

theorem p_3_5_3 (r : Fin 64) (c : Fin 256) : v11827 A (ix2 r c) = PF A 3 (64 * 5 + c.val / 4) (c.val % 4) (64 * 3 + r.val) := by
  rw [show (v11827 A) = weights (extractStridedSlice S64x256 ![128, 0] (v11720 A) slices_S320x256_o128_0_S64x256) (v11756 A) (v9689 A) (v11641 A) from rfl]
  exact tile_full A 3 5 3 2 1 rfl rfl _ _ _ _ (cutSF (s_3_5 A)) (cq_3_5 A) (k_sca A 1 3 _) (l2_3_5 A) (by decide) (by decide) r c

theorem p_3_5_4 (r : Fin 64) (c : Fin 256) : v11844 A (ix2 r c) = PF A 3 (64 * 5 + c.val / 4) (c.val % 4) (64 * 4 + r.val) := by
  rw [show (v11844 A) = weights (extractStridedSlice S64x256 ![192, 0] (v11720 A) slices_S320x256_o192_0_S64x256) (v11756 A) (v9691 A) (v11641 A) from rfl]
  exact tile_full A 3 5 4 2 2 rfl rfl _ _ _ _ (cutSF (s_3_5 A)) (cq_3_5 A) (k_sca A 2 3 _) (l2_3_5 A) (by decide) (by decide) r c

def pn_3_5_5 : FVec Ideal S64x256 .f32 :=
  maskDiag (weights (extractStridedSlice S64x256 ![256, 0] (v11720 A) slices_S320x256_o256_0_S64x256) (v11756 A) (v9691 A) (v11641 A))

theorem p_3_5_5 (r : Fin 64) (c : Fin 256) : pn_3_5_5 A (ix2 r c) = PF A 3 (64 * 5 + c.val / 4) (c.val % 4) (64 * 5 + r.val) :=
  tile_diag A 3 5 5 2 2 rfl rfl _ _ _ _ (cutSF (s_3_5 A)) (cq_3_5 A) (k_sca A 2 3 _) (l2_3_5 A) rfl r c

def pa_3_5 : FVec Ideal S320x256 .bf16 :=
  concatenate S320x256 0 [⟨S64x256, (truncf .bf16 (v11793 A) bitsLt_bf16_f32)⟩, ⟨S64x256, (truncf .bf16 (v11810 A) bitsLt_bf16_f32)⟩, ⟨S64x256, (truncf .bf16 (v11827 A) bitsLt_bf16_f32)⟩, ⟨S64x256, (truncf .bf16 (v11844 A) bitsLt_bf16_f32)⟩, ⟨S64x256, (truncf .bf16 (pn_3_5_5 A) bitsLt_bf16_f32)⟩] concatenates_S64x256_S64x256_S64x256_S64x256_S64x256_S320x256_d0

theorem pall_3_5 (j : Fin 320) (c : Fin 256) : pa_3_5 A (ix2 j c) = PF A 3 (64 * 5 + c.val / 4) (c.val % 4) (64 + j.val) :=
  join5 _ _ _ _ _ (fun j c => PF A 3 (64 * 5 + c.val / 4) (c.val % 4) (64 + j)) (rowPF (p_3_5_1 A)) (rowPF (p_3_5_2 A)) (rowPF (p_3_5_3 A)) (rowPF (p_3_5_4 A)) (rowPF (p_3_5_5 A)) _ j c

def dvn_3_5 : FVec Ideal S320x128 .f32 :=
  matmul dot_S320x256_S256x128_S320x128_1_0_0_1_n_n none (pa_3_5 A) (v11711 A) (constant S320x128 .f32 0x00000000#32)

theorem dvp_3_5 (j : Fin 320) (d : Fin 128) : dvn_3_5 A (ix2 j d) = DVF A 3 5 (64 + j.val) d :=
  (over5 _ _ j d).trans (Finset.sum_congr rfl fun c _ => congrArg₂ (· * ·) (pall_3_5 A j c) (doeff_3_5 A c d))

theorem dvacc_3_0_0 (r : Fin 64) (d : Fin 128) : v9973 A (ix2 r d) = DVT A 3 0 0 r d :=
  one_tile (dvp_3_0 A)

theorem dvacc_3_0_1 (r : Fin 64) (d : Fin 128) : v10310 A (ix2 r d) = DVT A 3 0 1 r d := by
  rw [show (v10310 A) = addf (F := Ideal) (φ := .f32) (v9973 A) (extractStridedSlice S64x128 ![0, 0] (v10307 A) slices_S128x128_o0_0_S64x128) from rfl]
  exact add_tile (dvacc_3_0_0 A r d) (dvp_3_1 A)

theorem dvacc_3_0_2 (r : Fin 64) (d : Fin 128) : v10667 A (ix2 r d) = DVT A 3 0 2 r d := by
  rw [show (v10667 A) = addf (F := Ideal) (φ := .f32) (v10310 A) (extractStridedSlice S64x128 ![0, 0] (dvn_3_2 A) slices_S192x128_o0_0_S64x128) from rfl]
  exact add_tile (dvacc_3_0_1 A r d) (dvp_3_2 A)

theorem dvacc_3_0_3 (r : Fin 64) (d : Fin 128) : v11045 A (ix2 r d) = DVT A 3 0 3 r d := by
  rw [show (v11045 A) = addf (F := Ideal) (φ := .f32) (v10667 A) (extractStridedSlice S64x128 ![0, 0] (dvn_3_3 A) slices_S256x128_o0_0_S64x128) from rfl]
  exact add_tile (dvacc_3_0_2 A r d) (dvp_3_3 A)

theorem dvacc_3_0_4 (r : Fin 64) (d : Fin 128) : v11473 A (ix2 r d) = DVT A 3 0 4 r d := by
  rw [show (v11473 A) = addf (F := Ideal) (φ := .f32) (v11045 A) (extractStridedSlice S64x128 ![0, 0] (v11470 A) slices_S320x128_o0_0_S64x128) from rfl]
  exact add_tile (dvacc_3_0_3 A r d) (dvp_3_4 A)

theorem dvacc_3_1_1 (r : Fin 64) (d : Fin 128) : v10313 A (ix2 r d) = DVT A 3 1 0 r d := by
  rw [show (v10313 A) = (extractStridedSlice S64x128 ![64, 0] (v10307 A) slices_S128x128_o64_0_S64x128) from rfl]
  exact (first_tile (dvp_3_1 A))

theorem dvacc_3_1_2 (r : Fin 64) (d : Fin 128) : v10671 A (ix2 r d) = DVT A 3 1 1 r d := by
  rw [show (v10671 A) = addf (F := Ideal) (φ := .f32) (v10313 A) (extractStridedSlice S64x128 ![64, 0] (dvn_3_2 A) slices_S192x128_o64_0_S64x128) from rfl]
  exact add_tile (dvacc_3_1_1 A r d) (dvp_3_2 A)

theorem dvacc_3_1_3 (r : Fin 64) (d : Fin 128) : v11049 A (ix2 r d) = DVT A 3 1 2 r d := by
  rw [show (v11049 A) = addf (F := Ideal) (φ := .f32) (v10671 A) (extractStridedSlice S64x128 ![64, 0] (dvn_3_3 A) slices_S256x128_o64_0_S64x128) from rfl]
  exact add_tile (dvacc_3_1_2 A r d) (dvp_3_3 A)

theorem dvacc_3_1_4 (r : Fin 64) (d : Fin 128) : v11477 A (ix2 r d) = DVT A 3 1 3 r d := by
  rw [show (v11477 A) = addf (F := Ideal) (φ := .f32) (v11049 A) (extractStridedSlice S64x128 ![64, 0] (v11470 A) slices_S320x128_o64_0_S64x128) from rfl]
  exact add_tile (dvacc_3_1_3 A r d) (dvp_3_4 A)

theorem dvacc_3_1_5 (r : Fin 64) (d : Fin 128) : v11905 A (ix2 r d) = DVT A 3 1 4 r d := by
  rw [show (v11905 A) = addf (F := Ideal) (φ := .f32) (v11477 A) (extractStridedSlice S64x128 ![0, 0] (dvn_3_5 A) slices_S320x128_o0_0_S64x128) from rfl]
  exact add_tile (dvacc_3_1_4 A r d) (dvp_3_5 A)

theorem dvacc_3_2_2 (r : Fin 64) (d : Fin 128) : v10674 A (ix2 r d) = DVT A 3 2 0 r d := by
  rw [show (v10674 A) = (extractStridedSlice S64x128 ![128, 0] (dvn_3_2 A) slices_S192x128_o128_0_S64x128) from rfl]
  exact (first_tile (dvp_3_2 A))

theorem dvacc_3_2_3 (r : Fin 64) (d : Fin 128) : v11053 A (ix2 r d) = DVT A 3 2 1 r d := by
  rw [show (v11053 A) = addf (F := Ideal) (φ := .f32) (v10674 A) (extractStridedSlice S64x128 ![128, 0] (dvn_3_3 A) slices_S256x128_o128_0_S64x128) from rfl]
  exact add_tile (dvacc_3_2_2 A r d) (dvp_3_3 A)

theorem dvacc_3_2_4 (r : Fin 64) (d : Fin 128) : v11481 A (ix2 r d) = DVT A 3 2 2 r d := by
  rw [show (v11481 A) = addf (F := Ideal) (φ := .f32) (v11053 A) (extractStridedSlice S64x128 ![128, 0] (v11470 A) slices_S320x128_o128_0_S64x128) from rfl]
  exact add_tile (dvacc_3_2_3 A r d) (dvp_3_4 A)

theorem dvacc_3_2_5 (r : Fin 64) (d : Fin 128) : v11909 A (ix2 r d) = DVT A 3 2 3 r d := by
  rw [show (v11909 A) = addf (F := Ideal) (φ := .f32) (v11481 A) (extractStridedSlice S64x128 ![64, 0] (dvn_3_5 A) slices_S320x128_o64_0_S64x128) from rfl]
  exact add_tile (dvacc_3_2_4 A r d) (dvp_3_5 A)

theorem dvacc_3_3_3 (r : Fin 64) (d : Fin 128) : v11056 A (ix2 r d) = DVT A 3 3 0 r d := by
  rw [show (v11056 A) = (extractStridedSlice S64x128 ![192, 0] (dvn_3_3 A) slices_S256x128_o192_0_S64x128) from rfl]
  exact (first_tile (dvp_3_3 A))

theorem dvacc_3_3_4 (r : Fin 64) (d : Fin 128) : v11485 A (ix2 r d) = DVT A 3 3 1 r d := by
  rw [show (v11485 A) = addf (F := Ideal) (φ := .f32) (v11056 A) (extractStridedSlice S64x128 ![192, 0] (v11470 A) slices_S320x128_o192_0_S64x128) from rfl]
  exact add_tile (dvacc_3_3_3 A r d) (dvp_3_4 A)

theorem dvacc_3_3_5 (r : Fin 64) (d : Fin 128) : v11913 A (ix2 r d) = DVT A 3 3 2 r d := by
  rw [show (v11913 A) = addf (F := Ideal) (φ := .f32) (v11485 A) (extractStridedSlice S64x128 ![128, 0] (dvn_3_5 A) slices_S320x128_o128_0_S64x128) from rfl]
  exact add_tile (dvacc_3_3_4 A r d) (dvp_3_5 A)

theorem dvacc_3_4_4 (r : Fin 64) (d : Fin 128) : v11488 A (ix2 r d) = DVT A 3 4 0 r d := by
  rw [show (v11488 A) = (extractStridedSlice S64x128 ![256, 0] (v11470 A) slices_S320x128_o256_0_S64x128) from rfl]
  exact (first_tile (dvp_3_4 A))

theorem dvacc_3_4_5 (r : Fin 64) (d : Fin 128) : v11917 A (ix2 r d) = DVT A 3 4 1 r d := by
  rw [show (v11917 A) = addf (F := Ideal) (φ := .f32) (v11488 A) (extractStridedSlice S64x128 ![192, 0] (dvn_3_5 A) slices_S320x128_o192_0_S64x128) from rfl]
  exact add_tile (dvacc_3_4_4 A r d) (dvp_3_5 A)

theorem dvacc_3_5_5 (r : Fin 64) (d : Fin 128) : v11920 A (ix2 r d) = DVT A 3 5 0 r d := by
  rw [show (v11920 A) = (extractStridedSlice S64x128 ![256, 0] (dvn_3_5 A) slices_S320x128_o256_0_S64x128) from rfl]
  exact (first_tile (dvp_3_5 A))

end Cert.KernelIdeal.Hand
-- ==== Proof.Exact.Grads3.lean ====
/- Head group 3: the score gradients, the query gradient and the key gradient's sums, tile by tile, by the lemmas of one tile. -/
module

public import proofs.«01_k».proof.Proof.Exact.Weights3

@[expose] public section

set_option maxRecDepth 16384

noncomputable section

namespace Cert.KernelIdeal.Hand

open Cert.KernelIdeal.Gen Idealize.ShloMosaic
open bodyRun.sl

variable (A : Pack Ideal) (c : Fin 256) (d : Fin 128)

theorem vg_3 (j : Fin 384) (d : Fin 128) : v9685 A (ix2 j d) = Vf A j.val 3 d :=
  keysV A 3 inb_S4x384x128_S1x384x128_3_0_0 (by decide) j d

theorem keff_3 (d : Fin 128) (j : Fin 384) : v9715 A (ix2 d j) = KEF A j.val 3 d := by
  rw [show (v9715 A) = scaledKeys (F := Ideal) (v9683 A) (Scalar.mulf (F := Ideal) (φ := .f32) (v9687 A) (v9693 A)) (Scalar.mulf (F := Ideal) (φ := .f32) (v9689 A) (v9695 A)) (Scalar.mulf (F := Ideal) (φ := .f32) (v9691 A) (v9697 A)) from rfl]
  exact (scaledKeys_apply _ _ _ _ (fun b => ksF A b 3 * vsF A b 3) (congrArg₂ (· * ·) (k_sca A 0 3 _) (v_sca A 0 3 _)) (congrArg₂ (· * ·) (k_sca A 1 3 _) (v_sca A 1 3 _)) (congrArg₂ (· * ·) (k_sca A 2 3 _) (v_sca A 2 3 _)) d j).trans (congrArg (· * _) (kg_3 A j d))

/-! ### Group 3, tokens from 0 -/

theorem ob_3_0 : v9759 A (ix2 c d) = Of A (64 * 0 + c.val / 4) (4 * 3 + c.val % 4) d := by
  have e : v9759 A = joinPairs (A.arg17.view.readCov (Val := Elt Ideal) (outPiece A 1 7 inb_S128x2x128_S64x2x128_1_0_0_s_2_1_1 inb_S1x3072x2x128_S1x64x2x128_0_7_0_0_s_1_8_1_1
    :: outPiece A 0 6 inb_S128x2x128_S64x2x128_0_0_0_s_2_1_1 inb_S1x3072x2x128_S1x64x2x128_0_6_0_0_s_1_8_1_1 :: (HS3_36 A))
    (Rect.unit (s := S128x2x128) ![0, 0, 0] S128x2x128.size inb_S128x2x128_S128x2x128_0_0_0).toLoadRect) := rfl
  rw [e]
  exact tile_out A 3 0 6 7 (by decide) (by decide) _ _ _ _ _ _ _ _ c d

theorem delta_3_0 : v9811 A (ix2 0 c) = DLF A (64 * 0 + c.val / 4) (4 * 3 + c.val % 4) := by
  rw [show (v9811 A) = rowDots (F := Ideal) (v9760 A) (v9759 A) from rfl]
  exact tile_delta A 3 0 _ _ (dt_3_0 A) (ob_3_0 A) c

theorem qeff_3_0 : v9890 A (ix2 c d) = QEF A (64 * 0 + c.val / 4) (4 * 3 + c.val % 4) d := by
  rw [show (v9890 A) = scaleRows (extf .bf16 (v9736 A) bitsLt_fp8e4m3_bf16) (headsBoth (qsc A (k0_off49_inb A.i)) (qsc A (k0_off50_inb A.i)) (qsc A (k0_off51_inb A.i)) (qsc A (k0_off52_inb A.i)) (gsc A (k0_off49_inb A.i)) (gsc A (k0_off50_inb A.i)) (gsc A (k0_off51_inb A.i)) (gsc A (k0_off52_inb A.i))) from rfl]
  exact tile_qeff A 3 0 0 rfl _ _ _ _ _ _ _ _ _ (qt_3_0 A) (q_sca A 0 12 _) (q_sca A 0 13 _) (q_sca A 0 14 _) (q_sca A 0 15 _) (g_sca A 0 12 _) (g_sca A 0 13 _) (g_sca A 0 14 _) (g_sca A 0 15 _) c d

theorem dp_3_0 (j : Fin 64) (c : Fin 256) : v9894 A (ix2 j c) = DPF A 3 (64 * 0 + c.val / 4) (c.val % 4) (0 + j.val) := by
  rw [show (v9894 A) = matmul dot_S64x128_S256x128_S64x256_1_1_0_0_n_n none (extractStridedSlice S64x128 ![0, 0] (v9685 A) slices_S384x128_o0_0_S64x128) (v9741 A) (constant S64x256 .f32 0x00000000#32) from rfl]
  exact (score1 _ _ 0 _ (by decide) j c).trans (Finset.sum_congr rfl fun d _ => congrArg₂ (· * ·) (vg_3 A _ d) (dt_3_0 A c d))

theorem ds_3_0_0 (r : Fin 64) (c : Fin 256) : v9970 A (ix2 r c) = GF A 3 (64 * 0 + c.val / 4) (c.val % 4) (64 * 0 + r.val) := by
  rw [show (v9970 A) = grads (v9964 A) (v9894 A) (v9811 A) (v9693 A) from rfl]
  exact tile_grads A 3 0 0 0 rfl _ _ _ _ (p_3_0_0 A) (fun r c => (dp_3_0 A r c).trans (congrArg (DPF A 3 _ _) (by omega))) (delta_3_0 A) (v_sca A 0 3 _) r c

theorem dsall_3_0 (j : Fin 64) (c : Fin 256) : v9972 A (ix2 j c) = GF A 3 (64 * 0 + c.val / 4) (c.val % 4) (0 + j.val) := by
  rw [show (v9972 A) = (truncf .bf16 (v9970 A) bitsLt_bf16_f32) from rfl]
  exact (ds_3_0_0 A j c).trans (congrArg (GF A 3 _ _) (by omega))

theorem dkp_3_0 (j : Fin 64) (d : Fin 128) : v9974 A (ix2 j d) = DKF A 3 0 (0 + j.val) d := by
  rw [show (v9974 A) = matmul dot_S64x256_S256x128_S64x128_1_0_0_1_n_n none (v9972 A) (v9890 A) (constant S64x128 .f32 0x00000000#32) from rfl]
  exact (over1 _ _ j d).trans (Finset.sum_congr rfl fun c _ => congrArg₂ (· * ·) (dsall_3_0 A j c) (qeff_3_0 A c d))

def dqmn_3_0 : FVec Ideal S128x256 .f32 :=
  matmul dot_S128x64_S64x256_S128x256_1_0_0_1_n_n none (extractStridedSlice S128x64 ![0, 0] (v9715 A) slices_S128x384_o0_0_S128x64) (v9972 A) (constant S128x256 .f32 0x00000000#32)

theorem dqm_3_0 (d : Fin 128) (c : Fin 256) : dqmn_3_0 A (ix2 d c) = ∑ j : Fin 384, KEF A j.val 3 d * GF A 3 (64 * 0 + c.val / 4) (c.val % 4) j.val :=
  (keys1 _ _ 0 _ (by decide) d c).trans ((Finset.sum_congr rfl fun j _ => congrArg₂ (· * ·) (keff_3 A d _) (dsall_3_0 A j c)).trans
    (sum_keys (fun j => KEF A j 3 d * GF A 3 (64 * 0 + c.val / 4) (c.val % 4) j) 0 64 (by decide) fun j hj hn => (congrArg (_ * ·) (GF_zero A 3 _ _ j (by omega))).trans (mul_zero _)))

def dqsn_3_0 : FVec Ideal S1x256 .f32 :=
  headsOne (gsc A (k0_off49_inb A.i)) (gsc A (k0_off50_inb A.i)) (gsc A (k0_off51_inb A.i)) (gsc A (k0_off52_inb A.i))

theorem dqs_3_0 : dqsn_3_0 A (ix2 0 c) = gsF A 0 (4 * 3 + c.val % 4) * smE :=
  tile_dq A 3 0 _ _ _ _ (g_sca A 0 12 _) (g_sca A 0 13 _) (g_sca A 0 14 _) (g_sca A 0 15 _) c

def dqtn_3_0 : FVec Ideal S256x128 .bf16 :=
  scaledQ (F := Ideal) (dqmn_3_0 A) (dqsn_3_0 A)

theorem dqt_3_0 : dqtn_3_0 A (ix2 c d) = DQ A 3 (64 * 0 + c.val / 4) (c.val % 4) d :=
  (scaledQ_apply _ _ c d).trans (congrArg₂ (· * ·) (dqm_3_0 A d c) ((dqs_3_0 A c).trans (congrArg (fun b => gsF A b (4 * 3 + c.val % 4) * smE) (by omega))))

/-! ### Group 3, tokens from 64 -/

theorem ob_3_1 : v10072 A (ix2 c d) = Of A (64 * 1 + c.val / 4) (4 * 3 + c.val % 4) d := by
  have e : v10072 A = joinPairs (A.arg17.view.readCov (Val := Elt Ideal) (outPiece A 1 519 inb_S128x2x128_S64x2x128_1_0_0_s_2_1_1 inb_S1x3072x2x128_S1x64x2x128_0_519_0_0_s_1_8_1_1
    :: outPiece A 0 518 inb_S128x2x128_S64x2x128_0_0_0_s_2_1_1 inb_S1x3072x2x128_S1x64x2x128_0_518_0_0_s_1_8_1_1 :: (HS3_38 A))
    (Rect.unit (s := S128x2x128) ![0, 0, 0] S128x2x128.size inb_S128x2x128_S128x2x128_0_0_0).toLoadRect) := rfl
  rw [e]
  exact tile_out A 3 1 518 519 (by decide) (by decide) _ _ _ _ _ _ _ _ c d

theorem delta_3_1 : v10124 A (ix2 0 c) = DLF A (64 * 1 + c.val / 4) (4 * 3 + c.val % 4) := by
  rw [show (v10124 A) = rowDots (F := Ideal) (v10073 A) (v10072 A) from rfl]
  exact tile_delta A 3 1 _ _ (dt_3_1 A) (ob_3_1 A) c

theorem qeff_3_1 : v10203 A (ix2 c d) = QEF A (64 * 1 + c.val / 4) (4 * 3 + c.val % 4) d := by
  rw [show (v10203 A) = scaleRows (extf .bf16 (v10049 A) bitsLt_fp8e4m3_bf16) (headsBoth (qsc A (k0_off49_inb A.i)) (qsc A (k0_off50_inb A.i)) (qsc A (k0_off51_inb A.i)) (qsc A (k0_off52_inb A.i)) (gsc A (k0_off49_inb A.i)) (gsc A (k0_off50_inb A.i)) (gsc A (k0_off51_inb A.i)) (gsc A (k0_off52_inb A.i))) from rfl]
  exact tile_qeff A 3 1 0 rfl _ _ _ _ _ _ _ _ _ (qt_3_1 A) (q_sca A 0 12 _) (q_sca A 0 13 _) (q_sca A 0 14 _) (q_sca A 0 15 _) (g_sca A 0 12 _) (g_sca A 0 13 _) (g_sca A 0 14 _) (g_sca A 0 15 _) c d

theorem dp_3_1 (j : Fin 128) (c : Fin 256) : v10207 A (ix2 j c) = DPF A 3 (64 * 1 + c.val / 4) (c.val % 4) (0 + j.val) := by
  rw [show (v10207 A) = matmul dot_S128x128_S256x128_S128x256_1_1_0_0_n_n none (extractStridedSlice S128x128 ![0, 0] (v9685 A) slices_S384x128_o0_0_S128x128) (v10054 A) (constant S128x256 .f32 0x00000000#32) from rfl]
  exact (score2 _ _ 0 _ (by decide) j c).trans (Finset.sum_congr rfl fun d _ => congrArg₂ (· * ·) (vg_3 A _ d) (dt_3_1 A c d))

def dsn_3_1_0 : FVec Ideal S64x256 .f32 :=
  grads (pn_3_1_0 A) (extractStridedSlice S64x256 ![0, 0] (v10207 A) slices_S128x256_o0_0_S64x256) (v10124 A) (v9693 A)

theorem ds_3_1_0 (r : Fin 64) (c : Fin 256) : dsn_3_1_0 A (ix2 r c) = GF A 3 (64 * 1 + c.val / 4) (c.val % 4) (64 * 0 + r.val) :=
  tile_grads A 3 1 0 0 rfl _ _ _ _ (p_3_1_0 A) (cutDPF (dp_3_1 A)) (delta_3_1 A) (v_sca A 0 3 _) r c

theorem ds_3_1_1 (r : Fin 64) (c : Fin 256) : v10302 A (ix2 r c) = GF A 3 (64 * 1 + c.val / 4) (c.val % 4) (64 * 1 + r.val) := by
  rw [show (v10302 A) = grads (v10295 A) (extractStridedSlice S64x256 ![64, 0] (v10207 A) slices_S128x256_o64_0_S64x256) (v10124 A) (v9693 A) from rfl]
  exact tile_grads A 3 1 1 0 rfl _ _ _ _ (p_3_1_1 A) (cutDPF (dp_3_1 A)) (delta_3_1 A) (v_sca A 0 3 _) r c

theorem dsall_3_1 (j : Fin 128) (c : Fin 256) : v10306 A (ix2 j c) = GF A 3 (64 * 1 + c.val / 4) (c.val % 4) (0 + j.val) := by
  rw [show (v10306 A) = concatenate S128x256 0 [⟨S64x256, (truncf .bf16 (dsn_3_1_0 A) bitsLt_bf16_f32)⟩, ⟨S64x256, (truncf .bf16 (v10302 A) bitsLt_bf16_f32)⟩] concatenates_S64x256_S64x256_S128x256_d0 from rfl]
  exact join2 _ _ (fun j c => GF A 3 (64 * 1 + c.val / 4) (c.val % 4) (0 + j)) (rowGF (ds_3_1_0 A)) (rowGF (ds_3_1_1 A)) _ j c

theorem dkp_3_1 (j : Fin 128) (d : Fin 128) : v10308 A (ix2 j d) = DKF A 3 1 (0 + j.val) d := by
  rw [show (v10308 A) = matmul dot_S128x256_S256x128_S128x128_1_0_0_1_n_n none (v10306 A) (v10203 A) (constant S128x128 .f32 0x00000000#32) from rfl]
  exact (over2 _ _ j d).trans (Finset.sum_congr rfl fun c _ => congrArg₂ (· * ·) (dsall_3_1 A j c) (qeff_3_1 A c d))

def dqmn_3_1 : FVec Ideal S128x256 .f32 :=
  matmul dot_S128x128_S128x256_S128x256_1_0_0_1_n_n none (extractStridedSlice S128x128 ![0, 0] (v9715 A) slices_S128x384_o0_0_S128x128) (v10306 A) (constant S128x256 .f32 0x00000000#32)

theorem dqm_3_1 (d : Fin 128) (c : Fin 256) : dqmn_3_1 A (ix2 d c) = ∑ j : Fin 384, KEF A j.val 3 d * GF A 3 (64 * 1 + c.val / 4) (c.val % 4) j.val :=
  (keys2 _ _ 0 _ (by decide) d c).trans ((Finset.sum_congr rfl fun j _ => congrArg₂ (· * ·) (keff_3 A d _) (dsall_3_1 A j c)).trans
    (sum_keys (fun j => KEF A j 3 d * GF A 3 (64 * 1 + c.val / 4) (c.val % 4) j) 0 128 (by decide) fun j hj hn => (congrArg (_ * ·) (GF_zero A 3 _ _ j (by omega))).trans (mul_zero _)))

def dqsn_3_1 : FVec Ideal S1x256 .f32 :=
  headsOne (gsc A (k0_off49_inb A.i)) (gsc A (k0_off50_inb A.i)) (gsc A (k0_off51_inb A.i)) (gsc A (k0_off52_inb A.i))

theorem dqs_3_1 : dqsn_3_1 A (ix2 0 c) = gsF A 0 (4 * 3 + c.val % 4) * smE :=
  tile_dq A 3 0 _ _ _ _ (g_sca A 0 12 _) (g_sca A 0 13 _) (g_sca A 0 14 _) (g_sca A 0 15 _) c

theorem dqt_3_1 : v10354 A (ix2 c d) = DQ A 3 (64 * 1 + c.val / 4) (c.val % 4) d := by
  rw [show (v10354 A) = scaledQ (F := Ideal) (dqmn_3_1 A) (dqsn_3_1 A) from rfl]
  exact (scaledQ_apply _ _ c d).trans (congrArg₂ (· * ·) (dqm_3_1 A d c) ((dqs_3_1 A c).trans (congrArg (fun b => gsF A b (4 * 3 + c.val % 4) * smE) (by omega))))

/-! ### Group 3, tokens from 128 -/

theorem ob_3_2 : v10412 A (ix2 c d) = Of A (64 * 2 + c.val / 4) (4 * 3 + c.val % 4) d := by
  have e : v10412 A = joinPairs (A.arg17.view.readCov (Val := Elt Ideal) (outPiece A 1 1031 inb_S128x2x128_S64x2x128_1_0_0_s_2_1_1 inb_S1x3072x2x128_S1x64x2x128_0_1031_0_0_s_1_8_1_1
    :: outPiece A 0 1030 inb_S128x2x128_S64x2x128_0_0_0_s_2_1_1 inb_S1x3072x2x128_S1x64x2x128_0_1030_0_0_s_1_8_1_1 :: (HS3_40 A))
    (Rect.unit (s := S128x2x128) ![0, 0, 0] S128x2x128.size inb_S128x2x128_S128x2x128_0_0_0).toLoadRect) := rfl
  rw [e]
  exact tile_out A 3 2 1030 1031 (by decide) (by decide) _ _ _ _ _ _ _ _ c d

theorem delta_3_2 : v10464 A (ix2 0 c) = DLF A (64 * 2 + c.val / 4) (4 * 3 + c.val % 4) := by
  rw [show (v10464 A) = rowDots (F := Ideal) (v10413 A) (v10412 A) from rfl]
  exact tile_delta A 3 2 _ _ (dt_3_2 A) (ob_3_2 A) c

theorem qeff_3_2 : v10543 A (ix2 c d) = QEF A (64 * 2 + c.val / 4) (4 * 3 + c.val % 4) d := by
  rw [show (v10543 A) = scaleRows (extf .bf16 (v10389 A) bitsLt_fp8e4m3_bf16) (headsBoth (qsc A (k0_off53_inb A.i)) (qsc A (k0_off54_inb A.i)) (qsc A (k0_off55_inb A.i)) (qsc A (k0_off56_inb A.i)) (gsc A (k0_off53_inb A.i)) (gsc A (k0_off54_inb A.i)) (gsc A (k0_off55_inb A.i)) (gsc A (k0_off56_inb A.i))) from rfl]
  exact tile_qeff A 3 2 1 rfl _ _ _ _ _ _ _ _ _ (qt_3_2 A) (q_sca A 1 12 _) (q_sca A 1 13 _) (q_sca A 1 14 _) (q_sca A 1 15 _) (g_sca A 1 12 _) (g_sca A 1 13 _) (g_sca A 1 14 _) (g_sca A 1 15 _) c d

theorem dp_3_2 (j : Fin 192) (c : Fin 256) : v10547 A (ix2 j c) = DPF A 3 (64 * 2 + c.val / 4) (c.val % 4) (0 + j.val) := by
  rw [show (v10547 A) = matmul dot_S192x128_S256x128_S192x256_1_1_0_0_n_n none (extractStridedSlice S192x128 ![0, 0] (v9685 A) slices_S384x128_o0_0_S192x128) (v10394 A) (constant S192x256 .f32 0x00000000#32) from rfl]
  exact (score3 _ _ 0 _ (by decide) j c).trans (Finset.sum_congr rfl fun d _ => congrArg₂ (· * ·) (vg_3 A _ d) (dt_3_2 A c d))

theorem ds_3_2_0 (r : Fin 64) (c : Fin 256) : v10596 A (ix2 r c) = GF A 3 (64 * 2 + c.val / 4) (c.val % 4) (64 * 0 + r.val) := by
  rw [show (v10596 A) = grads (v10589 A) (extractStridedSlice S64x256 ![0, 0] (v10547 A) slices_S192x256_o0_0_S64x256) (v10464 A) (v9693 A) from rfl]
  exact tile_grads A 3 2 0 0 rfl _ _ _ _ (p_3_2_0 A) (cutDPF (dp_3_2 A)) (delta_3_2 A) (v_sca A 0 3 _) r c

theorem ds_3_2_1 (r : Fin 64) (c : Fin 256) : v10613 A (ix2 r c) = GF A 3 (64 * 2 + c.val / 4) (c.val % 4) (64 * 1 + r.val) := by
  rw [show (v10613 A) = grads (v10606 A) (extractStridedSlice S64x256 ![64, 0] (v10547 A) slices_S192x256_o64_0_S64x256) (v10464 A) (v9693 A) from rfl]
  exact tile_grads A 3 2 1 0 rfl _ _ _ _ (p_3_2_1 A) (cutDPF (dp_3_2 A)) (delta_3_2 A) (v_sca A 0 3 _) r c

def dsn_3_2_2 : FVec Ideal S64x256 .f32 :=
  grads (pn_3_2_2 A) (extractStridedSlice S64x256 ![128, 0] (v10547 A) slices_S192x256_o128_0_S64x256) (v10464 A) (v9695 A)

theorem ds_3_2_2 (r : Fin 64) (c : Fin 256) : dsn_3_2_2 A (ix2 r c) = GF A 3 (64 * 2 + c.val / 4) (c.val % 4) (64 * 2 + r.val) :=
  tile_grads A 3 2 2 1 rfl _ _ _ _ (p_3_2_2 A) (cutDPF (dp_3_2 A)) (delta_3_2 A) (v_sca A 1 3 _) r c

def da_3_2 : FVec Ideal S192x256 .bf16 :=
  concatenate S192x256 0 [⟨S64x256, (truncf .bf16 (v10596 A) bitsLt_bf16_f32)⟩, ⟨S64x256, (truncf .bf16 (v10613 A) bitsLt_bf16_f32)⟩, ⟨S64x256, (truncf .bf16 (dsn_3_2_2 A) bitsLt_bf16_f32)⟩] concatenates_S64x256_S64x256_S64x256_S192x256_d0

theorem dsall_3_2 (j : Fin 192) (c : Fin 256) : da_3_2 A (ix2 j c) = GF A 3 (64 * 2 + c.val / 4) (c.val % 4) (0 + j.val) :=
  join3 _ _ _ (fun j c => GF A 3 (64 * 2 + c.val / 4) (c.val % 4) (0 + j)) (rowGF (ds_3_2_0 A)) (rowGF (ds_3_2_1 A)) (rowGF (ds_3_2_2 A)) _ j c

def dkn_3_2 : FVec Ideal S192x128 .f32 :=
  matmul dot_S192x256_S256x128_S192x128_1_0_0_1_n_n none (da_3_2 A) (v10543 A) (constant S192x128 .f32 0x00000000#32)

theorem dkp_3_2 (j : Fin 192) (d : Fin 128) : dkn_3_2 A (ix2 j d) = DKF A 3 2 (0 + j.val) d :=
  (over3 _ _ j d).trans (Finset.sum_congr rfl fun c _ => congrArg₂ (· * ·) (dsall_3_2 A j c) (qeff_3_2 A c d))

theorem dqm_3_2 (d : Fin 128) (c : Fin 256) : v10677 A (ix2 d c) = ∑ j : Fin 384, KEF A j.val 3 d * GF A 3 (64 * 2 + c.val / 4) (c.val % 4) j.val := by
  rw [show (v10677 A) = matmul dot_S128x192_S192x256_S128x256_1_0_0_1_n_n none (extractStridedSlice S128x192 ![0, 0] (v9715 A) slices_S128x384_o0_0_S128x192) (da_3_2 A) (constant S128x256 .f32 0x00000000#32) from rfl]
  exact (keys3 _ _ 0 _ (by decide) d c).trans ((Finset.sum_congr rfl fun j _ => congrArg₂ (· * ·) (keff_3 A d _) (dsall_3_2 A j c)).trans
    (sum_keys (fun j => KEF A j 3 d * GF A 3 (64 * 2 + c.val / 4) (c.val % 4) j) 0 192 (by decide) fun j hj hn => (congrArg (_ * ·) (GF_zero A 3 _ _ j (by omega))).trans (mul_zero _)))

theorem dqs_3_2 : v10711 A (ix2 0 c) = gsF A 1 (4 * 3 + c.val % 4) * smE := by
  rw [show (v10711 A) = headsOne (gsc A (k0_off53_inb A.i)) (gsc A (k0_off54_inb A.i)) (gsc A (k0_off55_inb A.i)) (gsc A (k0_off56_inb A.i)) from rfl]
  exact tile_dq A 3 1 _ _ _ _ (g_sca A 1 12 _) (g_sca A 1 13 _) (g_sca A 1 14 _) (g_sca A 1 15 _) c

theorem dqt_3_2 : v10715 A (ix2 c d) = DQ A 3 (64 * 2 + c.val / 4) (c.val % 4) d := by
  rw [show (v10715 A) = scaledQ (F := Ideal) (v10677 A) (v10711 A) from rfl]
  exact (scaledQ_apply _ _ c d).trans (congrArg₂ (· * ·) (dqm_3_2 A d c) ((dqs_3_2 A c).trans (congrArg (fun b => gsF A b (4 * 3 + c.val % 4) * smE) (by omega))))

/-! ### Group 3, tokens from 192 -/

theorem ob_3_3 : v10773 A (ix2 c d) = Of A (64 * 3 + c.val / 4) (4 * 3 + c.val % 4) d := by
  have e : v10773 A = joinPairs (A.arg17.view.readCov (Val := Elt Ideal) (outPiece A 1 1543 inb_S128x2x128_S64x2x128_1_0_0_s_2_1_1 inb_S1x3072x2x128_S1x64x2x128_0_1543_0_0_s_1_8_1_1
    :: outPiece A 0 1542 inb_S128x2x128_S64x2x128_0_0_0_s_2_1_1 inb_S1x3072x2x128_S1x64x2x128_0_1542_0_0_s_1_8_1_1 :: (HS3_42 A))
    (Rect.unit (s := S128x2x128) ![0, 0, 0] S128x2x128.size inb_S128x2x128_S128x2x128_0_0_0).toLoadRect) := rfl
  rw [e]
  exact tile_out A 3 3 1542 1543 (by decide) (by decide) _ _ _ _ _ _ _ _ c d

theorem delta_3_3 : v10825 A (ix2 0 c) = DLF A (64 * 3 + c.val / 4) (4 * 3 + c.val % 4) := by
  rw [show (v10825 A) = rowDots (F := Ideal) (v10774 A) (v10773 A) from rfl]
  exact tile_delta A 3 3 _ _ (dt_3_3 A) (ob_3_3 A) c

theorem qeff_3_3 : v10904 A (ix2 c d) = QEF A (64 * 3 + c.val / 4) (4 * 3 + c.val % 4) d := by
  rw [show (v10904 A) = scaleRows (extf .bf16 (v10750 A) bitsLt_fp8e4m3_bf16) (headsBoth (qsc A (k0_off53_inb A.i)) (qsc A (k0_off54_inb A.i)) (qsc A (k0_off55_inb A.i)) (qsc A (k0_off56_inb A.i)) (gsc A (k0_off53_inb A.i)) (gsc A (k0_off54_inb A.i)) (gsc A (k0_off55_inb A.i)) (gsc A (k0_off56_inb A.i))) from rfl]
  exact tile_qeff A 3 3 1 rfl _ _ _ _ _ _ _ _ _ (qt_3_3 A) (q_sca A 1 12 _) (q_sca A 1 13 _) (q_sca A 1 14 _) (q_sca A 1 15 _) (g_sca A 1 12 _) (g_sca A 1 13 _) (g_sca A 1 14 _) (g_sca A 1 15 _) c d

theorem dp_3_3 (j : Fin 256) (c : Fin 256) : v10908 A (ix2 j c) = DPF A 3 (64 * 3 + c.val / 4) (c.val % 4) (0 + j.val) := by
  rw [show (v10908 A) = matmul dot_S256x128_S256x128_S256x256_1_1_0_0_n_n none (extractStridedSlice S256x128 ![0, 0] (v9685 A) slices_S384x128_o0_0_S256x128) (v10755 A) (constant S256x256 .f32 0x00000000#32) from rfl]
  exact (score4 _ _ 0 _ (by decide) j c).trans (Finset.sum_congr rfl fun d _ => congrArg₂ (· * ·) (vg_3 A _ d) (dt_3_3 A c d))

theorem ds_3_3_0 (r : Fin 64) (c : Fin 256) : v10957 A (ix2 r c) = GF A 3 (64 * 3 + c.val / 4) (c.val % 4) (64 * 0 + r.val) := by
  rw [show (v10957 A) = grads (v10950 A) (extractStridedSlice S64x256 ![0, 0] (v10908 A) slices_S256x256_o0_0_S64x256) (v10825 A) (v9693 A) from rfl]
  exact tile_grads A 3 3 0 0 rfl _ _ _ _ (p_3_3_0 A) (cutDPF (dp_3_3 A)) (delta_3_3 A) (v_sca A 0 3 _) r c

theorem ds_3_3_1 (r : Fin 64) (c : Fin 256) : v10974 A (ix2 r c) = GF A 3 (64 * 3 + c.val / 4) (c.val % 4) (64 * 1 + r.val) := by
  rw [show (v10974 A) = grads (v10967 A) (extractStridedSlice S64x256 ![64, 0] (v10908 A) slices_S256x256_o64_0_S64x256) (v10825 A) (v9693 A) from rfl]
  exact tile_grads A 3 3 1 0 rfl _ _ _ _ (p_3_3_1 A) (cutDPF (dp_3_3 A)) (delta_3_3 A) (v_sca A 0 3 _) r c

theorem ds_3_3_2 (r : Fin 64) (c : Fin 256) : v10991 A (ix2 r c) = GF A 3 (64 * 3 + c.val / 4) (c.val % 4) (64 * 2 + r.val) := by
  rw [show (v10991 A) = grads (v10984 A) (extractStridedSlice S64x256 ![128, 0] (v10908 A) slices_S256x256_o128_0_S64x256) (v10825 A) (v9695 A) from rfl]
  exact tile_grads A 3 3 2 1 rfl _ _ _ _ (p_3_3_2 A) (cutDPF (dp_3_3 A)) (delta_3_3 A) (v_sca A 1 3 _) r c

theorem ds_3_3_3 (r : Fin 64) (c : Fin 256) : v11037 A (ix2 r c) = GF A 3 (64 * 3 + c.val / 4) (c.val % 4) (64 * 3 + r.val) := by
  rw [show (v11037 A) = grads (v11030 A) (extractStridedSlice S64x256 ![192, 0] (v10908 A) slices_S256x256_o192_0_S64x256) (v10825 A) (v9695 A) from rfl]
  exact tile_grads A 3 3 3 1 rfl _ _ _ _ (p_3_3_3 A) (cutDPF (dp_3_3 A)) (delta_3_3 A) (v_sca A 1 3 _) r c

def da_3_3 : FVec Ideal S256x256 .bf16 :=
  concatenate S256x256 0 [⟨S64x256, (truncf .bf16 (v10957 A) bitsLt_bf16_f32)⟩, ⟨S64x256, (truncf .bf16 (v10974 A) bitsLt_bf16_f32)⟩, ⟨S64x256, (truncf .bf16 (v10991 A) bitsLt_bf16_f32)⟩, ⟨S64x256, (truncf .bf16 (v11037 A) bitsLt_bf16_f32)⟩] concatenates_S64x256_S64x256_S64x256_S64x256_S256x256_d0

theorem dsall_3_3 (j : Fin 256) (c : Fin 256) : da_3_3 A (ix2 j c) = GF A 3 (64 * 3 + c.val / 4) (c.val % 4) (0 + j.val) :=
  join4 _ _ _ _ (fun j c => GF A 3 (64 * 3 + c.val / 4) (c.val % 4) (0 + j)) (rowGF (ds_3_3_0 A)) (rowGF (ds_3_3_1 A)) (rowGF (ds_3_3_2 A)) (rowGF (ds_3_3_3 A)) _ j c

def dkn_3_3 : FVec Ideal S256x128 .f32 :=
  matmul dot_S256x256_S256x128_S256x128_1_0_0_1_n_n none (da_3_3 A) (v10904 A) (constant S256x128 .f32 0x00000000#32)

theorem dkp_3_3 (j : Fin 256) (d : Fin 128) : dkn_3_3 A (ix2 j d) = DKF A 3 3 (0 + j.val) d :=
  (over4 _ _ j d).trans (Finset.sum_congr rfl fun c _ => congrArg₂ (· * ·) (dsall_3_3 A j c) (qeff_3_3 A c d))

theorem dqm_3_3 (d : Fin 128) (c : Fin 256) : v11059 A (ix2 d c) = ∑ j : Fin 384, KEF A j.val 3 d * GF A 3 (64 * 3 + c.val / 4) (c.val % 4) j.val := by
  rw [show (v11059 A) = matmul dot_S128x256_S256x256_S128x256_1_0_0_1_n_n none (extractStridedSlice S128x256 ![0, 0] (v9715 A) slices_S128x384_o0_0_S128x256) (da_3_3 A) (constant S128x256 .f32 0x00000000#32) from rfl]
  exact (keys4 _ _ 0 _ (by decide) d c).trans ((Finset.sum_congr rfl fun j _ => congrArg₂ (· * ·) (keff_3 A d _) (dsall_3_3 A j c)).trans
    (sum_keys (fun j => KEF A j 3 d * GF A 3 (64 * 3 + c.val / 4) (c.val % 4) j) 0 256 (by decide) fun j hj hn => (congrArg (_ * ·) (GF_zero A 3 _ _ j (by omega))).trans (mul_zero _)))

theorem dqs_3_3 : v11093 A (ix2 0 c) = gsF A 1 (4 * 3 + c.val % 4) * smE := by
  rw [show (v11093 A) = headsOne (gsc A (k0_off53_inb A.i)) (gsc A (k0_off54_inb A.i)) (gsc A (k0_off55_inb A.i)) (gsc A (k0_off56_inb A.i)) from rfl]
  exact tile_dq A 3 1 _ _ _ _ (g_sca A 1 12 _) (g_sca A 1 13 _) (g_sca A 1 14 _) (g_sca A 1 15 _) c

theorem dqt_3_3 : v11097 A (ix2 c d) = DQ A 3 (64 * 3 + c.val / 4) (c.val % 4) d := by
  rw [show (v11097 A) = scaledQ (F := Ideal) (v11059 A) (v11093 A) from rfl]
  exact (scaledQ_apply _ _ c d).trans (congrArg₂ (· * ·) (dqm_3_3 A d c) ((dqs_3_3 A c).trans (congrArg (fun b => gsF A b (4 * 3 + c.val % 4) * smE) (by omega))))

/-! ### Group 3, tokens from 256 -/

theorem ob_3_4 : v11155 A (ix2 c d) = Of A (64 * 4 + c.val / 4) (4 * 3 + c.val % 4) d := by
  have e : v11155 A = joinPairs (A.arg17.view.readCov (Val := Elt Ideal) (outPiece A 1 2055 inb_S128x2x128_S64x2x128_1_0_0_s_2_1_1 inb_S1x3072x2x128_S1x64x2x128_0_2055_0_0_s_1_8_1_1
    :: outPiece A 0 2054 inb_S128x2x128_S64x2x128_0_0_0_s_2_1_1 inb_S1x3072x2x128_S1x64x2x128_0_2054_0_0_s_1_8_1_1 :: (HS3_44 A))
    (Rect.unit (s := S128x2x128) ![0, 0, 0] S128x2x128.size inb_S128x2x128_S128x2x128_0_0_0).toLoadRect) := rfl
  rw [e]
  exact tile_out A 3 4 2054 2055 (by decide) (by decide) _ _ _ _ _ _ _ _ c d

theorem delta_3_4 : v11207 A (ix2 0 c) = DLF A (64 * 4 + c.val / 4) (4 * 3 + c.val % 4) := by
  rw [show (v11207 A) = rowDots (F := Ideal) (v11156 A) (v11155 A) from rfl]
  exact tile_delta A 3 4 _ _ (dt_3_4 A) (ob_3_4 A) c

theorem qeff_3_4 : v11286 A (ix2 c d) = QEF A (64 * 4 + c.val / 4) (4 * 3 + c.val % 4) d := by
  rw [show (v11286 A) = scaleRows (extf .bf16 (v11132 A) bitsLt_fp8e4m3_bf16) (headsBoth (qsc A (k0_off57_inb A.i)) (qsc A (k0_off58_inb A.i)) (qsc A (k0_off59_inb A.i)) (qsc A (k0_off60_inb A.i)) (gsc A (k0_off57_inb A.i)) (gsc A (k0_off58_inb A.i)) (gsc A (k0_off59_inb A.i)) (gsc A (k0_off60_inb A.i))) from rfl]
  exact tile_qeff A 3 4 2 rfl _ _ _ _ _ _ _ _ _ (qt_3_4 A) (q_sca A 2 12 _) (q_sca A 2 13 _) (q_sca A 2 14 _) (q_sca A 2 15 _) (g_sca A 2 12 _) (g_sca A 2 13 _) (g_sca A 2 14 _) (g_sca A 2 15 _) c d

theorem dp_3_4 (j : Fin 320) (c : Fin 256) : v11290 A (ix2 j c) = DPF A 3 (64 * 4 + c.val / 4) (c.val % 4) (0 + j.val) := by
  rw [show (v11290 A) = matmul dot_S320x128_S256x128_S320x256_1_1_0_0_n_n none (extractStridedSlice S320x128 ![0, 0] (v9685 A) slices_S384x128_o0_0_S320x128) (v11137 A) (constant S320x256 .f32 0x00000000#32) from rfl]
  exact (score5 _ _ 0 _ (by decide) j c).trans (Finset.sum_congr rfl fun d _ => congrArg₂ (· * ·) (vg_3 A _ d) (dt_3_4 A c d))

theorem ds_3_4_0 (r : Fin 64) (c : Fin 256) : v11368 A (ix2 r c) = GF A 3 (64 * 4 + c.val / 4) (c.val % 4) (64 * 0 + r.val) := by
  rw [show (v11368 A) = grads (v11361 A) (extractStridedSlice S64x256 ![0, 0] (v11290 A) slices_S320x256_o0_0_S64x256) (v11207 A) (v9693 A) from rfl]
  exact tile_grads A 3 4 0 0 rfl _ _ _ _ (p_3_4_0 A) (cutDPF (dp_3_4 A)) (delta_3_4 A) (v_sca A 0 3 _) r c

theorem ds_3_4_1 (r : Fin 64) (c : Fin 256) : v11385 A (ix2 r c) = GF A 3 (64 * 4 + c.val / 4) (c.val % 4) (64 * 1 + r.val) := by
  rw [show (v11385 A) = grads (v11378 A) (extractStridedSlice S64x256 ![64, 0] (v11290 A) slices_S320x256_o64_0_S64x256) (v11207 A) (v9693 A) from rfl]
  exact tile_grads A 3 4 1 0 rfl _ _ _ _ (p_3_4_1 A) (cutDPF (dp_3_4 A)) (delta_3_4 A) (v_sca A 0 3 _) r c

theorem ds_3_4_2 (r : Fin 64) (c : Fin 256) : v11402 A (ix2 r c) = GF A 3 (64 * 4 + c.val / 4) (c.val % 4) (64 * 2 + r.val) := by
  rw [show (v11402 A) = grads (v11395 A) (extractStridedSlice S64x256 ![128, 0] (v11290 A) slices_S320x256_o128_0_S64x256) (v11207 A) (v9695 A) from rfl]
  exact tile_grads A 3 4 2 1 rfl _ _ _ _ (p_3_4_2 A) (cutDPF (dp_3_4 A)) (delta_3_4 A) (v_sca A 1 3 _) r c

theorem ds_3_4_3 (r : Fin 64) (c : Fin 256) : v11419 A (ix2 r c) = GF A 3 (64 * 4 + c.val / 4) (c.val % 4) (64 * 3 + r.val) := by
  rw [show (v11419 A) = grads (v11412 A) (extractStridedSlice S64x256 ![192, 0] (v11290 A) slices_S320x256_o192_0_S64x256) (v11207 A) (v9695 A) from rfl]
  exact tile_grads A 3 4 3 1 rfl _ _ _ _ (p_3_4_3 A) (cutDPF (dp_3_4 A)) (delta_3_4 A) (v_sca A 1 3 _) r c

theorem ds_3_4_4 (r : Fin 64) (c : Fin 256) : v11465 A (ix2 r c) = GF A 3 (64 * 4 + c.val / 4) (c.val % 4) (64 * 4 + r.val) := by
  rw [show (v11465 A) = grads (v11458 A) (extractStridedSlice S64x256 ![256, 0] (v11290 A) slices_S320x256_o256_0_S64x256) (v11207 A) (v9697 A) from rfl]
  exact tile_grads A 3 4 4 2 rfl _ _ _ _ (p_3_4_4 A) (cutDPF (dp_3_4 A)) (delta_3_4 A) (v_sca A 2 3 _) r c

theorem dsall_3_4 (j : Fin 320) (c : Fin 256) : v11469 A (ix2 j c) = GF A 3 (64 * 4 + c.val / 4) (c.val % 4) (0 + j.val) := by
  rw [show (v11469 A) = concatenate S320x256 0 [⟨S64x256, (truncf .bf16 (v11368 A) bitsLt_bf16_f32)⟩, ⟨S64x256, (truncf .bf16 (v11385 A) bitsLt_bf16_f32)⟩, ⟨S64x256, (truncf .bf16 (v11402 A) bitsLt_bf16_f32)⟩, ⟨S64x256, (truncf .bf16 (v11419 A) bitsLt_bf16_f32)⟩, ⟨S64x256, (truncf .bf16 (v11465 A) bitsLt_bf16_f32)⟩] concatenates_S64x256_S64x256_S64x256_S64x256_S64x256_S320x256_d0 from rfl]
  exact join5 _ _ _ _ _ (fun j c => GF A 3 (64 * 4 + c.val / 4) (c.val % 4) (0 + j)) (rowGF (ds_3_4_0 A)) (rowGF (ds_3_4_1 A)) (rowGF (ds_3_4_2 A)) (rowGF (ds_3_4_3 A)) (rowGF (ds_3_4_4 A)) _ j c

theorem dkp_3_4 (j : Fin 320) (d : Fin 128) : v11471 A (ix2 j d) = DKF A 3 4 (0 + j.val) d := by
  rw [show (v11471 A) = matmul dot_S320x256_S256x128_S320x128_1_0_0_1_n_n none (v11469 A) (v11286 A) (constant S320x128 .f32 0x00000000#32) from rfl]
  exact (over5 _ _ j d).trans (Finset.sum_congr rfl fun c _ => congrArg₂ (· * ·) (dsall_3_4 A j c) (qeff_3_4 A c d))

def dqmn_3_4 : FVec Ideal S128x256 .f32 :=
  matmul dot_S128x320_S320x256_S128x256_1_0_0_1_n_n none (extractStridedSlice S128x320 ![0, 0] (v9715 A) slices_S128x384_o0_0_S128x320) (v11469 A) (constant S128x256 .f32 0x00000000#32)

theorem dqm_3_4 (d : Fin 128) (c : Fin 256) : dqmn_3_4 A (ix2 d c) = ∑ j : Fin 384, KEF A j.val 3 d * GF A 3 (64 * 4 + c.val / 4) (c.val % 4) j.val :=
  (keys5 _ _ 0 _ (by decide) d c).trans ((Finset.sum_congr rfl fun j _ => congrArg₂ (· * ·) (keff_3 A d _) (dsall_3_4 A j c)).trans
    (sum_keys (fun j => KEF A j 3 d * GF A 3 (64 * 4 + c.val / 4) (c.val % 4) j) 0 320 (by decide) fun j hj hn => (congrArg (_ * ·) (GF_zero A 3 _ _ j (by omega))).trans (mul_zero _)))

def dqsn_3_4 : FVec Ideal S1x256 .f32 :=
  headsOne (gsc A (k0_off57_inb A.i)) (gsc A (k0_off58_inb A.i)) (gsc A (k0_off59_inb A.i)) (gsc A (k0_off60_inb A.i))

theorem dqs_3_4 : dqsn_3_4 A (ix2 0 c) = gsF A 2 (4 * 3 + c.val % 4) * smE :=
  tile_dq A 3 2 _ _ _ _ (g_sca A 2 12 _) (g_sca A 2 13 _) (g_sca A 2 14 _) (g_sca A 2 15 _) c

theorem dqt_3_4 : v11529 A (ix2 c d) = DQ A 3 (64 * 4 + c.val / 4) (c.val % 4) d := by
  rw [show (v11529 A) = scaledQ (F := Ideal) (dqmn_3_4 A) (dqsn_3_4 A) from rfl]
  exact (scaledQ_apply _ _ c d).trans (congrArg₂ (· * ·) (dqm_3_4 A d c) ((dqs_3_4 A c).trans (congrArg (fun b => gsF A b (4 * 3 + c.val % 4) * smE) (by omega))))

/-! ### Group 3, tokens from 320 -/

theorem ob_3_5 : v11587 A (ix2 c d) = Of A (64 * 5 + c.val / 4) (4 * 3 + c.val % 4) d := by
  have e : v11587 A = joinPairs (A.arg17.view.readCov (Val := Elt Ideal) (outPiece A 1 2567 inb_S128x2x128_S64x2x128_1_0_0_s_2_1_1 inb_S1x3072x2x128_S1x64x2x128_0_2567_0_0_s_1_8_1_1
    :: outPiece A 0 2566 inb_S128x2x128_S64x2x128_0_0_0_s_2_1_1 inb_S1x3072x2x128_S1x64x2x128_0_2566_0_0_s_1_8_1_1 :: (HS3_46 A))
    (Rect.unit (s := S128x2x128) ![0, 0, 0] S128x2x128.size inb_S128x2x128_S128x2x128_0_0_0).toLoadRect) := rfl
  rw [e]
  exact tile_out A 3 5 2566 2567 (by decide) (by decide) _ _ _ _ _ _ _ _ c d

theorem delta_3_5 : v11639 A (ix2 0 c) = DLF A (64 * 5 + c.val / 4) (4 * 3 + c.val % 4) := by
  rw [show (v11639 A) = rowDots (F := Ideal) (v11588 A) (v11587 A) from rfl]
  exact tile_delta A 3 5 _ _ (dt_3_5 A) (ob_3_5 A) c

theorem qeff_3_5 : v11718 A (ix2 c d) = QEF A (64 * 5 + c.val / 4) (4 * 3 + c.val % 4) d := by
  rw [show (v11718 A) = scaleRows (extf .bf16 (v11564 A) bitsLt_fp8e4m3_bf16) (headsBoth (qsc A (k0_off57_inb A.i)) (qsc A (k0_off58_inb A.i)) (qsc A (k0_off59_inb A.i)) (qsc A (k0_off60_inb A.i)) (gsc A (k0_off57_inb A.i)) (gsc A (k0_off58_inb A.i)) (gsc A (k0_off59_inb A.i)) (gsc A (k0_off60_inb A.i))) from rfl]
  exact tile_qeff A 3 5 2 rfl _ _ _ _ _ _ _ _ _ (qt_3_5 A) (q_sca A 2 12 _) (q_sca A 2 13 _) (q_sca A 2 14 _) (q_sca A 2 15 _) (g_sca A 2 12 _) (g_sca A 2 13 _) (g_sca A 2 14 _) (g_sca A 2 15 _) c d

theorem dp_3_5 (j : Fin 320) (c : Fin 256) : v11722 A (ix2 j c) = DPF A 3 (64 * 5 + c.val / 4) (c.val % 4) (64 + j.val) := by
  rw [show (v11722 A) = matmul dot_S320x128_S256x128_S320x256_1_1_0_0_n_n none (extractStridedSlice S320x128 ![64, 0] (v9685 A) slices_S384x128_o64_0_S320x128) (v11569 A) (constant S320x256 .f32 0x00000000#32) from rfl]
  exact (score5 _ _ 64 _ (by decide) j c).trans (Finset.sum_congr rfl fun d _ => congrArg₂ (· * ·) (vg_3 A _ d) (dt_3_5 A c d))

theorem ds_3_5_1 (r : Fin 64) (c : Fin 256) : v11800 A (ix2 r c) = GF A 3 (64 * 5 + c.val / 4) (c.val % 4) (64 * 1 + r.val) := by
  rw [show (v11800 A) = grads (v11793 A) (extractStridedSlice S64x256 ![0, 0] (v11722 A) slices_S320x256_o0_0_S64x256) (v11639 A) (v9693 A) from rfl]
  exact tile_grads A 3 5 1 0 rfl _ _ _ _ (p_3_5_1 A) (cutDPF (dp_3_5 A)) (delta_3_5 A) (v_sca A 0 3 _) r c

theorem ds_3_5_2 (r : Fin 64) (c : Fin 256) : v11817 A (ix2 r c) = GF A 3 (64 * 5 + c.val / 4) (c.val % 4) (64 * 2 + r.val) := by
  rw [show (v11817 A) = grads (v11810 A) (extractStridedSlice S64x256 ![64, 0] (v11722 A) slices_S320x256_o64_0_S64x256) (v11639 A) (v9695 A) from rfl]
  exact tile_grads A 3 5 2 1 rfl _ _ _ _ (p_3_5_2 A) (cutDPF (dp_3_5 A)) (delta_3_5 A) (v_sca A 1 3 _) r c

theorem ds_3_5_3 (r : Fin 64) (c : Fin 256) : v11834 A (ix2 r c) = GF A 3 (64 * 5 + c.val / 4) (c.val % 4) (64 * 3 + r.val) := by
  rw [show (v11834 A) = grads (v11827 A) (extractStridedSlice S64x256 ![128, 0] (v11722 A) slices_S320x256_o128_0_S64x256) (v11639 A) (v9695 A) from rfl]
  exact tile_grads A 3 5 3 1 rfl _ _ _ _ (p_3_5_3 A) (cutDPF (dp_3_5 A)) (delta_3_5 A) (v_sca A 1 3 _) r c

theorem ds_3_5_4 (r : Fin 64) (c : Fin 256) : v11851 A (ix2 r c) = GF A 3 (64 * 5 + c.val / 4) (c.val % 4) (64 * 4 + r.val) := by
  rw [show (v11851 A) = grads (v11844 A) (extractStridedSlice S64x256 ![192, 0] (v11722 A) slices_S320x256_o192_0_S64x256) (v11639 A) (v9697 A) from rfl]
  exact tile_grads A 3 5 4 2 rfl _ _ _ _ (p_3_5_4 A) (cutDPF (dp_3_5 A)) (delta_3_5 A) (v_sca A 2 3 _) r c

def dsn_3_5_5 : FVec Ideal S64x256 .f32 :=
  grads (pn_3_5_5 A) (extractStridedSlice S64x256 ![256, 0] (v11722 A) slices_S320x256_o256_0_S64x256) (v11639 A) (v9697 A)

theorem ds_3_5_5 (r : Fin 64) (c : Fin 256) : dsn_3_5_5 A (ix2 r c) = GF A 3 (64 * 5 + c.val / 4) (c.val % 4) (64 * 5 + r.val) :=
  tile_grads A 3 5 5 2 rfl _ _ _ _ (p_3_5_5 A) (cutDPF (dp_3_5 A)) (delta_3_5 A) (v_sca A 2 3 _) r c

def da_3_5 : FVec Ideal S320x256 .bf16 :=
  concatenate S320x256 0 [⟨S64x256, (truncf .bf16 (v11800 A) bitsLt_bf16_f32)⟩, ⟨S64x256, (truncf .bf16 (v11817 A) bitsLt_bf16_f32)⟩, ⟨S64x256, (truncf .bf16 (v11834 A) bitsLt_bf16_f32)⟩, ⟨S64x256, (truncf .bf16 (v11851 A) bitsLt_bf16_f32)⟩, ⟨S64x256, (truncf .bf16 (dsn_3_5_5 A) bitsLt_bf16_f32)⟩] concatenates_S64x256_S64x256_S64x256_S64x256_S64x256_S320x256_d0

theorem dsall_3_5 (j : Fin 320) (c : Fin 256) : da_3_5 A (ix2 j c) = GF A 3 (64 * 5 + c.val / 4) (c.val % 4) (64 + j.val) :=
  join5 _ _ _ _ _ (fun j c => GF A 3 (64 * 5 + c.val / 4) (c.val % 4) (64 + j)) (rowGF (ds_3_5_1 A)) (rowGF (ds_3_5_2 A)) (rowGF (ds_3_5_3 A)) (rowGF (ds_3_5_4 A)) (rowGF (ds_3_5_5 A)) _ j c

def dkn_3_5 : FVec Ideal S320x128 .f32 :=
  matmul dot_S320x256_S256x128_S320x128_1_0_0_1_n_n none (da_3_5 A) (v11718 A) (constant S320x128 .f32 0x00000000#32)

theorem dkp_3_5 (j : Fin 320) (d : Fin 128) : dkn_3_5 A (ix2 j d) = DKF A 3 5 (64 + j.val) d :=
  (over5 _ _ j d).trans (Finset.sum_congr rfl fun c _ => congrArg₂ (· * ·) (dsall_3_5 A j c) (qeff_3_5 A c d))

theorem dqm_3_5 (d : Fin 128) (c : Fin 256) : v11923 A (ix2 d c) = ∑ j : Fin 384, KEF A j.val 3 d * GF A 3 (64 * 5 + c.val / 4) (c.val % 4) j.val := by
  rw [show (v11923 A) = matmul dot_S128x320_S320x256_S128x256_1_0_0_1_n_n none (extractStridedSlice S128x320 ![0, 64] (v9715 A) slices_S128x384_o0_64_S128x320) (da_3_5 A) (constant S128x256 .f32 0x00000000#32) from rfl]
  exact (keys5 _ _ 64 _ (by decide) d c).trans ((Finset.sum_congr rfl fun j _ => congrArg₂ (· * ·) (keff_3 A d _) (dsall_3_5 A j c)).trans
    (sum_keys (fun j => KEF A j 3 d * GF A 3 (64 * 5 + c.val / 4) (c.val % 4) j) 64 320 (by decide) fun j hj hn => (congrArg (_ * ·) (GF_zero A 3 _ _ j (by omega))).trans (mul_zero _)))

def dqsn_3_5 : FVec Ideal S1x256 .f32 :=
  headsOne (gsc A (k0_off57_inb A.i)) (gsc A (k0_off58_inb A.i)) (gsc A (k0_off59_inb A.i)) (gsc A (k0_off60_inb A.i))

theorem dqs_3_5 : dqsn_3_5 A (ix2 0 c) = gsF A 2 (4 * 3 + c.val % 4) * smE :=
  tile_dq A 3 2 _ _ _ _ (g_sca A 2 12 _) (g_sca A 2 13 _) (g_sca A 2 14 _) (g_sca A 2 15 _) c

def dqtn_3_5 : FVec Ideal S256x128 .bf16 :=
  scaledQ (F := Ideal) (v11923 A) (dqsn_3_5 A)

theorem dqt_3_5 : dqtn_3_5 A (ix2 c d) = DQ A 3 (64 * 5 + c.val / 4) (c.val % 4) d :=
  (scaledQ_apply _ _ c d).trans (congrArg₂ (· * ·) (dqm_3_5 A d c) ((dqs_3_5 A c).trans (congrArg (fun b => gsF A b (4 * 3 + c.val % 4) * smE) (by omega))))

theorem dkacc_3_0_0 (r : Fin 64) (d : Fin 128) : v9974 A (ix2 r d) = DKT A 3 0 0 r d :=
  one_tile (dkp_3_0 A)

theorem dkacc_3_0_1 (r : Fin 64) (d : Fin 128) : v10312 A (ix2 r d) = DKT A 3 0 1 r d := by
  rw [show (v10312 A) = addf (F := Ideal) (φ := .f32) (v9974 A) (extractStridedSlice S64x128 ![0, 0] (v10308 A) slices_S128x128_o0_0_S64x128) from rfl]
  exact add_tile (dkacc_3_0_0 A r d) (dkp_3_1 A)

theorem dkacc_3_0_2 (r : Fin 64) (d : Fin 128) : v10669 A (ix2 r d) = DKT A 3 0 2 r d := by
  rw [show (v10669 A) = addf (F := Ideal) (φ := .f32) (v10312 A) (extractStridedSlice S64x128 ![0, 0] (dkn_3_2 A) slices_S192x128_o0_0_S64x128) from rfl]
  exact add_tile (dkacc_3_0_1 A r d) (dkp_3_2 A)

theorem dkacc_3_0_3 (r : Fin 64) (d : Fin 128) : v11047 A (ix2 r d) = DKT A 3 0 3 r d := by
  rw [show (v11047 A) = addf (F := Ideal) (φ := .f32) (v10669 A) (extractStridedSlice S64x128 ![0, 0] (dkn_3_3 A) slices_S256x128_o0_0_S64x128) from rfl]
  exact add_tile (dkacc_3_0_2 A r d) (dkp_3_3 A)

theorem dkacc_3_0_4 (r : Fin 64) (d : Fin 128) : v11475 A (ix2 r d) = DKT A 3 0 4 r d := by
  rw [show (v11475 A) = addf (F := Ideal) (φ := .f32) (v11047 A) (extractStridedSlice S64x128 ![0, 0] (v11471 A) slices_S320x128_o0_0_S64x128) from rfl]
  exact add_tile (dkacc_3_0_3 A r d) (dkp_3_4 A)

theorem dkacc_3_1_1 (r : Fin 64) (d : Fin 128) : v10314 A (ix2 r d) = DKT A 3 1 0 r d := by
  rw [show (v10314 A) = (extractStridedSlice S64x128 ![64, 0] (v10308 A) slices_S128x128_o64_0_S64x128) from rfl]
  exact (first_tile (dkp_3_1 A))

theorem dkacc_3_1_2 (r : Fin 64) (d : Fin 128) : v10673 A (ix2 r d) = DKT A 3 1 1 r d := by
  rw [show (v10673 A) = addf (F := Ideal) (φ := .f32) (v10314 A) (extractStridedSlice S64x128 ![64, 0] (dkn_3_2 A) slices_S192x128_o64_0_S64x128) from rfl]
  exact add_tile (dkacc_3_1_1 A r d) (dkp_3_2 A)

theorem dkacc_3_1_3 (r : Fin 64) (d : Fin 128) : v11051 A (ix2 r d) = DKT A 3 1 2 r d := by
  rw [show (v11051 A) = addf (F := Ideal) (φ := .f32) (v10673 A) (extractStridedSlice S64x128 ![64, 0] (dkn_3_3 A) slices_S256x128_o64_0_S64x128) from rfl]
  exact add_tile (dkacc_3_1_2 A r d) (dkp_3_3 A)

theorem dkacc_3_1_4 (r : Fin 64) (d : Fin 128) : v11479 A (ix2 r d) = DKT A 3 1 3 r d := by
  rw [show (v11479 A) = addf (F := Ideal) (φ := .f32) (v11051 A) (extractStridedSlice S64x128 ![64, 0] (v11471 A) slices_S320x128_o64_0_S64x128) from rfl]
  exact add_tile (dkacc_3_1_3 A r d) (dkp_3_4 A)

theorem dkacc_3_1_5 (r : Fin 64) (d : Fin 128) : v11907 A (ix2 r d) = DKT A 3 1 4 r d := by
  rw [show (v11907 A) = addf (F := Ideal) (φ := .f32) (v11479 A) (extractStridedSlice S64x128 ![0, 0] (dkn_3_5 A) slices_S320x128_o0_0_S64x128) from rfl]
  exact add_tile (dkacc_3_1_4 A r d) (dkp_3_5 A)

theorem dkacc_3_2_2 (r : Fin 64) (d : Fin 128) : v10675 A (ix2 r d) = DKT A 3 2 0 r d := by
  rw [show (v10675 A) = (extractStridedSlice S64x128 ![128, 0] (dkn_3_2 A) slices_S192x128_o128_0_S64x128) from rfl]
  exact (first_tile (dkp_3_2 A))

theorem dkacc_3_2_3 (r : Fin 64) (d : Fin 128) : v11055 A (ix2 r d) = DKT A 3 2 1 r d := by
  rw [show (v11055 A) = addf (F := Ideal) (φ := .f32) (v10675 A) (extractStridedSlice S64x128 ![128, 0] (dkn_3_3 A) slices_S256x128_o128_0_S64x128) from rfl]
  exact add_tile (dkacc_3_2_2 A r d) (dkp_3_3 A)

theorem dkacc_3_2_4 (r : Fin 64) (d : Fin 128) : v11483 A (ix2 r d) = DKT A 3 2 2 r d := by
  rw [show (v11483 A) = addf (F := Ideal) (φ := .f32) (v11055 A) (extractStridedSlice S64x128 ![128, 0] (v11471 A) slices_S320x128_o128_0_S64x128) from rfl]
  exact add_tile (dkacc_3_2_3 A r d) (dkp_3_4 A)

theorem dkacc_3_2_5 (r : Fin 64) (d : Fin 128) : v11911 A (ix2 r d) = DKT A 3 2 3 r d := by
  rw [show (v11911 A) = addf (F := Ideal) (φ := .f32) (v11483 A) (extractStridedSlice S64x128 ![64, 0] (dkn_3_5 A) slices_S320x128_o64_0_S64x128) from rfl]
  exact add_tile (dkacc_3_2_4 A r d) (dkp_3_5 A)

theorem dkacc_3_3_3 (r : Fin 64) (d : Fin 128) : v11057 A (ix2 r d) = DKT A 3 3 0 r d := by
  rw [show (v11057 A) = (extractStridedSlice S64x128 ![192, 0] (dkn_3_3 A) slices_S256x128_o192_0_S64x128) from rfl]
  exact (first_tile (dkp_3_3 A))

theorem dkacc_3_3_4 (r : Fin 64) (d : Fin 128) : v11487 A (ix2 r d) = DKT A 3 3 1 r d := by
  rw [show (v11487 A) = addf (F := Ideal) (φ := .f32) (v11057 A) (extractStridedSlice S64x128 ![192, 0] (v11471 A) slices_S320x128_o192_0_S64x128) from rfl]
  exact add_tile (dkacc_3_3_3 A r d) (dkp_3_4 A)

theorem dkacc_3_3_5 (r : Fin 64) (d : Fin 128) : v11915 A (ix2 r d) = DKT A 3 3 2 r d := by
  rw [show (v11915 A) = addf (F := Ideal) (φ := .f32) (v11487 A) (extractStridedSlice S64x128 ![128, 0] (dkn_3_5 A) slices_S320x128_o128_0_S64x128) from rfl]
  exact add_tile (dkacc_3_3_4 A r d) (dkp_3_5 A)

theorem dkacc_3_4_4 (r : Fin 64) (d : Fin 128) : v11489 A (ix2 r d) = DKT A 3 4 0 r d := by
  rw [show (v11489 A) = (extractStridedSlice S64x128 ![256, 0] (v11471 A) slices_S320x128_o256_0_S64x128) from rfl]
  exact (first_tile (dkp_3_4 A))

theorem dkacc_3_4_5 (r : Fin 64) (d : Fin 128) : v11919 A (ix2 r d) = DKT A 3 4 1 r d := by
  rw [show (v11919 A) = addf (F := Ideal) (φ := .f32) (v11489 A) (extractStridedSlice S64x128 ![192, 0] (dkn_3_5 A) slices_S320x128_o192_0_S64x128) from rfl]
  exact add_tile (dkacc_3_4_4 A r d) (dkp_3_5 A)

theorem dkacc_3_5_5 (r : Fin 64) (d : Fin 128) : v11921 A (ix2 r d) = DKT A 3 5 0 r d := by
  rw [show (v11921 A) = (extractStridedSlice S64x128 ![256, 0] (dkn_3_5 A) slices_S320x128_o256_0_S64x128) from rfl]
  exact (first_tile (dkp_3_5 A))

end Cert.KernelIdeal.Hand
-- ==== Proof.Exact.Outputs.lean ====
module

public import proofs.«01_k».proof.Proof.Exact.Stores

public import proofs.«01_k».proof.Proof.Exact.Grads0
public import proofs.«01_k».proof.Proof.Exact.Grads1
public import proofs.«01_k».proof.Proof.Exact.Grads2
public import proofs.«01_k».proof.Proof.Exact.Grads3

@[expose] public section

set_option maxRecDepth 16384

noncomputable section

namespace Cert.KernelIdeal.Hand

open Cert.KernelIdeal.Gen Idealize.ShloMosaic
open bodyRun.sl

variable (A : Pack Ideal) (c : Fin 256) (d : Fin 128)

/-- A row of the key gradient, scaled. -/
def DKS (g j : ℕ) (d : Fin 128) : EReal := DK A g j d * (vsF A (j / 128) g * smE)

theorem dks_of (g kt b : ℕ) (hb : b = kt / 2) (p : FVec Ideal S64x128 .f32) (s : EReal) (hs : s = vsF A b g) (r : Fin 64) (d : Fin 128) (hp : p (ix2 r d) = DK A g (64 * kt + r.val) d) :
    scaledTile (F := Ideal) p s (ix2 r d) = DKS A g (64 * kt + r.val) d := by
  subst hs hb
  rw [scaledTile_apply, hp, DKS, show (64 * kt + r.val) / 128 = kt / 2 by omega]

/-- The value gradient of head 0. -/
def dvCat_0 : FVec Ideal S384x128 .f32 :=
  stackTiles (v4505 A) (v4937 A) (v4941 A) (v4945 A) (v4949 A) (v4952 A)

theorem dvCat_0_apply (j : Fin 384) (d : Fin 128) : dvCat_0 A (ix2 j d) = DV A 0 j.val d :=
  join6 _ _ _ _ _ _ (fun j d => DV A 0 j d) (fun r d => (dvacc_0_0_4 A r d).trans (DV_row0 A 0 r.val d r.isLt)) (fun r d => (dvacc_0_1_5 A r d).trans (DV_row1 A 0 r.val d r.isLt)) (fun r d => (dvacc_0_2_5 A r d).trans (DV_row2 A 0 r.val d r.isLt)) (fun r d => (dvacc_0_3_5 A r d).trans (DV_row3 A 0 r.val d r.isLt)) (fun r d => (dvacc_0_4_5 A r d).trans (DV_row4 A 0 r.val d r.isLt)) (fun r d => (dvacc_0_5_5 A r d).trans (DV_row5 A 0 r.val d r.isLt)) concatenates_S64x128_S64x128_S64x128_S64x128_S64x128_S64x128_S384x128_d0 j d

/-- The key gradient of head 0, scaled. -/
def dkCat_0 : FVec Ideal S384x128 .f32 :=
  stackTiles (scaledTile (F := Ideal) (v4507 A) (v2725 A)) (scaledTile (F := Ideal) (v4939 A) (v2725 A)) (scaledTile (F := Ideal) (v4943 A) (v2727 A)) (scaledTile (F := Ideal) (v4947 A) (v2727 A)) (scaledTile (F := Ideal) (v4951 A) (v2729 A)) (scaledTile (F := Ideal) (v4953 A) (v2729 A))

theorem dkCat_0_apply (j : Fin 384) (d : Fin 128) : dkCat_0 A (ix2 j d) = DKS A 0 j.val d :=
  join6 _ _ _ _ _ _ (fun j d => DKS A 0 j d) (fun r d => dks_of A 0 0 0 rfl _ _ (v_sca A 0 0 _) r d ((dkacc_0_0_4 A r d).trans (DK_row0 A 0 r.val d r.isLt))) (fun r d => dks_of A 0 1 0 rfl _ _ (v_sca A 0 0 _) r d ((dkacc_0_1_5 A r d).trans (DK_row1 A 0 r.val d r.isLt))) (fun r d => dks_of A 0 2 1 rfl _ _ (v_sca A 1 0 _) r d ((dkacc_0_2_5 A r d).trans (DK_row2 A 0 r.val d r.isLt))) (fun r d => dks_of A 0 3 1 rfl _ _ (v_sca A 1 0 _) r d ((dkacc_0_3_5 A r d).trans (DK_row3 A 0 r.val d r.isLt))) (fun r d => dks_of A 0 4 2 rfl _ _ (v_sca A 2 0 _) r d ((dkacc_0_4_5 A r d).trans (DK_row4 A 0 r.val d r.isLt))) (fun r d => dks_of A 0 5 2 rfl _ _ (v_sca A 2 0 _) r d ((dkacc_0_5_5 A r d).trans (DK_row5 A 0 r.val d r.isLt))) concatenates_S64x128_S64x128_S64x128_S64x128_S64x128_S64x128_S384x128_d0 j d

/-- The value gradient of head 1. -/
def dvCat_1 : FVec Ideal S384x128 .f32 :=
  stackTiles (v6825 A) (v7257 A) (v7261 A) (v7265 A) (v7269 A) (v7272 A)

theorem dvCat_1_apply (j : Fin 384) (d : Fin 128) : dvCat_1 A (ix2 j d) = DV A 1 j.val d :=
  join6 _ _ _ _ _ _ (fun j d => DV A 1 j d) (fun r d => (dvacc_1_0_4 A r d).trans (DV_row0 A 1 r.val d r.isLt)) (fun r d => (dvacc_1_1_5 A r d).trans (DV_row1 A 1 r.val d r.isLt)) (fun r d => (dvacc_1_2_5 A r d).trans (DV_row2 A 1 r.val d r.isLt)) (fun r d => (dvacc_1_3_5 A r d).trans (DV_row3 A 1 r.val d r.isLt)) (fun r d => (dvacc_1_4_5 A r d).trans (DV_row4 A 1 r.val d r.isLt)) (fun r d => (dvacc_1_5_5 A r d).trans (DV_row5 A 1 r.val d r.isLt)) concatenates_S64x128_S64x128_S64x128_S64x128_S64x128_S64x128_S384x128_d0 j d

/-- The key gradient of head 1, scaled. -/
def dkCat_1 : FVec Ideal S384x128 .f32 :=
  stackTiles (scaledTile (F := Ideal) (v6827 A) (v5045 A)) (scaledTile (F := Ideal) (v7259 A) (v5045 A)) (scaledTile (F := Ideal) (v7263 A) (v5047 A)) (scaledTile (F := Ideal) (v7267 A) (v5047 A)) (scaledTile (F := Ideal) (v7271 A) (v5049 A)) (scaledTile (F := Ideal) (v7273 A) (v5049 A))

theorem dkCat_1_apply (j : Fin 384) (d : Fin 128) : dkCat_1 A (ix2 j d) = DKS A 1 j.val d :=
  join6 _ _ _ _ _ _ (fun j d => DKS A 1 j d) (fun r d => dks_of A 1 0 0 rfl _ _ (v_sca A 0 1 _) r d ((dkacc_1_0_4 A r d).trans (DK_row0 A 1 r.val d r.isLt))) (fun r d => dks_of A 1 1 0 rfl _ _ (v_sca A 0 1 _) r d ((dkacc_1_1_5 A r d).trans (DK_row1 A 1 r.val d r.isLt))) (fun r d => dks_of A 1 2 1 rfl _ _ (v_sca A 1 1 _) r d ((dkacc_1_2_5 A r d).trans (DK_row2 A 1 r.val d r.isLt))) (fun r d => dks_of A 1 3 1 rfl _ _ (v_sca A 1 1 _) r d ((dkacc_1_3_5 A r d).trans (DK_row3 A 1 r.val d r.isLt))) (fun r d => dks_of A 1 4 2 rfl _ _ (v_sca A 2 1 _) r d ((dkacc_1_4_5 A r d).trans (DK_row4 A 1 r.val d r.isLt))) (fun r d => dks_of A 1 5 2 rfl _ _ (v_sca A 2 1 _) r d ((dkacc_1_5_5 A r d).trans (DK_row5 A 1 r.val d r.isLt))) concatenates_S64x128_S64x128_S64x128_S64x128_S64x128_S64x128_S384x128_d0 j d

/-- The value gradient of head 2. -/
def dvCat_2 : FVec Ideal S384x128 .f32 :=
  stackTiles (v9153 A) (v9585 A) (v9589 A) (v9593 A) (v9597 A) (v9600 A)

theorem dvCat_2_apply (j : Fin 384) (d : Fin 128) : dvCat_2 A (ix2 j d) = DV A 2 j.val d :=
  join6 _ _ _ _ _ _ (fun j d => DV A 2 j d) (fun r d => (dvacc_2_0_4 A r d).trans (DV_row0 A 2 r.val d r.isLt)) (fun r d => (dvacc_2_1_5 A r d).trans (DV_row1 A 2 r.val d r.isLt)) (fun r d => (dvacc_2_2_5 A r d).trans (DV_row2 A 2 r.val d r.isLt)) (fun r d => (dvacc_2_3_5 A r d).trans (DV_row3 A 2 r.val d r.isLt)) (fun r d => (dvacc_2_4_5 A r d).trans (DV_row4 A 2 r.val d r.isLt)) (fun r d => (dvacc_2_5_5 A r d).trans (DV_row5 A 2 r.val d r.isLt)) concatenates_S64x128_S64x128_S64x128_S64x128_S64x128_S64x128_S384x128_d0 j d

/-- The key gradient of head 2, scaled. -/
def dkCat_2 : FVec Ideal S384x128 .f32 :=
  stackTiles (scaledTile (F := Ideal) (v9155 A) (v7373 A)) (scaledTile (F := Ideal) (v9587 A) (v7373 A)) (scaledTile (F := Ideal) (v9591 A) (v7375 A)) (scaledTile (F := Ideal) (v9595 A) (v7375 A)) (scaledTile (F := Ideal) (v9599 A) (v7377 A)) (scaledTile (F := Ideal) (v9601 A) (v7377 A))

theorem dkCat_2_apply (j : Fin 384) (d : Fin 128) : dkCat_2 A (ix2 j d) = DKS A 2 j.val d :=
  join6 _ _ _ _ _ _ (fun j d => DKS A 2 j d) (fun r d => dks_of A 2 0 0 rfl _ _ (v_sca A 0 2 _) r d ((dkacc_2_0_4 A r d).trans (DK_row0 A 2 r.val d r.isLt))) (fun r d => dks_of A 2 1 0 rfl _ _ (v_sca A 0 2 _) r d ((dkacc_2_1_5 A r d).trans (DK_row1 A 2 r.val d r.isLt))) (fun r d => dks_of A 2 2 1 rfl _ _ (v_sca A 1 2 _) r d ((dkacc_2_2_5 A r d).trans (DK_row2 A 2 r.val d r.isLt))) (fun r d => dks_of A 2 3 1 rfl _ _ (v_sca A 1 2 _) r d ((dkacc_2_3_5 A r d).trans (DK_row3 A 2 r.val d r.isLt))) (fun r d => dks_of A 2 4 2 rfl _ _ (v_sca A 2 2 _) r d ((dkacc_2_4_5 A r d).trans (DK_row4 A 2 r.val d r.isLt))) (fun r d => dks_of A 2 5 2 rfl _ _ (v_sca A 2 2 _) r d ((dkacc_2_5_5 A r d).trans (DK_row5 A 2 r.val d r.isLt))) concatenates_S64x128_S64x128_S64x128_S64x128_S64x128_S64x128_S384x128_d0 j d

/-- The value gradient of head 3. -/
def dvCat_3 : FVec Ideal S384x128 .f32 :=
  stackTiles (v11473 A) (v11905 A) (v11909 A) (v11913 A) (v11917 A) (v11920 A)

theorem dvCat_3_apply (j : Fin 384) (d : Fin 128) : dvCat_3 A (ix2 j d) = DV A 3 j.val d :=
  join6 _ _ _ _ _ _ (fun j d => DV A 3 j d) (fun r d => (dvacc_3_0_4 A r d).trans (DV_row0 A 3 r.val d r.isLt)) (fun r d => (dvacc_3_1_5 A r d).trans (DV_row1 A 3 r.val d r.isLt)) (fun r d => (dvacc_3_2_5 A r d).trans (DV_row2 A 3 r.val d r.isLt)) (fun r d => (dvacc_3_3_5 A r d).trans (DV_row3 A 3 r.val d r.isLt)) (fun r d => (dvacc_3_4_5 A r d).trans (DV_row4 A 3 r.val d r.isLt)) (fun r d => (dvacc_3_5_5 A r d).trans (DV_row5 A 3 r.val d r.isLt)) concatenates_S64x128_S64x128_S64x128_S64x128_S64x128_S64x128_S384x128_d0 j d

/-- The key gradient of head 3, scaled. -/
def dkCat_3 : FVec Ideal S384x128 .f32 :=
  stackTiles (scaledTile (F := Ideal) (v11475 A) (v9693 A)) (scaledTile (F := Ideal) (v11907 A) (v9693 A)) (scaledTile (F := Ideal) (v11911 A) (v9695 A)) (scaledTile (F := Ideal) (v11915 A) (v9695 A)) (scaledTile (F := Ideal) (v11919 A) (v9697 A)) (scaledTile (F := Ideal) (v11921 A) (v9697 A))

theorem dkCat_3_apply (j : Fin 384) (d : Fin 128) : dkCat_3 A (ix2 j d) = DKS A 3 j.val d :=
  join6 _ _ _ _ _ _ (fun j d => DKS A 3 j d) (fun r d => dks_of A 3 0 0 rfl _ _ (v_sca A 0 3 _) r d ((dkacc_3_0_4 A r d).trans (DK_row0 A 3 r.val d r.isLt))) (fun r d => dks_of A 3 1 0 rfl _ _ (v_sca A 0 3 _) r d ((dkacc_3_1_5 A r d).trans (DK_row1 A 3 r.val d r.isLt))) (fun r d => dks_of A 3 2 1 rfl _ _ (v_sca A 1 3 _) r d ((dkacc_3_2_5 A r d).trans (DK_row2 A 3 r.val d r.isLt))) (fun r d => dks_of A 3 3 1 rfl _ _ (v_sca A 1 3 _) r d ((dkacc_3_3_5 A r d).trans (DK_row3 A 3 r.val d r.isLt))) (fun r d => dks_of A 3 4 2 rfl _ _ (v_sca A 2 3 _) r d ((dkacc_3_4_5 A r d).trans (DK_row4 A 3 r.val d r.isLt))) (fun r d => dks_of A 3 5 2 rfl _ _ (v_sca A 2 3 _) r d ((dkacc_3_5_5 A r d).trans (DK_row5 A 3 r.val d r.isLt))) concatenates_S64x128_S64x128_S64x128_S64x128_S64x128_S64x128_S384x128_d0 j d

theorem dv_even_0 (t : Fin 384) (d : Fin 128) : ((shapeCast S384x128 (A.arg19.view.readCov (Val := Elt Ideal) (HS5_2 A) (Rect.unit (s := S2x384x128) ![1, 0, 0] S1x384x128.size inb_S2x384x128_S1x384x128_1_0_0).toLoadRect) shapeCasts_S1x384x128_S384x128) : FVec Ideal S384x128 .f32) (ix2 t d) = DV A 0 t.val d :=
  (plane_one A.arg19 (dvCat_0 A) _ _ shapeCasts_S384x128_S1x384x128 _ t d).trans (dvCat_0_apply A t d)

theorem dv_even_1 (t : Fin 384) (d : Fin 128) : ((shapeCast S384x128 (A.arg19.view.readCov (Val := Elt Ideal) (HS5_4 A) (Rect.unit (s := S2x384x128) ![1, 0, 0] S1x384x128.size inb_S2x384x128_S1x384x128_1_0_0).toLoadRect) shapeCasts_S1x384x128_S384x128) : FVec Ideal S384x128 .f32) (ix2 t d) = DV A 2 t.val d :=
  (plane_one A.arg19 (dvCat_2 A) _ _ shapeCasts_S384x128_S1x384x128 _ t d).trans (dvCat_2_apply A t d)

theorem dv_out (f) (r : Fin 1536) (d : Fin 128) : A.arg13.view.read (Elt Ideal) (H12_w52 A f) (ix3 (0 : Fin 1) r d) = DV A (r.val % 4) (r.val / 4) d :=
  tokens_out A.arg13 _ _ _ f (pairTokens (F := Ideal) (shapeCast S384x128 (A.arg19.view.readCov (Val := Elt Ideal) (HS5_2 A) (Rect.unit (s := S2x384x128) ![1, 0, 0] S1x384x128.size inb_S2x384x128_S1x384x128_1_0_0).toLoadRect) shapeCasts_S1x384x128_S384x128) (dvCat_1 A))
    (pairTokens (F := Ideal) (shapeCast S384x128 (A.arg19.view.readCov (Val := Elt Ideal) (HS5_4 A) (Rect.unit (s := S2x384x128) ![1, 0, 0] S1x384x128.size inb_S2x384x128_S1x384x128_1_0_0).toLoadRect) shapeCasts_S1x384x128_S384x128) (dvCat_3 A)) _ _ _ _ (fun g j d => DV A g j d)
    (pairTokens_of _ _ (fun g j d => DV A g j d) 0 (dv_even_0 A) (dvCat_1_apply A)) (pairTokens_of _ _ (fun g j d => DV A g j d) 2 (dv_even_1 A) (dvCat_3_apply A)) r d

theorem dk_even_0 (t : Fin 384) (d : Fin 128) : ((shapeCast S384x128 (A.arg19.view.readCov (Val := Elt Ideal) (HS5_2 A) (Rect.unit (s := S2x384x128) ![0, 0, 0] S1x384x128.size inb_S2x384x128_S1x384x128_0_0_0).toLoadRect) shapeCasts_S1x384x128_S384x128) : FVec Ideal S384x128 .f32) (ix2 t d) = DKS A 0 t.val d :=
  (plane_zero A.arg19 (dkCat_0 A) _ _ _ _ shapeCasts_S384x128_S1x384x128 _ t d).trans (dkCat_0_apply A t d)

theorem dk_even_1 (t : Fin 384) (d : Fin 128) : ((shapeCast S384x128 (A.arg19.view.readCov (Val := Elt Ideal) (HS5_4 A) (Rect.unit (s := S2x384x128) ![0, 0, 0] S1x384x128.size inb_S2x384x128_S1x384x128_0_0_0).toLoadRect) shapeCasts_S1x384x128_S384x128) : FVec Ideal S384x128 .f32) (ix2 t d) = DKS A 2 t.val d :=
  (plane_zero A.arg19 (dkCat_2 A) _ _ _ _ shapeCasts_S384x128_S1x384x128 _ t d).trans (dkCat_2_apply A t d)

theorem dk_out (f) (r : Fin 1536) (d : Fin 128) : A.arg12.view.read (Elt Ideal) (H11_w51 A f) (ix3 (0 : Fin 1) r d) = DKS A (r.val % 4) (r.val / 4) d :=
  tokens_out A.arg12 _ _ _ f (pairTokens (F := Ideal) (shapeCast S384x128 (A.arg19.view.readCov (Val := Elt Ideal) (HS5_2 A) (Rect.unit (s := S2x384x128) ![0, 0, 0] S1x384x128.size inb_S2x384x128_S1x384x128_0_0_0).toLoadRect) shapeCasts_S1x384x128_S384x128) (dkCat_1 A))
    (pairTokens (F := Ideal) (shapeCast S384x128 (A.arg19.view.readCov (Val := Elt Ideal) (HS5_4 A) (Rect.unit (s := S2x384x128) ![0, 0, 0] S1x384x128.size inb_S2x384x128_S1x384x128_0_0_0).toLoadRect) shapeCasts_S1x384x128_S384x128) (dkCat_3 A)) _ _ _ _ (fun g j d => DKS A g j d)
    (pairTokens_of _ _ (fun g j d => DKS A g j d) 0 (dk_even_0 A) (dkCat_1_apply A)) (pairTokens_of _ _ (fun g j d => DKS A g j d) 2 (dk_even_1 A) (dkCat_3_apply A)) r d

theorem dq_0 (f) (y) (hy : dqStore y < 1) : (dqView A).read (Elt Ideal) (H10_w1 A f) y = dqRow A y :=
  dq_store A 0 0 0 0 0 (by decide) (by decide) (by decide) (by decide) (by decide) _ _ (v3046 A) (dqt_0_0 A) [] inb_S128x2x128_S128x2x128_0_0_0 inb_S128x2x128_S64x2x128_0_0_0_s_2_1_1 f (fun y hy => absurd hy (Nat.not_lt_zero _)) y hy

theorem dq_1 (f) (y) (hy : dqStore y < 2) : (dqView A).read (Elt Ideal) (H10_w2 A f) y = dqRow A y :=
  dq_store A 0 0 1 1 1 (by decide) (by decide) (by decide) (by decide) (by decide) _ _ (v3046 A) (dqt_0_0 A) [] inb_S128x2x128_S128x2x128_0_0_0 inb_S128x2x128_S64x2x128_1_0_0_s_2_1_1 (H10_w1 A f) (dq_0 A f) y hy

theorem dq_2 (f) (y) (hy : dqStore y < 3) : (dqView A).read (Elt Ideal) (H10_w3 A f) y = dqRow A y :=
  dq_store A 0 1 0 512 2 (by decide) (by decide) (by decide) (by decide) (by decide) _ _ (v3386 A) (dqt_0_1 A) (HS4_1 A) inb_S128x2x128_S128x2x128_0_0_0 inb_S128x2x128_S64x2x128_0_0_0_s_2_1_1 (H10_w2 A f) (dq_1 A f) y hy

theorem dq_3 (f) (y) (hy : dqStore y < 4) : (dqView A).read (Elt Ideal) (H10_w4 A f) y = dqRow A y :=
  dq_store A 0 1 1 513 3 (by decide) (by decide) (by decide) (by decide) (by decide) _ _ (v3386 A) (dqt_0_1 A) (HS4_1 A) inb_S128x2x128_S128x2x128_0_0_0 inb_S128x2x128_S64x2x128_1_0_0_s_2_1_1 (H10_w3 A f) (dq_2 A f) y hy

theorem dq_4 (f) (y) (hy : dqStore y < 5) : (dqView A).read (Elt Ideal) (H10_w5 A f) y = dqRow A y :=
  dq_store A 0 2 0 1024 4 (by decide) (by decide) (by decide) (by decide) (by decide) _ _ (v3747 A) (dqt_0_2 A) (HS4_2 A) inb_S128x2x128_S128x2x128_0_0_0 inb_S128x2x128_S64x2x128_0_0_0_s_2_1_1 (H10_w4 A f) (dq_3 A f) y hy

theorem dq_5 (f) (y) (hy : dqStore y < 6) : (dqView A).read (Elt Ideal) (H10_w6 A f) y = dqRow A y :=
  dq_store A 0 2 1 1025 5 (by decide) (by decide) (by decide) (by decide) (by decide) _ _ (v3747 A) (dqt_0_2 A) (HS4_2 A) inb_S128x2x128_S128x2x128_0_0_0 inb_S128x2x128_S64x2x128_1_0_0_s_2_1_1 (H10_w5 A f) (dq_4 A f) y hy

theorem dq_6 (f) (y) (hy : dqStore y < 7) : (dqView A).read (Elt Ideal) (H10_w7 A f) y = dqRow A y :=
  dq_store A 0 3 0 1536 6 (by decide) (by decide) (by decide) (by decide) (by decide) _ _ (dqtn_0_3 A) (dqt_0_3 A) (HS4_3 A) inb_S128x2x128_S128x2x128_0_0_0 inb_S128x2x128_S64x2x128_0_0_0_s_2_1_1 (H10_w6 A f) (dq_5 A f) y hy

theorem dq_7 (f) (y) (hy : dqStore y < 8) : (dqView A).read (Elt Ideal) (H10_w8 A f) y = dqRow A y :=
  dq_store A 0 3 1 1537 7 (by decide) (by decide) (by decide) (by decide) (by decide) _ _ (dqtn_0_3 A) (dqt_0_3 A) (HS4_3 A) inb_S128x2x128_S128x2x128_0_0_0 inb_S128x2x128_S64x2x128_1_0_0_s_2_1_1 (H10_w7 A f) (dq_6 A f) y hy

theorem dq_8 (f) (y) (hy : dqStore y < 9) : (dqView A).read (Elt Ideal) (H10_w9 A f) y = dqRow A y :=
  dq_store A 0 4 0 2048 8 (by decide) (by decide) (by decide) (by decide) (by decide) _ _ (v4561 A) (dqt_0_4 A) (HS4_4 A) inb_S128x2x128_S128x2x128_0_0_0 inb_S128x2x128_S64x2x128_0_0_0_s_2_1_1 (H10_w8 A f) (dq_7 A f) y hy

theorem dq_9 (f) (y) (hy : dqStore y < 10) : (dqView A).read (Elt Ideal) (H10_w10 A f) y = dqRow A y :=
  dq_store A 0 4 1 2049 9 (by decide) (by decide) (by decide) (by decide) (by decide) _ _ (v4561 A) (dqt_0_4 A) (HS4_4 A) inb_S128x2x128_S128x2x128_0_0_0 inb_S128x2x128_S64x2x128_1_0_0_s_2_1_1 (H10_w9 A f) (dq_8 A f) y hy

theorem dq_10 (f) (y) (hy : dqStore y < 11) : (dqView A).read (Elt Ideal) (H10_w11 A f) y = dqRow A y :=
  dq_store A 0 5 0 2560 10 (by decide) (by decide) (by decide) (by decide) (by decide) _ _ (v4993 A) (dqt_0_5 A) (HS4_5 A) inb_S128x2x128_S128x2x128_0_0_0 inb_S128x2x128_S64x2x128_0_0_0_s_2_1_1 (H10_w10 A f) (dq_9 A f) y hy

theorem dq_11 (f) (y) (hy : dqStore y < 12) : (dqView A).read (Elt Ideal) (H10_w12 A f) y = dqRow A y :=
  dq_store A 0 5 1 2561 11 (by decide) (by decide) (by decide) (by decide) (by decide) _ _ (v4993 A) (dqt_0_5 A) (HS4_5 A) inb_S128x2x128_S128x2x128_0_0_0 inb_S128x2x128_S64x2x128_1_0_0_s_2_1_1 (H10_w11 A f) (dq_10 A f) y hy

theorem dq_12 (f) (y) (hy : dqStore y < 13) : (dqView A).read (Elt Ideal) (H10_w13 A f) y = dqRow A y :=
  dq_store A 1 0 0 2 12 (by decide) (by decide) (by decide) (by decide) (by decide) _ _ (v5366 A) (dqt_1_0 A) (HS4_6 A) inb_S128x2x128_S128x2x128_0_0_0 inb_S128x2x128_S64x2x128_0_0_0_s_2_1_1 (H10_w12 A f) (dq_11 A f) y hy

theorem dq_13 (f) (y) (hy : dqStore y < 14) : (dqView A).read (Elt Ideal) (H10_w14 A f) y = dqRow A y :=
  dq_store A 1 0 1 3 13 (by decide) (by decide) (by decide) (by decide) (by decide) _ _ (v5366 A) (dqt_1_0 A) (HS4_6 A) inb_S128x2x128_S128x2x128_0_0_0 inb_S128x2x128_S64x2x128_1_0_0_s_2_1_1 (H10_w13 A f) (dq_12 A f) y hy

theorem dq_14 (f) (y) (hy : dqStore y < 15) : (dqView A).read (Elt Ideal) (H10_w15 A f) y = dqRow A y :=
  dq_store A 1 1 0 514 14 (by decide) (by decide) (by decide) (by decide) (by decide) _ _ (v5706 A) (dqt_1_1 A) (HS4_7 A) inb_S128x2x128_S128x2x128_0_0_0 inb_S128x2x128_S64x2x128_0_0_0_s_2_1_1 (H10_w14 A f) (dq_13 A f) y hy

theorem dq_15 (f) (y) (hy : dqStore y < 16) : (dqView A).read (Elt Ideal) (H10_w16 A f) y = dqRow A y :=
  dq_store A 1 1 1 515 15 (by decide) (by decide) (by decide) (by decide) (by decide) _ _ (v5706 A) (dqt_1_1 A) (HS4_7 A) inb_S128x2x128_S128x2x128_0_0_0 inb_S128x2x128_S64x2x128_1_0_0_s_2_1_1 (H10_w15 A f) (dq_14 A f) y hy

theorem dq_16 (f) (y) (hy : dqStore y < 17) : (dqView A).read (Elt Ideal) (H10_w17 A f) y = dqRow A y :=
  dq_store A 1 2 0 1026 16 (by decide) (by decide) (by decide) (by decide) (by decide) _ _ (v6067 A) (dqt_1_2 A) (HS4_8 A) inb_S128x2x128_S128x2x128_0_0_0 inb_S128x2x128_S64x2x128_0_0_0_s_2_1_1 (H10_w16 A f) (dq_15 A f) y hy

theorem dq_17 (f) (y) (hy : dqStore y < 18) : (dqView A).read (Elt Ideal) (H10_w18 A f) y = dqRow A y :=
  dq_store A 1 2 1 1027 17 (by decide) (by decide) (by decide) (by decide) (by decide) _ _ (v6067 A) (dqt_1_2 A) (HS4_8 A) inb_S128x2x128_S128x2x128_0_0_0 inb_S128x2x128_S64x2x128_1_0_0_s_2_1_1 (H10_w17 A f) (dq_16 A f) y hy

theorem dq_18 (f) (y) (hy : dqStore y < 19) : (dqView A).read (Elt Ideal) (H10_w19 A f) y = dqRow A y :=
  dq_store A 1 3 0 1538 18 (by decide) (by decide) (by decide) (by decide) (by decide) _ _ (dqtn_1_3 A) (dqt_1_3 A) (HS4_9 A) inb_S128x2x128_S128x2x128_0_0_0 inb_S128x2x128_S64x2x128_0_0_0_s_2_1_1 (H10_w18 A f) (dq_17 A f) y hy

theorem dq_19 (f) (y) (hy : dqStore y < 20) : (dqView A).read (Elt Ideal) (H10_w20 A f) y = dqRow A y :=
  dq_store A 1 3 1 1539 19 (by decide) (by decide) (by decide) (by decide) (by decide) _ _ (dqtn_1_3 A) (dqt_1_3 A) (HS4_9 A) inb_S128x2x128_S128x2x128_0_0_0 inb_S128x2x128_S64x2x128_1_0_0_s_2_1_1 (H10_w19 A f) (dq_18 A f) y hy

theorem dq_20 (f) (y) (hy : dqStore y < 21) : (dqView A).read (Elt Ideal) (H10_w21 A f) y = dqRow A y :=
  dq_store A 1 4 0 2050 20 (by decide) (by decide) (by decide) (by decide) (by decide) _ _ (v6881 A) (dqt_1_4 A) (HS4_10 A) inb_S128x2x128_S128x2x128_0_0_0 inb_S128x2x128_S64x2x128_0_0_0_s_2_1_1 (H10_w20 A f) (dq_19 A f) y hy

theorem dq_21 (f) (y) (hy : dqStore y < 22) : (dqView A).read (Elt Ideal) (H10_w22 A f) y = dqRow A y :=
  dq_store A 1 4 1 2051 21 (by decide) (by decide) (by decide) (by decide) (by decide) _ _ (v6881 A) (dqt_1_4 A) (HS4_10 A) inb_S128x2x128_S128x2x128_0_0_0 inb_S128x2x128_S64x2x128_1_0_0_s_2_1_1 (H10_w21 A f) (dq_20 A f) y hy

theorem dq_22 (f) (y) (hy : dqStore y < 23) : (dqView A).read (Elt Ideal) (H10_w23 A f) y = dqRow A y :=
  dq_store A 1 5 0 2562 22 (by decide) (by decide) (by decide) (by decide) (by decide) _ _ (v7313 A) (dqt_1_5 A) (HS4_11 A) inb_S128x2x128_S128x2x128_0_0_0 inb_S128x2x128_S64x2x128_0_0_0_s_2_1_1 (H10_w22 A f) (dq_21 A f) y hy

theorem dq_23 (f) (y) (hy : dqStore y < 24) : (dqView A).read (Elt Ideal) (H10_w24 A f) y = dqRow A y :=
  dq_store A 1 5 1 2563 23 (by decide) (by decide) (by decide) (by decide) (by decide) _ _ (v7313 A) (dqt_1_5 A) (HS4_11 A) inb_S128x2x128_S128x2x128_0_0_0 inb_S128x2x128_S64x2x128_1_0_0_s_2_1_1 (H10_w23 A f) (dq_22 A f) y hy

theorem dq_24 (f) (y) (hy : dqStore y < 25) : (dqView A).read (Elt Ideal) (H10_w27 A f) y = dqRow A y :=
  dq_store A 2 0 0 4 24 (by decide) (by decide) (by decide) (by decide) (by decide) _ _ (dqtn_2_0 A) (dqt_2_0 A) (HS4_12 A) inb_S128x2x128_S128x2x128_0_0_0 inb_S128x2x128_S64x2x128_0_0_0_s_2_1_1 (H10_w24 A f) (dq_23 A f) y hy

theorem dq_25 (f) (y) (hy : dqStore y < 26) : (dqView A).read (Elt Ideal) (H10_w28 A f) y = dqRow A y :=
  dq_store A 2 0 1 5 25 (by decide) (by decide) (by decide) (by decide) (by decide) _ _ (dqtn_2_0 A) (dqt_2_0 A) (HS4_12 A) inb_S128x2x128_S128x2x128_0_0_0 inb_S128x2x128_S64x2x128_1_0_0_s_2_1_1 (H10_w27 A f) (dq_24 A f) y hy

theorem dq_26 (f) (y) (hy : dqStore y < 27) : (dqView A).read (Elt Ideal) (H10_w29 A f) y = dqRow A y :=
  dq_store A 2 1 0 516 26 (by decide) (by decide) (by decide) (by decide) (by decide) _ _ (v8034 A) (dqt_2_1 A) (HS4_13 A) inb_S128x2x128_S128x2x128_0_0_0 inb_S128x2x128_S64x2x128_0_0_0_s_2_1_1 (H10_w28 A f) (dq_25 A f) y hy

theorem dq_27 (f) (y) (hy : dqStore y < 28) : (dqView A).read (Elt Ideal) (H10_w30 A f) y = dqRow A y :=
  dq_store A 2 1 1 517 27 (by decide) (by decide) (by decide) (by decide) (by decide) _ _ (v8034 A) (dqt_2_1 A) (HS4_13 A) inb_S128x2x128_S128x2x128_0_0_0 inb_S128x2x128_S64x2x128_1_0_0_s_2_1_1 (H10_w29 A f) (dq_26 A f) y hy

theorem dq_28 (f) (y) (hy : dqStore y < 29) : (dqView A).read (Elt Ideal) (H10_w31 A f) y = dqRow A y :=
  dq_store A 2 2 0 1028 28 (by decide) (by decide) (by decide) (by decide) (by decide) _ _ (v8395 A) (dqt_2_2 A) (HS4_14 A) inb_S128x2x128_S128x2x128_0_0_0 inb_S128x2x128_S64x2x128_0_0_0_s_2_1_1 (H10_w30 A f) (dq_27 A f) y hy

theorem dq_29 (f) (y) (hy : dqStore y < 30) : (dqView A).read (Elt Ideal) (H10_w32 A f) y = dqRow A y :=
  dq_store A 2 2 1 1029 29 (by decide) (by decide) (by decide) (by decide) (by decide) _ _ (v8395 A) (dqt_2_2 A) (HS4_14 A) inb_S128x2x128_S128x2x128_0_0_0 inb_S128x2x128_S64x2x128_1_0_0_s_2_1_1 (H10_w31 A f) (dq_28 A f) y hy

theorem dq_30 (f) (y) (hy : dqStore y < 31) : (dqView A).read (Elt Ideal) (H10_w33 A f) y = dqRow A y :=
  dq_store A 2 3 0 1540 30 (by decide) (by decide) (by decide) (by decide) (by decide) _ _ (v8777 A) (dqt_2_3 A) (HS4_15 A) inb_S128x2x128_S128x2x128_0_0_0 inb_S128x2x128_S64x2x128_0_0_0_s_2_1_1 (H10_w32 A f) (dq_29 A f) y hy

theorem dq_31 (f) (y) (hy : dqStore y < 32) : (dqView A).read (Elt Ideal) (H10_w34 A f) y = dqRow A y :=
  dq_store A 2 3 1 1541 31 (by decide) (by decide) (by decide) (by decide) (by decide) _ _ (v8777 A) (dqt_2_3 A) (HS4_15 A) inb_S128x2x128_S128x2x128_0_0_0 inb_S128x2x128_S64x2x128_1_0_0_s_2_1_1 (H10_w33 A f) (dq_30 A f) y hy

theorem dq_32 (f) (y) (hy : dqStore y < 33) : (dqView A).read (Elt Ideal) (H10_w35 A f) y = dqRow A y :=
  dq_store A 2 4 0 2052 32 (by decide) (by decide) (by decide) (by decide) (by decide) _ _ (v9209 A) (dqt_2_4 A) (HS4_16 A) inb_S128x2x128_S128x2x128_0_0_0 inb_S128x2x128_S64x2x128_0_0_0_s_2_1_1 (H10_w34 A f) (dq_31 A f) y hy

theorem dq_33 (f) (y) (hy : dqStore y < 34) : (dqView A).read (Elt Ideal) (H10_w36 A f) y = dqRow A y :=
  dq_store A 2 4 1 2053 33 (by decide) (by decide) (by decide) (by decide) (by decide) _ _ (v9209 A) (dqt_2_4 A) (HS4_16 A) inb_S128x2x128_S128x2x128_0_0_0 inb_S128x2x128_S64x2x128_1_0_0_s_2_1_1 (H10_w35 A f) (dq_32 A f) y hy

theorem dq_34 (f) (y) (hy : dqStore y < 35) : (dqView A).read (Elt Ideal) (H10_w37 A f) y = dqRow A y :=
  dq_store A 2 5 0 2564 34 (by decide) (by decide) (by decide) (by decide) (by decide) _ _ (dqtn_2_5 A) (dqt_2_5 A) (HS4_17 A) inb_S128x2x128_S128x2x128_0_0_0 inb_S128x2x128_S64x2x128_0_0_0_s_2_1_1 (H10_w36 A f) (dq_33 A f) y hy

theorem dq_35 (f) (y) (hy : dqStore y < 36) : (dqView A).read (Elt Ideal) (H10_w38 A f) y = dqRow A y :=
  dq_store A 2 5 1 2565 35 (by decide) (by decide) (by decide) (by decide) (by decide) _ _ (dqtn_2_5 A) (dqt_2_5 A) (HS4_17 A) inb_S128x2x128_S128x2x128_0_0_0 inb_S128x2x128_S64x2x128_1_0_0_s_2_1_1 (H10_w37 A f) (dq_34 A f) y hy

theorem dq_36 (f) (y) (hy : dqStore y < 37) : (dqView A).read (Elt Ideal) (H10_w39 A f) y = dqRow A y :=
  dq_store A 3 0 0 6 36 (by decide) (by decide) (by decide) (by decide) (by decide) _ _ (dqtn_3_0 A) (dqt_3_0 A) (HS4_18 A) inb_S128x2x128_S128x2x128_0_0_0 inb_S128x2x128_S64x2x128_0_0_0_s_2_1_1 (H10_w38 A f) (dq_35 A f) y hy

theorem dq_37 (f) (y) (hy : dqStore y < 38) : (dqView A).read (Elt Ideal) (H10_w40 A f) y = dqRow A y :=
  dq_store A 3 0 1 7 37 (by decide) (by decide) (by decide) (by decide) (by decide) _ _ (dqtn_3_0 A) (dqt_3_0 A) (HS4_18 A) inb_S128x2x128_S128x2x128_0_0_0 inb_S128x2x128_S64x2x128_1_0_0_s_2_1_1 (H10_w39 A f) (dq_36 A f) y hy

theorem dq_38 (f) (y) (hy : dqStore y < 39) : (dqView A).read (Elt Ideal) (H10_w41 A f) y = dqRow A y :=
  dq_store A 3 1 0 518 38 (by decide) (by decide) (by decide) (by decide) (by decide) _ _ (v10354 A) (dqt_3_1 A) (HS4_19 A) inb_S128x2x128_S128x2x128_0_0_0 inb_S128x2x128_S64x2x128_0_0_0_s_2_1_1 (H10_w40 A f) (dq_37 A f) y hy

theorem dq_39 (f) (y) (hy : dqStore y < 40) : (dqView A).read (Elt Ideal) (H10_w42 A f) y = dqRow A y :=
  dq_store A 3 1 1 519 39 (by decide) (by decide) (by decide) (by decide) (by decide) _ _ (v10354 A) (dqt_3_1 A) (HS4_19 A) inb_S128x2x128_S128x2x128_0_0_0 inb_S128x2x128_S64x2x128_1_0_0_s_2_1_1 (H10_w41 A f) (dq_38 A f) y hy

theorem dq_40 (f) (y) (hy : dqStore y < 41) : (dqView A).read (Elt Ideal) (H10_w43 A f) y = dqRow A y :=
  dq_store A 3 2 0 1030 40 (by decide) (by decide) (by decide) (by decide) (by decide) _ _ (v10715 A) (dqt_3_2 A) (HS4_20 A) inb_S128x2x128_S128x2x128_0_0_0 inb_S128x2x128_S64x2x128_0_0_0_s_2_1_1 (H10_w42 A f) (dq_39 A f) y hy

theorem dq_41 (f) (y) (hy : dqStore y < 42) : (dqView A).read (Elt Ideal) (H10_w44 A f) y = dqRow A y :=
  dq_store A 3 2 1 1031 41 (by decide) (by decide) (by decide) (by decide) (by decide) _ _ (v10715 A) (dqt_3_2 A) (HS4_20 A) inb_S128x2x128_S128x2x128_0_0_0 inb_S128x2x128_S64x2x128_1_0_0_s_2_1_1 (H10_w43 A f) (dq_40 A f) y hy

theorem dq_42 (f) (y) (hy : dqStore y < 43) : (dqView A).read (Elt Ideal) (H10_w45 A f) y = dqRow A y :=
  dq_store A 3 3 0 1542 42 (by decide) (by decide) (by decide) (by decide) (by decide) _ _ (v11097 A) (dqt_3_3 A) (HS4_21 A) inb_S128x2x128_S128x2x128_0_0_0 inb_S128x2x128_S64x2x128_0_0_0_s_2_1_1 (H10_w44 A f) (dq_41 A f) y hy

theorem dq_43 (f) (y) (hy : dqStore y < 44) : (dqView A).read (Elt Ideal) (H10_w46 A f) y = dqRow A y :=
  dq_store A 3 3 1 1543 43 (by decide) (by decide) (by decide) (by decide) (by decide) _ _ (v11097 A) (dqt_3_3 A) (HS4_21 A) inb_S128x2x128_S128x2x128_0_0_0 inb_S128x2x128_S64x2x128_1_0_0_s_2_1_1 (H10_w45 A f) (dq_42 A f) y hy

theorem dq_44 (f) (y) (hy : dqStore y < 45) : (dqView A).read (Elt Ideal) (H10_w47 A f) y = dqRow A y :=
  dq_store A 3 4 0 2054 44 (by decide) (by decide) (by decide) (by decide) (by decide) _ _ (v11529 A) (dqt_3_4 A) (HS4_22 A) inb_S128x2x128_S128x2x128_0_0_0 inb_S128x2x128_S64x2x128_0_0_0_s_2_1_1 (H10_w46 A f) (dq_43 A f) y hy

theorem dq_45 (f) (y) (hy : dqStore y < 46) : (dqView A).read (Elt Ideal) (H10_w48 A f) y = dqRow A y :=
  dq_store A 3 4 1 2055 45 (by decide) (by decide) (by decide) (by decide) (by decide) _ _ (v11529 A) (dqt_3_4 A) (HS4_22 A) inb_S128x2x128_S128x2x128_0_0_0 inb_S128x2x128_S64x2x128_1_0_0_s_2_1_1 (H10_w47 A f) (dq_44 A f) y hy

theorem dq_46 (f) (y) (hy : dqStore y < 47) : (dqView A).read (Elt Ideal) (H10_w49 A f) y = dqRow A y :=
  dq_store A 3 5 0 2566 46 (by decide) (by decide) (by decide) (by decide) (by decide) _ _ (dqtn_3_5 A) (dqt_3_5 A) (HS4_23 A) inb_S128x2x128_S128x2x128_0_0_0 inb_S128x2x128_S64x2x128_0_0_0_s_2_1_1 (H10_w48 A f) (dq_45 A f) y hy

theorem dq_47 (f) (y) (hy : dqStore y < 48) : (dqView A).read (Elt Ideal) (H10_w50 A f) y = dqRow A y :=
  dq_store A 3 5 1 2567 47 (by decide) (by decide) (by decide) (by decide) (by decide) _ _ (dqtn_3_5 A) (dqt_3_5 A) (HS4_23 A) inb_S128x2x128_S128x2x128_0_0_0 inb_S128x2x128_S64x2x128_1_0_0_s_2_1_1 (H10_w49 A f) (dq_46 A f) y hy

theorem dq_out (f) (r : Fin 6144) (d : Fin 128) : A.arg11.view.read (Elt Ideal) (H10_w50 A f) (ix3 (0 : Fin 1) r d) = DQ A (r.val % 16 / 4) (r.val / 16) (r.val % 4) d :=
  dq_rows A (H10_w50 A f) (dq_47 A f) r d

end Cert.KernelIdeal.Hand
-- ==== Proof.Exact.Frame.lean ====
/- The frame of the launch. -/
module

public import proofs.«01_k».proof.Proof.Exact.Outputs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- What the body is given at point `t`. -/
def packAt (c : Dev nD) (t : Fin cfg0.N) : Pack Ideal :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, scM0_0, Memref.isWhole_whole _, scM0_1, Memref.isWhole_whole _, scM0_2, Memref.isWhole_whole _, scM0_3, Memref.isWhole_whole _, scM0_4, Memref.isWhole_whole _, scM0_5, Memref.isWhole_whole _,
    iblk m c 0 t, iblk m c 1 t, iblk m c 2 t, iblk m c 3 t, iblk m c 4 t, iblk m c 5 t, iblk m c 6 t, iblk m c 7 t, iblk m c 8 t, iblk m c 9 t⟩

/-- The query gradient's block at point `t`, -/
def blkQ (c : Dev nD) (t : Fin cfg0.N) (y : S1x6144x128.Idx) : EReal := DQ (packAt m c t) ((y 1).val % 16 / 4) ((y 1).val / 16) ((y 1).val % 4) (y 2)
/-- the key gradient's, -/
def blkK (c : Dev nD) (t : Fin cfg0.N) (y : S1x1536x128.Idx) : EReal := DKS (packAt m c t) ((y 1).val % 4) ((y 1).val / 4) (y 2)
/-- and the value gradient's. -/
def blkV (c : Dev nD) (t : Fin cfg0.N) (y : S1x1536x128.Idx) : EReal := DV (packAt m c t) ((y 1).val % 4) ((y 1).val / 4) (y 2)

theorem blkQ_out (c : Dev nD) (t : Fin cfg0.N) (f) : (packAt m c t).arg11.view.read (Elt Ideal) ((bodyRun (packAt m c t)).1 f) = blkQ m c t := by
  funext y
  obtain ⟨y0, y1, y2, rfl⟩ : ∃ (a : Fin 1) (b : Fin 6144) (d : Fin 128), y = ix3 a b d := ⟨y 0, y 1, y 2, eq_ix3 y⟩
  obtain rfl : y0 = 0 := Subsingleton.elim _ _
  exact dq_out (packAt m c t) f y1 y2

theorem blkK_out (c : Dev nD) (t : Fin cfg0.N) (f) : (packAt m c t).arg12.view.read (Elt Ideal) ((bodyRun (packAt m c t)).2.1 f) = blkK m c t := by
  funext y
  obtain ⟨y0, y1, y2, rfl⟩ : ∃ (a : Fin 1) (b : Fin 1536) (d : Fin 128), y = ix3 a b d := ⟨y 0, y 1, y 2, eq_ix3 y⟩
  obtain rfl : y0 = 0 := Subsingleton.elim _ _
  exact dk_out (packAt m c t) f y1 y2

theorem blkV_out (c : Dev nD) (t : Fin cfg0.N) (f) : (packAt m c t).arg13.view.read (Elt Ideal) ((bodyRun (packAt m c t)).2.2.1 f) = blkV m c t := by
  funext y
  obtain ⟨y0, y1, y2, rfl⟩ : ∃ (a : Fin 1) (b : Fin 1536) (d : Fin 128), y = ix3 a b d := ⟨y 0, y 1, y 2, eq_ix3 y⟩
  obtain rfl : y0 = 0 := Subsingleton.elim _ _
  exact dv_out (packAt m c t) f y1 y2

/-- The proof data of the one pipeline on core `c`: the arrays as the region finds them (`V`); after the body at
    point `t` each input's buffer at its block and each output's at its closed form; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => blkQ m c t
    | ⟨11, _⟩ => blkK m c t
    | ⟨12, _⟩ => blkV m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = blkQ m c t := by dsimp only [dats]
theorem after0_11 (c : Dev nD) (t : Fin cfg0.N) : (dats m 0 c).after 11 t = blkK m c t := by dsimp only [dats]
theorem after0_12 (c : Dev nD) (t : Fin cfg0.N) : (dats m 0 c).after 12 t = blkV m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyRun (packAt m c t)).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · icases H10 with ⟨%f10, H10⟩
    unfold owns
    iexists _
    isplitr
    swap
    · iexact H10
    ipureintro
    exact blkQ_out m c t f10
  isplitl [H11]
  · icases H11 with ⟨%f11, H11⟩
    unfold owns
    iexists _
    isplitr
    swap
    · iexact H11
    ipureintro
    exact blkK_out m c t f11
  · icases H12 with ⟨%f12, H12⟩
    unfold owns
    iexists _
    isplitr
    swap
    · iexact H12
    ipureintro
    exact blkV_out m c t f12

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every weakly fair execution of @main terminates, every input array unchanged and
    every output array at what its blocks make of it. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toR) (A_eq m) ((θ_run defs _ _).mono (fun _ h c => ⟨fun w => ((dats m 0 c).toR_arrAt_iff w _ _).mpr ((h c).1 w), (h c).2⟩) (run_main m ρ))

/-- The frame: arguments end unchanged, counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Hand

end
-- ==== Proof.Exact.Algebra.lean ====
/- The extended reals: the plain gradients of one batch are the sums the kernel adds up. -/
module

public import proofs.«01_k».proof.Proof.Exact.Spec

@[expose] public section

set_option maxRecDepth 16384

namespace Cert.KernelIdeal.Hand

open Cert.KernelIdeal Cert.KernelIdeal.Gen
open Idealize.ShloMosaic Idealize.ShloMosaic.TcCoe

noncomputable section

/-! ## The constants -/

theorem toBase2_eq : (toBase2 : EReal) = (((Real.log 2)⁻¹ : ℝ) : EReal) := IdealRules.named_const.ideal_named_scalar _ _ _ _ rfl
theorem smE_eq : smE = (((Real.sqrt 128)⁻¹ : ℝ) : EReal) := IdealRules.named_const.ideal_named_scalar _ _ _ _ rfl
theorem smTwo_eq : smTwo = smE * (toBase2 : EReal) := by
  rw [smE_eq, toBase2_eq, ← EReal.coe_mul]
  exact IdealRules.named_const.ideal_named_scalar _ _ _ _ rfl

theorem log2_pos : (0 : ℝ) < (Real.log 2)⁻¹ := inv_pos.mpr (Real.log_pos (by norm_num))
theorem toBase2_nonneg : (0 : EReal) ≤ toBase2 := by rw [toBase2_eq]; exact_mod_cast log2_pos.le
theorem toBase2_top : (toBase2 : EReal) ≠ ⊤ := by rw [toBase2_eq]; exact EReal.coe_ne_top _
theorem smE_nonneg : (0 : EReal) ≤ smE := by rw [smE_eq]; exact_mod_cast inv_nonneg.mpr (Real.sqrt_nonneg _)
theorem smE_top : smE ≠ ⊤ := by rw [smE_eq]; exact EReal.coe_ne_top _

/-- A power of two, its exponent scaled to base two, is the exponential. -/
theorem exp2_base (w : EReal) : Ideal.exp2 (w * toBase2) = Ideal.exp w := by
  rw [toBase2_eq]
  induction w with
  | bot => rw [EReal.bot_mul_coe_of_pos log2_pos]; rfl
  | top => rw [EReal.top_mul_coe_of_pos log2_pos]; rfl
  | coe r =>
    rw [← EReal.coe_mul, Ideal.exp2_coe]
    show ((Real.rpow 2 (r * (Real.log 2)⁻¹) : ℝ) : EReal) = (Real.exp r : EReal)
    congr 1
    rw [show Real.rpow 2 (r * (Real.log 2)⁻¹) = (2 : ℝ) ^ (r * (Real.log 2)⁻¹) from rfl, Real.rpow_def_of_pos (by norm_num)]
    congr 1
    have : Real.log 2 ≠ 0 := (Real.log_pos (by norm_num)).ne'
    field_simp

/-! ## Sums times a scale -/

theorem sum_mul_nn {ι : Type*} (s : Finset ι) (f : ι → EReal) (x : EReal) (h0 : 0 ≤ x) (h1 : x ≠ ⊤) : (∑ i ∈ s, f i) * x = ∑ i ∈ s, f i * x := by
  classical
  induction s using Finset.induction_on with
  | empty => rw [Finset.sum_empty, Finset.sum_empty, zero_mul]
  | insert a s ha ih => rw [Finset.sum_insert ha, Finset.sum_insert ha, EReal.right_distrib_of_nonneg_of_ne_top h0 h1, ih]

theorem sub_mul_nn (x y z : EReal) (h0 : 0 ≤ z) (h1 : z ≠ ⊤) : (x - y) * z = x * z - y * z := by
  rw [sub_eq_add_neg, EReal.right_distrib_of_nonneg_of_ne_top h0 h1, neg_mul, ← sub_eq_add_neg]

theorem mul_top' {x y : EReal} (hx : 0 ≤ x) (hy : 0 ≤ y) (h0 : x ≠ ⊤) (h1 : y ≠ ⊤) : x * y ≠ ⊤ := by
  lift x to ℝ using ⟨h0, fun h => by simp [h] at hx⟩
  lift y to ℝ using ⟨h1, fun h => by simp [h] at hy⟩
  rw [← EReal.coe_mul]
  exact EReal.coe_ne_top _

/-! ## The plain gradients of one batch -/

/-- The weight of query row `i` at key `j`. -/
def RP (A : Pack Ideal) (g i e j : ℕ) : EReal :=
  Ideal.exp (if j ≤ i ∧ i < j + 256 then SF A g i e j * qsF A (i / 128) (4 * g + e) * ksF A (j / 128) g * smE - Lf A i (4 * g + e) else ⊥)

/-- The gradient of its score. -/
def RD (A : Pack Ideal) (g i e j : ℕ) : EReal :=
  RP A g i e j * (DPF A g i e j * gsF A (i / 128) (4 * g + e) * vsF A (j / 128) g
    - ∑ d : Fin 128, Gf A i (4 * g + e) d * gsF A (i / 128) (4 * g + e) * Of A i (4 * g + e) d)

def RDQ (A : Pack Ideal) (g i e : ℕ) (d : Fin 128) : EReal :=
  (∑ j : Fin 384, Kf A j.val g d * ksF A (j.val / 128) g * RD A g i e j.val) * smE
def RDK (A : Pack Ideal) (g j : ℕ) (d : Fin 128) : EReal :=
  ∑ r : Fin 4, (∑ i : Fin 384, Qf A i.val (4 * g + r.val) d * qsF A (i.val / 128) (4 * g + r.val) * RD A g i.val r.val j) * smE
def RDV (A : Pack Ideal) (g j : ℕ) (d : Fin 128) : EReal :=
  ∑ r : Fin 4, ∑ i : Fin 384, Gf A i.val (4 * g + r.val) d * gsF A (i.val / 128) (4 * g + r.val) * RP A g i.val r.val j

/-- What is asked of the scales: the value scales are positive reals, the output-gradient scales nonnegative ones. -/
def ScalesOk (A : Pack Ideal) : Prop :=
  (∀ b h, b < 3 → h < 4 → 0 < vsF A b h ∧ vsF A b h ≠ ⊤) ∧ (∀ b h, b < 3 → h < 16 → 0 ≤ gsF A b h ∧ gsF A b h ≠ ⊤)

theorem RP_eq (A : Pack Ideal) (g i e j : ℕ) : RP A g i e j = PF A g i e j := by
  rw [RP, PF]
  split
  · rw [← exp2_base, sub_mul_nn _ _ _ toBase2_nonneg toBase2_top, smTwo_eq]
    refine (congrArg (fun z : EReal => Ideal.exp2 (z - Lf A i (4 * g + e) * toBase2)) ?_)
    ac_rfl
  · rfl

theorem RD_eq (A : Pack Ideal) (hA : ScalesOk A) (g i e j : ℕ) (hg : g < 4) (he : e < 4) (hi : i < 384) (hj : j < 384) :
    RD A g i e j = GF A g i e j * (vsF A (j / 128) g * gsF A (i / 128) (4 * g + e)) := by
  obtain ⟨v0, v1⟩ := hA.1 (j / 128) g (by omega) hg
  obtain ⟨s0, s1⟩ := hA.2 (i / 128) (4 * g + e) (by omega) (by omega)
  have hd : (∑ d : Fin 128, Gf A i (4 * g + e) d * gsF A (i / 128) (4 * g + e) * Of A i (4 * g + e) d)
      = DLF A i (4 * g + e) * gsF A (i / 128) (4 * g + e) := by
    rw [DLF, sum_mul_nn _ _ _ s0 s1]
    exact Finset.sum_congr rfl fun d _ => by ac_rfl
  rw [RD, RP_eq, GF, hd, mul_assoc (PF A g i e j) (_ - _)]
  congr 1
  generalize gsF A (i / 128) (4 * g + e) = s at *
  generalize vsF A (j / 128) g = v at *
  rw [sub_mul_nn _ _ _ (mul_nonneg v0.le s0) (mul_top' v0.le s0 v1 s1)]
  have hv : Ideal.div 1 v * v = 1 := by
    lift v to ℝ using ⟨v1, fun h => by simp [h] at v0⟩
    have hv : v ≠ 0 := by intro h; simp [h] at v0
    rw [Ideal.div_coe hv, one_mul, ← EReal.coe_mul, one_div, inv_mul_cancel₀ hv, EReal.coe_one]
  congr 1
  · ac_rfl
  · rw [show DLF A i (4 * g + e) * Ideal.div 1 v * (v * s) = DLF A i (4 * g + e) * s * (Ideal.div 1 v * v) by ac_rfl, hv, mul_one]

/-- The tokens and heads of the six tiles are all tokens and heads. -/
def tileEquiv : Fin 6 × Fin 256 ≃ Fin 4 × Fin 384 where
  toFun p := (⟨p.2.val % 4, by omega⟩, ⟨64 * p.1.val + p.2.val / 4, by omega⟩)
  invFun p := (⟨p.2.val / 64, by omega⟩, ⟨4 * (p.2.val % 64) + p.1.val, by omega⟩)
  left_inv p := Prod.ext (Fin.ext (by dsimp only; omega)) (Fin.ext (by dsimp only; omega))
  right_inv p := Prod.ext (Fin.ext (by dsimp only; omega)) (Fin.ext (by dsimp only; omega))

theorem tiles_sum (f x : ℕ → ℕ → EReal) : (∑ a : Fin 6, tileSum f x a.val) = ∑ r : Fin 4, ∑ i : Fin 384, f i.val r.val * x i.val r.val := by
  simp only [tileSum]
  rw [← Fintype.sum_prod_type', ← Fintype.sum_prod_type']
  exact Fintype.sum_equiv tileEquiv _ _ fun p => rfl

theorem dv_plain (A : Pack Ideal) (g j : ℕ) (d : Fin 128) : RDV A g j d = DV A g j d := by
  refine Eq.trans ?_ (tiles_sum _ _).symm
  refine Finset.sum_congr rfl fun r _ => Finset.sum_congr rfl fun i _ => ?_
  rw [RP_eq, GEF, mul_comm]

theorem dk_plain (A : Pack Ideal) (hA : ScalesOk A) (g j : ℕ) (hg : g < 4) (hj : j < 384) (d : Fin 128) :
    RDK A g j d = DK A g j d * (vsF A (j / 128) g * smE) := by
  obtain ⟨v0, v1⟩ := hA.1 (j / 128) g (by omega) hg
  rw [show DK A g j d = _ from tiles_sum _ _, sum_mul_nn _ _ _ (mul_nonneg v0.le smE_nonneg) (mul_top' v0.le smE_nonneg v1 smE_top)]
  refine Finset.sum_congr rfl fun r _ => ?_
  rw [sum_mul_nn _ _ _ (mul_nonneg v0.le smE_nonneg) (mul_top' v0.le smE_nonneg v1 smE_top), sum_mul_nn _ _ _ smE_nonneg smE_top]
  refine Finset.sum_congr rfl fun i _ => ?_
  rw [RD_eq A hA g i.val r.val j hg r.isLt i.isLt hj, QEF]
  ac_rfl

theorem dq_plain (A : Pack Ideal) (hA : ScalesOk A) (g i e : ℕ) (hg : g < 4) (he : e < 4) (hi : i < 384) (d : Fin 128) :
    RDQ A g i e d = DQ A g i e d := by
  obtain ⟨s0, s1⟩ := hA.2 (i / 128) (4 * g + e) (by omega) (by omega)
  rw [DQ, RDQ, sum_mul_nn _ _ _ (mul_nonneg s0 smE_nonneg) (mul_top' s0 smE_nonneg s1 smE_top), sum_mul_nn _ _ _ smE_nonneg smE_top]
  refine Finset.sum_congr rfl fun j _ => ?_
  rw [RD_eq A hA g i e j.val hg he hi j.isLt, KEF]
  ac_rfl

end

end Cert.KernelIdeal.Hand
-- ==== Proof.Exact.Final.lean ====
/- What the three result arrays hold at the end, and the blocks of one batch read from the arguments. -/
module

public import proofs.«01_k».proof.Proof.Exact.Frame
public import proofs.«01_k».proof.Proof.Exact.Algebra
public import Idealize.ShloMosaic.Lib.Pipeline.ValueKit
public import Idealize.ShloMosaic.Lib.StableHlo.ReadAt

@[expose] public section

set_option maxRecDepth 16384

namespace Cert.KernelIdeal.Hand

open Cert.KernelIdeal Cert.KernelIdeal.Gen
open Idealize.ShloMosaic Idealize.ShloMosaic.TcCoe Idealize.ShloMosaic.Pointwise

noncomputable section

variable (m : (ℓ : Loc nD τ sig) → Buf (Elt Ideal) ℓ)

theorem at0 : ∀ t, win0_0.index t = ![0, 0, 0] := (by decide +kernel : ∀ t : Fin grid0.N, _)
theorem at1 : ∀ t, win0_1.index t = ![0, 0, 0] := (by decide +kernel : ∀ t : Fin grid0.N, _)
theorem at2 : ∀ t, win0_2.index t = ![0, 0, 0] := (by decide +kernel : ∀ t : Fin grid0.N, _)
theorem at3 : ∀ t, win0_3.index t = ![0, 0, 0] := (by decide +kernel : ∀ t : Fin grid0.N, _)
theorem at4 : ∀ t, win0_4.index t = ![t.val, 0, 0] := (by decide +kernel : ∀ t : Fin grid0.N, _)
theorem at5 : ∀ t, win0_5.index t = ![t.val, 0, 0] := (by decide +kernel : ∀ t : Fin grid0.N, _)
theorem at6 : ∀ t, win0_6.index t = ![t.val, 0, 0] := (by decide +kernel : ∀ t : Fin grid0.N, _)
theorem at7 : ∀ t, win0_7.index t = ![t.val, 0, 0] := (by decide +kernel : ∀ t : Fin grid0.N, _)
theorem at8 : ∀ t, win0_8.index t = ![t.val, 0, 0] := (by decide +kernel : ∀ t : Fin grid0.N, _)
theorem at9 : ∀ t, win0_9.index t = ![t.val, 0, 0] := (by decide +kernel : ∀ t : Fin grid0.N, _)
theorem at10 : ∀ t, win0_10.index t = ![t.val, 0, 0] := (by decide +kernel : ∀ t : Fin grid0.N, _)
theorem at11 : ∀ t, win0_11.index t = ![t.val, 0, 0] := (by decide +kernel : ∀ t : Fin grid0.N, _)
theorem at12 : ∀ t, win0_12.index t = ![t.val, 0, 0] := (by decide +kernel : ∀ t : Fin grid0.N, _)
theorem coords_val : ∀ t, (grid0.coords t 0).val = t.val := (by decide +kernel : ∀ t : Fin grid0.N, _)

/-- The batch's point of the grid. -/
def pt (b : Fin 6) : Fin cfg0.N := ⟨b.val, b.isLt.trans_eq (by decide +kernel : 6 = cfg0.N)⟩
theorem pt_val (b : Fin 6) : (pt b).val = b.val := rfl
theorem coords_pt (b : Fin 6) : grid0.coords (pt b) 0 = b := Fin.ext (coords_val (pt b))

/-! ## The results -/

theorem final_q (c : Dev nD) : (dats m 0 c).arrAt 10 cfg0.N = fun y : S6x6144x128.Idx => blkQ m c (pt (y 0)) (ix3 (0 : Fin 1) (y 1) (y 2)) := by
  refine (dats m 0 c).arrAt_eq_of_covers 10 _ (by decide +kernel) fun t hf y => ?_
  blk_simp [at10]
  rw [after0_10]
  have e : (win0_10.blk t).view.emb y = ix3 (⟨t.val, t.isLt⟩ : Fin 6) (y 1) (y 2) := by blk_ext [at10]
  rw [e]
  exact congrArg (blkQ m c t) ((eq_ix3 y).trans (congrArg (fun a : Fin 1 => (ix3 a (y 1) (y 2) : S1x6144x128.Idx)) (Subsingleton.elim _ _)))

theorem final_k (c : Dev nD) : (dats m 0 c).arrAt 11 cfg0.N = fun y : S6x1536x128.Idx => blkK m c (pt (y 0)) (ix3 (0 : Fin 1) (y 1) (y 2)) := by
  refine (dats m 0 c).arrAt_eq_of_covers 11 _ (by decide +kernel) fun t hf y => ?_
  blk_simp [at11]
  rw [after0_11]
  have e : (win0_11.blk t).view.emb y = ix3 (⟨t.val, t.isLt⟩ : Fin 6) (y 1) (y 2) := by blk_ext [at11]
  rw [e]
  exact congrArg (blkK m c t) ((eq_ix3 y).trans (congrArg (fun a : Fin 1 => (ix3 a (y 1) (y 2) : S1x1536x128.Idx)) (Subsingleton.elim _ _)))

theorem final_v (c : Dev nD) : (dats m 0 c).arrAt 12 cfg0.N = fun y : S6x1536x128.Idx => blkV m c (pt (y 0)) (ix3 (0 : Fin 1) (y 1) (y 2)) := by
  refine (dats m 0 c).arrAt_eq_of_covers 12 _ (by decide +kernel) fun t hf y => ?_
  blk_simp [at12]
  rw [after0_12]
  have e : (win0_12.blk t).view.emb y = ix3 (⟨t.val, t.isLt⟩ : Fin 6) (y 1) (y 2) := by blk_ext [at12]
  rw [e]
  exact congrArg (blkV m c t) ((eq_ix3 y).trans (congrArg (fun a : Fin 1 => (ix3 a (y 1) (y 2) : S1x1536x128.Idx)) (Subsingleton.elim _ _)))

/-! ## The blocks -/

theorem Qf_at (c : Dev nD) (b : Fin 6) (i : Fin 384) (h : Fin 16) (d : Fin 128) :
    Qf (packAt m c (pt b)) i.val h.val d = (m ((c : Thread nD τ).loc main_arg0) : S6x384x16x128.Idx → EReal) (ix4 b i h d) := by
  unfold Qf
  rw [rd, dif_pos (by omega)]
  unfold packAt
  dsimp only
  blk_simp [iblk, at4]
  have e : (win0_4.blk (pt b)).view.emb (ix3 (0 : Fin 1) (⟨16 * i.val + h.val, by omega⟩ : Fin 6144) d) = ix3 b (⟨16 * i.val + h.val, by omega⟩ : Fin 6144) d := by blk_ext [at4, pt_val]
  rw [e]
  unfold V
  after_reads_at
  all_goals blk_ext

theorem Kf_at (c : Dev nD) (b : Fin 6) (j : Fin 384) (g : Fin 4) (d : Fin 128) :
    Kf (packAt m c (pt b)) j.val g.val d = (m ((c : Thread nD τ).loc main_arg2) : S6x384x4x128.Idx → EReal) (ix4 b j g d) := by
  unfold Kf
  rw [rd, dif_pos (by omega)]
  unfold packAt
  dsimp only
  blk_simp [iblk, at5]
  have e : (win0_5.blk (pt b)).view.emb (ix3 (0 : Fin 1) (⟨4 * j.val + g.val, by omega⟩ : Fin 1536) d) = ix3 b (⟨4 * j.val + g.val, by omega⟩ : Fin 1536) d := by blk_ext [at5, pt_val]
  rw [e]
  unfold V
  after_reads_at
  all_goals blk_ext

theorem Vf_at (c : Dev nD) (b : Fin 6) (j : Fin 384) (g : Fin 4) (d : Fin 128) :
    Vf (packAt m c (pt b)) j.val g.val d = (m ((c : Thread nD τ).loc main_arg4) : S6x384x4x128.Idx → EReal) (ix4 b j g d) := by
  unfold Vf
  rw [rd, dif_pos (by omega)]
  unfold packAt
  dsimp only
  blk_simp [iblk, at6]
  have e : (win0_6.blk (pt b)).view.emb (ix3 (0 : Fin 1) (⟨4 * j.val + g.val, by omega⟩ : Fin 1536) d) = ix3 b (⟨4 * j.val + g.val, by omega⟩ : Fin 1536) d := by blk_ext [at6, pt_val]
  rw [e]
  unfold V
  after_reads_at
  all_goals blk_ext

theorem Gf_at (c : Dev nD) (b : Fin 6) (i : Fin 384) (h : Fin 16) (d : Fin 128) :
    Gf (packAt m c (pt b)) i.val h.val d = (m ((c : Thread nD τ).loc main_arg6) : S6x384x16x128.Idx → EReal) (ix4 b i h d) := by
  unfold Gf
  rw [rd, dif_pos (by omega)]
  unfold packAt
  dsimp only
  blk_simp [iblk, at7]
  have e : (win0_7.blk (pt b)).view.emb (ix3 (0 : Fin 1) (⟨16 * i.val + h.val, by omega⟩ : Fin 6144) d) = ix3 b (⟨16 * i.val + h.val, by omega⟩ : Fin 6144) d := by blk_ext [at7, pt_val]
  rw [e]
  unfold V
  after_reads_at
  all_goals blk_ext

theorem Of_at (c : Dev nD) (b : Fin 6) (i : Fin 384) (h : Fin 16) (d : Fin 128) :
    Of (packAt m c (pt b)) i.val h.val d = (m ((c : Thread nD τ).loc main_arg8) : S6x384x16x128.Idx → EReal) (ix4 b i h d) := by
  unfold Of
  rw [rd, dif_pos (by omega)]
  unfold packAt
  dsimp only
  blk_simp [iblk, at8]
  have e : (win0_8.blk (pt b)).view.emb (ix3 (0 : Fin 1) (⟨16 * i.val + h.val, by omega⟩ : Fin 6144) d) = ix3 b (⟨16 * i.val + h.val, by omega⟩ : Fin 6144) d := by blk_ext [at8, pt_val]
  rw [e]
  unfold V
  after_reads_at
  all_goals blk_ext

theorem Lf_at (c : Dev nD) (b : Fin 6) (h : Fin 16) (i : Fin 384) :
    Lf (packAt m c (pt b)) i.val h.val = (m ((c : Thread nD τ).loc main_arg9) : S6x16x384.Idx → EReal) (ix3 b h i) := by
  unfold Lf
  rw [dif_pos ⟨h.isLt, i.isLt⟩]
  unfold packAt
  dsimp only
  blk_simp [iblk, at9]
  have e : (win0_9.blk (pt b)).view.emb (ix3 (0 : Fin 1) h i) = ix3 b h i := by blk_ext [at9, pt_val]
  exact (congrArg _ e).trans (congrFun (V_main_arg9 m c) _)

theorem qsF_at (c : Dev nD) (b : Fin 6) (n : Fin 3) (h : Fin 16) :
    qsF (packAt m c (pt b)) n.val h.val = (m ((c : Thread nD τ).loc main_arg1) : S6x3x16.Idx → EReal) (ix3 b n h) := by
  unfold qsF sc packAt
  rw [dif_pos ⟨n.isLt, h.isLt⟩]
  dsimp only
  rw [coords_pt]
  blk_simp [iblk, at0]
  have e : (win0_0.blk (pt b)).view.emb (ix3 b n h) = ix3 b n h := by blk_ext [at0]
  exact (congrArg _ e).trans (congrFun (V_main_arg1 m c) _)

theorem ksF_at (c : Dev nD) (b : Fin 6) (n : Fin 3) (h : Fin 4) :
    ksF (packAt m c (pt b)) n.val h.val = (m ((c : Thread nD τ).loc main_arg3) : S6x3x4.Idx → EReal) (ix3 b n h) := by
  unfold ksF sc packAt
  rw [dif_pos ⟨n.isLt, h.isLt⟩]
  dsimp only
  rw [coords_pt]
  blk_simp [iblk, at1]
  have e : (win0_1.blk (pt b)).view.emb (ix3 b n h) = ix3 b n h := by blk_ext [at1]
  exact (congrArg _ e).trans (congrFun (V_main_arg3 m c) _)

theorem vsF_at (c : Dev nD) (b : Fin 6) (n : Fin 3) (h : Fin 4) :
    vsF (packAt m c (pt b)) n.val h.val = (m ((c : Thread nD τ).loc main_arg5) : S6x3x4.Idx → EReal) (ix3 b n h) := by
  unfold vsF sc packAt
  rw [dif_pos ⟨n.isLt, h.isLt⟩]
  dsimp only
  rw [coords_pt]
  blk_simp [iblk, at2]
  have e : (win0_2.blk (pt b)).view.emb (ix3 b n h) = ix3 b n h := by blk_ext [at2]
  exact (congrArg _ e).trans (congrFun (V_main_arg5 m c) _)

theorem gsF_at (c : Dev nD) (b : Fin 6) (n : Fin 3) (h : Fin 16) :
    gsF (packAt m c (pt b)) n.val h.val = (m ((c : Thread nD τ).loc main_arg7) : S6x3x16.Idx → EReal) (ix3 b n h) := by
  unfold gsF sc packAt
  rw [dif_pos ⟨n.isLt, h.isLt⟩]
  dsimp only
  rw [coords_pt]
  blk_simp [iblk, at3]
  have e : (win0_3.blk (pt b)).view.emb (ix3 b n h) = ix3 b n h := by blk_ext [at3]
  exact (congrArg _ e).trans (congrFun (V_main_arg7 m c) _)

end

end Cert.KernelIdeal.Hand
-- ==== Proof.Exact.Plain.lean ====
/- The plain program's results, read at an index: the sums of the gradients, one batch at a time. -/
module

public import proofs.«01_k».proof.Proof.Exact.Algebra
public import proofs.«01_k».proof.Proof.Gen.ReferenceIdeal.Frame
public import Idealize.ShloMosaic.Lib.Pipeline.ValueKit
public import Idealize.ShloMosaic.Lib.StableHlo.ReadAt

@[expose] public section

set_option maxRecDepth 16384

namespace Cert.ReferenceIdeal.Hand

open Cert.ReferenceIdeal Cert.ReferenceIdeal.Gen
open Cert.KernelIdeal.Hand (Qf Kf Vf Gf Of Lf qsF ksF vsF gsF SF PF DPF RP RD RDQ RDK RDV smE smE_eq)
open Idealize.ShloMosaic Idealize.ShloMosaic.TcCoe Idealize.ShloMosaic.Pointwise

noncomputable section

variable (X : Valuation τ sig (Elt Ideal))

/-- The host lines after the cast kernel, on the buffers' contents before them. -/
abbrev tail : Valuation τ sig (Elt Ideal) := StableHlo.after (hostOps1 ++ (hostOps1_1 ++ hostOps1_2)) X

/-- The buffers hold, at batch `b`, the blocks and the scales of `A`. -/
structure Agree (A : Cert.KernelIdeal.Hand.Pack Ideal) (b : Fin 6) : Prop where
  q : ∀ (i : Fin 384) (h : Fin 16) (d : Fin 128), (X (Proc.devRef .tc main_v0_0) : S6x384x16x128.Idx → EReal) (ix4 b i h d) = Qf A i.val h.val d
  k : ∀ (j : Fin 384) (g : Fin 4) (d : Fin 128), (X (Proc.devRef .tc main_v0_1) : S6x384x4x128.Idx → EReal) (ix4 b j g d) = Kf A j.val g.val d
  v : ∀ (j : Fin 384) (g : Fin 4) (d : Fin 128), (X (Proc.devRef .tc main_v0_2) : S6x384x4x128.Idx → EReal) (ix4 b j g d) = Vf A j.val g.val d
  g : ∀ (i : Fin 384) (h : Fin 16) (d : Fin 128), (X (Proc.devRef .tc main_v0_3) : S6x384x16x128.Idx → EReal) (ix4 b i h d) = Gf A i.val h.val d
  o : ∀ (i : Fin 384) (h : Fin 16) (d : Fin 128), (X (Proc.devRef .tc main_arg8) : S6x384x16x128.Idx → EReal) (ix4 b i h d) = Of A i.val h.val d
  l : ∀ (h : Fin 16) (i : Fin 384), (X (Proc.devRef .tc main_arg9) : S6x16x384.Idx → EReal) (ix3 b h i) = Lf A i.val h.val
  qs : ∀ (n : Fin 3) (h : Fin 16), (X (Proc.devRef .tc main_arg1) : S6x3x16.Idx → EReal) (ix3 b n h) = qsF A n.val h.val
  ks : ∀ (n : Fin 3) (g : Fin 4), (X (Proc.devRef .tc main_arg3) : S6x3x4.Idx → EReal) (ix3 b n g) = ksF A n.val g.val
  vs : ∀ (n : Fin 3) (g : Fin 4), (X (Proc.devRef .tc main_arg5) : S6x3x4.Idx → EReal) (ix3 b n g) = vsF A n.val g.val
  gs : ∀ (n : Fin 3) (h : Fin 16), (X (Proc.devRef .tc main_arg7) : S6x3x16.Idx → EReal) (ix3 b n h) = gsF A n.val h.val

/-- `128.0` denotes the real 128. -/
theorem ofBits_128 : Ideal.ofBits .f32 0x43000000#32 = ((128 : ℝ) : EReal) := by
  simp [Ideal.ofBits, Ideal.ieee, -EReal.coe_mul]; norm_num

/-- The scale of the scores: one over the square root of 128. -/
theorem scale_eq : Ideal.div 1 (Ideal.sqrt (Ideal.ofBits .f32 0x43000000#32)) = smE := by
  rw [smE_eq, ofBits_128, Ideal.sqrt_coe, if_neg (by norm_num),
    Ideal.div_coe (show Real.sqrt 128 ≠ 0 from (Real.sqrt_pos.mpr (by norm_num)).ne'), one_div, one_mul]

/-- The fill of the hidden scores. -/
theorem fill_eq : Ideal.ofBits .f32 0xFF800000#32 = (⊥ : EReal) := by
  simp [Ideal.ofBits, Ideal.ieee]

/-- A key is seen when it is not after the row and less than 256 tokens before it. -/
theorem seen (i j : ℕ) (x y : EReal) (hi : i < 384) (hj : j < 384) :
    Scalar.select (IntOp.andi (IntOp.cmpi .sle (BitVec.ofNat 32 j) (BitVec.ofNat 32 i))
      (IntOp.cmpi .sgt (BitVec.ofNat 32 j) (IntOp.subi (BitVec.ofNat 32 i) 256#32))) x y
      = if j ≤ i ∧ i < j + 256 then x else y := by
  have and1 : ∀ p q : BitVec 1, IntOp.andi p q = 1 ↔ p = 1#1 ∧ q = 1#1 := by decide
  have n (k : ℕ) (hk : k < 384) : (BitVec.ofNat 32 k).toInt = k := by
    rw [BitVec.toInt_eq_toNat_bmod, BitVec.toNat_ofNat, Nat.mod_eq_of_lt (by omega), Int.bmod_eq_of_le (by omega) (by omega)]
  have ns : (IntOp.subi (BitVec.ofNat 32 i) 256#32).toInt = (i : Int) - 256 := by
    rw [IntOp.subi, BitVec.toInt_sub, n i hi, show (256#32 : BitVec 32).toInt = 256 from rfl, Int.bmod_eq_of_le (by omega) (by omega)]
  refine if_congr ?_ rfl rfl
  rw [and1, IntOp.cmpi_sle, IntOp.cmpi_sgt, n j hj, n i hi, ns]
  omega

set_option maxHeartbeats 4000000 in
theorem dv_at (A : Cert.KernelIdeal.Hand.Pack Ideal) (b : Fin 6) (h : Agree X A b) (n : Fin 1536) (d : Fin 128) :
    (tail X (Proc.devRef .tc main_v103) : S6x1536x128.Idx → EReal) (ix3 b n d) = RDV A (n.val % 4) (n.val / 4) d := by
  unfold tail hostOps1 hostOps1_1 hostOps1_2
  after_reads_at
  simp (disch := omega) only [h.q, h.k, h.v, h.g, h.o, h.l, h.qs, h.ks, h.vs, h.gs, scale_eq, seen, id_eq, constant, Ideal.ofBits_def, fill_eq]
  simp only [RDV, RP, SF, Nat.mul_comm 4]

set_option maxHeartbeats 4000000 in
theorem dk_at (A : Cert.KernelIdeal.Hand.Pack Ideal) (b : Fin 6) (h : Agree X A b) (n : Fin 1536) (d : Fin 128) :
    (tail X (Proc.devRef .tc main_v102) : S6x1536x128.Idx → EReal) (ix3 b n d) = RDK A (n.val % 4) (n.val / 4) d := by
  unfold tail hostOps1 hostOps1_1 hostOps1_2
  after_reads_at
  simp (disch := omega) only [h.q, h.k, h.v, h.g, h.o, h.l, h.qs, h.ks, h.vs, h.gs, scale_eq, seen, id_eq, constant, Ideal.ofBits_def, fill_eq]
  simp only [RDK, RD, DPF, RP, SF, Nat.mul_comm 4]

set_option maxHeartbeats 4000000 in
theorem dq_at (A : Cert.KernelIdeal.Hand.Pack Ideal) (b : Fin 6) (h : Agree X A b) (n : Fin 6144) (d : Fin 128) :
    (tail X (Proc.devRef .tc main_v101) : S6x6144x128.Idx → EReal) (ix3 b n d) = RDQ A (n.val / 4 % 4) (n.val / 16) (n.val % 4) d := by
  unfold tail hostOps1 hostOps1_1 hostOps1_2
  after_reads_at
  simp (disch := omega) only [h.q, h.k, h.v, h.g, h.o, h.l, h.qs, h.ks, h.vs, h.gs, scale_eq, seen, id_eq, constant, Ideal.ofBits_def, fill_eq]
  simp only [RDQ, RD, DPF, RP, SF, Nat.mul_comm 4]

end

end Cert.ReferenceIdeal.Hand
-- ==== Proof.Exact.Widened.lean ====
/- The plain program's cast kernel: each result is its operand. -/
module

public import proofs.«01_k».proof.Proof.Exact.Plain

@[expose] public section

set_option maxRecDepth 16384

namespace Cert.ReferenceIdeal.Hand

open Cert.ReferenceIdeal Cert.ReferenceIdeal.Gen
open Idealize.ShloMosaic Idealize.ShloMosaic.TcCoe Idealize.ShloMosaic.Pointwise

noncomputable section

variable (m : (ℓ : Loc nD τ sig) → Buf (Elt Ideal) ℓ)

theorem at0 : ∀ t, win0_0.index t = ![0, 0, 0, 0] := (by decide +kernel : ∀ t : Fin grid0.N, _)
theorem at1 : ∀ t, win0_1.index t = ![0, 0, 0, 0] := (by decide +kernel : ∀ t : Fin grid0.N, _)
theorem at2 : ∀ t, win0_2.index t = ![0, 0, 0, 0] := (by decide +kernel : ∀ t : Fin grid0.N, _)
theorem at3 : ∀ t, win0_3.index t = ![0, 0, 0, 0] := (by decide +kernel : ∀ t : Fin grid0.N, _)
theorem at4 : ∀ t, win0_4.index t = ![0, 0, 0, 0] := (by decide +kernel : ∀ t : Fin grid0.N, _)
theorem at5 : ∀ t, win0_5.index t = ![0, 0, 0, 0] := (by decide +kernel : ∀ t : Fin grid0.N, _)
theorem at6 : ∀ t, win0_6.index t = ![0, 0, 0, 0] := (by decide +kernel : ∀ t : Fin grid0.N, _)
theorem at7 : ∀ t, win0_7.index t = ![0, 0, 0, 0] := (by decide +kernel : ∀ t : Fin grid0.N, _)

theorem wide_q (c : Dev nD) : (dats m 0 c).arrAt 4 cfg0.N = (m ((c : Thread nD τ).loc main_arg0) : S6x384x16x128.Idx → EReal) := by
  refine (dats m 0 c).arrAt_eq_of_covers 4 _ (by decide +kernel) fun t hf y => ?_
  rw [after0_4]
  frame_out
  show iblk m c 0 t y = _
  blk_ext [iblk, at0, at4]

theorem wide_k (c : Dev nD) : (dats m 0 c).arrAt 5 cfg0.N = (m ((c : Thread nD τ).loc main_arg2) : S6x384x4x128.Idx → EReal) := by
  refine (dats m 0 c).arrAt_eq_of_covers 5 _ (by decide +kernel) fun t hf y => ?_
  rw [after0_5]
  frame_out
  show iblk m c 1 t y = _
  blk_ext [iblk, at1, at5]

theorem wide_v (c : Dev nD) : (dats m 0 c).arrAt 6 cfg0.N = (m ((c : Thread nD τ).loc main_arg4) : S6x384x4x128.Idx → EReal) := by
  refine (dats m 0 c).arrAt_eq_of_covers 6 _ (by decide +kernel) fun t hf y => ?_
  rw [after0_6]
  frame_out
  show iblk m c 2 t y = _
  blk_ext [iblk, at2, at6]

theorem wide_g (c : Dev nD) : (dats m 0 c).arrAt 7 cfg0.N = (m ((c : Thread nD τ).loc main_arg6) : S6x384x16x128.Idx → EReal) := by
  refine (dats m 0 c).arrAt_eq_of_covers 7 _ (by decide +kernel) fun t hf y => ?_
  rw [after0_7]
  frame_out
  show iblk m c 3 t y = _
  blk_ext [iblk, at3, at7]

/-- The buffers as the host lines find them. -/
def found (c : Dev nD) : Valuation τ sig (Elt Ideal) :=
  Pipeline.withArrays spec0 c (V0 m c) fun w => (dats m 0 c).arrAt w cfg0.N

theorem after_eq (c : Dev nD) (r : Ref sig .tc) :
    Pipeline.afterTail₀ cfgs (dats m) 0 (V0 m) [hostOps1, hostOps1_1, hostOps1_2] c r = tail (found m c) (Proc.devRef .tc r) := by
  unfold Pipeline.afterTail₀
  rw [List.flatten_cons, List.flatten_cons, List.flatten_cons, List.flatten_nil, List.append_nil]
  rfl

theorem arr_inj : Function.Injective (Pipeline.arrRef spec0) := by decide +kernel

theorem found_q (c : Dev nD) : found m c (Proc.devRef .tc main_v0_0) = (dats m 0 c).arrAt 4 cfg0.N :=
  Pipeline.withArrays_arr spec0 arr_inj c _ _ 4
theorem found_k (c : Dev nD) : found m c (Proc.devRef .tc main_v0_1) = (dats m 0 c).arrAt 5 cfg0.N :=
  Pipeline.withArrays_arr spec0 arr_inj c _ _ 5
theorem found_v (c : Dev nD) : found m c (Proc.devRef .tc main_v0_2) = (dats m 0 c).arrAt 6 cfg0.N :=
  Pipeline.withArrays_arr spec0 arr_inj c _ _ 6
theorem found_g (c : Dev nD) : found m c (Proc.devRef .tc main_v0_3) = (dats m 0 c).arrAt 7 cfg0.N :=
  Pipeline.withArrays_arr spec0 arr_inj c _ _ 7
theorem found_1 (c : Dev nD) : found m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem found_3 (c : Dev nD) : found m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem found_5 (c : Dev nD) : found m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem found_7 (c : Dev nD) : found m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)
theorem found_8 (c : Dev nD) : found m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)
theorem found_9 (c : Dev nD) : found m c (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)

end

end Cert.ReferenceIdeal.Hand
-- ==== Proof.Exact.Values.lean ====
/- The kernel's three gradients are the plain program's, where the scales are what they should be. -/
module

public import proofs.«01_k».proof.Defs
public import proofs.«01_k».proof.Proof.Exact.Final
public import proofs.«01_k».proof.Proof.Exact.Widened
public import proofs.«01_k».proof.Proof.Gen.Pre_scales_ok
public import Idealize.ShloMosaic.Lib.ReduceAll

@[expose] public section

set_option maxRecDepth 16384

noncomputable section

namespace Cert.Proof

open Idealize.ShloMosaic Idealize.ShloMosaic.TcCoe Idealize.ShloMosaic.Pointwise Idealize.SL.Sem
open Cert.KernelIdeal.Hand (packAt pt blkQ blkK blkV ScalesOk)

theorem andi_one {p q : BitVec 1} : IntOp.andi p q = 1#1 → p = 1#1 ∧ q = 1#1 := by revert p q; decide

theorem bit_true {b : Bool} : BitVec.ofBool b = 1#1 → b = true := by revert b; decide

theorem ofBits_inf : Ideal.ofBits .f32 0x7F800000#32 = (⊤ : EReal) := by
  simp [Ideal.ofBits, Ideal.ieee]

/-- The precondition of the value claim, entry by entry. -/
theorem scales_entries (a0 a1 a2 a3 a4 a5 a6 a7 a8 a9) (j)
    (h : Cert.Pre_scales_ok.fn (F := Ideal) a0 a1 a2 a3 a4 a5 a6 a7 a8 a9 j = 1#1) :
    (∀ y, (0 : EReal) < a5 y ∧ a5 y ≠ ⊤) ∧ (∀ y, (0 : EReal) ≤ a7 y ∧ a7 y ≠ ⊤) := by
  dsimp only [Cert.Pre_scales_ok.fn, andi] at h
  obtain ⟨h, h4⟩ := andi_one h
  obtain ⟨h, h3⟩ := andi_one h
  obtain ⟨h1, h2⟩ := andi_one h
  refine ⟨fun y => ?_, fun y => ?_⟩
  · have e1 := Host.reduce_andi_all _ _ _ _ _ h1 y
    have e2 := Host.reduce_andi_all _ _ _ _ _ h2 y
    simp only [cmpf, broadcastInDim, constant, Ideal.ofBits_def, ofBits_inf, Ideal.ofBits_zero_f32, Ideal.cmpf_def, Ideal.cmp] at e1 e2
    exact ⟨of_decide_eq_true (bit_true e1), (of_decide_eq_true (bit_true e2)).ne⟩
  · have e1 := Host.reduce_andi_all _ _ _ _ _ h3 y
    have e2 := Host.reduce_andi_all _ _ _ _ _ h4 y
    simp only [cmpf, broadcastInDim, constant, Ideal.ofBits_def, ofBits_inf, Ideal.ofBits_zero_f32, Ideal.cmpf_def, Ideal.cmp] at e1 e2
    exact ⟨of_decide_eq_true (bit_true e1), (of_decide_eq_true (bit_true e2)).ne⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs start from the same arguments. -/
abbrev Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

open Cert.ReferenceIdeal.Hand in
theorem agree (c : Dev Cert.KernelIdeal.nD) (h : Same m m' c) (b : Fin 6) : Agree (found m' c) (packAt m c (pt b)) b := by
  obtain ⟨h0, h1, h2, h3, h4, h5, h6, h7, h8, h9⟩ := h
  constructor
  · exact fun i k d => (congrFun ((found_q m' c).trans ((wide_q m' c).trans h0)) _).trans (Cert.KernelIdeal.Hand.Qf_at m c b i k d).symm
  · exact fun i k d => (congrFun ((found_k m' c).trans ((wide_k m' c).trans h2)) _).trans (Cert.KernelIdeal.Hand.Kf_at m c b i k d).symm
  · exact fun i k d => (congrFun ((found_v m' c).trans ((wide_v m' c).trans h4)) _).trans (Cert.KernelIdeal.Hand.Vf_at m c b i k d).symm
  · exact fun i k d => (congrFun ((found_g m' c).trans ((wide_g m' c).trans h6)) _).trans (Cert.KernelIdeal.Hand.Gf_at m c b i k d).symm
  · exact fun i k d => (congrFun ((found_8 m' c).trans h8) _).trans (Cert.KernelIdeal.Hand.Of_at m c b i k d).symm
  · exact fun k i => (congrFun ((found_9 m' c).trans h9) _).trans (Cert.KernelIdeal.Hand.Lf_at m c b k i).symm
  · exact fun n k => (congrFun ((found_1 m' c).trans h1) _).trans (Cert.KernelIdeal.Hand.qsF_at m c b n k).symm
  · exact fun n k => (congrFun ((found_3 m' c).trans h3) _).trans (Cert.KernelIdeal.Hand.ksF_at m c b n k).symm
  · exact fun n k => (congrFun ((found_5 m' c).trans h5) _).trans (Cert.KernelIdeal.Hand.vsF_at m c b n k).symm
  · exact fun n k => (congrFun ((found_7 m' c).trans h7) _).trans (Cert.KernelIdeal.Hand.gsF_at m c b n k).symm

theorem scales (c : Dev Cert.KernelIdeal.nD) (h : Cert.Pre_KernelIdeal_scales_ok m) (b : Fin 6) : ScalesOk (packAt m c (pt b)) := by
  obtain ⟨h5, h7⟩ := scales_entries _ _ _ _ _ _ _ _ _ _ ix0 (congrFun (h c) ix0)
  refine ⟨fun n g hn hg => ?_, fun n g hn hg => ?_⟩
  · rw [show Cert.KernelIdeal.Hand.vsF (packAt m c (pt b)) n g = _ from Cert.KernelIdeal.Hand.vsF_at m c b ⟨n, hn⟩ ⟨g, hg⟩]
    exact h5 _
  · rw [show Cert.KernelIdeal.Hand.gsF (packAt m c (pt b)) n g = _ from Cert.KernelIdeal.Hand.gsF_at m c b ⟨n, hn⟩ ⟨g, hg⟩]
    exact h7 _

open Cert.ReferenceIdeal.Hand Cert.KernelIdeal.Hand in
theorem same_q (c : Dev Cert.KernelIdeal.nD) (h : Same m m' c) (hp : Cert.Pre_KernelIdeal_scales_ok m) :
    (tail (found m' c) (Proc.devRef .tc Cert.ReferenceIdeal.main_v101) : Cert.KernelIdeal.S6x6144x128.Idx → EReal)
      = fun y => blkQ m c (pt (y 0)) (ix3 (0 : Fin 1) (y 1) (y 2)) := by
  funext y
  obtain ⟨b, n, d, rfl⟩ : ∃ (b : Fin 6) (n : Fin 6144) (d : Fin 128), y = ix3 b n d := ⟨y 0, y 1, y 2, eq_ix3 y⟩
  refine (dq_at (found m' c) (packAt m c (pt b)) b (agree m m' c h b) n d).trans ?_
  refine (dq_plain _ (scales m c hp b) _ _ _ (by omega) (by omega) (by omega) d).trans ?_
  rw [show n.val / 4 % 4 = n.val % 16 / 4 by omega]
  rfl

open Cert.ReferenceIdeal.Hand Cert.KernelIdeal.Hand in
theorem same_k (c : Dev Cert.KernelIdeal.nD) (h : Same m m' c) (hp : Cert.Pre_KernelIdeal_scales_ok m) :
    (tail (found m' c) (Proc.devRef .tc Cert.ReferenceIdeal.main_v102) : Cert.KernelIdeal.S6x1536x128.Idx → EReal)
      = fun y => blkK m c (pt (y 0)) (ix3 (0 : Fin 1) (y 1) (y 2)) := by
  funext y
  obtain ⟨b, n, d, rfl⟩ : ∃ (b : Fin 6) (n : Fin 1536) (d : Fin 128), y = ix3 b n d := ⟨y 0, y 1, y 2, eq_ix3 y⟩
  refine (dk_at (found m' c) (packAt m c (pt b)) b (agree m m' c h b) n d).trans ?_
  exact dk_plain _ (scales m c hp b) _ _ (by omega) (by omega) d

open Cert.ReferenceIdeal.Hand Cert.KernelIdeal.Hand in
theorem same_v (c : Dev Cert.KernelIdeal.nD) (h : Same m m' c) :
    (tail (found m' c) (Proc.devRef .tc Cert.ReferenceIdeal.main_v103) : Cert.KernelIdeal.S6x1536x128.Idx → EReal)
      = fun y => blkV m c (pt (y 0)) (ix3 (0 : Fin 1) (y 1) (y 2)) := by
  funext y
  obtain ⟨b, n, d, rfl⟩ : ∃ (b : Fin 6) (n : Fin 1536) (d : Fin 128), y = ix3 b n d := ⟨y 0, y 1, y 2, eq_ix3 y⟩
  refine (dv_at (found m' c) (packAt m c (pt b)) b (agree m m' c h b) n d).trans ?_
  exact dv_plain _ _ _ d

/-- The three gradients are those of the plain program. -/
theorem algebraic : Cert.algebraic_KernelIdeal_ReferenceIdeal_pre_scales_ok := by
  intro m ρ m' ρ' hp hag
  refine ⟨fun c y => blkQ m c (pt (y 0)) (ix3 (0 : Fin 1) (y 1) (y 2)), fun c y => blkK m c (pt (y 0)) (ix3 (0 : Fin 1) (y 1) (y 2)),
    fun c y => blkV m c (pt (y 0)) (ix3 (0 : Fin 1) (y 1) (y 2)), ?_, ?_⟩
  · refine (θ_run Cert.KernelIdeal.defs _ _).mono (fun r h c => ⟨?_, ?_, ?_, h.2 c⟩)
      (θ_run_and (Cert.KernelIdeal.Hand.run_main m ρ) (Cert.KernelIdeal.Hand.unchanged m ρ))
    · exact ((h.1 c).1 10).trans (Cert.KernelIdeal.Hand.final_q m c)
    · exact ((h.1 c).1 11).trans (Cert.KernelIdeal.Hand.final_k m c)
    · exact ((h.1 c).1 12).trans (Cert.KernelIdeal.Hand.final_v m c)
  · refine (θ_run Cert.ReferenceIdeal.defs _ _).mono (fun r h c => ⟨?_, ?_, ?_, h.2 c⟩)
      (θ_run_and (Cert.ReferenceIdeal.Gen.run_main m' ρ') (Cert.ReferenceIdeal.Gen.unchanged m' ρ'))
    · exact ((h.1 c).2 Cert.ReferenceIdeal.main_v101 (Pipeline.mem_restRefs_of _ (by decide) (by decide))).trans
        ((Cert.ReferenceIdeal.Hand.after_eq m' c _).trans (same_q m m' c (hag c) hp))
    · exact ((h.1 c).2 Cert.ReferenceIdeal.main_v102 (Pipeline.mem_restRefs_of _ (by decide) (by decide))).trans
        ((Cert.ReferenceIdeal.Hand.after_eq m' c _).trans (same_k m m' c (hag c) hp))
    · exact ((h.1 c).2 Cert.ReferenceIdeal.main_v103 (Pipeline.mem_restRefs_of _ (by decide) (by decide))).trans
        ((Cert.ReferenceIdeal.Hand.after_eq m' c _).trans (same_v m m' c (hag c)))

end Cert.Proof

end
-- ==== Proof.lean ====
/- The certificate: the three frames, the ledger of the idealization, and the value claim. -/
module

public import proofs.«01_k».proof.Defs
public import proofs.«01_k».proof.Proof.Bits.Frame
public import proofs.«01_k».proof.Proof.Ledger
public import proofs.«01_k».proof.Proof.Exact.Values
public import proofs.«01_k».proof.Proof.Gen.Pre_scales_ok

@[expose] public section

noncomputable section

namespace Cert.Proof

open Idealize.ShloMosaic

theorem claim : Cert.Claim :=
  ⟨Cert.Kernel.Gen.facts, Cert.KernelIdeal.Gen.facts, Cert.ReferenceIdeal.Gen.facts, Cert.Pre_scales_ok.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, preserves, algebraic⟩

end Cert.Proof

end
